-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  IdealRules.named_const.Statement Cert.KernelIdeal.κ "gelu_ca" .f32 0x3D122279#32 ((80338380498831 / 2251799813685248 : ℝ) : EReal)
  ∧ IdealRules.named_const.Statement Cert.KernelIdeal.κ "gelu_3ca" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.named_const.Statement Cert.Kernel4Ideal.κ "gelu_ca" .f32 0x3D122279#32 ((80338380498831 / 2251799813685248 : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_v51) = v2 c
          ∧ r.2.mem ((c.tc : Thread Cert.Reference4Ideal.nD Cert.Reference4Ideal.τ).loc Cert.Reference4Ideal.main_v44) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v16_0)) (v1 : (c : Dev Cert.Kernel11Ideal.nD) → Buf (Elt Ideal) ((c.tc : Thread Cert.Kernel11Ideal.nD Cert.Kernel11Ideal.τ).loc Cert.Kernel11Ideal.main_v16_1)) (v2 : (c : Dev Cert.Kernel11Ideal.nD) → Buf (Elt Ideal) ((c.tc : Thread Cert.Kernel11Ideal.nD Cert.Kernel11Ideal.τ).loc Cert.Kernel11Ideal.main_v16_2)) (v3 : (c : Dev Cert.Kernel11Ideal.nD) → Buf (Elt Ideal) ((c.tc : Thread Cert.Kernel11Ideal.nD Cert.Kernel11Ideal.τ).loc Cert.Kernel11Ideal.main_v16_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v16_0) = v0 c
          ∧ r.2.mem ((c.tc : Thread Cert.Kernel11Ideal.nD Cert.Kernel11Ideal.τ).loc Cert.Kernel11Ideal.main_v16_1) = v1 c
          ∧ r.2.mem ((c.tc : Thread Cert.Kernel11Ideal.nD Cert.Kernel11Ideal.τ).loc Cert.Kernel11Ideal.main_v16_2) = v2 c
          ∧ r.2.mem ((c.tc : Thread Cert.Kernel11Ideal.nD Cert.Kernel11Ideal.τ).loc Cert.Kernel11Ideal.main_v16_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v53) = v0 c
          ∧ r.2.mem ((c.tc : Thread Cert.Reference11Ideal.nD Cert.Reference11Ideal.τ).loc Cert.Reference11Ideal.main_v75) = v1 c
          ∧ r.2.mem ((c.tc : Thread Cert.Reference11Ideal.nD Cert.Reference11Ideal.τ).loc Cert.Reference11Ideal.main_v76) = v2 c
          ∧ r.2.mem ((c.tc : Thread Cert.Reference11Ideal.nD Cert.Reference11Ideal.τ).loc Cert.Reference11Ideal.main_v77) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v16_0)) (v1 : (c : Dev Cert.Kernel12Ideal.nD) → Buf (Elt Ideal) ((c.tc : Thread Cert.Kernel12Ideal.nD Cert.Kernel12Ideal.τ).loc Cert.Kernel12Ideal.main_v16_1)) (v2 : (c : Dev Cert.Kernel12Ideal.nD) → Buf (Elt Ideal) ((c.tc : Thread Cert.Kernel12Ideal.nD Cert.Kernel12Ideal.τ).loc Cert.Kernel12Ideal.main_v16_2)) (v3 : (c : Dev Cert.Kernel12Ideal.nD) → Buf (Elt Ideal) ((c.tc : Thread Cert.Kernel12Ideal.nD Cert.Kernel12Ideal.τ).loc Cert.Kernel12Ideal.main_v16_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v16_0) = v0 c
          ∧ r.2.mem ((c.tc : Thread Cert.Kernel12Ideal.nD Cert.Kernel12Ideal.τ).loc Cert.Kernel12Ideal.main_v16_1) = v1 c
          ∧ r.2.mem ((c.tc : Thread Cert.Kernel12Ideal.nD Cert.Kernel12Ideal.τ).loc Cert.Kernel12Ideal.main_v16_2) = v2 c
          ∧ r.2.mem ((c.tc : Thread Cert.Kernel12Ideal.nD Cert.Kernel12Ideal.τ).loc Cert.Kernel12Ideal.main_v16_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v53) = v0 c
          ∧ r.2.mem ((c.tc : Thread Cert.Reference12Ideal.nD Cert.Reference12Ideal.τ).loc Cert.Reference12Ideal.main_v75) = v1 c
          ∧ r.2.mem ((c.tc : Thread Cert.Reference12Ideal.nD Cert.Reference12Ideal.τ).loc Cert.Reference12Ideal.main_v76) = v2 c
          ∧ r.2.mem ((c.tc : Thread Cert.Reference12Ideal.nD Cert.Reference12Ideal.τ).loc Cert.Reference12Ideal.main_v77) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v52) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_v53) = v2 c
          ∧ r.2.mem ((c.tc : Thread Cert.Reference14Ideal.nD Cert.Reference14Ideal.τ).loc Cert.Reference14Ideal.main_v54) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v55) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_v36) = v1 c
          ∧ r.2.mem ((c.tc : Thread Cert.Reference18Ideal.nD Cert.Reference18Ideal.τ).loc Cert.Reference18Ideal.main_v17) = v2 c
          ∧ r.2.mem ((c.tc : Thread Cert.Reference18Ideal.nD Cert.Reference18Ideal.τ).loc Cert.Reference18Ideal.main_v23) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_v36) = v1 c
          ∧ r.2.mem ((c.tc : Thread Cert.Reference19Ideal.nD Cert.Reference19Ideal.τ).loc Cert.Reference19Ideal.main_v17) = v2 c
          ∧ r.2.mem ((c.tc : Thread Cert.Reference19Ideal.nD Cert.Reference19Ideal.τ).loc Cert.Reference19Ideal.main_v23) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S_ : Shape := ⟨0, ![]⟩

class Facts : Prop where
  bcast_S_S4096x1024 : S_.BroadcastsInDim S4096x1024 (![] : Fin 0 → Fin S4096x1024.rank)
  bcast_S_S1024x8192 : S_.BroadcastsInDim S1024x8192 (![] : Fin 0 → Fin S1024x8192.rank)
  bcast_S_S3x8192 : S_.BroadcastsInDim S3x8192 (![] : Fin 0 → Fin S3x8192.rank)
  bcast_S_S8192 : S_.BroadcastsInDim S8192 (![] : Fin 0 → Fin S8192.rank)

variable [Facts]

def fn {F : FTy → Type} [FloatOps F] (main_arg0 : FVec F S4096x1024 .f32) (main_arg1 : FVec F S1024x8192 .f32) (main_arg2 : FVec F S3x8192 .f32) (main_arg3 : FVec F S8192 .f32) (main_arg4 : FVec F S4096x1024 .f32) (main_arg5 : FVec F S4096x1024 .f32) : IVec S4096x1024 1 × IVec S1024x8192 1 × IVec S3x8192 1 × IVec S8192 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S3x8192 .f32 := Host.absf main_arg2
  let main_cst_1 : FVec F S_ .f32 := constant S_ .f32 0x7F800000#32
  let main_v7 : FVec F S3x8192 .f32 := broadcastInDim S3x8192 ![] bcast_S_S3x8192 main_cst_1
  let main_v8 : IVec S3x8192 1 := cmpf .olt main_v6 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite4.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S_ : Shape := ⟨0, ![]⟩

class Facts : Prop where
  bcast_S_S4096x1024 : S_.BroadcastsInDim S4096x1024 (![] : Fin 0 → Fin S4096x1024.rank)
  bcast_S_S1024x8192 : S_.BroadcastsInDim S1024x8192 (![] : Fin 0 → Fin S1024x8192.rank)
  bcast_S_S3x8192 : S_.BroadcastsInDim S3x8192 (![] : Fin 0 → Fin S3x8192.rank)
  bcast_S_S8192 : S_.BroadcastsInDim S8192 (![] : Fin 0 → Fin S8192.rank)

variable [Facts]

def fn {F : FTy → Type} [FloatOps F] (main_arg0 : FVec F S4096x1024 .f32) (main_arg1 : FVec F S1024x8192 .f32) (main_arg2 : FVec F S3x8192 .f32) (main_arg3 : FVec F S8192 .f32) (main_arg4 : FVec F S4096x1024 .f32) : IVec S4096x1024 1 × IVec S1024x8192 1 × IVec S3x8192 1 × IVec S8192 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S3x8192 .f32 := Host.absf main_arg2
  let main_cst_1 : FVec F S_ .f32 := constant S_ .f32 0x7F800000#32
  let main_v7 : FVec F S3x8192 .f32 := broadcastInDim S3x8192 ![] bcast_S_S3x8192 main_cst_1
  let main_v8 : IVec S3x8192 1 := cmpf .olt main_v6 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  (main_v2, main_v5, main_v8, main_v11)
-- ==== Kernel.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S4096x8192 : Shape := ⟨2, ![4096, 8192]⟩
abbrev S_ : Shape := ⟨0, ![]⟩
abbrev S2x8192 : Shape := ⟨2, ![2, 8192]⟩
abbrev S4098x8192 : Shape := ⟨2, ![4098, 8192]⟩
abbrev S1x8192 : Shape := ⟨2, ![1, 8192]⟩
abbrev S1024x4x2048 : Shape := ⟨3, ![1024, 4, 2048]⟩
abbrev S4x1024x2048 : Shape := ⟨3, ![4, 1024, 2048]⟩
abbrev S4x1x1024x2048 : Shape := ⟨4, ![4, 1, 1024, 2048]⟩
abbrev S4x1x1024x1024 : Shape := ⟨4, ![4, 1, 1024, 1024]⟩
abbrev S3x2x4096 : Shape := ⟨3, ![3, 2, 4096]⟩
abbrev S2x3x4096 : Shape := ⟨3, ![2, 3, 4096]⟩
abbrev S4096x2x4096 : Shape := ⟨3, ![4096, 2, 4096]⟩
abbrev S2x4096x4096 : Shape := ⟨3, ![2, 4096, 4096]⟩
abbrev S8x2x8x512 : Shape := ⟨4, ![8, 2, 8, 512]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S2x3x512 : Shape := ⟨3, ![2, 3, 512]⟩
abbrev S2x1024x512 : Shape := ⟨3, ![2, 1024, 512]⟩
abbrev S8x2x16x512 : Shape := ⟨4, ![8, 2, 16, 512]⟩
abbrev S256x1024 : Shape := ⟨2, ![256, 1024]⟩
abbrev S512x1024 : Shape := ⟨2, ![512, 1024]⟩
abbrev S256x512 : Shape := ⟨2, ![256, 512]⟩
abbrev S8x1 : Shape := ⟨2, ![8, 1]⟩
abbrev S1x1x16x512 : Shape := ⟨4, ![1, 1, 16, 512]⟩
abbrev S16x512 : Shape := ⟨2, ![16, 512]⟩
abbrev S8x512 : Shape := ⟨2, ![8, 512]⟩
abbrev S1x256x512 : Shape := ⟨3, ![1, 256, 512]⟩
abbrev S256x1 : Shape := ⟨2, ![256, 1]⟩
abbrev S16x1 : Shape := ⟨2, ![16, 1]⟩
abbrev S512 : Shape := ⟨1, ![512]⟩
abbrev S1x512 : Shape := ⟨2, ![1, 512]⟩
abbrev S1x1x512 : Shape := ⟨3, ![1, 1, 512]⟩
abbrev S1024x512 : Shape := ⟨2, ![1024, 512]⟩
abbrev S1x1x8x512 : Shape := ⟨4, ![1, 1, 8, 512]⟩

abbrev nBuf : Space → Nat
  | .hbm => 54
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S3x8192, .f32⟩
  | .hbm, ⟨3, _⟩ => ⟨S8192, .f32⟩
  | .hbm, ⟨4, _⟩ => ⟨S4096x1024, .f32⟩
  | .hbm, ⟨5, _⟩ => ⟨S4096x1024, .f32⟩
  | .hbm, ⟨6, _⟩ => ⟨S4096x8192, .f32⟩
  | .hbm, ⟨7, _⟩ => ⟨S_, .f32⟩
  | .hbm, ⟨8, _⟩ => ⟨S2x8192, .f32⟩
  | .hbm, ⟨9, _⟩ => ⟨S4098x8192, .f32⟩
  | .hbm, ⟨10, _⟩ => ⟨S1x8192, .f32⟩
  | .hbm, ⟨11, _⟩ => ⟨S8192, .f32⟩
  | .hbm, ⟨12, _⟩ => ⟨S4096x8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S1x8192, .f32⟩
  | .hbm, ⟨20, _⟩ => ⟨S8192, .f32⟩
  | .hbm, ⟨21, _⟩ => ⟨S4096x8192, .f32⟩
  | .hbm, ⟨22, _⟩ => ⟨S1x8192, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S1x8192, .f32⟩
  | .hbm, ⟨27, _⟩ => ⟨S8192, .f32⟩
  | .hbm, ⟨28, _⟩ => ⟨S4096x8192, .f32⟩
  | .hbm, ⟨29, _⟩ => ⟨S1x8192, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S1x8192, .f32⟩
  | .hbm, ⟨34, _⟩ => ⟨S4096x8192, .f32⟩
  | .hbm, ⟨35, _⟩ => ⟨S4096x8192, .f32⟩
  | .hbm, ⟨36, _⟩ => ⟨S1024x4x2048, .f32⟩
  | .hbm, ⟨37, _⟩ => ⟨S4x1024x2048, .f32⟩
  | .hbm, ⟨38, _⟩ => ⟨S4x1x1024x2048, .f32⟩
  | .hbm, ⟨39, _⟩ => ⟨S4x1x1024x2048, .bf16⟩
  | .hbm, ⟨40, _⟩ => ⟨S4x1x1024x1024, .f32⟩
  | .hbm, ⟨41, _⟩ => ⟨S4x1x1024x1024, .bf16⟩
  | .hbm, ⟨42, _⟩ => ⟨S3x2x4096, .f32⟩
  | .hbm, ⟨43, _⟩ => ⟨S2x3x4096, .f32⟩
  | .hbm, ⟨44, _⟩ => ⟨S4096x1024, .bf16⟩
  | .hbm, ⟨45, _⟩ => ⟨S4096x2x4096, .f32⟩
  | .hbm, ⟨46, _⟩ => ⟨S2x4096x4096, .f32⟩
  | .hbm, ⟨47, _⟩ => ⟨S2x4096x4096, .bf16⟩
  | .hbm, ⟨48, _⟩ => ⟨S4096x2x4096, .f32⟩
  | .hbm, ⟨49, _⟩ => ⟨S2x4096x4096, .f32⟩
  | .hbm, ⟨50, _⟩ => ⟨S2x4096x4096, .bf16⟩
  | .hbm, ⟨51, _⟩ => ⟨S2x4096x4096, .bf16⟩
  | .hbm, ⟨52, _⟩ => ⟨S4096x1024, .f32⟩
  | .hbm, ⟨53, _⟩ => ⟨S8x2x8x512, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S2x3x512, .f32⟩
  | .local _ .vmem, ⟨9, _⟩ => ⟨S2x3x512, .f32⟩
  | .local _ .vmem, ⟨10, _⟩ => ⟨S2x1024x512, .bf16⟩
  | .local _ .vmem, ⟨11, _⟩ => ⟨S2x1024x512, .bf16⟩
  | .local _ .vmem, ⟨12, _⟩ => ⟨S2x1024x512, .bf16⟩
  | .local _ .vmem, ⟨13, _⟩ => ⟨S2x1024x512, .bf16⟩
  | .local _ .vmem, ⟨14, _⟩ => ⟨S2x1024x512, .bf16⟩
  | .local _ .vmem, ⟨15, _⟩ => ⟨S2x1024x512, .bf16⟩
  | .local _ .vmem, ⟨16, _⟩ => ⟨S1024x1024, .f32⟩
  | .local _ .vmem, ⟨17, _⟩ => ⟨S1024x1024, .f32⟩
  | .local _ .vmem, ⟨18, _⟩ => ⟨S8x2x8x512, .f32⟩
  | .local _ .vmem, ⟨19, _⟩ => ⟨S8x2x16x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43_0 : Ref sig .tc := ⟨.hbm, 51, rfl⟩
abbrev main_v43_1 : Ref sig .tc := ⟨.hbm, 52, rfl⟩
abbrev main_v43_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let arg1 : BitVec 32 := BitVec.ofNat 32 (i 1).val
  let v29 : Index := Scalar.indexCast arg1
  let c0_27 : Index := 0#32
  let c0_28 : Index := 0#32
  let c0_29 : Index := 0#32
  ![v29.toNat, 0, 0, 0]
def k0_off2 (i : grid0.Coords) : Fin 4 → Nat :=
  let arg1 : BitVec 32 := BitVec.ofNat 32 (i 1).val
  let v32 : Index := Scalar.indexCast arg1
  let c1 : Index := 1#32
  let c0_30 : Index := 0#32
  let c0_31 : Index := 0#32
  ![v32.toNat, 1, 0, 0]
def k0_off3 (i : grid0.Coords) : Fin 4 → Nat :=
  let arg1 : BitVec 32 := BitVec.ofNat 32 (i 1).val
  let v1173 : Index := Scalar.indexCast arg1
  let c0_464 : Index := 0#32
  let c0_465 : Index := 0#32
  let c0_466 : Index := 0#32
  ![v1173.toNat, 0, 0, 0]
def k0_off4 (i : grid0.Coords) : Fin 4 → Nat :=
  let arg1 : BitVec 32 := BitVec.ofNat 32 (i 1).val
  let v1177 : Index := Scalar.indexCast arg1
  let c1_467 : Index := 1#32
  let c0_468 : Index := 0#32
  let c0_469 : Index := 0#32
  ![v1177.toNat, 1, 0, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi arg1 c8_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  let c0_i32_0 : BitVec 32 := 0#32
  ![c0_i32.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  let c0_i32_0 : BitVec 32 := 0#32
  ![c0_i32.toNat, v0.toNat, arg1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  let c0_i32_0 : BitVec 32 := 0#32
  ![c0_i32.toNat, v0.toNat, arg1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x2x8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "gelu_3ca" => some ((241015141496493 / 2251799813685248 : ℝ) : EReal)
  | "gelu_ca" => some ((80338380498831 / 2251799813685248 : ℝ) : EReal)
  | _ => none
-- ==== ReferenceIdeal.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S4096x8192 : Shape := ⟨2, ![4096, 8192]⟩
abbrev S_ : Shape := ⟨0, ![]⟩
abbrev S2x8192 : Shape := ⟨2, ![2, 8192]⟩
abbrev S4098x8192 : Shape := ⟨2, ![4098, 8192]⟩
abbrev S1x8192 : Shape := ⟨2, ![1, 8192]⟩
abbrev S4096x4096 : Shape := ⟨2, ![4096, 4096]⟩
abbrev S1024x4096 : Shape := ⟨2, ![1024, 4096]⟩
abbrev S4096x2x4096 : Shape := ⟨3, ![4096, 2, 4096]⟩
abbrev S2x4096x4096 : Shape := ⟨3, ![2, 4096, 4096]⟩
abbrev S4x8192 : Shape := ⟨2, ![4, 8192]⟩
abbrev S8x8192 : Shape := ⟨2, ![8, 8192]⟩
abbrev S8x2x8x512 : Shape := ⟨4, ![8, 2, 8, 512]⟩

abbrev nBuf : Space → Nat
  | .hbm => 155
  | .vmem => 0
  | .smem => 0
  | _ => 0

abbrev hbmTy0_0 (i : Nat) : BufTy := match i % 128 with
  | 0 => ⟨S4096x1024, .f32⟩
  | 1 => ⟨S1024x8192, .f32⟩
  | 2 => ⟨S3x8192, .f32⟩
  | 3 => ⟨S8192, .f32⟩
  | 4 => ⟨S4096x1024, .f32⟩
  | 5 => ⟨S4096x1024, .f32⟩
  | 6 => ⟨S4096x8192, .f32⟩
  | 7 => ⟨S_, .f32⟩
  | 8 => ⟨S2x8192, .f32⟩
  | 9 => ⟨S4098x8192, .f32⟩
  | 10 => ⟨S_, .f32⟩
  | 11 => ⟨S2x8192, .f32⟩
  | 12 => ⟨S1x8192, .f32⟩
  | 13 => ⟨S8192, .f32⟩
  | 14 => ⟨S4096x8192, .f32⟩
  | 15 => ⟨S1x8192, .f32⟩
  | 16 => ⟨S4096x8192, .f32⟩
  | 17 => ⟨S4096x8192, .f32⟩
  | 18 => ⟨S_, .f32⟩
  | 19 => ⟨S4096x8192, .f32⟩
  | 20 => ⟨S4096x8192, .f32⟩
  | 21 => ⟨S1x8192, .f32⟩
  | 22 => ⟨S8192, .f32⟩
  | 23 => ⟨S4096x8192, .f32⟩
  | 24 => ⟨S1x8192, .f32⟩
  | 25 => ⟨S4096x8192, .f32⟩
  | 26 => ⟨S4096x8192, .f32⟩
  | 27 => ⟨S4096x8192, .f32⟩
  | 28 => ⟨S1x8192, .f32⟩
  | 29 => ⟨S8192, .f32⟩
  | 30 => ⟨S4096x8192, .f32⟩
  | 31 => ⟨S1x8192, .f32⟩
  | 32 => ⟨S4096x8192, .f32⟩
  | 33 => ⟨S4096x8192, .f32⟩
  | 34 => ⟨S4096x8192, .f32⟩
  | 35 => ⟨S1x8192, .f32⟩
  | 36 => ⟨S4096x8192, .f32⟩
  | 37 => ⟨S4096x8192, .f32⟩
  | 38 => ⟨S4096x4096, .f32⟩
  | 39 => ⟨S4096x4096, .f32⟩
  | 40 => ⟨S4096x4096, .f32⟩
  | 41 => ⟨S4096x4096, .f32⟩
  | 42 => ⟨S4096x4096, .f32⟩
  | 43 => ⟨S_, .f32⟩
  | 44 => ⟨S4096x4096, .f32⟩
  | 45 => ⟨S4096x4096, .f32⟩
  | 46 => ⟨S_, .f32⟩
  | 47 => ⟨S4096x4096, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S4096x4096, .f32⟩
  | 54 => ⟨S_, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S4096x4096, .f32⟩
  | 61 => ⟨S_, .f32⟩
  | 62 => ⟨S4096x4096, .f32⟩
  | 63 => ⟨S4096x4096, .f32⟩
  | 64 => ⟨S_, .f32⟩
  | 65 => ⟨S4096x4096, .f32⟩
  | 66 => ⟨S4096x4096, .f32⟩
  | 67 => ⟨S4096x4096, .f32⟩
  | 68 => ⟨S4096x4096, .f32⟩
  | 69 => ⟨S4096x1024, .f32⟩
  | 70 => ⟨S1024x4096, .f32⟩
  | 71 => ⟨S4096x1024, .f32⟩
  | 72 => ⟨S4096x4096, .f32⟩
  | 73 => ⟨S4096x4096, .f32⟩
  | 74 => ⟨S4096x4096, .f32⟩
  | 75 => ⟨S4096x4096, .f32⟩
  | 76 => ⟨S4096x4096, .f32⟩
  | 77 => ⟨S_, .f32⟩
  | 78 => ⟨S4096x4096, .f32⟩
  | 79 => ⟨S4096x4096, .f32⟩
  | 80 => ⟨S4096x4096, .f32⟩
  | 81 => ⟨S_, .f32⟩
  | 82 => ⟨S4096x4096, .f32⟩
  | 83 => ⟨S4096x4096, .f32⟩
  | 84 => ⟨S4096x4096, .f32⟩
  | 85 => ⟨S_, .f32⟩
  | 86 => ⟨S4096x4096, .f32⟩
  | 87 => ⟨S4096x4096, .f32⟩
  | 88 => ⟨S4096x4096, .f32⟩
  | 89 => ⟨S4096x4096, .f32⟩
  | 90 => ⟨S_, .f32⟩
  | 91 => ⟨S4096x8192, .f32⟩
  | 92 => ⟨S_, .f32⟩
  | 93 => ⟨S4096x8192, .f32⟩
  | 94 => ⟨S4096x8192, .f32⟩
  | 95 => ⟨S_, .f32⟩
  | 96 => ⟨S8192, .f32⟩
  | 97 => ⟨S1x8192, .f32⟩
  | 98 => ⟨S_, .f32⟩
  | 99 => ⟨S8192, .f32⟩
  | 100 => ⟨S4096x8192, .f32⟩
  | 101 => ⟨S4096x8192, .f32⟩
  | 102 => ⟨S4096x8192, .f32⟩
  | 103 => ⟨S_, .f32⟩
  | 104 => ⟨S8192, .f32⟩
  | 105 => ⟨S1x8192, .f32⟩
  | 106 => ⟨S_, .f32⟩
  | 107 => ⟨S8192, .f32⟩
  | 108 => ⟨S_, .f32⟩
  | 109 => ⟨S4098x8192, .f32⟩
  | 110 => ⟨S1x8192, .f32⟩
  | 111 => ⟨S_, .f32⟩
  | 112 => ⟨S3x8192, .f32⟩
  | 113 => ⟨S4096x8192, .f32⟩
  | 114 => ⟨S4096x8192, .f32⟩
  | 115 => ⟨S4096x8192, .f32⟩
  | 116 => ⟨S_, .f32⟩
  | 117 => ⟨S8192, .f32⟩
  | 118 => ⟨S1x8192, .f32⟩
  | 119 => ⟨S_, .f32⟩
  | 120 => ⟨S8192, .f32⟩
  | 121 => ⟨S_, .f32⟩
  | 122 => ⟨S4098x8192, .f32⟩
  | 123 => ⟨S4098x8192, .f32⟩
  | 124 => ⟨S1x8192, .f32⟩
  | 125 => ⟨S_, .f32⟩
  | 126 => ⟨S3x8192, .f32⟩
  | 127 => ⟨S3x8192, .f32⟩
  | _ => ⟨S4096x1024, .f32⟩

abbrev hbmTy0_1 (i : Nat) : BufTy := match i % 128 with
  | 0 => ⟨S4096x8192, .f32⟩
  | 1 => ⟨S4096x8192, .f32⟩
  | 2 => ⟨S4096x8192, .f32⟩
  | 3 => ⟨S_, .f32⟩
  | 4 => ⟨S8192, .f32⟩
  | 5 => ⟨S1x8192, .f32⟩
  | 6 => ⟨S_, .f32⟩
  | 7 => ⟨S8192, .f32⟩
  | 8 => ⟨S_, .f32⟩
  | 9 => ⟨S4098x8192, .f32⟩
  | 10 => ⟨S4098x8192, .f32⟩
  | 11 => ⟨S1x8192, .f32⟩
  | 12 => ⟨S_, .f32⟩
  | 13 => ⟨S3x8192, .f32⟩
  | 14 => ⟨S3x8192, .f32⟩
  | 15 => ⟨S2x8192, .f32⟩
  | 16 => ⟨S4096x8192, .f32⟩
  | 17 => ⟨S4096x1024, .f32⟩
  | 18 => ⟨S4096x2x4096, .f32⟩
  | 19 => ⟨S2x4096x4096, .f32⟩
  | 20 => ⟨S2x4096x4096, .bf16⟩
  | 21 => ⟨S1x8192, .f32⟩
  | 22 => ⟨S_, .f32⟩
  | 23 => ⟨S4x8192, .f32⟩
  | 24 => ⟨S8x8192, .f32⟩
  | 25 => ⟨S8x2x8x512, .f32⟩
  | 26 => ⟨S8x2x8x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_20 : Ref sig .tc := ⟨.hbm, 116, rfl⟩
abbrev main_v89 : Ref sig .tc := ⟨.hbm, 117, rfl⟩
abbrev main_v90 : Ref sig .tc := ⟨.hbm, 118, rfl⟩
abbrev main_cst_21 : Ref sig .tc := ⟨.hbm, 119, rfl⟩
abbrev main_v91 : Ref sig .tc := ⟨.hbm, 120, rfl⟩
abbrev main_cst_22 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_23 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_24 : Ref sig .tc := ⟨.hbm, 131, rfl⟩
abbrev main_v100 : Ref sig .tc := ⟨.hbm, 132, rfl⟩
abbrev main_v101 : Ref sig .tc := ⟨.hbm, 133, rfl⟩
abbrev main_cst_25 : Ref sig .tc := ⟨.hbm, 134, rfl⟩
abbrev main_v102 : Ref sig .tc := ⟨.hbm, 135, rfl⟩
abbrev main_cst_26 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_27 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_28 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S2x4096x512 : Shape := ⟨3, ![2, 4096, 512]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S2x4096x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S2x1024x512, .bf16⟩
  | .local _ .vmem, ⟨4, _⟩ => ⟨S2x1024x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4096x2x512 : Shape := ⟨3, ![4096, 2, 512]⟩
abbrev S2x4096x512 : Shape := ⟨3, ![2, 4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x2x512, .f32⟩
  | .hbm, ⟨8, _⟩ => ⟨S2x4096x512, .f32⟩
  | .hbm, ⟨9, _⟩ => ⟨S2x4096x512, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S4096x8192 : Shape := ⟨2, ![4096, 8192]⟩
abbrev S4096x2x4096 : Shape := ⟨3, ![4096, 2, 4096]⟩
abbrev S2x4096x4096 : Shape := ⟨3, ![2, 4096, 4096]⟩
abbrev S4x1024x2048 : Shape := ⟨3, ![4, 1024, 2048]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x2x4096, .f32⟩
  | .hbm, ⟨3, _⟩ => ⟨S2x4096x4096, .f32⟩
  | .hbm, ⟨4, _⟩ => ⟨S2x4096x4096, .bf16⟩
  | .hbm, ⟨5, _⟩ => ⟨S4096x1024, .bf16⟩
  | .hbm, ⟨6, _⟩ => ⟨S4x1024x2048, .bf16⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x1024x1024, .bf16⟩
  | .local _ .vmem, ⟨4, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S_, .f32⟩
  | .hbm, ⟨3, _⟩ => ⟨S1024x8192, .f32⟩
  | .hbm, ⟨4, _⟩ => ⟨S4096x8192, .f32⟩
  | .hbm, ⟨5, _⟩ => ⟨S8192x1024, .f32⟩
  | .hbm, ⟨6, _⟩ => ⟨S1024x8192, .f32⟩
  | .hbm, ⟨7, _⟩ => ⟨S1024x4x2048, .f32⟩
  | .hbm, ⟨8, _⟩ => ⟨S4x1024x2048, .f32⟩
  | .hbm, ⟨9, _⟩ => ⟨S4x1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S1024x4x2048 : Shape := ⟨3, ![1024, 4, 2048]⟩
abbrev S4x1024x2048 : Shape := ⟨3, ![4, 1024, 2048]⟩
abbrev S4x1x1024x2048 : Shape := ⟨4, ![4, 1, 1024, 2048]⟩
abbrev S4x1x1024x1024 : Shape := ⟨4, ![4, 1, 1024, 1024]⟩
abbrev S3x2x4096 : Shape := ⟨3, ![3, 2, 4096]⟩
abbrev S2x3x4096 : Shape := ⟨3, ![2, 3, 4096]⟩
abbrev S2x1x4096 : Shape := ⟨3, ![2, 1, 4096]⟩
abbrev S4096x4096 : Shape := ⟨2, ![4096, 4096]⟩
abbrev S2x4096x4096 : Shape := ⟨3, ![2, 4096, 4096]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S2x3x512 : Shape := ⟨3, ![2, 3, 512]⟩
abbrev S2x1x512 : Shape := ⟨3, ![2, 1, 512]⟩
abbrev S1024x512 : Shape := ⟨2, ![1024, 512]⟩
abbrev S2x1024x512 : Shape := ⟨3, ![2, 1024, 512]⟩
abbrev S8x2x16x512 : Shape := ⟨4, ![8, 2, 16, 512]⟩
abbrev S256x1024 : Shape := ⟨2, ![256, 1024]⟩
abbrev S256x512 : Shape := ⟨2, ![256, 512]⟩
abbrev S1x256x512 : Shape := ⟨3, ![1, 256, 512]⟩
abbrev S1x1x16x512 : Shape := ⟨4, ![1, 1, 16, 512]⟩
abbrev S16x512 : Shape := ⟨2, ![16, 512]⟩
abbrev S256x1 : Shape := ⟨2, ![256, 1]⟩
abbrev S16x1 : Shape := ⟨2, ![16, 1]⟩
abbrev S512 : Shape := ⟨1, ![512]⟩
abbrev S1x512 : Shape := ⟨2, ![1, 512]⟩
abbrev S1x1x512 : Shape := ⟨3, ![1, 1, 512]⟩
abbrev S512x1024 : Shape := ⟨2, ![512, 1024]⟩

abbrev nBuf : Space → Nat
  | .hbm => 19
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S3x8192, .f32⟩
  | .hbm, ⟨3, _⟩ => ⟨S8192, .f32⟩
  | .hbm, ⟨4, _⟩ => ⟨S4096x1024, .f32⟩
  | .hbm, ⟨5, _⟩ => ⟨S1024x4x2048, .f32⟩
  | .hbm, ⟨6, _⟩ => ⟨S4x1024x2048, .f32⟩
  | .hbm, ⟨7, _⟩ => ⟨S4x1x1024x2048, .f32⟩
  | .hbm, ⟨8, _⟩ => ⟨S4x1x1024x2048, .bf16⟩
  | .hbm, ⟨9, _⟩ => ⟨S4x1x1024x1024, .f32⟩
  | .hbm, ⟨10, _⟩ => ⟨S4x1x1024x1024, .bf16⟩
  | .hbm, ⟨11, _⟩ => ⟨S3x2x4096, .f32⟩
  | .hbm, ⟨12, _⟩ => ⟨S2x3x4096, .f32⟩
  | .hbm, ⟨13, _⟩ => ⟨S2x1x4096, .f32⟩
  | .hbm, ⟨14, _⟩ => ⟨S4096x1024, .bf16⟩
  | .hbm, ⟨15, _⟩ => ⟨S4096x4096, .bf16⟩
  | .hbm, ⟨16, _⟩ => ⟨S2x4096x4096, .bf16⟩
  | .hbm, ⟨17, _⟩ => ⟨S2x4096x4096, .bf16⟩
  | .hbm, ⟨18, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x1024x512, .bf16⟩
  | .local _ .vmem, ⟨5, _⟩ => ⟨S1x1x1024x512, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S2x3x512, .f32⟩
  | .local _ .vmem, ⟨9, _⟩ => ⟨S2x3x512, .f32⟩
  | .local _ .vmem, ⟨10, _⟩ => ⟨S2x1x512, .f32⟩
  | .local _ .vmem, ⟨11, _⟩ => ⟨S2x1x512, .f32⟩
  | .local _ .vmem, ⟨12, _⟩ => ⟨S1024x512, .bf16⟩
  | .local _ .vmem, ⟨13, _⟩ => ⟨S1024x512, .bf16⟩
  | .local _ .vmem, ⟨14, _⟩ => ⟨S2x1024x512, .bf16⟩
  | .local _ .vmem, ⟨15, _⟩ => ⟨S2x1024x512, .bf16⟩
  | .local _ .vmem, ⟨16, _⟩ => ⟨S2x1024x512, .bf16⟩
  | .local _ .vmem, ⟨17, _⟩ => ⟨S2x1024x512, .bf16⟩
  | .local _ .vmem, ⟨18, _⟩ => ⟨S1024x1024, .f32⟩
  | .local _ .vmem, ⟨19, _⟩ => ⟨S1024x1024, .f32⟩
  | .local _ .vmem, ⟨20, _⟩ => ⟨S8x2x16x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let arg1 : BitVec 32 := BitVec.ofNat 32 (i 1).val
  let v72 : Index := Scalar.indexCast arg1
  let c0_70 : Index := 0#32
  let c0_71 : Index := 0#32
  let c0_72 : Index := 0#32
  ![v72.toNat, 0, 0, 0]
def k0_off2 (i : grid0.Coords) : Fin 4 → Nat :=
  let arg1 : BitVec 32 := BitVec.ofNat 32 (i 1).val
  let v75 : Index := Scalar.indexCast arg1
  let c1_73 : Index := 1#32
  let c0_74 : Index := 0#32
  let c0_75 : Index := 0#32
  ![v75.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi arg1 c8_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel4Ideal.lean ====
variable {F : FTy → Type} [FloatOps F] [Named F]
def κ : String → Option EReal := fun
  | "gelu_ca" => some ((80338380498831 / 2251799813685248 : ℝ) : EReal)
  | _ => none
-- ==== Reference4Ideal.lean ====
abbrev S4096x1024 : Shape := ⟨2, ![4096, 1024]⟩
abbrev S1024x8192 : Shape := ⟨2, ![1024, 8192]⟩
abbrev S3x8192 : Shape := ⟨2, ![3, 8192]⟩
abbrev S8192 : Shape := ⟨1, ![8192]⟩
abbrev S4096x8192 : Shape := ⟨2, ![4096, 8192]⟩
abbrev S_ : Shape := ⟨0, ![]⟩
abbrev S2x8192 : Shape := ⟨2, ![2, 8192]⟩
abbrev S4098x8192 : Shape := ⟨2, ![4098, 8192]⟩
abbrev S1x8192 : Shape := ⟨2, ![1, 8192]⟩
abbrev S4096x4096 : Shape := ⟨2, ![4096, 4096]⟩
abbrev S4096x2x4096 : Shape := ⟨3, ![4096, 2, 4096]⟩
abbrev S2x4096x4096 : Shape := ⟨3, ![2, 4096, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S3x8192, .f32⟩
  | .hbm, ⟨3, _⟩ => ⟨S8192, .f32⟩
  | .hbm, ⟨4, _⟩ => ⟨S4096x1024, .f32⟩
  | .hbm, ⟨5, _⟩ => ⟨S4096x8192, .f32⟩
  | .hbm, ⟨6, _⟩ => ⟨S_, .f32⟩
  | .hbm, ⟨7, _⟩ => ⟨S2x8192, .f32⟩
  | .hbm, ⟨8, _⟩ => ⟨S4098x8192, .f32⟩
  | .hbm, ⟨9, _⟩ => ⟨S1x8192, .f32⟩
  | .hbm, ⟨10, _⟩ => ⟨S8192, .f32⟩
  | .hbm, ⟨11, _⟩ => ⟨S4096x8192, .f32⟩
  | .hbm, ⟨12, _⟩ => ⟨S1x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S1x8192, .f32⟩
  | .hbm, ⟨19, _⟩ => ⟨S8192, .f32⟩
  | .hbm, ⟨20, _⟩ => ⟨S4096x8192, .f32⟩
  | .hbm, ⟨21, _⟩ => ⟨S1x8192, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S1x8192, .f32⟩
  | .hbm, ⟨26, _⟩ => ⟨S8192, .f32⟩
  | .hbm, ⟨27, _⟩ => ⟨S4096x8192, .f32⟩
  | .hbm, ⟨28, _⟩ => ⟨S1x8192, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S1x8192, .f32⟩
  | .hbm, ⟨33, _⟩ => ⟨S4096x8192, .f32⟩
  | .hbm, ⟨34, _⟩ => ⟨S4096x8192, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x1024, .f32⟩
  | .hbm, ⟨56, _⟩ => ⟨S4096x4096, .bf16⟩
  | .hbm, ⟨57, _⟩ => ⟨S4096x2x4096, .f32⟩
  | .hbm, ⟨58, _⟩ => ⟨S2x4096x4096, .f32⟩
  | .hbm, ⟨59, _⟩ => ⟨S2x4096x4096, .bf16⟩
  | .hbm, ⟨60, _⟩ => ⟨S4096x2x4096, .f32⟩
  | .hbm, ⟨61, _⟩ => ⟨S2x4096x4096, .f32⟩
  | .hbm, ⟨62, _⟩ => ⟨S2x4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel5.lean ====
abbrev S4096x1024 : Shape := ⟨2, ![4096, 1024]⟩
abbrev S4096x2560 : Shape := ⟨2, ![4096, 2560]⟩
abbrev S4x1024x640 : Shape := ⟨3, ![4, 1024, 640]⟩
abbrev S4096x640 : Shape := ⟨2, ![4096, 640]⟩
abbrev S1x1024x640 : Shape := ⟨3, ![1, 1024, 640]⟩
abbrev S1024x640 : Shape := ⟨2, ![1024, 640]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S4096x1024, .bf16⟩
  | .hbm, ⟨3, _⟩ => ⟨S4096x2560, .bf16⟩
  | .hbm, ⟨4, _⟩ => ⟨S4x1024x640, .bf16⟩
  | .local _ .vmem, ⟨0, _⟩ => ⟨S4096x1024, .bf16⟩
  | .local _ .vmem, ⟨1, _⟩ => ⟨S4096x640, .bf16⟩
  | .local _ .vmem, ⟨2, _⟩ => ⟨S4096x640, .bf16⟩
  | .local _ .vmem, ⟨3, _⟩ => ⟨S1x1024x640, .bf16⟩
  | .local _ .vmem, ⟨4, _⟩ => ⟨S1x1024x640, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | .hbm, ⟨7, _⟩ => ⟨S1024x4x640, .f32⟩
  | .hbm, ⟨8, _⟩ => ⟨S4x1024x640, .f32⟩
  | .hbm, ⟨9, _⟩ => ⟨S4x1024x640, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2560 : Shape := ⟨2, ![4096, 2560]⟩
abbrev S1024x2560 : Shape := ⟨2, ![1024, 2560]⟩
abbrev S1024x4x640 : Shape := ⟨3, ![1024, 4, 640]⟩
abbrev S4x1024x640 : Shape := ⟨3, ![4, 1024, 640]⟩
abbrev S4x1x1024x640 : Shape := ⟨4, ![4, 1, 1024, 640]⟩
abbrev S4096x1024 : Shape := ⟨2, ![4096, 1024]⟩
abbrev S1024x1024 : Shape := ⟨2, ![1024, 1024]⟩
abbrev S1024x640 : Shape := ⟨2, ![1024, 640]⟩
abbrev S1x1x1024x640 : Shape := ⟨4, ![1, 1, 1024, 640]⟩

abbrev nBuf : Space → Nat
  | .hbm => 8
  | .vmem => 5
  | .smem => 0
  | _ => 0

abbrev bufTy : (tb : Table) → Fin (tcTables nBuf tb) → BufTy
  | .hbm, ⟨0, _⟩ => ⟨S4096x2560, .f32⟩
  | .hbm, ⟨1, _⟩ => ⟨S1024x2560, .f32⟩
  | .hbm, ⟨2, _⟩ => ⟨S1024x4x640, .f32⟩
  | .hbm, ⟨3, _⟩ => ⟨S4x1024x640, .f32⟩
  | .hbm, ⟨4, _⟩ => ⟨S4x1x1024x640, .f32⟩
  | .hbm, ⟨5, _⟩ => ⟨S4x1x1024x640, .bf16⟩
  | .hbm, ⟨6, _⟩ => ⟨S4096x2560, .bf16⟩
  | .hbm, ⟨7, _⟩ => ⟨S4096x1024, .f32⟩
  | .local _ .vmem, ⟨0, _⟩ => ⟨S1024x2560, .bf16⟩
  | .local _ .vmem, ⟨1, _⟩ => ⟨S1024x2560, .bf16⟩
  | .local _ .vmem, ⟨2, _⟩ => ⟨S4x1x1024x640, .bf16⟩
  | .local _ .vmem, ⟨3, _⟩ => ⟨S1024x1024, .f32⟩
  | .local _ .vmem, ⟨4, _⟩ => ⟨S1024x1024, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x2560 : Shape := ⟨2, ![4096, 2560]⟩
abbrev S1024x2560 : Shape := ⟨2, ![1024, 2560]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1024x2560, .f32⟩
  | .hbm, ⟨2, _⟩ => ⟨S_, .f32⟩
  | .hbm, ⟨3, _⟩ => ⟨S4096x1024, .f32⟩
  | .hbm, ⟨4, _⟩ => ⟨S4096x2560, .f32⟩
  | .hbm, ⟨5, _⟩ => ⟨S4096x1024, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S4x1x256x1024 : Shape := ⟨4, ![4, 1, 256, 1024]⟩
abbrev S4x256x1024 : Shape := ⟨3, ![4, 256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4x1x256x1024, .f32⟩
  | .hbm, ⟨3, _⟩ => ⟨S4x1x256x1024, .bf16⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x1024 : Shape := ⟨2, ![4096, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S2x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S2x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S4096x1024 : Shape := ⟨2, ![4096, 1024]⟩
abbrev S_ : Shape := ⟨0, ![]⟩
abbrev S1024x1024 : Shape := ⟨2, ![1024, 1024]⟩
abbrev S1024x2x512 : Shape := ⟨3, ![1024, 2, 512]⟩
abbrev S2x1024x512 : Shape := ⟨3, ![2, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x2x512, .f32⟩
  | .hbm, ⟨8, _⟩ => ⟨S2x1024x512, .f32⟩
  | .hbm, ⟨9, _⟩ => ⟨S2x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x2560 : Shape := ⟨2, ![1024, 2560]⟩
abbrev S1024x4x640 : Shape := ⟨3, ![1024, 4, 640]⟩
abbrev S4x1024x640 : Shape := ⟨3, ![4, 1024, 640]⟩
abbrev S4x1x1024x640 : Shape := ⟨4, ![4, 1, 1024, 640]⟩
abbrev S4096x2560 : Shape := ⟨2, ![4096, 2560]⟩
abbrev S1024x1024 : Shape := ⟨2, ![1024, 1024]⟩
abbrev S1x1x1024x640 : Shape := ⟨4, ![1, 1, 1024, 640]⟩
abbrev S1024x640 : Shape := ⟨2, ![1024, 640]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S1024x4x640, .f32⟩
  | .hbm, ⟨3, _⟩ => ⟨S4x1024x640, .f32⟩
  | .hbm, ⟨4, _⟩ => ⟨S4x1x1024x640, .f32⟩
  | .hbm, ⟨5, _⟩ => ⟨S4x1x1024x640, .bf16⟩
  | .hbm, ⟨6, _⟩ => ⟨S4096x1024, .bf16⟩
  | .hbm, ⟨7, _⟩ => ⟨S4096x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x640, .bf16⟩
  | .local _ .vmem, ⟨3, _⟩ => ⟨S1x1x1024x640, .bf16⟩
  | .local _ .vmem, ⟨4, _⟩ => ⟨S1024x640, .bf16⟩
  | .local _ .vmem, ⟨5, _⟩ => ⟨S1024x640, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x2560, .f32⟩
  | .hbm, ⟨3, _⟩ => ⟨S4096x2560, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1024 : Shape := ⟨1, ![1024]⟩
abbrev S4x1x256x1024 : Shape := ⟨4, ![4, 1, 256, 1024]⟩
abbrev S1x1024 : Shape := ⟨2, ![1, 1024]⟩
abbrev S512x1024 : Shape := ⟨2, ![512, 1024]⟩
abbrev S4x256x1024 : Shape := ⟨3, ![4, 256, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4x1x256x1024, .f32⟩
  | .hbm, ⟨6, _⟩ => ⟨S4x1x256x1024, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S4x1x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .bf16⟩
  | .hbm, ⟨27, _⟩ => ⟨S1x1024, .f32⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S1x1024, .f32⟩
  | .hbm, ⟨101, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S1x1024, .f32⟩
  | .hbm, ⟨27, _⟩ => ⟨S4096x1024, .bf16⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference12Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S1x1024, .f32⟩
  | .hbm, ⟨100, _⟩ => ⟨S4096x1024, .bf16⟩
  | .hbm, ⟨101, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel13.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S8x128, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S8x128, .f32⟩
  | .hbm, ⟨74, _⟩ => ⟨S4096x1024, .bf16⟩
  | .hbm, ⟨75, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel15.lean ====
abbrev S2x1024x2048 : Shape := ⟨3, ![2, 1024, 2048]⟩
abbrev S1024x2048 : Shape := ⟨2, ![1024, 2048]⟩
abbrev S1x256x2048 : Shape := ⟨3, ![1, 256, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x2048, .f32⟩
  | .hbm, ⟨1, _⟩ => ⟨S1024x2048, .f32⟩
  | .hbm, ⟨2, _⟩ => ⟨S1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S2x1024x2048 : Shape := ⟨3, ![2, 1024, 2048]⟩
abbrev S1024x2048 : Shape := ⟨2, ![1024, 2048]⟩
abbrev S1x1024x2048 : Shape := ⟨3, ![1, 1024, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S1024x2048, .f32⟩
  | .hbm, ⟨2, _⟩ => ⟨S1024x2048, .f32⟩
  | .hbm, ⟨3, _⟩ => ⟨S2x1024x2048, .f32⟩
  | .hbm, ⟨4, _⟩ => ⟨S2x1024x2048, .f32⟩
  | .hbm, ⟨5, _⟩ => ⟨S1x1024x2048, .f32⟩
  | .hbm, ⟨6, _⟩ => ⟨S1x1024x2048, .f32⟩
  | .hbm, ⟨7, _⟩ => ⟨S2x1024x2048, .f32⟩
  | .hbm, ⟨8, _⟩ => ⟨S_, .f32⟩
  | .hbm, ⟨9, _⟩ => ⟨S2x1024x2048, .f32⟩
  | .hbm, ⟨10, _⟩ => ⟨S2x1024x2048, .f32⟩
  | .hbm, ⟨11, _⟩ => ⟨S_, .f32⟩
  | .hbm, ⟨12, _⟩ => ⟨S2x1024x2048, .f32⟩
  | .hbm, ⟨13, _⟩ => ⟨S2x1024x2048, .f32⟩
  | .hbm, ⟨14, _⟩ => ⟨S2x1024x2048, .f32⟩
  | .hbm, ⟨15, _⟩ => ⟨S_, .f32⟩
  | .hbm, ⟨16, _⟩ => ⟨S2x1024x2048, .f32⟩
  | .hbm, ⟨17, _⟩ => ⟨S2x1024x2048, .f32⟩
  | .hbm, ⟨18, _⟩ => ⟨S2x1024x2048, .f32⟩
  | .hbm, ⟨19, _⟩ => ⟨S_, .f32⟩
  | .hbm, ⟨20, _⟩ => ⟨S2x1024x2048, .f32⟩
  | .hbm, ⟨21, _⟩ => ⟨S2x1024x2048, .f32⟩
  | .hbm, ⟨22, _⟩ => ⟨S2x1024x2048, .f32⟩
  | .hbm, ⟨23, _⟩ => ⟨S_, .f32⟩
  | .hbm, ⟨24, _⟩ => ⟨S2x1024x2048, .f32⟩
  | .hbm, ⟨25, _⟩ => ⟨S2x1024x2048, .f32⟩
  | .hbm, ⟨26, _⟩ => ⟨S_, .f32⟩
  | .hbm, ⟨27, _⟩ => ⟨S2x1024x2048, .f32⟩
  | .hbm, ⟨28, _⟩ => ⟨S2x1024x2048, .f32⟩
  | .hbm, ⟨29, _⟩ => ⟨S2x1024x2048, .f32⟩
  | .hbm, ⟨30, _⟩ => ⟨S_, .f32⟩
  | .hbm, ⟨31, _⟩ => ⟨S2x1024x2048, .f32⟩
  | .hbm, ⟨32, _⟩ => ⟨S2x1024x2048, .f32⟩
  | .hbm, ⟨33, _⟩ => ⟨S2x1024x2048, .f32⟩
  | .hbm, ⟨34, _⟩ => ⟨S_, .f32⟩
  | .hbm, ⟨35, _⟩ => ⟨S2x1024x2048, .f32⟩
  | .hbm, ⟨36, _⟩ => ⟨S2x1024x2048, .f32⟩
  | .hbm, ⟨37, _⟩ => ⟨S2x1024x2048, .f32⟩
  | .hbm, ⟨38, _⟩ => ⟨S_, .f32⟩
  | .hbm, ⟨39, _⟩ => ⟨S2x1024x2048, .f32⟩
  | .hbm, ⟨40, _⟩ => ⟨S2x1024x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S4096x2560 : Shape := ⟨2, ![4096, 2560]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S4096x512 : Shape := ⟨2, ![4096, 512]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S128x1024 : Shape := ⟨2, ![128, 1024]⟩
abbrev S128 : Shape := ⟨1, ![128]⟩
abbrev S128x1 : Shape := ⟨2, ![128, 1]⟩

abbrev nBuf : Space → Nat
  | .hbm => 14
  | .vmem => 9
  | .smem => 0
  | _ => 0

abbrev bufTy : (tb : Table) → Fin (tcTables nBuf tb) → BufTy
  | .hbm, ⟨0, _⟩ => ⟨S4096x2560, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S512, .f32⟩
  | .hbm, ⟨6, _⟩ => ⟨S128x4, .f32⟩
  | .hbm, ⟨7, _⟩ => ⟨S128x4x128, .f32⟩
  | .hbm, ⟨8, _⟩ => ⟨S128x512, .f32⟩
  | .hbm, ⟨9, _⟩ => ⟨S4096x2560, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4096x2560 : Shape := ⟨2, ![4096, 2560]⟩
abbrev S512 : Shape := ⟨1, ![512]⟩
abbrev S4x128x128 : Shape := ⟨3, ![4, 128, 128]⟩
abbrev S4x128 : Shape := ⟨2, ![4, 128]⟩
abbrev S4096x1024 : Shape := ⟨2, ![4096, 1024]⟩
abbrev S_ : Shape := ⟨0, ![]⟩
abbrev S4096x512 : Shape := ⟨2, ![4096, 512]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128x128 : Shape := ⟨2, ![128, 128]⟩
abbrev S4x32x128x128 : Shape := ⟨4, ![4, 32, 128, 128]⟩
abbrev S128x4 : Shape := ⟨2, ![128, 4]⟩
abbrev S1x128x4x1 : Shape := ⟨4, ![1, 128, 4, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S512, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x512, .f32⟩
  | .hbm, ⟨38, _⟩ => ⟨S4096x512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S1x512, .f32⟩
  | .hbm, ⟨43, _⟩ => ⟨S4096x512, .f32⟩
  | .hbm, ⟨44, _⟩ => ⟨S4096x512, .f32⟩
  | .hbm, ⟨45, _⟩ => ⟨S32x128x4x128, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S4x128x128, .i1⟩
  | .hbm, ⟨53, _⟩ => ⟨S_, .f32⟩
  | .hbm, ⟨54, _⟩ => ⟨S4x128x128, .f32⟩
  | .hbm, ⟨55, _⟩ => ⟨S4x128x128, .f32⟩
  | .hbm, ⟨56, _⟩ => ⟨S4x32x128x128, .f32⟩
  | .hbm, ⟨57, _⟩ => ⟨S32x128x4x128, .f32⟩
  | .hbm, ⟨58, _⟩ => ⟨S128x4, .f32⟩
  | .hbm, ⟨59, _⟩ => ⟨S1x128x4x1, .f32⟩
  | .hbm, ⟨60, _⟩ => ⟨S32x128x4x128, .f32⟩
  | .hbm, ⟨61, _⟩ => ⟨S32x128x4x128, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x512, .f32⟩
  | .hbm, ⟨76, _⟩ => ⟨S4096x512, .f32⟩
  | .hbm, ⟨77, _⟩ => ⟨S1x512, .f32⟩
  | .hbm, ⟨78, _⟩ => ⟨S4096x512, .f32⟩
  | .hbm, ⟨79, _⟩ => ⟨S4096x512, .f32⟩
  | .hbm, ⟨80, _⟩ => ⟨S4096x512, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_cst : Ref sig .tc := ⟨.hbm, 53, rfl⟩
abbrev main_call0_v6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== Kernel17.lean ====
abbrev S2x1024x640 : Shape := ⟨3, ![2, 1024, 640]⟩
abbrev S1024x640 : Shape := ⟨2, ![1024, 640]⟩
abbrev S1x256x640 : Shape := ⟨3, ![1, 256, 640]⟩
abbrev S256x640 : Shape := ⟨2, ![256, 640]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x640, .f32⟩
  | .hbm, ⟨1, _⟩ => ⟨S1024x640, .f32⟩
  | .hbm, ⟨2, _⟩ => ⟨S1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .hbm, ⟨7, _⟩ => ⟨S2x1024x640, .f32⟩
  | .hbm, ⟨8, _⟩ => ⟨S2x1024x640, .f32⟩
  | .local _ .vmem, ⟨0, _⟩ => ⟨S1x256x640, .f32⟩
  | .local _ .vmem, ⟨1, _⟩ => ⟨S1x256x640, .f32⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | .local _ .vmem, ⟨16, _⟩ => ⟨S1x256x640, .f32⟩
  | .local _ .vmem, ⟨17, _⟩ => ⟨S1x256x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S2x1024x640 : Shape := ⟨3, ![2, 1024, 640]⟩
abbrev S1024x640 : Shape := ⟨2, ![1024, 640]⟩
abbrev S1x1024x640 : Shape := ⟨3, ![1, 1024, 640]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x640, .f32⟩
  | .hbm, ⟨1, _⟩ => ⟨S1024x640, .f32⟩
  | .hbm, ⟨2, _⟩ => ⟨S1024x640, .f32⟩
  | .hbm, ⟨3, _⟩ => ⟨S2x1024x640, .f32⟩
  | .hbm, ⟨4, _⟩ => ⟨S2x1024x640, .f32⟩
  | .hbm, ⟨5, _⟩ => ⟨S1x1024x640, .f32⟩
  | .hbm, ⟨6, _⟩ => ⟨S1x1024x640, .f32⟩
  | .hbm, ⟨7, _⟩ => ⟨S2x1024x640, .f32⟩
  | .hbm, ⟨8, _⟩ => ⟨S_, .f32⟩
  | .hbm, ⟨9, _⟩ => ⟨S2x1024x640, .f32⟩
  | .hbm, ⟨10, _⟩ => ⟨S2x1024x640, .f32⟩
  | .hbm, ⟨11, _⟩ => ⟨S_, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S_, .f32⟩
  | .hbm, ⟨16, _⟩ => ⟨S2x1024x640, .f32⟩
  | .hbm, ⟨17, _⟩ => ⟨S2x1024x640, .f32⟩
  | .hbm, ⟨18, _⟩ => ⟨S2x1024x640, .f32⟩
  | .hbm, ⟨19, _⟩ => ⟨S_, .f32⟩
  | .hbm, ⟨20, _⟩ => ⟨S2x1024x640, .f32⟩
  | .hbm, ⟨21, _⟩ => ⟨S2x1024x640, .f32⟩
  | .hbm, ⟨22, _⟩ => ⟨S2x1024x640, .f32⟩
  | .hbm, ⟨23, _⟩ => ⟨S_, .f32⟩
  | .hbm, ⟨24, _⟩ => ⟨S2x1024x640, .f32⟩
  | .hbm, ⟨25, _⟩ => ⟨S2x1024x640, .f32⟩
  | .hbm, ⟨26, _⟩ => ⟨S_, .f32⟩
  | .hbm, ⟨27, _⟩ => ⟨S2x1024x640, .f32⟩
  | .hbm, ⟨28, _⟩ => ⟨S2x1024x640, .f32⟩
  | .hbm, ⟨29, _⟩ => ⟨S2x1024x640, .f32⟩
  | .hbm, ⟨30, _⟩ => ⟨S_, .f32⟩
  | .hbm, ⟨31, _⟩ => ⟨S2x1024x640, .f32⟩
  | .hbm, ⟨32, _⟩ => ⟨S2x1024x640, .f32⟩
  | .hbm, ⟨33, _⟩ => ⟨S2x1024x640, .f32⟩
  | .hbm, ⟨34, _⟩ => ⟨S_, .f32⟩
  | .hbm, ⟨35, _⟩ => ⟨S2x1024x640, .f32⟩
  | .hbm, ⟨36, _⟩ => ⟨S2x1024x640, .f32⟩
  | .hbm, ⟨37, _⟩ => ⟨S2x1024x640, .f32⟩
  | .hbm, ⟨38, _⟩ => ⟨S_, .f32⟩
  | .hbm, ⟨39, _⟩ => ⟨S2x1024x640, .f32⟩
  | .hbm, ⟨40, _⟩ => ⟨S2x1024x640, .f32⟩
  | _, _ => ⟨S2x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S2x1024x1024 : Shape := ⟨3, ![2, 1024, 1024]⟩
abbrev S2x1024x512 : Shape := ⟨3, ![2, 1024, 512]⟩
abbrev S1x256x1024 : Shape := ⟨3, ![1, 256, 1024]⟩
abbrev S2x256x512 : Shape := ⟨3, ![2, 256, 512]⟩
abbrev S1x256x512 : Shape := ⟨3, ![1, 256, 512]⟩
abbrev S256x512 : Shape := ⟨2, ![256, 512]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x512, .f32⟩
  | .hbm, ⟨2, _⟩ => ⟨S2x1024x512, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S2x256x512, .f32⟩
  | .local _ .vmem, ⟨7, _⟩ => ⟨S2x256x512, .f32⟩
  | .local _ .vmem, ⟨8, _⟩ => ⟨S2x256x512, .f32⟩
  | .local _ .vmem, ⟨9, _⟩ => ⟨S2x256x512, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S2x1024x1024 : Shape := ⟨3, ![2, 1024, 1024]⟩
abbrev S2x1024x512 : Shape := ⟨3, ![2, 1024, 512]⟩
abbrev S1x1024x512 : Shape := ⟨3, ![1, 1024, 512]⟩
abbrev S1024x512 : Shape := ⟨2, ![1024, 512]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x512, .f32⟩
  | .hbm, ⟨2, _⟩ => ⟨S2x1024x512, .f32⟩
  | .hbm, ⟨3, _⟩ => ⟨S2x1024x1024, .f32⟩
  | .hbm, ⟨4, _⟩ => ⟨S2x1024x1024, .f32⟩
  | .hbm, ⟨5, _⟩ => ⟨S1x1024x512, .f32⟩
  | .hbm, ⟨6, _⟩ => ⟨S1024x512, .f32⟩
  | .hbm, ⟨7, _⟩ => ⟨S1x1024x512, .f32⟩
  | .hbm, ⟨8, _⟩ => ⟨S1024x512, .f32⟩
  | .hbm, ⟨9, _⟩ => ⟨S1024x1024, .f32⟩
  | .hbm, ⟨10, _⟩ => ⟨S1x1024x512, .f32⟩
  | .hbm, ⟨11, _⟩ => ⟨S1024x512, .f32⟩
  | .hbm, ⟨12, _⟩ => ⟨S1x1024x512, .f32⟩
  | .hbm, ⟨13, _⟩ => ⟨S1024x512, .f32⟩
  | .hbm, ⟨14, _⟩ => ⟨S1024x1024, .f32⟩
  | .hbm, ⟨15, _⟩ => ⟨S1x1024x1024, .f32⟩
  | .hbm, ⟨16, _⟩ => ⟨S1x1024x1024, .f32⟩
  | .hbm, ⟨17, _⟩ => ⟨S2x1024x1024, .f32⟩
  | .hbm, ⟨18, _⟩ => ⟨S_, .f32⟩
  | .hbm, ⟨19, _⟩ => ⟨S2x1024x1024, .f32⟩
  | .hbm, ⟨20, _⟩ => ⟨S2x1024x1024, .f32⟩
  | .hbm, ⟨21, _⟩ => ⟨S_, .f32⟩
  | .hbm, ⟨22, _⟩ => ⟨S2x1024x1024, .f32⟩
  | .hbm, ⟨23, _⟩ => ⟨S2x1024x1024, .f32⟩
  | .hbm, ⟨24, _⟩ => ⟨S2x1024x1024, .f32⟩
  | .hbm, ⟨25, _⟩ => ⟨S_, .f32⟩
  | .hbm, ⟨26, _⟩ => ⟨S2x1024x1024, .f32⟩
  | .hbm, ⟨27, _⟩ => ⟨S2x1024x1024, .f32⟩
  | .hbm, ⟨28, _⟩ => ⟨S2x1024x1024, .f32⟩
  | .hbm, ⟨29, _⟩ => ⟨S_, .f32⟩
  | .hbm, ⟨30, _⟩ => ⟨S2x1024x1024, .f32⟩
  | .hbm, ⟨31, _⟩ => ⟨S2x1024x1024, .f32⟩
  | .hbm, ⟨32, _⟩ => ⟨S2x1024x1024, .f32⟩
  | .hbm, ⟨33, _⟩ => ⟨S_, .f32⟩
  | .hbm, ⟨34, _⟩ => ⟨S2x1024x1024, .f32⟩
  | .hbm, ⟨35, _⟩ => ⟨S2x1024x1024, .f32⟩
  | .hbm, ⟨36, _⟩ => ⟨S_, .f32⟩
  | .hbm, ⟨37, _⟩ => ⟨S2x1024x1024, .f32⟩
  | .hbm, ⟨38, _⟩ => ⟨S2x1024x1024, .f32⟩
  | .hbm, ⟨39, _⟩ => ⟨S2x1024x1024, .f32⟩
  | .hbm, ⟨40, _⟩ => ⟨S_, .f32⟩
  | .hbm, ⟨41, _⟩ => ⟨S2x1024x1024, .f32⟩
  | .hbm, ⟨42, _⟩ => ⟨S2x1024x1024, .f32⟩
  | .hbm, ⟨43, _⟩ => ⟨S2x1024x1024, .f32⟩
  | .hbm, ⟨44, _⟩ => ⟨S_, .f32⟩
  | .hbm, ⟨45, _⟩ => ⟨S2x1024x1024, .f32⟩
  | .hbm, ⟨46, _⟩ => ⟨S2x1024x1024, .f32⟩
  | .hbm, ⟨47, _⟩ => ⟨S2x1024x1024, .f32⟩
  | .hbm, ⟨48, _⟩ => ⟨S_, .f32⟩
  | .hbm, ⟨49, _⟩ => ⟨S2x1024x1024, .f32⟩
  | .hbm, ⟨50, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel19.lean ====
abbrev S2x256x1024 : Shape := ⟨3, ![2, 256, 1024]⟩
abbrev S2x256x512 : Shape := ⟨3, ![2, 256, 512]⟩
abbrev S1x256x1024 : Shape := ⟨3, ![1, 256, 1024]⟩
abbrev S1x256x512 : Shape := ⟨3, ![1, 256, 512]⟩
abbrev S256x512 : Shape := ⟨2, ![256, 512]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x512, .f32⟩
  | .hbm, ⟨2, _⟩ => ⟨S2x256x512, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S2x256x512, .f32⟩
  | .local _ .vmem, ⟨7, _⟩ => ⟨S2x256x512, .f32⟩
  | .local _ .vmem, ⟨8, _⟩ => ⟨S2x256x512, .f32⟩
  | .local _ .vmem, ⟨9, _⟩ => ⟨S2x256x512, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S2x256x1024 : Shape := ⟨3, ![2, 256, 1024]⟩
abbrev S2x256x512 : Shape := ⟨3, ![2, 256, 512]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x512, .f32⟩
  | .hbm, ⟨2, _⟩ => ⟨S2x256x512, .f32⟩
  | .hbm, ⟨3, _⟩ => ⟨S2x256x1024, .f32⟩
  | .hbm, ⟨4, _⟩ => ⟨S2x256x1024, .f32⟩
  | .hbm, ⟨5, _⟩ => ⟨S1x256x512, .f32⟩
  | .hbm, ⟨6, _⟩ => ⟨S256x512, .f32⟩
  | .hbm, ⟨7, _⟩ => ⟨S1x256x512, .f32⟩
  | .hbm, ⟨8, _⟩ => ⟨S256x512, .f32⟩
  | .hbm, ⟨9, _⟩ => ⟨S256x1024, .f32⟩
  | .hbm, ⟨10, _⟩ => ⟨S1x256x512, .f32⟩
  | .hbm, ⟨11, _⟩ => ⟨S256x512, .f32⟩
  | .hbm, ⟨12, _⟩ => ⟨S1x256x512, .f32⟩
  | .hbm, ⟨13, _⟩ => ⟨S256x512, .f32⟩
  | .hbm, ⟨14, _⟩ => ⟨S256x1024, .f32⟩
  | .hbm, ⟨15, _⟩ => ⟨S1x256x1024, .f32⟩
  | .hbm, ⟨16, _⟩ => ⟨S1x256x1024, .f32⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | .hbm, ⟨47, _⟩ => ⟨S2x256x1024, .f32⟩
  | .hbm, ⟨48, _⟩ => ⟨S_, .f32⟩
  | .hbm, ⟨49, _⟩ => ⟨S2x256x1024, .f32⟩
  | .hbm, ⟨50, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel20.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Model.lean ====
module

public import Idealize.ShloMosaic.PureOps.Ideal

@[expose] public section

/-! The mathematics of the backward call over the real numbers: rows and columns are natural numbers, and every function is
zero outside the arrays. -/

noncomputable section

namespace Cert.Model

/-- The constants of the gate's function: the 32-bit numbers nearest to the square root of `2 / π` and to `0.044715`. -/
def cc : ℝ := 6693141 / 8388608
def ca : ℝ := 12003091 / 268435456

def th (x : ℝ) : ℝ := Real.tanh (x * (cc + cc * ca * (x * x)))

/-- The gate's function and its derivative. -/
def act (x : ℝ) : ℝ := 1 / 2 * x + 1 / 2 * x * th x
def grad (x : ℝ) : ℝ := 1 / 2 + 1 / 2 * th x + (1 / 2 * x - 1 / 2 * x * th x * th x) * (cc + 3 * cc * ca * (x * x))

/-- What the call is given: the output's cotangent, the down projection, the up projection, the filter, and the two arrays
the forward pass saved. -/
structure Data where
  df : ℕ → ℕ → ℝ
  wd : ℕ → ℕ → ℝ
  U : ℕ → ℕ → ℝ
  W : ℕ → ℕ → ℝ
  up : ℕ → ℕ → ℝ
  cv : ℕ → ℕ → ℝ
  out : ∀ r, 4096 ≤ r → ∀ k, df r k = 0

namespace Data

variable (D : Data)

/-- The cotangent of the gated product. -/
def dy (r c : ℕ) : ℝ := ∑ k : Fin 1024, D.df r k * D.wd c k

/-- The cotangent of the convolution: half `hh` (gate 0, value 1), column `c` of the half. -/
def dc (hh r c : ℕ) : ℝ :=
  match hh with
  | 0 => D.dy r c * D.cv r (4096 + c) * grad (D.cv r c)
  | _ => D.dy r c * act (D.cv r c)

/-- The cotangent of the up projection. -/
def dup (hh r c : ℕ) : ℝ :=
  D.W 2 (4096 * hh + c) * D.dc hh r c + D.W 1 (4096 * hh + c) * D.dc hh (r + 1) c + D.W 0 (4096 * hh + c) * D.dc hh (r + 2) c

/-- The terms of the four sums. -/
def term (hh k r c : ℕ) : ℝ :=
  match k with
  | 0 => D.dc hh (r + 2) c * D.up r (4096 * hh + c)
  | 1 => D.dc hh (r + 1) c * D.up r (4096 * hh + c)
  | 2 => D.dc hh r c * D.up r (4096 * hh + c)
  | 3 => D.dc hh r c
  | _ => 0

/-- One column block's part of the input's cotangent. -/
def dhPart (j r k : ℕ) : ℝ :=
  ∑ c : Fin 512, D.dup 0 r (512 * j + c) * D.U (512 * j + c) k + ∑ c : Fin 512, D.dup 1 r (512 * j + c) * D.U (4096 + 512 * j + c) k

theorem dy_out (r : ℕ) (h : 4096 ≤ r) (c : ℕ) : D.dy r c = 0 := by
  simp [dy, D.out r h]

theorem dc_out (hh r : ℕ) (h : 4096 ≤ r) (c : ℕ) : D.dc hh r c = 0 := by
  unfold dc; split <;> simp [D.dy_out r h]

end Data

end Cert.Model

end
-- ==== Proof.Consts.lean ====
module

public import Idealize.ShloMosaic.PureOps.Ideal
public import Idealize.ShloMosaic.PureOps.Ideal.Laws
public import proofs.«01_k».proof.Proof.Model

@[expose] public section

/-! The constants of the two programs as real numbers, and the arithmetic of finite numbers. -/

noncomputable section

namespace Cert.Consts

open Idealize.ShloMosaic

theorem ofBits_half : Ideal.ofBits .f32 0x3F000000#32 = ((1 / 2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

theorem ofBits_cc : Ideal.ofBits .f32 0x3F4C422A#32 = ((Cert.Model.cc : ℝ) : EReal) := by
  simp [Ideal.ofBits, Ideal.ieee, -EReal.coe_mul, Cert.Model.cc]; norm_num

theorem ofBits_ca : Ideal.ofBits .f32 0x3D372713#32 = ((Cert.Model.ca : ℝ) : EReal) := by
  simp [Ideal.ofBits, Ideal.ieee, -EReal.coe_mul, Cert.Model.ca]; norm_num

/-- A finite sum of finite numbers. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Consts

end
-- ==== Proof.Args.lean ====
module

public import proofs.«01_k».proof.Proof.Model
public import proofs.«01_k».proof.Proof.Consts

@[expose] public section

/-! The model's numbers from six arrays of finite extended reals: the input of the up projection, its weights, the filter, its
bias, the down projection's weights, the output's cotangent. -/

noncomputable section

namespace Cert.Model

/-- An array of finite values as a function of natural numbers, zero outside. -/
def rd {n k : ℕ} (f : Fin n → Fin k → EReal) (r c : ℕ) : ℝ :=
  if h : r < n ∧ c < k then (f ⟨r, h.1⟩ ⟨c, h.2⟩).toReal else 0

theorem rd_at {n k : ℕ} {f : Fin n → Fin k → EReal} (hf : ∀ r c, f r c = ((f r c).toReal : EReal)) {r c : ℕ} (hr : r < n) (hc : c < k) :
    f ⟨r, hr⟩ ⟨c, hc⟩ = ((rd f r c : ℝ) : EReal) := by
  rw [hf]
  simp [rd, hr, hc]

theorem rd_out {n k : ℕ} (f : Fin n → Fin k → EReal) (r c : ℕ) (h : n ≤ r) : rd f r c = 0 := by
  rw [rd, dif_neg (by omega)]

/-- The six arrays, every value of them finite. -/
structure Six where
  h : Fin 4096 → Fin 1024 → EReal
  w : Fin 1024 → Fin 8192 → EReal
  t : Fin 3 → Fin 8192 → EReal
  b : Fin 1 → Fin 8192 → EReal
  d : Fin 4096 → Fin 1024 → EReal
  g : Fin 4096 → Fin 1024 → EReal
  fh : ∀ r c, h r c = ((h r c).toReal : EReal)
  fw : ∀ r c, w r c = ((w r c).toReal : EReal)
  ft : ∀ r c, t r c = ((t r c).toReal : EReal)
  fb : ∀ r c, b r c = ((b r c).toReal : EReal)
  fd : ∀ r c, d r c = ((d r c).toReal : EReal)
  fg : ∀ r c, g r c = ((g r c).toReal : EReal)

namespace Six

variable (A : Six)

/-- The up projection, and the same with two rows of zeros above. -/
def up (r c : ℕ) : ℝ := ∑ k : Fin 1024, rd A.h r k * rd A.w k c
def pad (r c : ℕ) : ℝ := if r < 2 then 0 else A.up (r - 2) c

/-- The convolution. -/
def cv (r c : ℕ) : ℝ :=
  rd A.b 0 c + ((rd A.t 0 c * A.pad r c + rd A.t 1 c * A.pad (r + 1) c) + rd A.t 2 c * A.pad (r + 2) c)

def data : Data where
  df := rd A.g
  wd := rd A.d
  U c k := rd A.w k c
  W := rd A.t
  up := A.up
  cv := A.cv
  out := fun r hr k => rd_out A.g r k hr

end Six

end Cert.Model

end
-- ==== Proof.Finite.lean ====
module

public import proofs.«01_k».proof.Defs
public import proofs.«01_k».proof.Proof.Gen.Pre_finite
public import proofs.«01_k».proof.Proof.Args
public import Idealize.ShloMosaic.Lib.Pointwise
public import Idealize.ShloMosaic.Lib.ValueIdx

@[expose] public section

/-! The precondition gives six arrays of finite values. -/

set_option maxRecDepth 16384

noncomputable section

namespace Cert.Finite

open Idealize.ShloMosaic Idealize.SL.Sem Cert.Model Cert.Pre_finite Cert.Pre_finite.Gen

theorem ofBits_top : Ideal.ofBits .f32 0x7F800000#32 = ⊤ := by
  simp [Ideal.ofBits, Ideal.ieee]

theorem real_of {a : EReal} (h : Ideal.cmp .olt (max a (-a)) (Ideal.ofBits .f32 0x7F800000#32) = 1#1) : a = ((a.toReal : ℝ) : EReal) := by
  rw [ofBits_top] at h
  refine (EReal.coe_toReal ?_ ?_).symm
  · rintro rfl; simp [Ideal.cmp] at h
  · rintro rfl; simp [Ideal.cmp] at h

variable (a0 : FVec Ideal S4096x1024 .f32) (a1 : FVec Ideal S1024x8192 .f32) (a2 : FVec Ideal S3x8192 .f32) (a3 : FVec Ideal S8192 .f32)
  (a4 a5 : FVec Ideal S4096x1024 .f32)

def ok : Prop :=
  (Cert.Pre_finite.fn (F := Ideal) a0 a1 a2 a3 a4 a5).1 = (fun _ => 1#1)
    ∧ (Cert.Pre_finite.fn (F := Ideal) a0 a1 a2 a3 a4 a5).2.1 = (fun _ => 1#1)
    ∧ (Cert.Pre_finite.fn (F := Ideal) a0 a1 a2 a3 a4 a5).2.2.1 = (fun _ => 1#1)
    ∧ (Cert.Pre_finite.fn (F := Ideal) a0 a1 a2 a3 a4 a5).2.2.2.1 = (fun _ => 1#1)
    ∧ (Cert.Pre_finite.fn (F := Ideal) a0 a1 a2 a3 a4 a5).2.2.2.2.1 = (fun _ => 1#1)
    ∧ (Cert.Pre_finite.fn (F := Ideal) a0 a1 a2 a3 a4 a5).2.2.2.2.2 = (fun _ => 1#1)

variable {a0 a1 a2 a3 a4 a5}

/-- The arrays of the model. -/
def six (h : ok a0 a1 a2 a3 a4 a5) : Six where
  h r k := a0 (ix2 r k)
  w r k := a1 (ix2 r k)
  t r k := a2 (ix2 r k)
  b _ k := a3 (ix1 k)
  d r k := a4 (ix2 r k)
  g r k := a5 (ix2 r k)
  fh r k := real_of (congrFun h.1 (ix2 r k))
  fw r k := real_of (congrFun h.2.1 (ix2 r k))
  ft r k := real_of (congrFun h.2.2.1 (ix2 r k))
  fb _ k := real_of (congrFun h.2.2.2.1 (ix1 k))
  fd r k := real_of (congrFun h.2.2.2.2.1 (ix2 r k))
  fg r k := real_of (congrFun h.2.2.2.2.2 (ix2 r k))

end Cert.Finite

end
-- ==== Proof.Ops.lean ====
module

public import proofs.«01_k».proof.Proof.Gen.KernelIdeal.Frame

@[expose] public section

/-! The vocabulary of one grid point: what the body computes from a chunk of 256 rows, and what it loads. -/

noncomputable section

namespace Cert.KernelIdeal.Blk

open Cert.KernelIdeal Cert.KernelIdeal.Gen Idealize.ShloMosaic Idealize.SL.Sem

variable {F : FTy → Type} [FloatOps F] [Named F]

/-- The down projection's backward product of a chunk. -/
def dyv (a : Vec F S256x1024 .bf16) (w : Vec F S1x1x512x1024 .bf16) : FVec F S256x512 .f32 :=
  matmul dot_S256x1024_S512x1024_S256x512_1_1_0_0_n_n none (shapeCast S256x1024 a shapeCasts_S256x1024_S256x1024)
    (shapeCast S512x1024 w shapeCasts_S1x1x512x1024_S512x1024) (constant S256x512 .f32 0x00000000#32)

/-- A saved chunk widened. -/
def wide (v : Vec F S1x256x512 .bf16) : FVec F S256x512 .f32 :=
  extf .f32 (shapeCast S256x512 v shapeCasts_S1x256x512_S256x512) bitsLt_bf16_f32

/-- The cotangent of the convolution's gate half. -/
def dc0 (dy : FVec F S256x512 .f32) (g v : Vec F S1x256x512 .bf16) : FVec F S256x512 .f32 :=
  mulf (mulf dy (wide v)) (k0_pay18 g)

/-- The cotangent of the convolution's value half. -/
def dc1 (dy : FVec F S256x512 .f32) (g : Vec F S1x256x512 .bf16) : FVec F S256x512 .f32 :=
  mulf dy (k0_pay17 g)

/-- Row `n` of the sixteen rows carried, as a masked sum. -/
def rowOf (n : BitVec 32) (h : FVec F S16x512 .f32) : FVec F S1x512 .f32 :=
  shapeCast S1x512
    (multiReduction .add [0] S512
      (select
        (broadcastTo S16x512
          (shapeCast S16x1 (cmpi .eq (iota .tc S16x1 32 [0] iota_S16x1_d0_w32) (broadcast S16x1 n)) shapeCasts_S16x1_S16x1)
          broadcasts_S16x1_S16x512)
        h (broadcast S16x512 (Scalar.ofBits .f32 0x00000000#32)))
      0x00000000#32 reduces_S16x512_S512 (.inl rfl) rfl)
    shapeCasts_S512_S1x512

/-- Row `n` replaced by `r`. -/
def pick (n : BitVec 32) (r : FVec F S1x512 .f32) (z : FVec F S256x512 .f32) : FVec F S256x512 .f32 :=
  select
    (broadcastTo S256x512
      (shapeCast S256x1 (cmpi .eq (iota .tc S256x1 32 [0] iota_S256x1_d0_w32) (broadcast S256x1 n)) shapeCasts_S256x1_S256x1)
      broadcasts_S256x1_S256x512)
    (broadcastTo S256x512 (shapeCast S1x512 r shapeCasts_S1x512_S1x512) broadcasts_S1x512_S256x512) z

/-- The rows one further on. -/
def after1 (h : FVec F S16x512 .f32) (dc : FVec F S256x512 .f32) : FVec F S256x512 .f32 :=
  pick 255#32 (rowOf 0#32 h) (dynamicRotate 0 255#32 none dc rotates_S256x512_d0)

/-- The rows two further on. -/
def after2 (h : FVec F S16x512 .f32) (dc : FVec F S256x512 .f32) : FVec F S256x512 .f32 :=
  pick 254#32 (rowOf 0#32 h) (pick 255#32 (rowOf 1#32 h) (dynamicRotate 0 254#32 none dc rotates_S256x512_d0))

/-- The first sixteen rows. -/
def top (dc : FVec F S256x512 .f32) : FVec F S16x512 .f32 :=
  extractStridedSlice S16x512 ![0, 0] dc slices_S256x512_o0_0_S16x512

/-- Sums down the rows. -/
def colsum (x : FVec F S256x512 .f32) : FVec F S1x512 .f32 :=
  shapeCast S1x512 (multiReduction .add [0] S512 x 0x00000000#32 reduces_S256x512_S512 (.inl rfl) rfl) shapeCasts_S512_S1x512

/-- A row added to row `n` of the eight. -/
def addRow (n : BitVec 32) (sm : FVec F S1x512 .f32) (acc : FVec F S8x512 .f32) : FVec F S8x512 .f32 :=
  addf acc
    (select
      (broadcastTo S8x512
        (shapeCast S8x1 (cmpi .eq (iota .tc S8x1 32 [0] iota_S8x1_d0_w32) (broadcast S8x1 n)) shapeCasts_S8x1_S8x1)
        broadcasts_S8x1_S8x512)
      (broadcastTo S8x512 (shapeCast S1x512 sm shapeCasts_S1x512_S1x512) broadcasts_S1x512_S8x512)
      (broadcast S8x512 (Scalar.ofBits .f32 0x00000000#32)))

/-- A chunk's contribution to the four sums. -/
def upd (acc : FVec F S8x512 .f32) (dc : FVec F S256x512 .f32) (h : FVec F S16x512 .f32) (x : Vec F S1x256x512 .bf16) :
    FVec F S8x512 .f32 :=
  addRow 3#32 (colsum dc) (addRow 2#32 (colsum (mulf dc (wide x)))
    (addRow 1#32 (colsum (mulf (after1 h dc) (wide x))) (addRow 0#32 (colsum (mulf (after2 h dc) (wide x))) acc)))

/-- A tap of the filter down the rows. -/
def tap (w : Vec F S1x1x512 .f32) (x : FVec F S256x512 .f32) : FVec F S256x512 .f32 :=
  mulf (broadcastTo S256x512 (shapeCast S1x512 w shapeCasts_S1x1x512_S1x512) broadcasts_S1x512_S256x512) x

/-- The cotangent of the up projection. -/
def dup (dc : FVec F S256x512 .f32) (h : FVec F S16x512 .f32) (w2 w1 w0 : Vec F S1x1x512 .f32) : FVec F S256x512 .bf16 :=
  truncf .bf16 (addf (addf (tap w2 dc) (tap w1 (after1 h dc))) (tap w0 (after2 h dc))) bitsLt_bf16_f32

/-- A product with the up projection's weight added on. -/
def part (p : FVec F S256x1024 .f32) (d : FVec F S256x512 .bf16) (w : Vec F S1x1x1024x512 .bf16) : FVec F S256x1024 .f32 :=
  addf p (matmul dot_S256x512_S1024x512_S256x1024_1_1_0_0_n_n none d
    (shapeCast S1024x512 w shapeCasts_S1x1x1024x512_S1024x512) (constant S256x1024 .f32 0x00000000#32))

/-! The loads. -/

theorem inb2 (o : ℕ) (ho : o + 256 ≤ 1024) : ∀ a, (![o, 0] : Fin 2 → ℕ) a + S256x1024.size a ≤ S1024x1024.size a := by
  intro a; match a with
  | 0 => simpa using ho
  | 1 => simp

theorem inb3 (hh o : ℕ) (hhh : hh < 2) (ho : o + 256 ≤ 1024) :
    ∀ a, (![hh, o, 0] : Fin 3 → ℕ) a + S1x256x512.size a ≤ S2x1024x512.size a := by
  intro a; match a with
  | 0 => simp; omega
  | 1 => simpa using ho
  | 2 => simp

theorem inbw (hh k : ℕ) (hhh : hh < 2) (hk : k < 3) :
    ∀ a, (![hh, k, 0] : Fin 3 → ℕ) a + S1x1x512.size a ≤ S2x3x512.size a := by
  intro a; match a with
  | 0 => simp; omega
  | 1 => simp; omega
  | 2 => simp

def rowsL (o : ℕ) (ho : o + 256 ≤ 1024) {e : EltTy} (x : Vec F S1024x1024 e) : Vec F S256x1024 e :=
  View.ld x (Rect.unit ![o, 0] S256x1024.size (inb2 o ho))

def chunkL (hh o : ℕ) (hhh : hh < 2) (ho : o + 256 ≤ 1024) (x : Vec F S2x1024x512 .bf16) : Vec F S1x256x512 .bf16 :=
  View.ld x (Rect.unit ![hh, o, 0] S1x256x512.size (inb3 hh o hhh ho))

def tapL (hh k : ℕ) (hhh : hh < 2) (hk : k < 3) (x : Vec F S2x3x512 .f32) : Vec F S1x1x512 .f32 :=
  View.ld x (Rect.unit ![hh, k, 0] S1x1x512.size (inbw hh k hhh hk))

/-- The down projection's block, loaded whole. -/
def downL (x : Vec F S1x1x512x1024 .bf16) : Vec F S1x1x512x1024 .bf16 :=
  View.ld x (Rect.unit ![0, 0, 0, 0] S1x1x512x1024.size inb_S1x1x512x1024_S1x1x512x1024_0_0_0_0)

/-- The up projection's block, loaded whole. -/
def upL (x : Vec F S1x1x1024x512 .bf16) : Vec F S1x1x1024x512 .bf16 :=
  View.ld x (Rect.unit ![0, 0, 0, 0] S1x1x1024x512.size inb_S1x1x1024x512_S1x1x1024x512_0_0_0_0)

/-- The convolution's cotangent in the chunk of rows from `o`, gate half (0) or value half. -/
def dcv (hh o : ℕ) (ho : o + 256 ≤ 1024) (x0 : Vec F S1024x1024 .bf16) (x3 : Vec F S1x1x512x1024 .bf16)
    (x6 : Vec F S2x1024x512 .bf16) : FVec F S256x512 .f32 :=
  match hh with
  | 0 => dc0 (dyv (rowsL o ho x0) (downL x3)) (chunkL 0 o (by omega) ho x6) (chunkL 1 o (by omega) ho x6)
  | _ => dc1 (dyv (rowsL o ho x0) (downL x3)) (chunkL 0 o (by omega) ho x6)

/-- The up projection's cotangent in a chunk. -/
def dupAt (hh o : ℕ) (hhh : hh < 2) (ho : o + 256 ≤ 1024) (h : FVec F S16x512 .f32) (x0 : Vec F S1024x1024 .bf16)
    (x3 : Vec F S1x1x512x1024 .bf16) (x4 : Vec F S2x3x512 .f32) (x6 : Vec F S2x1024x512 .bf16) : FVec F S256x512 .bf16 :=
  dup (dcv hh o ho x0 x3 x6) h (tapL hh 2 hhh (by omega) x4) (tapL hh 1 hhh (by omega) x4) (tapL hh 0 hhh (by omega) x4)

/-- The input's cotangent in a chunk, from what the rows held. -/
def dhAt (o : ℕ) (ho : o + 256 ≤ 1024) (z : Vec F S256x1024 .f32) (h0 h1 : FVec F S16x512 .f32) (x0 : Vec F S1024x1024 .bf16)
    (x1 x2 : Vec F S1x1x1024x512 .bf16) (x3 : Vec F S1x1x512x1024 .bf16) (x4 : Vec F S2x3x512 .f32)
    (x6 : Vec F S2x1024x512 .bf16) : FVec F S256x1024 .f32 :=
  part (part (shapeCast S256x1024 z shapeCasts_S256x1024_S256x1024) (dupAt 0 o (by omega) ho h0 x0 x3 x4 x6) (upL x1))
    (dupAt 1 o (by omega) ho h1 x0 x3 x4 x6) (upL x2)

/-- The four chunks' contributions to the sums of a half. -/
def updAll (hh : ℕ) (hhh : hh < 2) (cin : FVec F S16x512 .f32) (x0 : Vec F S1024x1024 .bf16)
    (x3 : Vec F S1x1x512x1024 .bf16) (x5 x6 : Vec F S2x1024x512 .bf16) : FVec F S8x512 .f32 :=
  upd (upd (upd (upd (broadcast S8x512 (Scalar.ofBits .f32 0x00000000#32))
      (dcv hh 768 (by omega) x0 x3 x6) cin (chunkL hh 768 hhh (by omega) x5))
      (dcv hh 512 (by omega) x0 x3 x6) (top (dcv hh 768 (by omega) x0 x3 x6)) (chunkL hh 512 hhh (by omega) x5))
      (dcv hh 256 (by omega) x0 x3 x6) (top (dcv hh 512 (by omega) x0 x3 x6)) (chunkL hh 256 hhh (by omega) x5))
      (dcv hh 0 (by omega) x0 x3 x6) (top (dcv hh 256 (by omega) x0 x3 x6)) (chunkL hh 0 hhh (by omega) x5)

/-! The stores of one point, last first. -/

/-- A store of the up projection's cotangent. -/
def piece7 (hh o : ℕ) (hhh : hh < 2) (ho : o + 256 ≤ 1024) (h : FVec F S16x512 .f32) (x0 : Vec F S1024x1024 .bf16)
    (x3 : Vec F S1x1x512x1024 .bf16) (x4 : Vec F S2x3x512 .f32) (x6 : Vec F S2x1024x512 .bf16) :
    View.Piece (Elt F) S2x1024x512 .bf16 :=
  ⟨Rect.unit ![hh, o, 0] S1x256x512.size (inb3 hh o hhh ho),
    shapeCast S1x256x512 (dupAt hh o hhh ho h x0 x3 x4 x6) shapeCasts_S256x512_S1x256x512⟩

def L7 (c0 c1 : FVec F S16x512 .f32) (x0 : Vec F S1024x1024 .bf16) (x3 : Vec F S1x1x512x1024 .bf16) (x4 : Vec F S2x3x512 .f32)
    (x6 : Vec F S2x1024x512 .bf16) : List (View.Piece (Elt F) S2x1024x512 .bf16) :=
  [piece7 1 0 (by omega) (by omega) (top (dcv 1 256 (by omega) x0 x3 x6)) x0 x3 x4 x6,
   piece7 0 0 (by omega) (by omega) (top (dcv 0 256 (by omega) x0 x3 x6)) x0 x3 x4 x6,
   piece7 1 256 (by omega) (by omega) (top (dcv 1 512 (by omega) x0 x3 x6)) x0 x3 x4 x6,
   piece7 0 256 (by omega) (by omega) (top (dcv 0 512 (by omega) x0 x3 x6)) x0 x3 x4 x6,
   piece7 1 512 (by omega) (by omega) (top (dcv 1 768 (by omega) x0 x3 x6)) x0 x3 x4 x6,
   piece7 0 512 (by omega) (by omega) (top (dcv 0 768 (by omega) x0 x3 x6)) x0 x3 x4 x6,
   piece7 1 768 (by omega) (by omega) c1 x0 x3 x4 x6,
   piece7 0 768 (by omega) (by omega) c0 x0 x3 x4 x6]

/-- A store of the input's cotangent. -/
def piece8 (o : ℕ) (ho : o + 256 ≤ 1024) (z : Vec F S256x1024 .f32) (h0 h1 : FVec F S16x512 .f32) (x0 : Vec F S1024x1024 .bf16)
    (x1 x2 : Vec F S1x1x1024x512 .bf16) (x3 : Vec F S1x1x512x1024 .bf16) (x4 : Vec F S2x3x512 .f32)
    (x6 : Vec F S2x1024x512 .bf16) : View.Piece (Elt F) S1024x1024 .f32 :=
  ⟨Rect.unit ![o, 0] S256x1024.size (inb2 o ho), dhAt o ho z h0 h1 x0 x1 x2 x3 x4 x6⟩

/-- The sums' rows of a half, as stored. -/
def sumsAt (z : Vec F S1x1x8x512 .f32) (u : FVec F S8x512 .f32) : Vec F S1x1x8x512 .f32 :=
  shapeCast S1x1x8x512 (addf (shapeCast S8x512 z shapeCasts_S1x1x8x512_S8x512) u) shapeCasts_S8x512_S1x1x8x512

/-- The rows carried, as loaded. -/
def carried (z : Vec F S1x1x16x512 .f32) : FVec F S16x512 .f32 := shapeCast S16x512 z shapeCasts_S1x1x16x512_S16x512

/-- The rows carried, as stored. -/
def carryAt (z : FVec F S16x512 .f32) : Vec F S1x1x16x512 .f32 := shapeCast S1x1x16x512 z shapeCasts_S16x512_S1x1x16x512

def c1R (i : grid0.Coords) : Rect S8x2x16x512 := Rect.unit (k0_off1 i) S1x1x16x512.size (k0_off1_inb i)
def c2R (i : grid0.Coords) : Rect S8x2x16x512 := Rect.unit (k0_off2 i) S1x1x16x512.size (k0_off2_inb i)
def s3R (i : grid0.Coords) : Rect S8x2x8x512 := Rect.unit (k0_off3 i) S1x1x8x512.size (k0_off3_inb i)
def s4R (i : grid0.Coords) : Rect S8x2x8x512 := Rect.unit (k0_off4 i) S1x1x8x512.size (k0_off4_inb i)

end Cert.KernelIdeal.Blk

end
-- ==== Proof.Pieces.lean ====
module

public import proofs.«01_k».proof.Proof.Ops

@[expose] public section

/-! The stores of each kind of grid point, in the vocabulary of one point: inner points (`B`), the first point of a row
block (`C`) and the very first point (`A`). -/

set_option maxRecDepth 16384

noncomputable section

namespace Cert.KernelIdeal.Blk

open Cert.KernelIdeal Cert.KernelIdeal.Gen Idealize.ShloMosaic Idealize.ShloMosaic.TcCoe Idealize.SL.Sem

variable {F : FTy → Type} [FloatOps F] [Named F]

/-- The whole of the input cotangent's block set to zero. -/
def Z8 : List (View.Piece (Elt F) S1024x1024 .f32) :=
  [⟨Rect.unit ![0, 0] S1024x1024.size inb_S1024x1024_S1024x1024_0_0, k0_pay3⟩]

def Z9 : List (View.Piece (Elt F) S8x2x8x512 .f32) :=
  [⟨Rect.unit ![0, 0, 0, 0] S8x2x8x512.size inb_S8x2x8x512_S8x2x8x512_0_0_0_0, k0_pay2⟩]

def ZS : List (View.Piece (Elt F) S8x2x16x512 .f32) :=
  [⟨Rect.unit ![0, 0, 0, 0] S8x2x16x512.size inb_S8x2x16x512_S8x2x16x512_0_0_0_0, k0_pay1⟩]

/-- What the rows from `o` hold after the stores `L`. -/
def cov8 (v : View sig .tc .vmem S1024x1024 .f32) (L : List (View.Piece (Elt F) S1024x1024 .f32)) (o : ℕ) (ho : o + 256 ≤ 1024) :
    Vec F S256x1024 .f32 :=
  v.readCov L (Rect.unit (s := S1024x1024) ![o, 0] S256x1024.size (inb2 o ho)).toLoadRect

section
variable (v : View sig .tc .vmem S1024x1024 .f32) (c0 c1 : FVec F S16x512 .f32) (x0 : Vec F S1024x1024 .bf16)
  (x1 x2 : Vec F S1x1x1024x512 .bf16) (x3 : Vec F S1x1x512x1024 .bf16) (x4 : Vec F S2x3x512 .f32) (x6 : Vec F S2x1024x512 .bf16)

/-- The stores of the input's cotangent over a block that was set to zero, chunk by chunk. -/
def K1 : List (View.Piece (Elt F) S1024x1024 .f32) :=
  piece8 768 (by omega) (cov8 v Z8 768 (by omega)) c0 c1 x0 x1 x2 x3 x4 x6 :: Z8
def K2 : List (View.Piece (Elt F) S1024x1024 .f32) :=
  piece8 512 (by omega) (cov8 v (K1 v c0 c1 x0 x1 x2 x3 x4 x6) 512 (by omega)) (top (dcv 0 768 (by omega) x0 x3 x6)) (top (dcv 1 768 (by omega) x0 x3 x6)) x0 x1 x2 x3 x4 x6
    :: K1 v c0 c1 x0 x1 x2 x3 x4 x6
def K3 : List (View.Piece (Elt F) S1024x1024 .f32) :=
  piece8 256 (by omega) (cov8 v (K2 v c0 c1 x0 x1 x2 x3 x4 x6) 256 (by omega)) (top (dcv 0 512 (by omega) x0 x3 x6)) (top (dcv 1 512 (by omega) x0 x3 x6)) x0 x1 x2 x3 x4 x6
    :: K2 v c0 c1 x0 x1 x2 x3 x4 x6
def K4 : List (View.Piece (Elt F) S1024x1024 .f32) :=
  piece8 0 (by omega) (cov8 v (K3 v c0 c1 x0 x1 x2 x3 x4 x6) 0 (by omega)) (top (dcv 0 256 (by omega) x0 x3 x6)) (top (dcv 1 256 (by omega) x0 x3 x6)) x0 x1 x2 x3 x4 x6
    :: K3 v c0 c1 x0 x1 x2 x3 x4 x6

/-- The stores of the input's cotangent over what the block held. -/
def L8 (z : Vec F S1024x1024 .f32) : List (View.Piece (Elt F) S1024x1024 .f32) :=
  [piece8 0 (by omega) (rowsL 0 (by omega) z) (top (dcv 0 256 (by omega) x0 x3 x6)) (top (dcv 1 256 (by omega) x0 x3 x6)) x0 x1 x2 x3 x4 x6,
   piece8 256 (by omega) (rowsL 256 (by omega) z) (top (dcv 0 512 (by omega) x0 x3 x6)) (top (dcv 1 512 (by omega) x0 x3 x6)) x0 x1 x2 x3 x4 x6,
   piece8 512 (by omega) (rowsL 512 (by omega) z) (top (dcv 0 768 (by omega) x0 x3 x6)) (top (dcv 1 768 (by omega) x0 x3 x6)) x0 x1 x2 x3 x4 x6,
   piece8 768 (by omega) (rowsL 768 (by omega) z) c0 c1 x0 x1 x2 x3 x4 x6]
end

/-- The stores of the sums. -/
def L9 (i : grid0.Coords) (z0 z1 : Vec F S1x1x8x512 .f32) (c0 c1 : FVec F S16x512 .f32) (x0 : Vec F S1024x1024 .bf16)
    (x3 : Vec F S1x1x512x1024 .bf16) (x5 x6 : Vec F S2x1024x512 .bf16) : List (View.Piece (Elt F) S8x2x8x512 .f32) :=
  [⟨s4R i, sumsAt z1 (updAll 1 (by omega) c1 x0 x3 x5 x6)⟩, ⟨s3R i, sumsAt z0 (updAll 0 (by omega) c0 x0 x3 x5 x6)⟩]

/-- The stores of the rows carried. -/
def LS (i : grid0.Coords) (x0 : Vec F S1024x1024 .bf16) (x3 : Vec F S1x1x512x1024 .bf16) (x6 : Vec F S2x1024x512 .bf16) :
    List (View.Piece (Elt F) S8x2x16x512 .f32) :=
  [⟨c2R i, carryAt (top (dcv 1 0 (by omega) x0 x3 x6))⟩, ⟨c1R i, carryAt (top (dcv 0 0 (by omega) x0 x3 x6))⟩]

theorem runB_7 (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) (xo8 : Vec F S1024x1024 .f32) (xo9 : Vec F S8x2x8x512 .f32) (xs0 : Vec F S8x2x16x512 .f32) :
    (kernelRun0_B (F := F) c i a2 h2 a3 h3 a4 h4 a5 h5 a6 h6 a7 h7 a8 h8 a9 h9 a10 h10 a11 h11 a12 h12 hc0 hc1 x0 x1 x2 x3 x4 x5 x6 xo8 xo9 xs0).1 =
      L7 (carried (View.ld (a12.view.read (Elt F) (h12.unread xs0)) (c1R i))) (carried (View.ld (a12.view.read (Elt F) (h12.unread xs0)) (c2R i))) (a2.view.read (Elt F) (h2.unread x0)) (a5.view.read (Elt F) (h5.unread x3)) (a6.view.read (Elt F) (h6.unread x4)) (a8.view.read (Elt F) (h8.unread x6)) := by
  rfl

theorem runB_8 (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) (xo8 : Vec F S1024x1024 .f32) (xo9 : Vec F S8x2x8x512 .f32) (xs0 : Vec F S8x2x16x512 .f32) :
    (kernelRun0_B (F := F) c i a2 h2 a3 h3 a4 h4 a5 h5 a6 h6 a7 h7 a8 h8 a9 h9 a10 h10 a11 h11 a12 h12 hc0 hc1 x0 x1 x2 x3 x4 x5 x6 xo8 xo9 xs0).2.1 =
      L8 (carried (View.ld (a12.view.read (Elt F) (h12.unread xs0)) (c1R i))) (carried (View.ld (a12.view.read (Elt F) (h12.unread xs0)) (c2R i))) (a2.view.read (Elt F) (h2.unread x0)) (a3.view.read (Elt F) (h3.unread x1)) (a4.view.read (Elt F) (h4.unread x2)) (a5.view.read (Elt F) (h5.unread x3)) (a6.view.read (Elt F) (h6.unread x4)) (a8.view.read (Elt F) (h8.unread x6)) (a10.view.read (Elt F) (h10.unread xo8)) := by
  rfl

theorem runB_9 (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) (xo8 : Vec F S1024x1024 .f32) (xo9 : Vec F S8x2x8x512 .f32) (xs0 : Vec F S8x2x16x512 .f32) :
    (kernelRun0_B (F := F) c i a2 h2 a3 h3 a4 h4 a5 h5 a6 h6 a7 h7 a8 h8 a9 h9 a10 h10 a11 h11 a12 h12 hc0 hc1 x0 x1 x2 x3 x4 x5 x6 xo8 xo9 xs0).2.2.1 =
      L9 i (View.ld (a11.view.read (Elt F) (h11.unread xo9)) (s3R i)) (View.ld (a11.view.read (Elt F) (h11.unread xo9)) (s4R i)) (carried (View.ld (a12.view.read (Elt F) (h12.unread xs0)) (c1R i))) (carried (View.ld (a12.view.read (Elt F) (h12.unread xs0)) (c2R i))) (a2.view.read (Elt F) (h2.unread x0)) (a5.view.read (Elt F) (h5.unread x3)) (a7.view.read (Elt F) (h7.unread x5)) (a8.view.read (Elt F) (h8.unread x6)) := by
  rfl

theorem runB_S (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) (xo8 : Vec F S1024x1024 .f32) (xo9 : Vec F S8x2x8x512 .f32) (xs0 : Vec F S8x2x16x512 .f32) :
    (kernelRun0_B (F := F) c i a2 h2 a3 h3 a4 h4 a5 h5 a6 h6 a7 h7 a8 h8 a9 h9 a10 h10 a11 h11 a12 h12 hc0 hc1 x0 x1 x2 x3 x4 x5 x6 xo8 xo9 xs0).2.2.2.1 =
      LS i (a2.view.read (Elt F) (h2.unread x0)) (a5.view.read (Elt F) (h5.unread x3)) (a8.view.read (Elt F) (h8.unread x6)) := by
  rfl

theorem runC_7 (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) (xo9 : Vec F S8x2x8x512 .f32) (xs0 : Vec F S8x2x16x512 .f32) :
    (kernelRun0_C (F := F) c i a2 h2 a3 h3 a4 h4 a5 h5 a6 h6 a7 h7 a8 h8 a9 h9 a10 h10 a11 h11 a12 h12 hc0 hc1 x0 x1 x2 x3 x4 x5 x6 xo9 xs0).1 =
      L7 (carried (View.ld (a12.view.read (Elt F) (h12.unread xs0)) (c1R i))) (carried (View.ld (a12.view.read (Elt F) (h12.unread xs0)) (c2R i))) (a2.view.read (Elt F) (h2.unread x0)) (a5.view.read (Elt F) (h5.unread x3)) (a6.view.read (Elt F) (h6.unread x4)) (a8.view.read (Elt F) (h8.unread x6)) := by
  rfl

theorem runC_8 (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) (xo9 : Vec F S8x2x8x512 .f32) (xs0 : Vec F S8x2x16x512 .f32) :
    (kernelRun0_C (F := F) c i a2 h2 a3 h3 a4 h4 a5 h5 a6 h6 a7 h7 a8 h8 a9 h9 a10 h10 a11 h11 a12 h12 hc0 hc1 x0 x1 x2 x3 x4 x5 x6 xo9 xs0).2.1 =
      K4 a10.view (carried (View.ld (a12.view.read (Elt F) (h12.unread xs0)) (c1R i))) (carried (View.ld (a12.view.read (Elt F) (h12.unread xs0)) (c2R i))) (a2.view.read (Elt F) (h2.unread x0)) (a3.view.read (Elt F) (h3.unread x1)) (a4.view.read (Elt F) (h4.unread x2)) (a5.view.read (Elt F) (h5.unread x3)) (a6.view.read (Elt F) (h6.unread x4)) (a8.view.read (Elt F) (h8.unread x6)) := by
  rfl

theorem runC_9 (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) (xo9 : Vec F S8x2x8x512 .f32) (xs0 : Vec F S8x2x16x512 .f32) :
    (kernelRun0_C (F := F) c i a2 h2 a3 h3 a4 h4 a5 h5 a6 h6 a7 h7 a8 h8 a9 h9 a10 h10 a11 h11 a12 h12 hc0 hc1 x0 x1 x2 x3 x4 x5 x6 xo9 xs0).2.2.1 =
      L9 i (View.ld (a11.view.read (Elt F) (h11.unread xo9)) (s3R i)) (View.ld (a11.view.read (Elt F) (h11.unread xo9)) (s4R i)) (carried (View.ld (a12.view.read (Elt F) (h12.unread xs0)) (c1R i))) (carried (View.ld (a12.view.read (Elt F) (h12.unread xs0)) (c2R i))) (a2.view.read (Elt F) (h2.unread x0)) (a5.view.read (Elt F) (h5.unread x3)) (a7.view.read (Elt F) (h7.unread x5)) (a8.view.read (Elt F) (h8.unread x6)) := by
  rfl

theorem runC_S (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) (xo9 : Vec F S8x2x8x512 .f32) (xs0 : Vec F S8x2x16x512 .f32) :
    (kernelRun0_C (F := F) c i a2 h2 a3 h3 a4 h4 a5 h5 a6 h6 a7 h7 a8 h8 a9 h9 a10 h10 a11 h11 a12 h12 hc0 hc1 x0 x1 x2 x3 x4 x5 x6 xo9 xs0).2.2.2.1 =
      LS i (a2.view.read (Elt F) (h2.unread x0)) (a5.view.read (Elt F) (h5.unread x3)) (a8.view.read (Elt F) (h8.unread x6)) := by
  rfl

theorem runA_7 (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) :
    (kernelRun0_A (F := F) c i a2 h2 a3 h3 a4 h4 a5 h5 a6 h6 a7 h7 a8 h8 a9 h9 a10 h10 a11 h11 a12 h12 hc0 hc1 x0 x1 x2 x3 x4 x5 x6 ).1 =
      L7 (carried (a12.view.readCov ZS (c1R i).toLoadRect)) (carried (a12.view.readCov ZS (c2R i).toLoadRect)) (a2.view.read (Elt F) (h2.unread x0)) (a5.view.read (Elt F) (h5.unread x3)) (a6.view.read (Elt F) (h6.unread x4)) (a8.view.read (Elt F) (h8.unread x6)) := by
  rfl

theorem runA_8 (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) :
    (kernelRun0_A (F := F) c i a2 h2 a3 h3 a4 h4 a5 h5 a6 h6 a7 h7 a8 h8 a9 h9 a10 h10 a11 h11 a12 h12 hc0 hc1 x0 x1 x2 x3 x4 x5 x6 ).2.1 =
      K4 a10.view (carried (a12.view.readCov ZS (c1R i).toLoadRect)) (carried (a12.view.readCov ZS (c2R i).toLoadRect)) (a2.view.read (Elt F) (h2.unread x0)) (a3.view.read (Elt F) (h3.unread x1)) (a4.view.read (Elt F) (h4.unread x2)) (a5.view.read (Elt F) (h5.unread x3)) (a6.view.read (Elt F) (h6.unread x4)) (a8.view.read (Elt F) (h8.unread x6)) := by
  rfl

theorem runA_9 (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) :
    (kernelRun0_A (F := F) c i a2 h2 a3 h3 a4 h4 a5 h5 a6 h6 a7 h7 a8 h8 a9 h9 a10 h10 a11 h11 a12 h12 hc0 hc1 x0 x1 x2 x3 x4 x5 x6 ).2.2.1 =
      L9 i (a11.view.readCov Z9 (s3R i).toLoadRect) (a11.view.readCov Z9 (s4R i).toLoadRect) (carried (a12.view.readCov ZS (c1R i).toLoadRect)) (carried (a12.view.readCov ZS (c2R i).toLoadRect)) (a2.view.read (Elt F) (h2.unread x0)) (a5.view.read (Elt F) (h5.unread x3)) (a7.view.read (Elt F) (h7.unread x5)) (a8.view.read (Elt F) (h8.unread x6)) ++ Z9 := by
  rfl

theorem runA_S (c : Dev nD) (i : grid0.Coords) (a2 h2 a3 h3 a4 h4 a5 h5 a6 h6 a7 h7 a8 h8 a9 h9 a10 h10 a11 h11 a12 h12 hc0 hc1)
    (x0 : Vec F S1024x1024 .bf16) (x1 : Vec F S1x1x1024x512 .bf16) (x2 : Vec F S1x1x1024x512 .bf16) (x3 : Vec F S1x1x512x1024 .bf16) (x4 : Vec F S2x3x512 .f32) (x5 : Vec F S2x1024x512 .bf16) (x6 : Vec F S2x1024x512 .bf16) :
    (kernelRun0_A (F := F) c i a2 h2 a3 h3 a4 h4 a5 h5 a6 h6 a7 h7 a8 h8 a9 h9 a10 h10 a11 h11 a12 h12 hc0 hc1 x0 x1 x2 x3 x4 x5 x6 ).2.2.2.1 =
      LS i (a2.view.read (Elt F) (h2.unread x0)) (a5.view.read (Elt F) (h5.unread x3)) (a8.view.read (Elt F) (h8.unread x6)) ++ ZS := by
  rfl

end Cert.KernelIdeal.Blk

end
-- ==== Proof.Reals.lean ====
module

public import proofs.«01_k».proof.Proof.Ops
public import proofs.«01_k».proof.Proof.Consts
public import proofs.«01_k».proof.Proof.Model
public import Idealize.ShloMosaic.Lib.Pointwise

@[expose] public section

/-! What one point computes from finite numbers. -/

set_option maxRecDepth 16384

noncomputable section

namespace Cert.KernelIdeal.Blk

open Cert.KernelIdeal Cert.KernelIdeal.Gen Idealize.ShloMosaic Idealize.SL.Sem Cert.Model

theorem named_ca : Named.named (F := Ideal) κ "gelu_ca" (φ := .f32) 0x3D122279#32 = ((cc * ca : ℝ) : EReal) :=
  (IdealRules.named_const.ideal_named_scalar κ "gelu_ca" _ (v := ((80338380498831 / 2251799813685248 : ℝ) : EReal)) rfl).trans
    (congrArg _ (by norm_num [cc, ca]))

theorem named_3ca : Named.named (F := Ideal) κ "gelu_3ca" (φ := .f32) 0x3DDB33B6#32 = ((3 * cc * ca : ℝ) : EReal) :=
  (IdealRules.named_const.ideal_named_scalar κ "gelu_3ca" _ (v := ((241015141496493 / 2251799813685248 : ℝ) : EReal)) rfl).trans
    (congrArg _ (by norm_num [cc, ca]))

/-- A choice by a position's number. -/
theorem select_pos {α : Type} (k : ℕ) (hk : k < 2 ^ 32) (n : BitVec 32) (a b : α) :
    Scalar.select (IntOp.cmpi CmpIPredicate.eq (BitVec.ofNat 32 k) n) a b = if k = n.toNat then a else b := by
  have e : (BitVec.ofNat 32 k = n) ↔ k = n.toNat := by
    rw [← BitVec.toNat_inj, BitVec.toNat_ofNat, Nat.mod_eq_of_lt hk]
  by_cases h : k = n.toNat
  · rw [if_pos h]; simp [Scalar.select, IntOp.cmpi, e.2 h]
  · have h' : (BitVec.ofNat 32 k == n) = false := by simpa using fun h' => h (e.1 h')
    rw [if_neg h]; simp [Scalar.select, IntOp.cmpi, h']

/-- The saved chunk, finite. -/
theorem wide_real (v : Vec Ideal S1x256x512 .bf16) (g : ℕ → ℕ → ℝ) (hv : ∀ (r : Fin 256) (c : Fin 512), v (ix3 0 r c) = ((g r c : ℝ) : EReal))
    (r : Fin 256) (c : Fin 512) : wide v (ix2 r c) = ((g r c : ℝ) : EReal) := by
  pointwise [wide, hv]

theorem pay15_real (v : Vec Ideal S1x256x512 .bf16) (r : Fin 256) (c : Fin 512) (x : ℝ) (hv : v (ix3 0 r c) = (x : EReal)) :
    k0_pay15 v (ix2 r c) = ((th x : ℝ) : EReal) := by
  pointwise [k0_pay15, k0_pay14, k0_pay13, hv, Consts.ofBits_cc, named_ca]
  simp only [← EReal.coe_mul, ← EReal.coe_add, Ideal.tanh_coe]
  rfl

theorem pay16_real (v : Vec Ideal S1x256x512 .bf16) (r : Fin 256) (c : Fin 512) (x : ℝ) (hv : v (ix3 0 r c) = (x : EReal)) :
    k0_pay16 v (ix2 r c) = ((1 / 2 * x : ℝ) : EReal) := by
  pointwise [k0_pay16, k0_pay13, hv, Consts.ofBits_half]
  simp only [← EReal.coe_mul]

theorem pay17_real (v : Vec Ideal S1x256x512 .bf16) (r : Fin 256) (c : Fin 512) (x : ℝ) (hv : v (ix3 0 r c) = (x : EReal)) :
    k0_pay17 v (ix2 r c) = ((act x : ℝ) : EReal) := by
  have e : k0_pay17 v (ix2 r c) = k0_pay16 v (ix2 r c) + k0_pay16 v (ix2 r c) * k0_pay15 v (ix2 r c) := rfl
  rw [e, pay15_real v r c x hv, pay16_real v r c x hv]
  simp only [← EReal.coe_mul, ← EReal.coe_add]
  rfl

theorem pay18_real (v : Vec Ideal S1x256x512 .bf16) (r : Fin 256) (c : Fin 512) (x : ℝ) (hv : v (ix3 0 r c) = (x : EReal)) :
    k0_pay18 v (ix2 r c) = ((grad x : ℝ) : EReal) := by
  have e : k0_pay18 v (ix2 r c) = (Ideal.ofBits .f32 0x3F000000#32 + Ideal.ofBits .f32 0x3F000000#32 * k0_pay15 v (ix2 r c))
      + (k0_pay16 v (ix2 r c) - k0_pay16 v (ix2 r c) * k0_pay15 v (ix2 r c) * k0_pay15 v (ix2 r c))
        * (Ideal.ofBits .f32 0x3F4C422A#32
          + Named.named (F := Ideal) κ "gelu_3ca" (φ := .f32) 0x3DDB33B6#32 * k0_pay14 v (ix2 r c)) := rfl
  have e14 : k0_pay14 v (ix2 r c) = ((x * x : ℝ) : EReal) := by
    pointwise [k0_pay14, k0_pay13, hv]
    simp only [← EReal.coe_mul]
  rw [e, pay15_real v r c x hv, pay16_real v r c x hv, e14, Consts.ofBits_cc, named_3ca, Consts.ofBits_half]
  simp only [← EReal.coe_mul, ← EReal.coe_add, ← EReal.coe_sub]
  rfl

theorem dyv_real (a : Vec Ideal S256x1024 .bf16) (w : Vec Ideal S1x1x512x1024 .bf16) (f g : ℕ → ℕ → ℝ)
    (ha : ∀ (r : Fin 256) (k : Fin 1024), a (ix2 r k) = ((f r k : ℝ) : EReal))
    (hw : ∀ (c : Fin 512) (k : Fin 1024), w (ix4 0 0 c k) = ((g c k : ℝ) : EReal)) (r : Fin 256) (c : Fin 512) :
    dyv a w (ix2 r c) = ((∑ k : Fin 1024, f r k * g c k : ℝ) : EReal) := by
  pointwise [dyv, ha, hw]
  simp only [← EReal.coe_mul, Consts.coe_sum]

theorem dc0_real (dy : FVec Ideal S256x512 .f32) (g v : Vec Ideal S1x256x512 .bf16) (r : Fin 256) (c : Fin 512) (y x z : ℝ)
    (hy : dy (ix2 r c) = (y : EReal)) (hg : g (ix3 0 r c) = (x : EReal)) (hv : v (ix3 0 r c) = (z : EReal)) :
    dc0 dy g v (ix2 r c) = ((y * z * grad x : ℝ) : EReal) := by
  pointwise [dc0, wide, hy, hv]
  rw [pay18_real g r c x hg]
  simp only [← EReal.coe_mul]

theorem dc1_real (dy : FVec Ideal S256x512 .f32) (g : Vec Ideal S1x256x512 .bf16) (r : Fin 256) (c : Fin 512) (y x : ℝ)
    (hy : dy (ix2 r c) = (y : EReal)) (hg : g (ix3 0 r c) = (x : EReal)) :
    dc1 dy g (ix2 r c) = ((y * act x : ℝ) : EReal) := by
  pointwise [dc1, hy]
  rw [pay17_real g r c x hg]
  simp only [← EReal.coe_mul]

theorem rowOf_at (n : ℕ) (hn : n < 16) (h : FVec Ideal S16x512 .f32) (c : Fin 512) :
    rowOf (BitVec.ofNat 32 n) h (ix2 0 c) = h (ix2 ⟨n, hn⟩ c) := by
  pointwise [rowOf]
  have hs : ∀ x : Fin 16, Scalar.select (IntOp.cmpi CmpIPredicate.eq (BitVec.ofNat 32 ↑x) (BitVec.ofNat 32 n)) (h (ix2 x c)) 0
      = if x = ⟨n, hn⟩ then h (ix2 x c) else 0 := fun x => by
    rw [select_pos _ (by omega), BitVec.toNat_ofNat, Nat.mod_eq_of_lt (by omega)]
    simp only [Fin.ext_iff]
  rw [Finset.sum_congr rfl fun x _ => hs x, Finset.sum_ite_eq' Finset.univ]
  simp

theorem after1_real (h : FVec Ideal S16x512 .f32) (dc : FVec Ideal S256x512 .f32) (g : ℕ → ℕ → ℝ)
    (hd : ∀ (r : Fin 256) (c : Fin 512), dc (ix2 r c) = ((g r c : ℝ) : EReal))
    (hh : ∀ (r : Fin 16) (c : Fin 512), h (ix2 r c) = ((g (256 + r) c : ℝ) : EReal)) (r : Fin 256) (c : Fin 512) :
    after1 h dc (ix2 r c) = ((g (r + 1) c : ℝ) : EReal) := by
  pointwise [after1, pick, hd]
  rw [select_pos _ (by omega), rowOf_at 0 (by omega), hh]
  split
  · rename_i e; have e : (r : ℕ) = 255 := e
    simp [e]
  · rename_i e; have e : (r : ℕ) ≠ 255 := e
    rw [show (↑r + 256 - 255) % 256 = (r : ℕ) + 1 by omega]

theorem after2_real (h : FVec Ideal S16x512 .f32) (dc : FVec Ideal S256x512 .f32) (g : ℕ → ℕ → ℝ)
    (hd : ∀ (r : Fin 256) (c : Fin 512), dc (ix2 r c) = ((g r c : ℝ) : EReal))
    (hh : ∀ (r : Fin 16) (c : Fin 512), h (ix2 r c) = ((g (256 + r) c : ℝ) : EReal)) (r : Fin 256) (c : Fin 512) :
    after2 h dc (ix2 r c) = ((g (r + 2) c : ℝ) : EReal) := by
  pointwise [after2, pick, hd]
  rw [select_pos _ (by omega), select_pos _ (by omega), rowOf_at 0 (by omega), rowOf_at 1 (by omega), hh, hh]
  split
  · rename_i e; have e : (r : ℕ) = 254 := e
    simp [e]
  · rename_i e; have e : (r : ℕ) ≠ 254 := e
    split
    · rename_i e; have e : (r : ℕ) = 255 := e
      simp [e]
    · rename_i e; have e : (r : ℕ) ≠ 255 := e
      rw [show (↑r + 256 - 254) % 256 = (r : ℕ) + 2 by omega]

theorem top_real (dc : FVec Ideal S256x512 .f32) (g : ℕ → ℕ → ℝ)
    (hd : ∀ (r : Fin 256) (c : Fin 512), dc (ix2 r c) = ((g r c : ℝ) : EReal)) (r : Fin 16) (c : Fin 512) :
    top dc (ix2 r c) = ((g r c : ℝ) : EReal) := by
  pointwise [top, hd]

theorem colsum_real (x : FVec Ideal S256x512 .f32) (g : ℕ → ℕ → ℝ)
    (hd : ∀ (r : Fin 256) (c : Fin 512), x (ix2 r c) = ((g r c : ℝ) : EReal)) (c : Fin 512) :
    colsum x (ix2 0 c) = ((∑ r : Fin 256, g r c : ℝ) : EReal) := by
  pointwise [colsum, hd]
  simp only [Consts.coe_sum]

theorem addRow_at (n : ℕ) (hn : n < 8) (sm : FVec Ideal S1x512 .f32) (acc : FVec Ideal S8x512 .f32) (k : Fin 8) (c : Fin 512) :
    addRow (BitVec.ofNat 32 n) sm acc (ix2 k c) = acc (ix2 k c) + if (k : ℕ) = n then sm (ix2 0 c) else 0 := by
  pointwise [addRow]
  rw [select_pos _ (by omega), BitVec.toNat_ofNat, Nat.mod_eq_of_lt (by omega)]

/-- A chunk's contribution to the sums: rows `R …` of the terms. -/
theorem upd_real (acc : FVec Ideal S8x512 .f32) (dc : FVec Ideal S256x512 .f32) (h : FVec Ideal S16x512 .f32)
    (x : Vec Ideal S1x256x512 .bf16) (s g u : ℕ → ℕ → ℝ)
    (ha : ∀ (k : Fin 8) (c : Fin 512), acc (ix2 k c) = ((s k c : ℝ) : EReal))
    (hd : ∀ (r : Fin 256) (c : Fin 512), dc (ix2 r c) = ((g r c : ℝ) : EReal))
    (hh : ∀ (r : Fin 16) (c : Fin 512), h (ix2 r c) = ((g (256 + r) c : ℝ) : EReal))
    (hx : ∀ (r : Fin 256) (c : Fin 512), x (ix3 0 r c) = ((u r c : ℝ) : EReal)) (k : Fin 8) (c : Fin 512) :
    upd acc dc h x (ix2 k c) = ((s k c + ∑ r : Fin 256, (match (k : ℕ) with
      | 0 => g (r + 2) c * u r c | 1 => g (r + 1) c * u r c | 2 => g r c * u r c | 3 => g r c | _ => 0) : ℝ) : EReal) := by
  have m : ∀ (y : FVec Ideal S256x512 .f32) (f : ℕ → ℕ → ℝ), (∀ (r : Fin 256) (c : Fin 512), y (ix2 r c) = ((f r c : ℝ) : EReal)) →
      ∀ (r : Fin 256) (c : Fin 512), mulf y (wide x) (ix2 r c) = ((f r c * u r c : ℝ) : EReal) := fun y f hy r c => by
    pointwise [hy]
    rw [wide_real x u hx r c]
    simp only [← EReal.coe_mul]
  unfold upd
  rw [show (3#32 : BitVec 32) = BitVec.ofNat 32 3 from rfl, show (2#32 : BitVec 32) = BitVec.ofNat 32 2 from rfl,
    show (1#32 : BitVec 32) = BitVec.ofNat 32 1 from rfl, show (0#32 : BitVec 32) = BitVec.ofNat 32 0 from rfl]
  rw [addRow_at 3 (by omega), addRow_at 2 (by omega), addRow_at 1 (by omega), addRow_at 0 (by omega), ha,
    colsum_real dc g hd c, colsum_real (mulf dc (wide x)) (fun r c => g r c * u r c) (m dc g hd) c,
    colsum_real (mulf (after1 h dc) (wide x)) (fun r c => g (r + 1) c * u r c) (m _ (fun r c => g (r + 1) c) (after1_real h dc g hd hh)) c,
    colsum_real (mulf (after2 h dc) (wide x)) (fun r c => g (r + 2) c * u r c) (m _ (fun r c => g (r + 2) c) (after2_real h dc g hd hh)) c]
  obtain ⟨k, hk⟩ := k
  interval_cases k <;> simp [← EReal.coe_add]

theorem dup_real (dc : FVec Ideal S256x512 .f32) (h : FVec Ideal S16x512 .f32) (w2 w1 w0 : Vec Ideal S1x1x512 .f32)
    (g : ℕ → ℕ → ℝ) (v2 v1 v0 : ℕ → ℝ)
    (hd : ∀ (r : Fin 256) (c : Fin 512), dc (ix2 r c) = ((g r c : ℝ) : EReal))
    (hh : ∀ (r : Fin 16) (c : Fin 512), h (ix2 r c) = ((g (256 + r) c : ℝ) : EReal))
    (h2 : ∀ c : Fin 512, w2 (ix3 0 0 c) = ((v2 c : ℝ) : EReal)) (h1 : ∀ c : Fin 512, w1 (ix3 0 0 c) = ((v1 c : ℝ) : EReal))
    (h0 : ∀ c : Fin 512, w0 (ix3 0 0 c) = ((v0 c : ℝ) : EReal)) (r : Fin 256) (c : Fin 512) :
    dup dc h w2 w1 w0 (ix2 r c) = ((v2 c * g r c + v1 c * g (r + 1) c + v0 c * g (r + 2) c : ℝ) : EReal) := by
  pointwise [dup, tap, hd, h2, h1, h0]
  rw [after1_real h dc g hd hh, after2_real h dc g hd hh]
  simp only [← EReal.coe_mul, ← EReal.coe_add]

theorem part_real (p : FVec Ideal S256x1024 .f32) (d : FVec Ideal S256x512 .bf16) (w : Vec Ideal S1x1x1024x512 .bf16)
    (f g u : ℕ → ℕ → ℝ)
    (hp : ∀ (r : Fin 256) (k : Fin 1024), p (ix2 r k) = ((f r k : ℝ) : EReal))
    (hd : ∀ (r : Fin 256) (c : Fin 512), d (ix2 r c) = ((g r c : ℝ) : EReal))
    (hw : ∀ (k : Fin 1024) (c : Fin 512), w (ix4 0 0 k c) = ((u c k : ℝ) : EReal)) (r : Fin 256) (k : Fin 1024) :
    part p d w (ix2 r k) = ((f r k + ∑ c : Fin 512, g r c * u c k : ℝ) : EReal) := by
  pointwise [part, hp, hd, hw]
  simp only [← EReal.coe_mul, Consts.coe_sum, ← EReal.coe_add]

end Cert.KernelIdeal.Blk

end
-- ==== Proof.Point.lean ====
module

public import proofs.«01_k».proof.Proof.Pieces
public import proofs.«01_k».proof.Proof.Reals

@[expose] public section

/-! What the stores of one point leave, where its blocks are the model's: row block from `R`, column block `j`. -/

set_option maxRecDepth 16384

noncomputable section

namespace Cert.KernelIdeal.Blk

open Cert.KernelIdeal Cert.KernelIdeal.Gen Idealize.ShloMosaic Idealize.SL.Sem Cert.Model

/-- The blocks of a point are the model's numbers. -/
structure Ins (D : Data) (R j : ℕ) (x0 : Vec Ideal S1024x1024 .bf16) (x1 x2 : Vec Ideal S1x1x1024x512 .bf16)
    (x3 : Vec Ideal S1x1x512x1024 .bf16) (x4 : Vec Ideal S2x3x512 .f32) (x5 x6 : Vec Ideal S2x1024x512 .bf16) : Prop where
  h0 : ∀ (r : Fin 1024) (k : Fin 1024), x0 (ix2 r k) = ((D.df (R + r) k : ℝ) : EReal)
  h1 : ∀ (k : Fin 1024) (c : Fin 512), x1 (ix4 0 0 k c) = ((D.U (512 * j + c) k : ℝ) : EReal)
  h2 : ∀ (k : Fin 1024) (c : Fin 512), x2 (ix4 0 0 k c) = ((D.U (4096 + 512 * j + c) k : ℝ) : EReal)
  h3 : ∀ (c : Fin 512) (k : Fin 1024), x3 (ix4 0 0 c k) = ((D.wd (512 * j + c) k : ℝ) : EReal)
  h4 : ∀ (hh : Fin 2) (t : Fin 3) (c : Fin 512), x4 (ix3 hh t c) = ((D.W t (4096 * hh + (512 * j + c)) : ℝ) : EReal)
  h5 : ∀ (hh : Fin 2) (r : Fin 1024) (c : Fin 512), x5 (ix3 hh r c) = ((D.up (R + r) (4096 * hh + (512 * j + c)) : ℝ) : EReal)
  h6 : ∀ (hh : Fin 2) (r : Fin 1024) (c : Fin 512), x6 (ix3 hh r c) = ((D.cv (R + r) (4096 * hh + (512 * j + c)) : ℝ) : EReal)

section
variable {D : Data} {R j : ℕ} {x0 : Vec Ideal S1024x1024 .bf16} {x1 x2 : Vec Ideal S1x1x1024x512 .bf16}
  {x3 : Vec Ideal S1x1x512x1024 .bf16} {x4 : Vec Ideal S2x3x512 .f32} {x5 x6 : Vec Ideal S2x1024x512 .bf16}

theorem downL_eq (x : Vec Ideal S1x1x512x1024 .bf16) : downL x = x :=
  View.ld_unit_zero (S := S1x1x512x1024) (off := ![0, 0, 0, 0]) (by funext a; fin_cases a <;> rfl) _ _
theorem upL_eq (x : Vec Ideal S1x1x1024x512 .bf16) : upL x = x :=
  View.ld_unit_zero (S := S1x1x1024x512) (off := ![0, 0, 0, 0]) (by funext a; fin_cases a <;> rfl) _ _

theorem chunkL_at (hh o : ℕ) (hhh : hh < 2) (ho : o + 256 ≤ 1024) (x : Vec Ideal S2x1024x512 .bf16) (r : Fin 256) (c : Fin 512) :
    chunkL hh o hhh ho x (ix3 0 r c) = x (ix3 ⟨hh, hhh⟩ ⟨o + r, by omega⟩ c) := by
  pointwise [chunkL]

theorem tapL_at (hh t : ℕ) (hhh : hh < 2) (ht : t < 3) (x : Vec Ideal S2x3x512 .f32) (c : Fin 512) :
    tapL hh t hhh ht x (ix3 0 0 c) = x (ix3 ⟨hh, hhh⟩ ⟨t, ht⟩ c) := by
  pointwise [tapL]

theorem rowsL_at (o : ℕ) (ho : o + 256 ≤ 1024) {e : EltTy} (x : Vec Ideal S1024x1024 e) (r : Fin 256) (k : Fin 1024) :
    rowsL o ho x (ix2 r k) = x (ix2 ⟨o + r, by omega⟩ k) := by
  pointwise [rowsL]

theorem dcv_real (I : Ins D R j x0 x1 x2 x3 x4 x5 x6) (hh o : ℕ) (hhh : hh < 2) (ho : o + 256 ≤ 1024) (r : Fin 256) (c : Fin 512) :
    dcv hh o ho x0 x3 x6 (ix2 r c) = ((D.dc hh (R + o + r) (512 * j + c) : ℝ) : EReal) := by
  have hy := dyv_real (rowsL o ho x0) (downL x3) (fun r k => D.df (R + o + r) k) (fun c k => D.wd (512 * j + c) k)
    (fun r k => by rw [rowsL_at, I.h0]; simp [Nat.add_assoc]) (fun c k => by rw [downL_eq, I.h3]) r c
  have hg : chunkL 0 o (by omega) ho x6 (ix3 0 r c) = ((D.cv (R + o + r) (512 * j + c) : ℝ) : EReal) := by
    rw [chunkL_at, I.h6]; simp [Nat.add_assoc]
  have hv : chunkL 1 o (by omega) ho x6 (ix3 0 r c) = ((D.cv (R + o + r) (4096 + (512 * j + c)) : ℝ) : EReal) := by
    rw [chunkL_at, I.h6]; simp [Nat.add_assoc]
  interval_cases hh
  · exact dc0_real _ _ _ r c _ _ _ hy hg hv
  · exact dc1_real _ _ r c _ _ hy hg

/-- The rows after a chunk from `o` are the model's. -/
def IsHalo (D : Data) (R j hh o : ℕ) (h : FVec Ideal S16x512 .f32) : Prop :=
  ∀ (r : Fin 16) (c : Fin 512), h (ix2 r c) = ((D.dc hh (R + o + (256 + r)) (512 * j + c) : ℝ) : EReal)

theorem top_halo (I : Ins D R j x0 x1 x2 x3 x4 x5 x6) (hh o o' : ℕ) (hhh : hh < 2) (ho : o' + 256 ≤ 1024) (e : o + 256 = o') :
    IsHalo D R j hh o (top (dcv hh o' ho x0 x3 x6)) := fun r c => by
  subst e
  rw [top_real _ (fun r c => D.dc hh (R + (o + 256) + r) (512 * j + c)) (dcv_real I hh _ hhh ho) r c]
  simp [Nat.add_assoc]

theorem dupAt_real (I : Ins D R j x0 x1 x2 x3 x4 x5 x6) (hh o : ℕ) (hhh : hh < 2) (ho : o + 256 ≤ 1024) {h : FVec Ideal S16x512 .f32}
    (H : IsHalo D R j hh o h) (r : Fin 256) (c : Fin 512) :
    dupAt hh o hhh ho h x0 x3 x4 x6 (ix2 r c) = ((D.dup hh (R + o + r) (512 * j + c) : ℝ) : EReal) := by
  unfold dupAt
  rw [dup_real _ h _ _ _ (fun r c => D.dc hh (R + o + r) (512 * j + c)) (fun c => D.W 2 (4096 * hh + (512 * j + c)))
    (fun c => D.W 1 (4096 * hh + (512 * j + c))) (fun c => D.W 0 (4096 * hh + (512 * j + c))) (dcv_real I hh o hhh ho) H
    (fun c => by rw [tapL_at, I.h4]) (fun c => by rw [tapL_at, I.h4]) (fun c => by rw [tapL_at, I.h4]) r c]
  rfl

theorem dhAt_real (I : Ins D R j x0 x1 x2 x3 x4 x5 x6) (o : ℕ) (ho : o + 256 ≤ 1024) {h0 h1 : FVec Ideal S16x512 .f32}
    (H0 : IsHalo D R j 0 o h0) (H1 : IsHalo D R j 1 o h1) (z : Vec Ideal S256x1024 .f32) (f : ℕ → ℕ → ℝ)
    (hz : ∀ (r : Fin 256) (k : Fin 1024), z (ix2 r k) = ((f (R + o + r) k : ℝ) : EReal)) (r : Fin 256) (k : Fin 1024) :
    dhAt o ho z h0 h1 x0 x1 x2 x3 x4 x6 (ix2 r k) = ((f (R + o + r) k + D.dhPart j (R + o + r) k : ℝ) : EReal) := by
  have hz' : ∀ (r : Fin 256) (k : Fin 1024), shapeCast S256x1024 z shapeCasts_S256x1024_S256x1024 (ix2 r k) = ((f (R + o + r) k : ℝ) : EReal) := by
    intro r k; pointwise [hz]
  unfold dhAt
  rw [part_real _ _ _ (fun r k => f (R + o + r) k + ∑ c : Fin 512, D.dup 0 (R + o + r) (512 * j + c) * D.U (512 * j + c) k)
    (fun r c => D.dup 1 (R + o + r) (512 * j + c)) (fun c k => D.U (4096 + 512 * j + c) k)
    (part_real _ _ _ (fun r k => f (R + o + r) k) (fun r c => D.dup 0 (R + o + r) (512 * j + c)) (fun c k => D.U (512 * j + c) k) hz'
      (dupAt_real I 0 o (by omega) ho H0) (fun k c => by rw [upL_eq, I.h1]))
    (dupAt_real I 1 o (by omega) ho H1) (fun k c => by rw [upL_eq, I.h2]) r k]
  simp only [Data.dhPart, add_assoc]

theorem chunk_upd (I : Ins D R j x0 x1 x2 x3 x4 x5 x6) (hh o : ℕ) (hhh : hh < 2) (ho : o + 256 ≤ 1024) {h : FVec Ideal S16x512 .f32}
    (H : IsHalo D R j hh o h) (acc : FVec Ideal S8x512 .f32) (s : ℕ → ℕ → ℝ)
    (ha : ∀ (k : Fin 8) (c : Fin 512), acc (ix2 k c) = ((s k c : ℝ) : EReal)) (k : Fin 8) (c : Fin 512) :
    upd acc (dcv hh o ho x0 x3 x6) h (chunkL hh o hhh ho x5) (ix2 k c)
      = ((s k c + ∑ r : Fin 256, D.term hh k (R + o + r) (512 * j + c) : ℝ) : EReal) := by
  rw [upd_real acc _ h _ s (fun r c => D.dc hh (R + o + r) (512 * j + c)) (fun r c => D.up (R + o + r) (4096 * hh + (512 * j + c)))
    ha (dcv_real I hh o hhh ho) H (fun r c => by rw [chunkL_at, I.h5]; simp [Nat.add_assoc]) k c]
  rfl

/-- The sums of the four chunks together. -/
theorem updAll_real (I : Ins D R j x0 x1 x2 x3 x4 x5 x6) (hh : ℕ) (hhh : hh < 2) {h : FVec Ideal S16x512 .f32}
    (H : IsHalo D R j hh 768 h) (k : Fin 8) (c : Fin 512) :
    updAll hh hhh h x0 x3 x5 x6 (ix2 k c) = ((∑ r ∈ Finset.range 1024, D.term hh k (R + r) (512 * j + c) : ℝ) : EReal) := by
  have hz : ∀ (k : Fin 8) (c : Fin 512), broadcast S8x512 (Scalar.ofBits (F := Ideal) .f32 0x00000000#32) (ix2 k c)
      = (((fun _ _ => 0 : ℕ → ℕ → ℝ) k c : ℝ) : EReal) := fun k c => Consts.ofBits_zero
  unfold updAll
  rw [chunk_upd I hh 0 hhh (by omega) (top_halo I hh 0 256 hhh (by omega) rfl) _
    (fun k c => (((fun _ _ => 0 : ℕ → ℕ → ℝ) k c + ∑ r : Fin 256, D.term hh k (R + 768 + r) (512 * j + c)) + ∑ r : Fin 256, D.term hh k (R + 512 + r) (512 * j + c))
      + ∑ r : Fin 256, D.term hh k (R + 256 + r) (512 * j + c))
    (chunk_upd I hh 256 hhh (by omega) (top_halo I hh 256 512 hhh (by omega) rfl) _
      (fun k c => ((fun _ _ => 0 : ℕ → ℕ → ℝ) k c + ∑ r : Fin 256, D.term hh k (R + 768 + r) (512 * j + c)) + ∑ r : Fin 256, D.term hh k (R + 512 + r) (512 * j + c))
      (chunk_upd I hh 512 hhh (by omega) (top_halo I hh 512 768 hhh (by omega) rfl) _
        (fun k c => (fun _ _ => 0 : ℕ → ℕ → ℝ) k c + ∑ r : Fin 256, D.term hh k (R + 768 + r) (512 * j + c))
        (chunk_upd I hh 768 hhh (by omega) H _ (fun _ _ => 0) hz))) k c]
  congr 1
  have e : ∀ o : ℕ, ∑ r : Fin 256, D.term hh k (R + o + r) (512 * j + c) = ∑ r ∈ Finset.range 256, D.term hh k (R + (o + r)) (512 * j + c) := fun o => by
    rw [Finset.sum_range]; simp [Nat.add_assoc]
  rw [e, e, e, e, show 1024 = 256 + 256 + 256 + 256 from rfl, Finset.sum_range_add, Finset.sum_range_add, Finset.sum_range_add]
  simp only [Nat.zero_add, Nat.reduceAdd]
  ring

end

end Cert.KernelIdeal.Blk

end
-- ==== Proof.Contents.lean ====
module

public import proofs.«01_k».proof.Proof.Point

@[expose] public section

/-! What the blocks hold after the stores of one point. -/

set_option maxRecDepth 16384

noncomputable section

namespace Cert.KernelIdeal.Blk

open Cert.KernelIdeal Cert.KernelIdeal.Gen Idealize.ShloMosaic Idealize.SL.Sem Cert.Model

section
variable {D : Data} {R j : ℕ} {x0 : Vec Ideal S1024x1024 .bf16} {x1 x2 : Vec Ideal S1x1x1024x512 .bf16}
  {x3 : Vec Ideal S1x1x512x1024 .bf16} {x4 : Vec Ideal S2x3x512 .f32} {x5 x6 : Vec Ideal S2x1024x512 .bf16}

/-- The up projection's cotangent over a block. -/
def G7 (D : Data) (R j : ℕ) (y : S2x1024x512.Idx) : EReal :=
  ((D.dup (y 0).val (R + (y 1).val) (512 * j + (y 2).val) : ℝ) : EReal)

theorem piece7_pt (I : Ins D R j x0 x1 x2 x3 x4 x5 x6) (hh o : ℕ) (hhh : hh < 2) (ho : o + 256 ≤ 1024) {h : FVec Ideal S16x512 .f32}
    (H : IsHalo D R j hh o h) (a : Fin 1) (r : Fin 256) (c : Fin 512) :
    shapeCast S1x256x512 (dupAt hh o hhh ho h x0 x3 x4 x6) shapeCasts_S256x512_S1x256x512 (ix3 a r c)
      = ((D.dup (hh + 1 * a.val) (R + (o + 1 * r.val)) (512 * j + (0 + 1 * c.val)) : ℝ) : EReal) := by
  pointwise
  rw [dupAt_real I hh o hhh ho H]
  simp [Nat.add_assoc]

theorem piece7_ok (I : Ins D R j x0 x1 x2 x3 x4 x5 x6) (hh o : ℕ) (hhh : hh < 2) (ho : o + 256 ≤ 1024) {h : FVec Ideal S16x512 .f32}
    (H : IsHalo D R j hh o h) (x : S1x256x512.Idx) :
    (piece7 hh o hhh ho h x0 x3 x4 x6).2 x = G7 D R j ((piece7 hh o hhh ho h x0 x3 x4 x6).1.emb x) :=
  (congrArg _ (eq_ix3 x)).trans (piece7_pt I hh o hhh ho H (x 0) (x 1) (x 2))

theorem mem_piece7 (hh o : ℕ) (hhh : hh < 2) (ho : o + 256 ≤ 1024) (h : FVec Ideal S16x512 .f32) (y : S2x1024x512.Idx)
    (e : (y 0).val = hh) (hlo : o ≤ (y 1).val) (hhi : (y 1).val < o + 256) : y ∈ (piece7 hh o hhh ho h x0 x3 x4 x6).1.set := by
  unfold piece7
  rw [Rect.mem_set_unit]
  intro a
  match a with
  | 0 => exact ⟨e.symm.le, by rw [e]; exact Nat.lt_succ_self _⟩
  | 1 => exact ⟨hlo, hhi⟩
  | 2 => exact ⟨Nat.zero_le _, (Nat.zero_add 512).symm ▸ (y 2).isLt⟩

theorem cover7 (c0 c1 : FVec Ideal S16x512 .f32) (y : S2x1024x512.Idx) : ∃ p ∈ L7 c0 c1 x0 x3 x4 x6, y ∈ p.1.set := by
  have hy : (y 1).val < 1024 := (y 1).isLt
  have hz : (y 0).val < 2 := (y 0).isLt
  unfold L7
  by_cases e : (y 0).val = 0
  · by_cases h1 : (y 1).val < 256
    · exact ⟨_, (.tail _ (.head _)), mem_piece7 0 0 (by omega) (by omega) (top (dcv 0 256 (by omega) x0 x3 x6)) y e (by omega) (by omega)⟩
    by_cases h2 : (y 1).val < 512
    · exact ⟨_, (.tail _ (.tail _ (.tail _ (.head _)))), mem_piece7 0 256 (by omega) (by omega) (top (dcv 0 512 (by omega) x0 x3 x6)) y e (by omega) (by omega)⟩
    by_cases h3 : (y 1).val < 768
    · exact ⟨_, (.tail _ (.tail _ (.tail _ (.tail _ (.tail _ (.head _)))))), mem_piece7 0 512 (by omega) (by omega) (top (dcv 0 768 (by omega) x0 x3 x6)) y e (by omega) (by omega)⟩
    · exact ⟨_, (.tail _ (.tail _ (.tail _ (.tail _ (.tail _ (.tail _ (.tail _ (.head _)))))))), mem_piece7 0 768 (by omega) (by omega) c0 y e (by omega) (by omega)⟩
  · by_cases h1 : (y 1).val < 256
    · exact ⟨_, (.head _), mem_piece7 1 0 (by omega) (by omega) (top (dcv 1 256 (by omega) x0 x3 x6)) y (by omega) (by omega) (by omega)⟩
    by_cases h2 : (y 1).val < 512
    · exact ⟨_, (.tail _ (.tail _ (.head _))), mem_piece7 1 256 (by omega) (by omega) (top (dcv 1 512 (by omega) x0 x3 x6)) y (by omega) (by omega) (by omega)⟩
    by_cases h3 : (y 1).val < 768
    · exact ⟨_, (.tail _ (.tail _ (.tail _ (.tail _ (.head _))))), mem_piece7 1 512 (by omega) (by omega) (top (dcv 1 768 (by omega) x0 x3 x6)) y (by omega) (by omega) (by omega)⟩
    · exact ⟨_, (.tail _ (.tail _ (.tail _ (.tail _ (.tail _ (.tail _ (.head _))))))), mem_piece7 1 768 (by omega) (by omega) c1 y (by omega) (by omega) (by omega)⟩

theorem L7_at (I : Ins D R j x0 x1 x2 x3 x4 x5 x6) {c0 c1 : FVec Ideal S16x512 .f32} (H0 : IsHalo D R j 0 768 c0)
    (H1 : IsHalo D R j 1 768 c1) {sig : RefSig} {κ : Kind} {sp : Space} (v : View sig κ sp S2x1024x512 .bf16) (f : v.ty.Contents (Elt Ideal)) :
    v.read (Elt Ideal) (v.writes (Elt Ideal) f (L7 c0 c1 x0 x3 x4 x6)) = G7 D R j := by
  funext y
  refine View.read_writes_apply_of_pieces v f (G7 D R j) _ ?_ y (cover7 _ _ y)
  unfold L7
  simp only [List.mem_cons, List.mem_nil_iff, or_false]
  rintro p (rfl | rfl | rfl | rfl | rfl | rfl | rfl | rfl)
  · exact piece7_ok I 1 0 _ _ (top_halo I 1 0 256 (by omega) (by omega) rfl)
  · exact piece7_ok I 0 0 _ _ (top_halo I 0 0 256 (by omega) (by omega) rfl)
  · exact piece7_ok I 1 256 _ _ (top_halo I 1 256 512 (by omega) (by omega) rfl)
  · exact piece7_ok I 0 256 _ _ (top_halo I 0 256 512 (by omega) (by omega) rfl)
  · exact piece7_ok I 1 512 _ _ (top_halo I 1 512 768 (by omega) (by omega) rfl)
  · exact piece7_ok I 0 512 _ _ (top_halo I 0 512 768 (by omega) (by omega) rfl)
  · exact piece7_ok I 1 768 _ _ H1
  · exact piece7_ok I 0 768 _ _ H0

/-- The input's cotangent over a block: what it held and this column block's part. -/
def G8 (D : Data) (R j : ℕ) (f : ℕ → ℕ → ℝ) (y : S1024x1024.Idx) : EReal :=
  ((f (R + (y 0).val) (y 1).val + D.dhPart j (R + (y 0).val) (y 1).val : ℝ) : EReal)

theorem piece8_pt (I : Ins D R j x0 x1 x2 x3 x4 x5 x6) (o : ℕ) (ho : o + 256 ≤ 1024) {h0 h1 : FVec Ideal S16x512 .f32}
    (H0 : IsHalo D R j 0 o h0) (H1 : IsHalo D R j 1 o h1) (z : Vec Ideal S256x1024 .f32) (f : ℕ → ℕ → ℝ)
    (hz : ∀ (r : Fin 256) (k : Fin 1024), z (ix2 r k) = ((f (R + o + r) k : ℝ) : EReal)) (r : Fin 256) (k : Fin 1024) :
    dhAt o ho z h0 h1 x0 x1 x2 x3 x4 x6 (ix2 r k)
      = ((f (R + (o + 1 * r.val)) (0 + 1 * k.val) + D.dhPart j (R + (o + 1 * r.val)) (0 + 1 * k.val) : ℝ) : EReal) := by
  rw [dhAt_real I o ho H0 H1 z f hz]
  simp [Nat.add_assoc]

theorem piece8_ok (I : Ins D R j x0 x1 x2 x3 x4 x5 x6) (o : ℕ) (ho : o + 256 ≤ 1024) {h0 h1 : FVec Ideal S16x512 .f32}
    (H0 : IsHalo D R j 0 o h0) (H1 : IsHalo D R j 1 o h1) (z : Vec Ideal S256x1024 .f32) (f : ℕ → ℕ → ℝ)
    (hz : ∀ (r : Fin 256) (k : Fin 1024), z (ix2 r k) = ((f (R + o + r) k : ℝ) : EReal)) (x : S256x1024.Idx) :
    (piece8 o ho z h0 h1 x0 x1 x2 x3 x4 x6).2 x = G8 D R j f ((piece8 o ho z h0 h1 x0 x1 x2 x3 x4 x6).1.emb x) :=
  (congrArg _ (eq_ix2 x)).trans (piece8_pt I o ho H0 H1 z f hz (x 0) (x 1))

theorem mem_piece8 (o : ℕ) (ho : o + 256 ≤ 1024) (z : Vec Ideal S256x1024 .f32) (h0 h1 : FVec Ideal S16x512 .f32) (y : S1024x1024.Idx)
    (hlo : o ≤ (y 0).val) (hhi : (y 0).val < o + 256) : y ∈ (piece8 o ho z h0 h1 x0 x1 x2 x3 x4 x6).1.set := by
  unfold piece8
  rw [Rect.mem_set_unit]
  intro a
  match a with
  | 0 => exact ⟨hlo, hhi⟩
  | 1 => exact ⟨Nat.zero_le _, (Nat.zero_add 1024).symm ▸ (y 1).isLt⟩

theorem cover8 (z0 z1 z2 z3 : Vec Ideal S256x1024 .f32) (a0 a1 b0 b1 c0 c1 d0 d1 : FVec Ideal S16x512 .f32) (y : S1024x1024.Idx) :
    ∃ p ∈ [piece8 0 (by omega) z0 a0 a1 x0 x1 x2 x3 x4 x6, piece8 256 (by omega) z1 b0 b1 x0 x1 x2 x3 x4 x6,
      piece8 512 (by omega) z2 c0 c1 x0 x1 x2 x3 x4 x6, piece8 768 (by omega) z3 d0 d1 x0 x1 x2 x3 x4 x6], y ∈ p.1.set := by
  have hy : (y 0).val < 1024 := (y 0).isLt
  by_cases h1 : (y 0).val < 256
  · exact ⟨_, (.head _), mem_piece8 0 (by omega) z0 a0 a1 y (by omega) (by omega)⟩
  by_cases h2 : (y 0).val < 512
  · exact ⟨_, (.tail _ (.head _)), mem_piece8 256 (by omega) z1 b0 b1 y (by omega) (by omega)⟩
  by_cases h3 : (y 0).val < 768
  · exact ⟨_, (.tail _ (.tail _ (.head _))), mem_piece8 512 (by omega) z2 c0 c1 y (by omega) (by omega)⟩
  · exact ⟨_, (.tail _ (.tail _ (.tail _ (.head _)))), mem_piece8 768 (by omega) z3 d0 d1 y (by omega) (by omega)⟩

/-- Four stores over four row chunks leave the block's values. -/
theorem four8 (I : Ins D R j x0 x1 x2 x3 x4 x5 x6) {c0 c1 : FVec Ideal S16x512 .f32} (H0 : IsHalo D R j 0 768 c0)
    (H1 : IsHalo D R j 1 768 c1) (z0 z1 z2 z3 : Vec Ideal S256x1024 .f32) (g : ℕ → ℕ → ℝ)
    (e0 : ∀ (r : Fin 256) (k : Fin 1024), z0 (ix2 r k) = ((g (R + 0 + r) k : ℝ) : EReal))
    (e1 : ∀ (r : Fin 256) (k : Fin 1024), z1 (ix2 r k) = ((g (R + 256 + r) k : ℝ) : EReal))
    (e2 : ∀ (r : Fin 256) (k : Fin 1024), z2 (ix2 r k) = ((g (R + 512 + r) k : ℝ) : EReal))
    (e3 : ∀ (r : Fin 256) (k : Fin 1024), z3 (ix2 r k) = ((g (R + 768 + r) k : ℝ) : EReal))
    {sig : RefSig} {κ : Kind} {sp : Space} (v : View sig κ sp S1024x1024 .f32) (f : v.ty.Contents (Elt Ideal)) :
    v.read (Elt Ideal) (v.writes (Elt Ideal) f
      [piece8 0 (by omega) z0 (top (dcv 0 256 (by omega) x0 x3 x6)) (top (dcv 1 256 (by omega) x0 x3 x6)) x0 x1 x2 x3 x4 x6,
       piece8 256 (by omega) z1 (top (dcv 0 512 (by omega) x0 x3 x6)) (top (dcv 1 512 (by omega) x0 x3 x6)) x0 x1 x2 x3 x4 x6,
       piece8 512 (by omega) z2 (top (dcv 0 768 (by omega) x0 x3 x6)) (top (dcv 1 768 (by omega) x0 x3 x6)) x0 x1 x2 x3 x4 x6,
       piece8 768 (by omega) z3 c0 c1 x0 x1 x2 x3 x4 x6]) = G8 D R j g := by
  funext y
  refine View.read_writes_apply_of_pieces v f (G8 D R j g) _ ?_ y (cover8 _ _ _ _ _ _ _ _ _ _ _ _ y)
  simp only [List.mem_cons, List.mem_nil_iff, or_false]
  rintro p (rfl | rfl | rfl | rfl)
  · exact piece8_ok I 0 _ (top_halo I 0 0 256 (by omega) (by omega) rfl) (top_halo I 1 0 256 (by omega) (by omega) rfl) _ g e0
  · exact piece8_ok I 256 _ (top_halo I 0 256 512 (by omega) (by omega) rfl) (top_halo I 1 256 512 (by omega) (by omega) rfl) _ g e1
  · exact piece8_ok I 512 _ (top_halo I 0 512 768 (by omega) (by omega) rfl) (top_halo I 1 512 768 (by omega) (by omega) rfl) _ g e2
  · exact piece8_ok I 768 _ H0 H1 _ g e3

theorem L8_at (I : Ins D R j x0 x1 x2 x3 x4 x5 x6) {c0 c1 : FVec Ideal S16x512 .f32} (H0 : IsHalo D R j 0 768 c0)
    (H1 : IsHalo D R j 1 768 c1) (z : Vec Ideal S1024x1024 .f32) (g : ℕ → ℕ → ℝ)
    (hz : ∀ (r : Fin 1024) (k : Fin 1024), z (ix2 r k) = ((g (R + r) k : ℝ) : EReal))
    {sig : RefSig} {κ : Kind} {sp : Space} (v : View sig κ sp S1024x1024 .f32) (f : v.ty.Contents (Elt Ideal)) :
    v.read (Elt Ideal) (v.writes (Elt Ideal) f (L8 c0 c1 x0 x1 x2 x3 x4 x6 z)) = G8 D R j g := by
  have hr : ∀ (o : ℕ) (ho : o + 256 ≤ 1024) (r : Fin 256) (k : Fin 1024), rowsL o ho z (ix2 r k) = ((g (R + o + r) k : ℝ) : EReal) := by
    intro o ho r k
    rw [rowsL_at, hz]
    simp [Nat.add_assoc]
  exact four8 I H0 H1 _ _ _ _ g (hr 0 _) (hr 256 _) (hr 512 _) (hr 768 _) v f

/-- Rows that no store has reached yet hold the zeros of the fill. -/
theorem Z8_at (r : Fin 1024) (k : Fin 1024) : View.canon (Val := Elt Ideal) Z8 (ix2 r k) = ((0 : ℝ) : EReal) := by
  unfold Z8
  rw [View.canon_unit_zero (S := S1024x1024) (off := ![0, 0]) (by funext a; fin_cases a <;> rfl)]
  exact Consts.ofBits_zero

theorem skip8 (o o' : ℕ) (ho : o + 256 ≤ 1024) (ho' : o' + 256 ≤ 1024) (hlt : o' + 256 ≤ o) (z : Vec Ideal S256x1024 .f32)
    (h0 h1 : FVec Ideal S16x512 .f32) (L : List (View.Piece (Elt Ideal) S1024x1024 .f32)) (r : Fin 256) (k : Fin 1024) :
    View.canon (piece8 o ho z h0 h1 x0 x1 x2 x3 x4 x6 :: L) (ix2 ⟨o' + r, by omega⟩ k) = View.canon L (ix2 ⟨o' + r, by omega⟩ k) := by
  refine View.canon_cons_of_not_mem _ _ ?_
  unfold piece8
  rw [Rect.mem_set_unit]
  intro hm
  have := (hm 0).1
  simp at this
  omega

theorem cov8_at (v : View sig .tc .vmem S1024x1024 .f32) (L : List (View.Piece (Elt Ideal) S1024x1024 .f32)) (o : ℕ) (ho : o + 256 ≤ 1024)
    (r : Fin 256) (k : Fin 1024) : cov8 v L o ho (ix2 r k) = View.canon L (ix2 ⟨o + r, by omega⟩ k) := by
  unfold cov8
  rw [View.readCov_eq_canon']
  pointwise

theorem K4_at (I : Ins D R j x0 x1 x2 x3 x4 x5 x6) {c0 c1 : FVec Ideal S16x512 .f32} (H0 : IsHalo D R j 0 768 c0)
    (H1 : IsHalo D R j 1 768 c1) (w : View sig .tc .vmem S1024x1024 .f32)
    {sig : RefSig} {κ : Kind} {sp : Space} (v : View sig κ sp S1024x1024 .f32) (f : v.ty.Contents (Elt Ideal)) :
    v.read (Elt Ideal) (v.writes (Elt Ideal) f (K4 w c0 c1 x0 x1 x2 x3 x4 x6)) = G8 D R j (fun _ _ => 0) := by
  have e : K4 w c0 c1 x0 x1 x2 x3 x4 x6 =
      [piece8 0 (by omega) (cov8 w (K3 w c0 c1 x0 x1 x2 x3 x4 x6) 0 (by omega)) (top (dcv 0 256 (by omega) x0 x3 x6)) (top (dcv 1 256 (by omega) x0 x3 x6)) x0 x1 x2 x3 x4 x6,
       piece8 256 (by omega) (cov8 w (K2 w c0 c1 x0 x1 x2 x3 x4 x6) 256 (by omega)) (top (dcv 0 512 (by omega) x0 x3 x6)) (top (dcv 1 512 (by omega) x0 x3 x6)) x0 x1 x2 x3 x4 x6,
       piece8 512 (by omega) (cov8 w (K1 w c0 c1 x0 x1 x2 x3 x4 x6) 512 (by omega)) (top (dcv 0 768 (by omega) x0 x3 x6)) (top (dcv 1 768 (by omega) x0 x3 x6)) x0 x1 x2 x3 x4 x6,
       piece8 768 (by omega) (cov8 w Z8 768 (by omega)) c0 c1 x0 x1 x2 x3 x4 x6] ++ Z8 := rfl
  rw [e, View.writes_append]
  refine four8 I H0 H1 _ _ _ _ (fun _ _ => 0) ?_ ?_ ?_ ?_ v _
  · intro r k
    rw [cov8_at]
    unfold K3 K2 K1
    rw [skip8 256 0 (by omega) (by omega) (by omega), skip8 512 0 (by omega) (by omega) (by omega), skip8 768 0 (by omega) (by omega) (by omega), Z8_at]
  · intro r k
    rw [cov8_at]
    unfold K2 K1
    rw [skip8 512 256 (by omega) (by omega) (by omega), skip8 768 256 (by omega) (by omega) (by omega), Z8_at]
  · intro r k
    rw [cov8_at]
    unfold K1
    rw [skip8 768 512 (by omega) (by omega) (by omega), Z8_at]
  · intro r k
    rw [cov8_at, Z8_at]

end

/-! The sums and the rows carried: column block `j`, half by half. -/

end Cert.KernelIdeal.Blk

end
-- ==== Proof.Carry.lean ====
module

public import proofs.«01_k».proof.Proof.Contents

@[expose] public section

/-! The sums and the rows carried, from one point to the next. -/

set_option maxRecDepth 16384

noncomputable section

namespace Cert.KernelIdeal.Blk

open Cert.KernelIdeal Cert.KernelIdeal.Gen Idealize.ShloMosaic Idealize.SL.Sem Cert.Model

section
variable {j : ℕ}

theorem ldC_at (hh : ℕ) (hhh : hh < 2) (hj : j < 8) (off : Fin 4 → ℕ) (inb : ∀ a, off a + S1x1x16x512.size a ≤ S8x2x16x512.size a)
    (e : off = ![j, hh, 0, 0]) (x : Vec Ideal S8x2x16x512 .f32) (r : Fin 16) (c : Fin 512) :
    View.ld x (Rect.unit (s := S8x2x16x512) off S1x1x16x512.size inb) (ix4 0 0 r c) = x (ix4 ⟨j, hj⟩ ⟨hh, hhh⟩ r c) := by
  subst e
  pointwise

theorem memC (hh : ℕ) (off : Fin 4 → ℕ) (inb : ∀ a, off a + S1x1x16x512.size a ≤ S8x2x16x512.size a)
    (e : off = ![j, hh, 0, 0]) (y : S8x2x16x512.Idx) : y ∈ (Rect.unit (s := S8x2x16x512) off S1x1x16x512.size inb).set ↔ (y 0).val = j ∧ (y 1).val = hh := by
  subst e
  rw [Rect.mem_set_unit]
  have h2 : (y 2).val < 16 := (y 2).isLt
  have h3 : (y 3).val < 512 := (y 3).isLt
  constructor
  · intro h
    have a0 := h 0
    have a1 := h 1
    simp at a0 a1
    omega
  · rintro ⟨e0, e1⟩ a
    match a with
    | 0 => exact ⟨e0.symm.le, by rw [e0]; exact Nat.lt_succ_self _⟩
    | 1 => exact ⟨e1.symm.le, by rw [e1]; exact Nat.lt_succ_self _⟩
    | 2 => exact ⟨Nat.zero_le _, (Nat.zero_add 16).symm ▸ h2⟩
    | 3 => exact ⟨Nat.zero_le _, (Nat.zero_add 512).symm ▸ h3⟩

theorem embC (hh : ℕ) (hhh : hh < 2) (hj : j < 8) (off : Fin 4 → ℕ) (inb : ∀ a, off a + S1x1x16x512.size a ≤ S8x2x16x512.size a)
    (e : off = ![j, hh, 0, 0]) (x : S1x1x16x512.Idx) :
    ((Rect.unit (s := S8x2x16x512) off S1x1x16x512.size inb).emb x : S8x2x16x512.Idx) = ix4 ⟨j, hj⟩ ⟨hh, hhh⟩ (x 2) (x 3) := by
  subst e
  have h0 : (x 0).val < 1 := (x 0).isLt
  have h1 : (x 1).val < 1 := (x 1).isLt
  funext a
  apply Fin.ext
  match a with
  | 0 => show j + 1 * (x 0).val = j; omega
  | 1 => show hh + 1 * (x 1).val = hh; omega
  | 2 => show 0 + 1 * (x 2).val = (x 2).val; omega
  | 3 => show 0 + 1 * (x 3).val = (x 3).val; omega

/-- Two stores, one to each half of column block `j`, leave the new values there and the old ones elsewhere. -/
theorem twoC (hj : j < 8) (off off' : Fin 4 → ℕ) (inb : ∀ a, off a + S1x1x16x512.size a ≤ S8x2x16x512.size a)
    (inb' : ∀ a, off' a + S1x1x16x512.size a ≤ S8x2x16x512.size a) (e : off = ![j, 0, 0, 0]) (e' : off' = ![j, 1, 0, 0])
    (w w' : S1x1x16x512.Idx → EReal) (G G' : S8x2x16x512.Idx → EReal)
    (h : ∀ x, w x = G (ix4 ⟨j, hj⟩ 0 (x 2) (x 3))) (h' : ∀ x, w' x = G (ix4 ⟨j, hj⟩ 1 (x 2) (x 3)))
    (ho : ∀ y, (y 0).val ≠ j → G' y = G y)
    {sig : RefSig} {κ : Kind} {sp : Space} (v : View sig κ sp S8x2x16x512 .f32) (f : v.ty.Contents (Elt Ideal))
    (hf : v.read (Elt Ideal) f = G') :
    v.read (Elt Ideal) (v.writes (Elt Ideal) f [⟨Rect.unit (s := S8x2x16x512) off' S1x1x16x512.size inb', w'⟩, ⟨Rect.unit (s := S8x2x16x512) off S1x1x16x512.size inb, w⟩]) = G := by
  funext y
  by_cases hy : (y 0).val = j
  · refine View.read_writes_apply_of_pieces v f G _ ?_ y ?_
    · simp only [List.mem_cons, List.mem_nil_iff, or_false]
      rintro p (rfl | rfl)
      · intro x
        exact (h' x).trans (congrArg G (embC 1 (by omega) hj off' inb' e' x).symm)
      · intro x
        exact (h x).trans (congrArg G (embC 0 (by omega) hj off inb e x).symm)
    · have h1 : (y 1).val < 2 := (y 1).isLt
      by_cases h0 : (y 1).val = 0
      · exact ⟨_, .tail _ (.head _), (memC 0 off inb e y).2 ⟨hy, h0⟩⟩
      · exact ⟨_, .head _, (memC 1 off' inb' e' y).2 ⟨hy, by omega⟩⟩
  · rw [View.read_writes_apply_of_forall_not_mem v f y]
    · rw [hf, ho y hy]
    · simp only [List.mem_cons, List.mem_nil_iff, or_false]
      rintro p (rfl | rfl)
      · exact fun hm => hy ((memC 1 off' inb' e' y).1 hm).1
      · exact fun hm => hy ((memC 0 off inb e y).1 hm).1

theorem ldN_at (hh : ℕ) (hhh : hh < 2) (hj : j < 8) (off : Fin 4 → ℕ) (inb : ∀ a, off a + S1x1x8x512.size a ≤ S8x2x8x512.size a)
    (e : off = ![j, hh, 0, 0]) (x : Vec Ideal S8x2x8x512 .f32) (r : Fin 8) (c : Fin 512) :
    View.ld x (Rect.unit (s := S8x2x8x512) off S1x1x8x512.size inb) (ix4 0 0 r c) = x (ix4 ⟨j, hj⟩ ⟨hh, hhh⟩ r c) := by
  subst e
  pointwise

theorem memN (hh : ℕ) (off : Fin 4 → ℕ) (inb : ∀ a, off a + S1x1x8x512.size a ≤ S8x2x8x512.size a)
    (e : off = ![j, hh, 0, 0]) (y : S8x2x8x512.Idx) : y ∈ (Rect.unit (s := S8x2x8x512) off S1x1x8x512.size inb).set ↔ (y 0).val = j ∧ (y 1).val = hh := by
  subst e
  rw [Rect.mem_set_unit]
  have h2 : (y 2).val < 8 := (y 2).isLt
  have h3 : (y 3).val < 512 := (y 3).isLt
  constructor
  · intro h
    have a0 := h 0
    have a1 := h 1
    simp at a0 a1
    omega
  · rintro ⟨e0, e1⟩ a
    match a with
    | 0 => exact ⟨e0.symm.le, by rw [e0]; exact Nat.lt_succ_self _⟩
    | 1 => exact ⟨e1.symm.le, by rw [e1]; exact Nat.lt_succ_self _⟩
    | 2 => exact ⟨Nat.zero_le _, (Nat.zero_add 8).symm ▸ h2⟩
    | 3 => exact ⟨Nat.zero_le _, (Nat.zero_add 512).symm ▸ h3⟩

theorem embN (hh : ℕ) (hhh : hh < 2) (hj : j < 8) (off : Fin 4 → ℕ) (inb : ∀ a, off a + S1x1x8x512.size a ≤ S8x2x8x512.size a)
    (e : off = ![j, hh, 0, 0]) (x : S1x1x8x512.Idx) :
    ((Rect.unit (s := S8x2x8x512) off S1x1x8x512.size inb).emb x : S8x2x8x512.Idx) = ix4 ⟨j, hj⟩ ⟨hh, hhh⟩ (x 2) (x 3) := by
  subst e
  have h0 : (x 0).val < 1 := (x 0).isLt
  have h1 : (x 1).val < 1 := (x 1).isLt
  funext a
  apply Fin.ext
  match a with
  | 0 => show j + 1 * (x 0).val = j; omega
  | 1 => show hh + 1 * (x 1).val = hh; omega
  | 2 => show 0 + 1 * (x 2).val = (x 2).val; omega
  | 3 => show 0 + 1 * (x 3).val = (x 3).val; omega

/-- Two stores, one to each half of column block `j`, leave the new values there and the old ones elsewhere. -/
theorem twoN (hj : j < 8) (off off' : Fin 4 → ℕ) (inb : ∀ a, off a + S1x1x8x512.size a ≤ S8x2x8x512.size a)
    (inb' : ∀ a, off' a + S1x1x8x512.size a ≤ S8x2x8x512.size a) (e : off = ![j, 0, 0, 0]) (e' : off' = ![j, 1, 0, 0])
    (w w' : S1x1x8x512.Idx → EReal) (G G' : S8x2x8x512.Idx → EReal)
    (h : ∀ x, w x = G (ix4 ⟨j, hj⟩ 0 (x 2) (x 3))) (h' : ∀ x, w' x = G (ix4 ⟨j, hj⟩ 1 (x 2) (x 3)))
    (ho : ∀ y, (y 0).val ≠ j → G' y = G y)
    {sig : RefSig} {κ : Kind} {sp : Space} (v : View sig κ sp S8x2x8x512 .f32) (f : v.ty.Contents (Elt Ideal))
    (hf : v.read (Elt Ideal) f = G') :
    v.read (Elt Ideal) (v.writes (Elt Ideal) f [⟨Rect.unit (s := S8x2x8x512) off' S1x1x8x512.size inb', w'⟩, ⟨Rect.unit (s := S8x2x8x512) off S1x1x8x512.size inb, w⟩]) = G := by
  funext y
  by_cases hy : (y 0).val = j
  · refine View.read_writes_apply_of_pieces v f G _ ?_ y ?_
    · simp only [List.mem_cons, List.mem_nil_iff, or_false]
      rintro p (rfl | rfl)
      · intro x
        exact (h' x).trans (congrArg G (embN 1 (by omega) hj off' inb' e' x).symm)
      · intro x
        exact (h x).trans (congrArg G (embN 0 (by omega) hj off inb e x).symm)
    · have h1 : (y 1).val < 2 := (y 1).isLt
      by_cases h0 : (y 1).val = 0
      · exact ⟨_, .tail _ (.head _), (memN 0 off inb e y).2 ⟨hy, h0⟩⟩
      · exact ⟨_, .head _, (memN 1 off' inb' e' y).2 ⟨hy, by omega⟩⟩
  · rw [View.read_writes_apply_of_forall_not_mem v f y]
    · rw [hf, ho y hy]
    · simp only [List.mem_cons, List.mem_nil_iff, or_false]
      rintro p (rfl | rfl)
      · exact fun hm => hy ((memN 1 off' inb' e' y).1 hm).1
      · exact fun hm => hy ((memN 0 off inb e y).1 hm).1

end

/-- The rows carried, where column block `j'` has been visited down to row `lo j'`. -/
def GS (D : Data) (lo : ℕ → ℕ) (y : S8x2x16x512.Idx) : EReal :=
  ((D.dc (y 1).val (lo (y 0).val + (y 2).val) (512 * (y 0).val + (y 3).val) : ℝ) : EReal)

/-- The sums, over the rows visited. -/
def GN (D : Data) (lo : ℕ → ℕ) (y : S8x2x8x512.Idx) : EReal :=
  ((∑ r ∈ Finset.Ico (lo (y 0).val) 4096, D.term (y 1).val (y 2).val r (512 * (y 0).val + (y 3).val) : ℝ) : EReal)

/-- Column block `j` visited down to row `R`. -/
def visit (lo : ℕ → ℕ) (j R : ℕ) (k : ℕ) : ℕ := if k = j then R else lo k

section
variable {D : Data} {R j : ℕ} {x0 : Vec Ideal S1024x1024 .bf16} {x1 x2 : Vec Ideal S1x1x1024x512 .bf16}
  {x3 : Vec Ideal S1x1x512x1024 .bf16} {x4 : Vec Ideal S2x3x512 .f32} {x5 x6 : Vec Ideal S2x1024x512 .bf16} {lo : ℕ → ℕ}

theorem carried_halo (hh : ℕ) (hhh : hh < 2) (hj : j < 8) (hlo : lo j = R + 1024) (z : Vec Ideal S1x1x16x512 .f32)
    (hz : ∀ (r : Fin 16) (c : Fin 512), z (ix4 0 0 r c) = GS D lo (ix4 ⟨j, hj⟩ ⟨hh, hhh⟩ r c)) : IsHalo D R j hh 768 (carried z) := by
  intro r c
  pointwise [carried]
  rw [hz]
  show ((D.dc hh (lo j + r.val) (512 * j + c.val) : ℝ) : EReal) = _
  rw [hlo]
  congr 2
  omega

theorem LS_at (I : Ins D R j x0 x1 x2 x3 x4 x5 x6) (hj : j < 8) (i : grid0.Coords) (e1 : k0_off1 i = ![j, 0, 0, 0])
    (e2 : k0_off2 i = ![j, 1, 0, 0]) {sig : RefSig} {κ : Kind} {sp : Space} (v : View sig κ sp S8x2x16x512 .f32)
    (f : v.ty.Contents (Elt Ideal)) (hf : v.read (Elt Ideal) f = GS D lo) :
    v.read (Elt Ideal) (v.writes (Elt Ideal) f (LS i x0 x3 x6)) = GS D (visit lo j R) := by
  have hp : ∀ (hh : ℕ) (hhh : hh < 2) (a b : Fin 1) (r : Fin 16) (c : Fin 512),
      carryAt (top (dcv hh 0 (by omega) x0 x3 x6)) (ix4 a b r c) = GS D (visit lo j R) (ix4 ⟨j, hj⟩ ⟨hh, hhh⟩ r c) := by
    intro hh hhh a b r c
    pointwise [carryAt]
    rw [top_real _ (fun r c => D.dc hh (R + 0 + r) (512 * j + c)) (dcv_real I hh 0 hhh (by omega))]
    show _ = ((D.dc hh (visit lo j R j + r.val) (512 * j + c.val) : ℝ) : EReal)
    simp [visit]
  refine twoC hj _ _ _ _ e1 e2 _ _ (GS D (visit lo j R)) (GS D lo) ?_ ?_ ?_ v f hf
  · intro x
    exact (congrArg _ (eq_ix4 x)).trans (hp 0 (by omega) _ _ _ _)
  · intro x
    exact (congrArg _ (eq_ix4 x)).trans (hp 1 (by omega) _ _ _ _)
  · intro y hy
    simp [GS, visit, hy]

theorem L9_at (I : Ins D R j x0 x1 x2 x3 x4 x5 x6) (hj : j < 8) (hR : R + 1024 ≤ 4096) (hlo : lo j = R + 1024) (i : grid0.Coords)
    (e3 : k0_off3 i = ![j, 0, 0, 0]) (e4 : k0_off4 i = ![j, 1, 0, 0]) {c0 c1 : FVec Ideal S16x512 .f32} (H0 : IsHalo D R j 0 768 c0)
    (H1 : IsHalo D R j 1 768 c1) (z0 z1 : Vec Ideal S1x1x8x512 .f32)
    (hz0 : ∀ (k : Fin 8) (c : Fin 512), z0 (ix4 0 0 k c) = GN D lo (ix4 ⟨j, hj⟩ 0 k c))
    (hz1 : ∀ (k : Fin 8) (c : Fin 512), z1 (ix4 0 0 k c) = GN D lo (ix4 ⟨j, hj⟩ 1 k c))
    {sig : RefSig} {κ : Kind} {sp : Space} (v : View sig κ sp S8x2x8x512 .f32)
    (f : v.ty.Contents (Elt Ideal)) (hf : v.read (Elt Ideal) f = GN D lo) :
    v.read (Elt Ideal) (v.writes (Elt Ideal) f (L9 i z0 z1 c0 c1 x0 x3 x5 x6)) = GN D (visit lo j R) := by
  have hp : ∀ (hh : ℕ) (hhh : hh < 2) (h : FVec Ideal S16x512 .f32) (H : IsHalo D R j hh 768 h) (z : Vec Ideal S1x1x8x512 .f32)
      (hz : ∀ (k : Fin 8) (c : Fin 512), z (ix4 0 0 k c) = GN D lo (ix4 ⟨j, hj⟩ ⟨hh, hhh⟩ k c)) (a b : Fin 1) (k : Fin 8) (c : Fin 512),
      sumsAt z (updAll hh hhh h x0 x3 x5 x6) (ix4 a b k c) = GN D (visit lo j R) (ix4 ⟨j, hj⟩ ⟨hh, hhh⟩ k c) := by
    intro hh hhh h H z hz a b k c
    pointwise [sumsAt]
    rw [updAll_real I hh hhh H, hz]
    show ((∑ r ∈ Finset.Ico (lo j) 4096, D.term hh k.val r (512 * j + c.val) : ℝ) : EReal) + _
      = ((∑ r ∈ Finset.Ico (visit lo j R j) 4096, D.term hh k.val r (512 * j + c.val) : ℝ) : EReal)
    rw [← EReal.coe_add]
    congr 1
    have e : visit lo j R j = R := by simp [visit]
    rw [e, hlo, ← Finset.sum_Ico_consecutive _ (Nat.le_add_right R 1024) hR, add_comm, Finset.sum_Ico_eq_sum_range _ R (R + 1024)]
    simp
  refine twoN hj _ _ _ _ e3 e4 _ _ (GN D (visit lo j R)) (GN D lo) ?_ ?_ ?_ v f hf
  · intro x
    exact (congrArg _ (eq_ix4 x)).trans (hp 0 (by omega) _ H0 _ hz0 _ _ _ _)
  · intro x
    exact (congrArg _ (eq_ix4 x)).trans (hp 1 (by omega) _ H1 _ hz1 _ _ _ _)
  · intro y hy
    simp [GN, visit, hy]

end

/-- Before any point the sums and the rows carried are zero. -/
theorem ZS_at (D : Data) (y : S8x2x16x512.Idx) : View.canon (Val := Elt Ideal) ZS y = GS D (fun _ => 4096) y := by
  unfold ZS
  rw [View.canon_unit_zero (S := S8x2x16x512) (off := ![0, 0, 0, 0]) (by funext a; fin_cases a <;> rfl)]
  refine Eq.trans (b := ((0 : ℝ) : EReal)) Consts.ofBits_zero ?_
  unfold GS
  rw [D.dc_out _ _ (Nat.le_add_right _ _)]

theorem Z9_at (D : Data) (y : S8x2x8x512.Idx) : View.canon (Val := Elt Ideal) Z9 y = GN D (fun _ => 4096) y := by
  unfold Z9
  rw [View.canon_unit_zero (S := S8x2x8x512) (off := ![0, 0, 0, 0]) (by funext a; fin_cases a <;> rfl)]
  refine Eq.trans (b := ((0 : ℝ) : EReal)) Consts.ofBits_zero ?_
  unfold GN
  simp

end Cert.KernelIdeal.Blk

end
-- ==== Proof.Steps.lean ====
module

public import proofs.«01_k».proof.Proof.Carry

@[expose] public section

/-! One point: what it leaves in the three results' blocks and in the rows carried, over what the point before left. -/

set_option maxRecDepth 16384

noncomputable section

namespace Cert.KernelIdeal.Blk

open Cert.KernelIdeal Cert.KernelIdeal.Gen Idealize.ShloMosaic Idealize.SL.Sem Cert.Model

/-- The input's cotangent over a block, from the first `j` column blocks. -/
def GP (D : Data) (R j : ℕ) (y : S1024x1024.Idx) : EReal :=
  ((∑ b ∈ Finset.range j, D.dhPart b (R + (y 0).val) (y 1).val : ℝ) : EReal)

theorem GP_succ (D : Data) (R j : ℕ) : G8 D R j (fun r k => ∑ b ∈ Finset.range j, D.dhPart b r k) = GP D R (j + 1) := by
  funext y
  simp only [G8, GP, Finset.sum_range_succ]

theorem GP_one (D : Data) (R : ℕ) : G8 D R 0 (fun _ _ => 0) = GP D R 1 := by
  rw [← GP_succ]
  simp

/-- A point's place among the others: row block from `R`, column block `j`, the rows visited before given by `lo`. -/
structure Place (R j : ℕ) (lo : ℕ → ℕ) (i : grid0.Coords) : Prop where
  hj : j < 8
  hR : R + 1024 ≤ 4096
  hlo : lo j = R + 1024
  e1 : k0_off1 i = ![j, 0, 0, 0]
  e2 : k0_off2 i = ![j, 1, 0, 0]
  e3 : k0_off3 i = ![j, 0, 0, 0]
  e4 : k0_off4 i = ![j, 1, 0, 0]

section
variable {D : Data} {R j : ℕ} {lo : ℕ → ℕ} {x0 : Vec Ideal S1024x1024 .bf16} {x1 x2 : Vec Ideal S1x1x1024x512 .bf16}
  {x3 : Vec Ideal S1x1x512x1024 .bf16} {x4 : Vec Ideal S2x3x512 .f32} {x5 x6 : Vec Ideal S2x1024x512 .bf16}

theorem halo0 {i : grid0.Coords} (P : Place R j lo i) : IsHalo D R j 0 768 (carried (View.ld (Val := Elt Ideal) (e' := .f32) (GS D lo : Vec Ideal S8x2x16x512 .f32) (c1R i))) :=
  carried_halo 0 (by omega) P.hj P.hlo _ fun r c => ldC_at 0 (by omega) P.hj _ _ P.e1 _ r c

theorem halo1 {i : grid0.Coords} (P : Place R j lo i) : IsHalo D R j 1 768 (carried (View.ld (Val := Elt Ideal) (e' := .f32) (GS D lo : Vec Ideal S8x2x16x512 .f32) (c2R i))) :=
  carried_halo 1 (by omega) P.hj P.hlo _ fun r c => ldC_at 1 (by omega) P.hj _ _ P.e2 _ r c

theorem covS (v : View sig .tc .vmem S8x2x16x512 .f32) (r : Rect S8x2x16x512) :
    v.readCov ZS r.toLoadRect = View.ld (Val := Elt Ideal) (e' := .f32) (GS D (fun _ => 4096) : Vec Ideal S8x2x16x512 .f32) r := by
  rw [View.readCov_eq_canon']
  funext y
  exact ZS_at D _

theorem covN (v : View sig .tc .vmem S8x2x8x512 .f32) (r : Rect S8x2x8x512) :
    v.readCov Z9 r.toLoadRect = View.ld (Val := Elt Ideal) (e' := .f32) (GN D (fun _ => 4096) : Vec Ideal S8x2x8x512 .f32) r := by
  rw [View.readCov_eq_canon']
  funext y
  exact Z9_at D _

theorem sum0 {i : grid0.Coords} (P : Place R j lo i) (k : Fin 8) (c : Fin 512) :
    View.ld (Val := Elt Ideal) (e' := .f32) (GN D lo : Vec Ideal S8x2x8x512 .f32) (s3R i) (ix4 0 0 k c) = GN D lo (ix4 ⟨j, P.hj⟩ 0 k c) :=
  ldN_at 0 (by omega) P.hj _ _ P.e3 _ k c

theorem sum1 {i : grid0.Coords} (P : Place R j lo i) (k : Fin 8) (c : Fin 512) :
    View.ld (Val := Elt Ideal) (e' := .f32) (GN D lo : Vec Ideal S8x2x8x512 .f32) (s4R i) (ix4 0 0 k c) = GN D lo (ix4 ⟨j, P.hj⟩ 1 k c) :=
  ldN_at 1 (by omega) P.hj _ _ P.e4 _ k c

theorem haloA0 (v : View sig .tc .vmem S8x2x16x512 .f32) {i : grid0.Coords} (P : Place R j (fun _ => 4096) i) :
    IsHalo D R j 0 768 (carried (v.readCov ZS (c1R i).toLoadRect)) :=
  carried_halo (lo := fun _ => 4096) 0 (by omega) P.hj P.hlo _ fun r c => (congrFun (covS (D := D) v (c1R i)) (ix4 0 0 r c)).trans (ldC_at 0 (by omega) P.hj _ _ P.e1 _ r c)

theorem haloA1 (v : View sig .tc .vmem S8x2x16x512 .f32) {i : grid0.Coords} (P : Place R j (fun _ => 4096) i) :
    IsHalo D R j 1 768 (carried (v.readCov ZS (c2R i).toLoadRect)) :=
  carried_halo (lo := fun _ => 4096) 1 (by omega) P.hj P.hlo _ fun r c => (congrFun (covS (D := D) v (c2R i)) (ix4 0 0 r c)).trans (ldC_at 1 (by omega) P.hj _ _ P.e2 _ r c)

theorem sumA0 (v : View sig .tc .vmem S8x2x8x512 .f32) {i : grid0.Coords} (P : Place R j (fun _ => 4096) i) (k : Fin 8) (c : Fin 512) :
    v.readCov (Val := Elt Ideal) Z9 (s3R i).toLoadRect (ix4 0 0 k c) = GN D (fun _ => 4096) (ix4 ⟨j, P.hj⟩ 0 k c) :=
  (congrFun (covN (D := D) v (s3R i)) (ix4 0 0 k c)).trans (ldN_at 0 (by omega) P.hj _ _ P.e3 _ k c)

theorem sumA1 (v : View sig .tc .vmem S8x2x8x512 .f32) {i : grid0.Coords} (P : Place R j (fun _ => 4096) i) (k : Fin 8) (c : Fin 512) :
    v.readCov (Val := Elt Ideal) Z9 (s4R i).toLoadRect (ix4 0 0 k c) = GN D (fun _ => 4096) (ix4 ⟨j, P.hj⟩ 1 k c) :=
  (congrFun (covN (D := D) v (s4R i)) (ix4 0 0 k c)).trans (ldN_at 1 (by omega) P.hj _ _ P.e4 _ k c)

theorem stepB_7 (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j lo i) :
    out0_B_7 (F := Ideal) c i a2 h2 a3 h3 a4 h4 a5 h5 a6 h6 a7 h7 a8 h8 a9 h9 a10 h10 a11 h11 a12 h12 hc0 hc1 x0 x1 x2 x3 x4 x5 x6 (GP D R j) (GN D lo) (GS D lo) = G7 D R j := by
  unfold out0_B_7
  rw [runB_7]
  simp only [Memref.IsWhole.read_unread]
  exact L7_at I (halo0 P) (halo1 P) _ _

theorem stepB_8 (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j lo i) :
    out0_B_8 (F := Ideal) c i a2 h2 a3 h3 a4 h4 a5 h5 a6 h6 a7 h7 a8 h8 a9 h9 a10 h10 a11 h11 a12 h12 hc0 hc1 x0 x1 x2 x3 x4 x5 x6 (GP D R j) (GN D lo) (GS D lo) = GP D R (j + 1) := by
  unfold out0_B_8
  rw [runB_8]
  simp only [Memref.IsWhole.read_unread]
  exact (L8_at I (halo0 P) (halo1 P) _ (fun r k => ∑ b ∈ Finset.range j, D.dhPart b r k) (fun _ _ => rfl) _ _).trans (GP_succ D R j)

theorem stepB_9 (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j lo i) :
    out0_B_9 (F := Ideal) c i a2 h2 a3 h3 a4 h4 a5 h5 a6 h6 a7 h7 a8 h8 a9 h9 a10 h10 a11 h11 a12 h12 hc0 hc1 x0 x1 x2 x3 x4 x5 x6 (GP D R j) (GN D lo) (GS D lo) = GN D (visit lo j R) := by
  unfold out0_B_9
  rw [runB_9]
  simp only [Memref.IsWhole.read_unread]
  exact L9_at I P.hj P.hR P.hlo i P.e3 P.e4 (halo0 P) (halo1 P) _ _ (sum0 P) (sum1 P) _ _ (Memref.IsWhole.read_unread _ _)

theorem stepB_S (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j lo i) :
    sout0_B_0 (F := Ideal) c i a2 h2 a3 h3 a4 h4 a5 h5 a6 h6 a7 h7 a8 h8 a9 h9 a10 h10 a11 h11 a12 h12 hc0 hc1 x0 x1 x2 x3 x4 x5 x6 (GP D R j) (GN D lo) (GS D lo) = GS D (visit lo j R) := by
  unfold sout0_B_0
  rw [runB_S]
  simp only [Memref.IsWhole.read_unread]
  exact LS_at I P.hj i P.e1 P.e2 _ _ (Memref.IsWhole.read_unread _ _)

theorem stepC_7 (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j lo i) :
    out0_C_7 (F := Ideal) c i a2 h2 a3 h3 a4 h4 a5 h5 a6 h6 a7 h7 a8 h8 a9 h9 a10 h10 a11 h11 a12 h12 hc0 hc1 x0 x1 x2 x3 x4 x5 x6 (GN D lo) (GS D lo) = G7 D R j := by
  unfold out0_C_7
  rw [runC_7]
  simp only [Memref.IsWhole.read_unread]
  exact L7_at I (halo0 P) (halo1 P) _ _

theorem stepC_8 (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j lo i) (hj0 : j = 0) :
    out0_C_8 (F := Ideal) c i a2 h2 a3 h3 a4 h4 a5 h5 a6 h6 a7 h7 a8 h8 a9 h9 a10 h10 a11 h11 a12 h12 hc0 hc1 x0 x1 x2 x3 x4 x5 x6 (GN D lo) (GS D lo) = GP D R (j + 1) := by
  unfold out0_C_8
  rw [runC_8]
  simp only [Memref.IsWhole.read_unread]
  subst hj0
  exact (K4_at I (halo0 P) (halo1 P) _ _ _).trans (GP_one D R)

theorem stepC_9 (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j lo i) :
    out0_C_9 (F := Ideal) c i a2 h2 a3 h3 a4 h4 a5 h5 a6 h6 a7 h7 a8 h8 a9 h9 a10 h10 a11 h11 a12 h12 hc0 hc1 x0 x1 x2 x3 x4 x5 x6 (GN D lo) (GS D lo) = GN D (visit lo j R) := by
  unfold out0_C_9
  rw [runC_9]
  simp only [Memref.IsWhole.read_unread]
  exact L9_at I P.hj P.hR P.hlo i P.e3 P.e4 (halo0 P) (halo1 P) _ _ (sum0 P) (sum1 P) _ _ (Memref.IsWhole.read_unread _ _)

theorem stepC_S (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j lo i) :
    sout0_C_0 (F := Ideal) c i a2 h2 a3 h3 a4 h4 a5 h5 a6 h6 a7 h7 a8 h8 a9 h9 a10 h10 a11 h11 a12 h12 hc0 hc1 x0 x1 x2 x3 x4 x5 x6 (GN D lo) (GS D lo) = GS D (visit lo j R) := by
  unfold sout0_C_0
  rw [runC_S]
  simp only [Memref.IsWhole.read_unread]
  exact LS_at I P.hj i P.e1 P.e2 _ _ (Memref.IsWhole.read_unread _ _)

theorem stepA_7 (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j (fun _ => 4096) i) :
    out0_A_7 (F := Ideal) c i a2 h2 a3 h3 a4 h4 a5 h5 a6 h6 a7 h7 a8 h8 a9 h9 a10 h10 a11 h11 a12 h12 hc0 hc1 x0 x1 x2 x3 x4 x5 x6  = G7 D R j := by
  unfold out0_A_7
  rw [runA_7]
  simp only [Memref.IsWhole.read_unread]
  exact L7_at I (haloA0 _ P) (haloA1 _ P) _ _

theorem stepA_8 (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j (fun _ => 4096) i) (hj0 : j = 0) :
    out0_A_8 (F := Ideal) c i a2 h2 a3 h3 a4 h4 a5 h5 a6 h6 a7 h7 a8 h8 a9 h9 a10 h10 a11 h11 a12 h12 hc0 hc1 x0 x1 x2 x3 x4 x5 x6  = GP D R (j + 1) := by
  unfold out0_A_8
  rw [runA_8]
  simp only [Memref.IsWhole.read_unread]
  subst hj0
  exact (K4_at I (haloA0 _ P) (haloA1 _ P) _ _ _).trans (GP_one D R)

theorem stepA_9 (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j (fun _ => 4096) i) :
    out0_A_9 (F := Ideal) c i a2 h2 a3 h3 a4 h4 a5 h5 a6 h6 a7 h7 a8 h8 a9 h9 a10 h10 a11 h11 a12 h12 hc0 hc1 x0 x1 x2 x3 x4 x5 x6  = GN D (visit (fun _ => 4096) j R) := by
  unfold out0_A_9
  rw [runA_9]
  simp only [Memref.IsWhole.read_unread]
  rw [View.writes_append]
  refine L9_at I P.hj P.hR P.hlo i P.e3 P.e4 (haloA0 _ P) (haloA1 _ P) _ _ (sumA0 _ P) (sumA1 _ P) _ _ ?_
  funext y
  rw [View.read_writes_eq_canon]
  · exact Z9_at D y
  · exact fun y => ⟨_, .head _, by rw [Rect.mem_set_unit]; intro a; fin_cases a <;> exact ⟨Nat.zero_le _, (Nat.zero_add _).symm ▸ (y _).isLt⟩⟩

theorem stepA_S (c : Dev nD) (i : grid0.Coords) (a2 h2 a3 h3 a4 h4 a5 h5 a6 h6 a7 h7 a8 h8 a9 h9 a10 h10 a11 h11 a12 h12 hc0 hc1) (I : Ins D R j x0 x1 x2 x3 x4 x5 x6)
    (P : Place R j (fun _ => 4096) i) :
    sout0_A_0 (F := Ideal) c i a2 h2 a3 h3 a4 h4 a5 h5 a6 h6 a7 h7 a8 h8 a9 h9 a10 h10 a11 h11 a12 h12 hc0 hc1 x0 x1 x2 x3 x4 x5 x6  = GS D (visit (fun _ => 4096) j R) := by
  unfold sout0_A_0
  rw [runA_S]
  simp only [Memref.IsWhole.read_unread]
  rw [View.writes_append]
  refine LS_at I P.hj i P.e1 P.e2 _ _ ?_
  funext y
  rw [View.read_writes_eq_canon]
  · exact ZS_at D y
  · exact fun y => ⟨_, .head _, by rw [Rect.mem_set_unit]; intro a; fin_cases a <;> exact ⟨Nat.zero_le _, (Nat.zero_add _).symm ▸ (y _).isLt⟩⟩

end

end Cert.KernelIdeal.Blk

end
-- ==== Proof.Outs.lean ====
module

public import proofs.«01_k».proof.Proof.Steps
public import proofs.«01_k».proof.Proof.Gen.KernelIdeal.Value

@[expose] public section

/-! What every point leaves, by going through the points in order. -/

set_option maxRecDepth 16384

noncomputable section

namespace Cert.KernelIdeal.Blk

open Cert.KernelIdeal Cert.KernelIdeal.Gen Idealize.ShloMosaic Idealize.SL.Sem Cert.Model

/-- Down to which row each column block has been visited after `n` points: row blocks from the last to the first, column
blocks within. -/
def seen (n k : ℕ) : ℕ := 1024 * (4 - if k < 8 then (n + 7 - k) / 8 else 0)

theorem seen_zero : seen 0 = fun _ => 4096 := by
  funext k
  unfold seen
  split <;> omega

theorem seen_succ (n : ℕ) : visit (seen n) (n % 8) (1024 * (3 - n / 8)) = seen (n + 1) := by
  funext k
  unfold visit seen
  split
  · split <;> omega
  · split <;> omega

theorem off1 : ∀ t : Fin grid0.N, k0_off1 (grid0.coords t) = ![t.val % 8, 0, 0, 0] := by decide +kernel
theorem off2 : ∀ t : Fin grid0.N, k0_off2 (grid0.coords t) = ![t.val % 8, 1, 0, 0] := by decide +kernel
theorem off3 : ∀ t : Fin grid0.N, k0_off3 (grid0.coords t) = ![t.val % 8, 0, 0, 0] := by decide +kernel
theorem off4 : ∀ t : Fin grid0.N, k0_off4 (grid0.coords t) = ![t.val % 8, 1, 0, 0] := by decide +kernel

theorem place (t : Fin cfg0.N) : Place (1024 * (3 - t.val / 8)) (t.val % 8) (seen t.val) (grid0.coords t) where
  hj := Nat.mod_lt _ (by omega)
  hR := by omega
  hlo := by
    have h : t.val < 32 := t.isLt
    unfold seen
    rw [if_pos (Nat.mod_lt _ (by omega))]
    omega
  e1 := off1 t
  e2 := off2 t
  e3 := off3 t
  e4 := off4 t

variable {m : (ℓ : Loc nD τ sig) → Buf (Elt Ideal) ℓ} {D : Data} {c : Dev nD}

/-- The blocks of every point are the model's numbers. -/
abbrev AllIns (m : (ℓ : Loc nD τ sig) → Buf (Elt Ideal) ℓ) (D : Data) (c : Dev nD) : Prop :=
  ∀ t : Fin cfg0.N, Ins D (1024 * (3 - t.val / 8)) (t.val % 8) (iblk m c 0 t) (iblk m c 1 t) (iblk m c 2 t) (iblk m c 3 t) (iblk m c 4 t)
    (iblk m c 5 t) (iblk m c 6 t)

theorem outA (t : Fin cfg0.N) (h0 : t.val % 32 = 0) (h1 : t.val % 8 = 0) {R j : ℕ}
    (I : Ins D R j (iblk m c 0 t) (iblk m c 1 t) (iblk m c 2 t) (iblk m c 3 t) (iblk m c 4 t) (iblk m c 5 t) (iblk m c 6 t))
    (P : Place R j (fun _ => 4096) (grid0.coords t)) (hj0 : j = 0) :
    outsAt0 (F := Ideal) m c t.val t.isLt = (G7 D R j, GP D R (j + 1), GN D (visit (fun _ => 4096) j R), GS D (visit (fun _ => 4096) j R)) := by
  rw [outsAt0_A m c t h0 h1]
  refine congrArg₂ Prod.mk ?_ (congrArg₂ Prod.mk ?_ (congrArg₂ Prod.mk ?_ ?_))
  · rw [stepA_7 (I := I) (P := P)]
  · rw [stepA_8 (I := I) (P := P) (hj0 := hj0)]
  · rw [stepA_9 (I := I) (P := P)]
  · rw [stepA_S (I := I) (P := P)]

theorem outC (t : Fin cfg0.N) (h0 : ¬t.val % 32 = 0) (h1 : t.val % 8 = 0) {R j : ℕ} {lo : ℕ → ℕ}
    (I : Ins D R j (iblk m c 0 t) (iblk m c 1 t) (iblk m c 2 t) (iblk m c 3 t) (iblk m c 4 t) (iblk m c 5 t) (iblk m c 6 t))
    (P : Place R j lo (grid0.coords t)) (hj0 : j = 0)
    (hn : t.val - 1 < cfg0.N) {z7 : Vec Ideal S2x1024x512 .bf16} {z8 : Vec Ideal S1024x1024 .f32}
    (e : outsAt0 (F := Ideal) m c (t.val - 1) hn = (z7, z8, GN D lo, GS D lo)) :
    outsAt0 (F := Ideal) m c t.val t.isLt = (G7 D R j, GP D R (j + 1), GN D (visit lo j R), GS D (visit lo j R)) := by
  rw [outsAt0_C m c t h0 h1]
  rw [e]
  refine congrArg₂ Prod.mk ?_ (congrArg₂ Prod.mk ?_ (congrArg₂ Prod.mk ?_ ?_))
  · rw [stepC_7 (I := I) (P := P)]
  · rw [stepC_8 (I := I) (P := P) (hj0 := hj0)]
  · rw [stepC_9 (I := I) (P := P)]
  · rw [stepC_S (I := I) (P := P)]

theorem outB (t : Fin cfg0.N) (h0 : ¬t.val % 32 = 0) (h1 : ¬t.val % 8 = 0) {R j : ℕ} {lo : ℕ → ℕ}
    (I : Ins D R j (iblk m c 0 t) (iblk m c 1 t) (iblk m c 2 t) (iblk m c 3 t) (iblk m c 4 t) (iblk m c 5 t) (iblk m c 6 t))
    (P : Place R j lo (grid0.coords t))
    (hn : t.val - 1 < cfg0.N) {z7 : Vec Ideal S2x1024x512 .bf16}
    (e : outsAt0 (F := Ideal) m c (t.val - 1) hn = (z7, GP D R j, GN D lo, GS D lo)) :
    outsAt0 (F := Ideal) m c t.val t.isLt = (G7 D R j, GP D R (j + 1), GN D (visit lo j R), GS D (visit lo j R)) := by
  rw [outsAt0_B m c t h0 h1]
  rw [e]
  refine congrArg₂ Prod.mk ?_ (congrArg₂ Prod.mk ?_ (congrArg₂ Prod.mk ?_ ?_))
  · rw [stepB_7 (I := I) (P := P)]
  · rw [stepB_8 (I := I) (P := P)]
  · rw [stepB_9 (I := I) (P := P)]
  · rw [stepB_S (I := I) (P := P)]

theorem outs (I : AllIns m D c) : ∀ (n : ℕ) (hn : n < cfg0.N), outsAt0 (F := Ideal) m c n hn =
    (G7 D (1024 * (3 - n / 8)) (n % 8), GP D (1024 * (3 - n / 8)) (n % 8 + 1), GN D (seen (n + 1)), GS D (seen (n + 1))) := by
  intro n
  induction n with
  | zero =>
    intro hn
    have P := place ⟨0, hn⟩
    have hz : seen (⟨0, hn⟩ : Fin cfg0.N).val = fun _ => 4096 := seen_zero
    rw [hz] at P
    have e := seen_succ 0
    rw [seen_zero] at e
    rw [← e]
    exact outA ⟨0, hn⟩ (Nat.zero_mod _) (Nat.zero_mod _) (I ⟨0, hn⟩) P (Nat.zero_mod _)
  | succ n ih =>
    intro hn
    have P := place ⟨n + 1, hn⟩
    have hn' : n + 1 < 32 := hn
    have h0 : ¬(n + 1) % 32 = 0 := by omega
    have ih' := ih (Nat.lt_of_succ_lt hn)
    rw [← seen_succ (n + 1)]
    by_cases h1 : (n + 1) % 8 = 0
    · exact outC ⟨n + 1, hn⟩ h0 h1 (I ⟨n + 1, hn⟩) P h1 (Nat.lt_of_succ_lt hn) ih'
    · rw [show n / 8 = (n + 1) / 8 by omega, show n % 8 + 1 = (n + 1) % 8 by omega] at ih'
      exact outB ⟨n + 1, hn⟩ h0 h1 (I ⟨n + 1, hn⟩) P (Nat.lt_of_succ_lt hn) ih'

end Cert.KernelIdeal.Blk

end
-- ==== Proof.Host.lean ====
module

public import proofs.«01_k».proof.Proof.Outs
public import proofs.«01_k».proof.Proof.Args
public import Idealize.ShloMosaic.Lib.StableHlo.ReadAt
public import Idealize.ShloMosaic.Lib.Pointwise
public import Idealize.ShloMosaic.Lib.Pipeline.ValueKit

@[expose] public section

/-! The arrays the call is given, read off the host's operations. -/

set_option maxRecDepth 16384

noncomputable section

namespace Cert.KernelIdeal.Blk

open Cert.KernelIdeal Cert.KernelIdeal.Gen Idealize.ShloMosaic Idealize.ShloMosaic.TcCoe Idealize.SL.Sem Cert.Model

/-- The convolution, written out over the arrays. -/
theorem conv_close {A : Six} (a0 : S4096x1024.Idx → EReal) (a1 : S1024x8192.Idx → EReal) (a2 : S3x8192.Idx → EReal) (a3 : S8192.Idx → EReal)
    (h0 : ∀ (r : Fin 4096) (k : Fin 1024), a0 (ix2 r k) = A.h r k) (h1 : ∀ (r : Fin 1024) (k : Fin 8192), a1 (ix2 r k) = A.w r k)
    (h2 : ∀ (r : Fin 3) (k : Fin 8192), a2 (ix2 r k) = A.t r k) (h3 : ∀ (k : Fin 8192), a3 (ix1 k) = A.b 0 k)
    (h : Fin 2) (t r : Fin 4096) :
    a3 (ix1 ⟨h.val * 4096 + r.val, by omega⟩) +
      (((a2 (ix2 0 ⟨h.val * 4096 + r.val, by omega⟩) *
            if _h : t.val < 2 then 0 else ∑ x, a0 (ix2 ⟨t.val - 2, by omega⟩ x) * a1 (ix2 x ⟨h.val * 4096 + r.val, by omega⟩)) +
          a2 (ix2 1 ⟨h.val * 4096 + r.val, by omega⟩) *
            if _h : 1 + t.val < 2 then 0 else ∑ x, a0 (ix2 ⟨1 + t.val - 2, by omega⟩ x) * a1 (ix2 x ⟨h.val * 4096 + r.val, by omega⟩)) +
        a2 (ix2 2 ⟨h.val * 4096 + r.val, by omega⟩) * ∑ x, a0 (ix2 t x) * a1 (ix2 x ⟨h.val * 4096 + r.val, by omega⟩))
      = ((A.data.cv t (4096 * h + r) : ℝ) : EReal) := by
  have hq : h.val * 4096 + r.val < 8192 := by omega
  have e3 : a3 (ix1 ⟨h.val * 4096 + r.val, hq⟩) = ((rd A.b 0 (h.val * 4096 + r.val) : ℝ) : EReal) :=
    (h3 _).trans (rd_at A.fb (by omega) hq)
  have e2 : ∀ s : Fin 3, a2 (ix2 s ⟨h.val * 4096 + r.val, hq⟩) = ((rd A.t s (h.val * 4096 + r.val) : ℝ) : EReal) :=
    fun s => (h2 _ _).trans (rd_at A.ft s.2 hq)
  have eu : ∀ (s : ℕ) (hs : s < 4096), (∑ x : Fin 1024, a0 (ix2 ⟨s, hs⟩ x) * a1 (ix2 x ⟨h.val * 4096 + r.val, hq⟩))
      = ((A.up s (h.val * 4096 + r.val) : ℝ) : EReal) := by
    intro s hs
    unfold Six.up
    rw [← Consts.coe_sum]
    refine Finset.sum_congr rfl fun x _ => ?_
    rw [EReal.coe_mul]
    exact congrArg₂ (· * ·) ((h0 _ _).trans (rd_at A.fh hs x.2)) ((h1 _ _).trans (rd_at A.fw x.2 hq))
  have e0 : (if _h : t.val < 2 then (0 : EReal) else (∑ x : Fin 1024, a0 (ix2 ⟨t.val - 2, by omega⟩ x)
      * a1 (ix2 x ⟨h.val * 4096 + r.val, hq⟩))) = ((A.pad t (h.val * 4096 + r.val) : ℝ) : EReal) := by
    unfold Six.pad
    by_cases e : t.val < 2
    · rw [dif_pos e, if_pos e]; rfl
    · rw [dif_neg e, if_neg e, eu]
  have e1 : (if _h : 1 + t.val < 2 then (0 : EReal) else (∑ x : Fin 1024, a0 (ix2 ⟨1 + t.val - 2, by omega⟩ x)
      * a1 (ix2 x ⟨h.val * 4096 + r.val, hq⟩))) = ((A.pad (t + 1) (h.val * 4096 + r.val) : ℝ) : EReal) := by
    rw [Nat.add_comm t.val 1]
    unfold Six.pad
    by_cases e : 1 + t.val < 2
    · rw [dif_pos e, if_pos e]; rfl
    · rw [dif_neg e, if_neg e, eu]
  have e4 : A.pad (t + 2) (h.val * 4096 + r.val) = A.up t (h.val * 4096 + r.val) := by
    unfold Six.pad
    rw [if_neg (by omega)]
    rfl
  show _ = ((A.cv t (4096 * h.val + r.val) : ℝ) : EReal)
  rw [Nat.mul_comm 4096 h.val, e0, e1, eu t t.2, e3, e2 0, e2 1, e2 2]
  unfold Six.cv
  rw [e4]
  simp only [← EReal.coe_add, ← EReal.coe_mul]
  rfl

/-- The launch's arrays hold the six arrays. -/
structure Holds (m : (ℓ : Loc nD τ sig) → Buf (Elt Ideal) ℓ) (A : Six) (c : Dev nD) : Prop where
  h : ∀ (r : Fin 4096) (k : Fin 1024), m ((c : Thread nD τ).loc main_arg0) (ix2 r k) = A.h r k
  w : ∀ (r : Fin 1024) (k : Fin 8192), m ((c : Thread nD τ).loc main_arg1) (ix2 r k) = A.w r k
  t : ∀ (r : Fin 3) (k : Fin 8192), m ((c : Thread nD τ).loc main_arg2) (ix2 r k) = A.t r k
  b : ∀ (k : Fin 8192), m ((c : Thread nD τ).loc main_arg3) (ix1 k) = A.b 0 k
  d : ∀ (r : Fin 4096) (k : Fin 1024), m ((c : Thread nD τ).loc main_arg4) (ix2 r k) = A.d r k
  g : ∀ (r : Fin 4096) (k : Fin 1024), m ((c : Thread nD τ).loc main_arg5) (ix2 r k) = A.g r k

variable {m : (ℓ : Loc nD τ sig) → Buf (Elt Ideal) ℓ} {A : Six} {c : Dev nD}

theorem V36_at (H : Holds m A c) (r : Fin 4096) (k : Fin 1024) : V m c main_v36 (ix2 r k) = ((A.data.df r k : ℝ) : EReal) := by
  unfold V
  after_reads_at
  exact (H.g r k).trans (rd_at A.fg r.2 k.2)

theorem V33_at (H : Holds m A c) (a : Fin 4) (r k : Fin 1024) : V m c main_v33 (ix4 a 0 r k) = ((A.data.wd (1024 * a + r) k : ℝ) : EReal) := by
  unfold V
  after_reads_at
  refine (H.d _ _).trans ((rd_at A.fd _ k.2).trans ?_)
  rw [Nat.mul_comm]
  rfl

theorem V31_at (H : Holds m A c) (a : Fin 4) (k : Fin 1024) (r : Fin 2048) : V m c main_v31 (ix4 a 0 k r) = ((A.data.U (2048 * a + r) k : ℝ) : EReal) := by
  unfold V
  after_reads_at
  refine (H.w _ _).trans ((rd_at A.fw k.2 _).trans ?_)
  rw [Nat.mul_comm]
  rfl

theorem V35_at (H : Holds m A c) (h : Fin 2) (t : Fin 3) (r : Fin 4096) : V m c main_v35 (ix3 h t r) = ((A.data.W t (4096 * h + r) : ℝ) : EReal) := by
  unfold V
  after_reads_at
  refine (H.t _ _).trans ((rd_at A.ft t.2 _).trans ?_)
  rw [Nat.mul_comm]
  rfl

theorem V39_at (H : Holds m A c) (h : Fin 2) (t : Fin 4096) (r : Fin 4096) : V m c main_v39 (ix3 h t r) = ((A.data.up t (4096 * h + r) : ℝ) : EReal) := by
  unfold V
  after_reads_at
  show _ = ((A.up t (4096 * h + r) : ℝ) : EReal)
  unfold Six.up
  rw [← Consts.coe_sum]
  refine Finset.sum_congr rfl fun x _ => ?_
  rw [EReal.coe_mul]
  refine congrArg₂ (· * ·) ((H.h _ _).trans (rd_at A.fh t.2 x.2)) ((H.w _ _).trans ((rd_at A.fw x.2 _).trans ?_))
  rw [Nat.mul_comm]

theorem V42_at (H : Holds m A c) (h : Fin 2) (t : Fin 4096) (r : Fin 4096) : V m c main_v42 (ix3 h t r) = ((A.data.cv t (4096 * h + r) : ℝ) : EReal) := by
  unfold V
  after_reads_at
  after_reads_at
  exact conv_close _ _ _ _ H.h H.w H.t H.b h t r

theorem idx0 : ∀ t : Fin grid0.N, win0_0.index t = ![3 - t.val / 8, 0] := by decide +kernel
theorem idx1 : ∀ t : Fin grid0.N, win0_1.index t = ![t.val % 8 / 4, 0, 0, t.val % 8 % 4] := by decide +kernel
theorem idx2 : ∀ t : Fin grid0.N, win0_2.index t = ![(t.val % 8 + 8) / 4, 0, 0, (t.val % 8 + 8) % 4] := by decide +kernel
theorem idx3 : ∀ t : Fin grid0.N, win0_3.index t = ![t.val % 8 / 2, 0, t.val % 8 % 2, 0] := by decide +kernel
theorem idx4 : ∀ t : Fin grid0.N, win0_4.index t = ![0, 0, t.val % 8] := by decide +kernel
theorem idx5 : ∀ t : Fin grid0.N, win0_5.index t = ![0, 3 - t.val / 8, t.val % 8] := by decide +kernel
theorem idx6 : ∀ t : Fin grid0.N, win0_6.index t = ![0, 3 - t.val / 8, t.val % 8] := by decide +kernel

theorem blk0_at (H : Holds m A c) (t : Fin cfg0.N) (r k : Fin 1024) : iblk m c 0 t (ix2 r k) = ((A.data.df (1024 * (3 - t.val / 8) + r) k : ℝ) : EReal) := by
  have ht : t.val < 32 := t.isLt
  have e : iblk m c 0 t (ix2 r k) = V m c main_v36 (ix2 ⟨1024 * (3 - t.val / 8) + r.val, by omega⟩ k) := by
    blk_ext [iblk, idx0 t]
  exact e.trans (V36_at H _ _)

theorem blk1_at (H : Holds m A c) (t : Fin cfg0.N) (k : Fin 1024) (q : Fin 512) : iblk m c 1 t (ix4 0 0 k q) = ((A.data.U (512 * (t.val % 8) + q) k : ℝ) : EReal) := by
  have ht : t.val < 32 := t.isLt
  have e : iblk m c 1 t (ix4 0 0 k q) = V m c main_v31 (ix4 ⟨t.val % 8 / 4, by omega⟩ 0 k ⟨512 * (t.val % 8 % 4) + q.val, by omega⟩) := by
    blk_ext [iblk, idx1 t]
  have e' : 2048 * (t.val % 8 / 4) + (512 * (t.val % 8 % 4) + q.val) = 512 * (t.val % 8) + q := by omega
  exact e.trans ((V31_at H _ _ _).trans (congrArg (fun x => ((A.data.U x k : ℝ) : EReal)) e'))

theorem blk2_at (H : Holds m A c) (t : Fin cfg0.N) (k : Fin 1024) (q : Fin 512) : iblk m c 2 t (ix4 0 0 k q) = ((A.data.U (4096 + 512 * (t.val % 8) + q) k : ℝ) : EReal) := by
  have ht : t.val < 32 := t.isLt
  have e : iblk m c 2 t (ix4 0 0 k q) = V m c main_v31 (ix4 ⟨(t.val % 8 + 8) / 4, by omega⟩ 0 k ⟨512 * ((t.val % 8 + 8) % 4) + q.val, by omega⟩) := by
    blk_ext [iblk, idx2 t]
  have e' : 2048 * ((t.val % 8 + 8) / 4) + (512 * ((t.val % 8 + 8) % 4) + q.val) = 4096 + 512 * (t.val % 8) + q := by omega
  exact e.trans ((V31_at H _ _ _).trans (congrArg (fun x => ((A.data.U x k : ℝ) : EReal)) e'))

theorem blk3_at (H : Holds m A c) (t : Fin cfg0.N) (q : Fin 512) (k : Fin 1024) : iblk m c 3 t (ix4 0 0 q k) = ((A.data.wd (512 * (t.val % 8) + q) k : ℝ) : EReal) := by
  have ht : t.val < 32 := t.isLt
  have e : iblk m c 3 t (ix4 0 0 q k) = V m c main_v33 (ix4 ⟨t.val % 8 / 2, by omega⟩ 0 ⟨512 * (t.val % 8 % 2) + q.val, by omega⟩ k) := by
    blk_ext [iblk, idx3 t]
  have e' : 1024 * (t.val % 8 / 2) + (512 * (t.val % 8 % 2) + q.val) = 512 * (t.val % 8) + q := by omega
  exact e.trans ((V33_at H _ _ _).trans (congrArg (fun x => ((A.data.wd x k : ℝ) : EReal)) e'))

theorem blk4_at (H : Holds m A c) (t : Fin cfg0.N) (hh : Fin 2) (s : Fin 3) (q : Fin 512) : iblk m c 4 t (ix3 hh s q) = ((A.data.W s (4096 * hh + (512 * (t.val % 8) + q)) : ℝ) : EReal) := by
  have ht : t.val < 32 := t.isLt
  have e : iblk m c 4 t (ix3 hh s q) = V m c main_v35 (ix3 hh s ⟨512 * (t.val % 8) + q.val, by omega⟩) := by
    blk_ext [iblk, idx4 t]
  exact e.trans (V35_at H _ _ _)

theorem blk5_at (H : Holds m A c) (t : Fin cfg0.N) (hh : Fin 2) (r : Fin 1024) (q : Fin 512) : iblk m c 5 t (ix3 hh r q) = ((A.data.up (1024 * (3 - t.val / 8) + r) (4096 * hh + (512 * (t.val % 8) + q)) : ℝ) : EReal) := by
  have ht : t.val < 32 := t.isLt
  have e : iblk m c 5 t (ix3 hh r q) = V m c main_v39 (ix3 hh ⟨1024 * (3 - t.val / 8) + r.val, by omega⟩ ⟨512 * (t.val % 8) + q.val, by omega⟩) := by
    blk_ext [iblk, idx5 t]
  exact e.trans (V39_at H _ _ _)

theorem blk6_at (H : Holds m A c) (t : Fin cfg0.N) (hh : Fin 2) (r : Fin 1024) (q : Fin 512) : iblk m c 6 t (ix3 hh r q) = ((A.data.cv (1024 * (3 - t.val / 8) + r) (4096 * hh + (512 * (t.val % 8) + q)) : ℝ) : EReal) := by
  have ht : t.val < 32 := t.isLt
  have e : iblk m c 6 t (ix3 hh r q) = V m c main_v42 (ix3 hh ⟨1024 * (3 - t.val / 8) + r.val, by omega⟩ ⟨512 * (t.val % 8) + q.val, by omega⟩) := by
    blk_ext [iblk, idx6 t]
  exact e.trans (V42_at H _ _ _)

theorem allIns (H : Holds m A c) : AllIns m A.data c :=
  fun t => ⟨blk0_at H t, blk1_at H t, blk2_at H t, blk3_at H t, blk4_at H t, blk5_at H t, blk6_at H t⟩

end Cert.KernelIdeal.Blk

end
-- ==== Proof.Arrays.lean ====
module

public import proofs.«01_k».proof.Proof.Host

@[expose] public section

/-! The three result arrays after the run. -/

set_option maxRecDepth 16384

noncomputable section

namespace Cert.KernelIdeal.Blk

open Cert.KernelIdeal Cert.KernelIdeal.Gen Idealize.ShloMosaic Idealize.ShloMosaic.TcCoe Idealize.SL.Sem Cert.Model

def H7 (D : Data) (y : S2x4096x4096.Idx) : EReal := ((D.dup (y 0).val (y 1).val (y 2).val : ℝ) : EReal)
def H8 (D : Data) (y : S4096x1024.Idx) : EReal := ((∑ b ∈ Finset.range 8, D.dhPart b (y 0).val (y 1).val : ℝ) : EReal)
def H9 (D : Data) (y : S8x2x8x512.Idx) : EReal := GN D (fun _ => 0) y

theorem idx7 : ∀ t : Fin grid0.N, win0_7.index t = ![0, 3 - t.val / 8, t.val % 8] := by decide +kernel
theorem idx8 : ∀ t : Fin grid0.N, win0_8.index t = ![3 - t.val / 8, 0] := by decide +kernel
theorem idx9 : ∀ t : Fin grid0.N, win0_9.index t = ![0, 0, 0, 0] := by decide +kernel

theorem emb7 (t : Fin cfg0.N) (y : S2x1024x512.Idx) (i : S2x4096x4096.Idx) (h : i = (win0_7.blk t).view.emb y) :
    (i 0).val = (y 0).val ∧ (i 1).val = 1024 * (3 - t.val / 8) + (y 1).val ∧ (i 2).val = 512 * (t.val % 8) + (y 2).val := by
  subst h
  blk_simp [idx7 t]
  refine ⟨?_, ?_, ?_⟩ <;> simp <;> omega

variable {m : (ℓ : Loc nD τ sig) → Buf (Elt Ideal) ℓ} {D : Data} {c : Dev nD}

theorem arr7 (I : AllIns m D c) : (dats m 0 c).arrAt 7 cfg0.N = H7 D := by
  refine (dats m 0 c).arrAt_eq_of_covers 7 _ (by decide +kernel) fun t hf y => ?_
  blk_simp
  rw [after0_7, outs I]
  obtain ⟨e0, e1, e2⟩ := emb7 t y _ rfl
  show G7 D _ _ y = ((D.dup _ _ _ : ℝ) : EReal)
  rw [e0, e1, e2]
  rfl

theorem arr8 (I : AllIns m D c) : (dats m 0 c).arrAt 8 cfg0.N = H8 D := by
  refine (dats m 0 c).arrAt_eq_of_covers 8 _ (by decide +kernel) fun t hf y => ?_
  blk_simp
  rw [after0_8, outs I, (flush0_8 t).1 hf]
  show GP D _ 8 y = H8 D _
  unfold GP H8
  blk_simp [idx8 t]
  rw [Nat.mul_comm]

theorem arr9 (I : AllIns m D c) : (dats m 0 c).arrAt 9 cfg0.N = H9 D := by
  refine (dats m 0 c).arrAt_eq_of_covers 9 _ (by decide +kernel) fun t hf y => ?_
  blk_simp
  rw [after0_9, outs I, show t.val = 31 from by have := (flush0_9 t).1 hf; have h : t.val < 32 := t.isLt; omega]
  show GN D _ y = GN D _ _
  have e : ((win0_9.blk t).view.emb y : S8x2x8x512.Idx) = y := by
    blk_ext [idx9 t]
  rw [e]
  have h0 : (y 0).val < 8 := (y 0).isLt
  unfold GN
  rw [show seen (31 + 1) (y 0).val = 0 by unfold seen; rw [if_pos h0]; omega]

end Cert.KernelIdeal.Blk

end
-- ==== Proof.RefFwd.lean ====
module

public import proofs.«01_k».proof.Proof.Gen.ReferenceIdeal.Read
public import proofs.«01_k».proof.Proof.Args
public import Idealize.ShloMosaic.Lib.Pointwise

@[expose] public section

/-! The reference's forward values and the cotangents up to the convolution's, read in the model. -/

set_option maxRecDepth 16384

noncomputable section

namespace Cert.ReferenceIdeal.Math

open Cert.ReferenceIdeal Cert.ReferenceIdeal.Gen Cert.ReferenceIdeal.Read Idealize.ShloMosaic Idealize.SL.Sem Cert.Model

/-- The six arguments are the model's arrays. -/
structure Same (A : Six) (x0 : S4096x1024.Idx → EReal) (x1 : S1024x8192.Idx → EReal) (x2 : S3x8192.Idx → EReal) (x3 : S8192.Idx → EReal)
    (x4 x5 : S4096x1024.Idx → EReal) : Prop where
  h : ∀ (r : Fin 4096) (k : Fin 1024), x0 (ix2 r k) = A.h r k
  w : ∀ (r : Fin 1024) (k : Fin 8192), x1 (ix2 r k) = A.w r k
  t : ∀ (r : Fin 3) (k : Fin 8192), x2 (ix2 r k) = A.t r k
  b : ∀ (k : Fin 8192), x3 (ix1 k) = A.b 0 k
  d : ∀ (r : Fin 4096) (k : Fin 1024), x4 (ix2 r k) = A.d r k
  g : ∀ (r : Fin 4096) (k : Fin 1024), x5 (ix2 r k) = A.g r k

variable {A : Six} {x0 : S4096x1024.Idx → EReal} {x1 : S1024x8192.Idx → EReal} {x2 : S3x8192.Idx → EReal} {x3 : S8192.Idx → EReal}
  {x4 x5 : S4096x1024.Idx → EReal}

theorem v0_at (S : Same A x0 x1 x2 x3 x4 x5) (r : Fin 4096) (c : Fin 8192) :
    val_main_v0 (F := Ideal) x0 x1 (ix2 r c) = ((A.up r c : ℝ) : EReal) := by
  pointwise [val_main_v0]
  unfold Six.up
  rw [← Consts.coe_sum]
  refine Finset.sum_congr rfl fun x _ => ?_
  rw [EReal.coe_mul]
  exact congrArg₂ (· * ·) ((S.h _ _).trans (rd_at A.fh r.2 x.2)) ((S.w _ _).trans (rd_at A.fw x.2 c.2))

theorem v2_at (S : Same A x0 x1 x2 x3 x4 x5) (r : Fin 4098) (c : Fin 8192) :
    val_main_v2 (F := Ideal) x0 x1 (ix2 r c) = ((A.pad r c : ℝ) : EReal) := by
  pointwise [val_main_v2, val_main_v1, val_main_cst, v0_at S]
  unfold Six.pad
  split <;> simp

theorem v28_at (S : Same A x0 x1 x2 x3 x4 x5) (r : Fin 4096) (c : Fin 8192) :
    val_main_v28 (F := Ideal) x0 x1 x2 x3 (ix2 r c) = ((A.cv r c : ℝ) : EReal) := by
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, val_main_v7, val_main_v6, val_main_v5, val_main_v4, val_main_cst_1, v2_at S, S.t, S.b]
  have e3 : A.b 0 c = ((rd A.b 0 c : ℝ) : EReal) := rd_at A.fb (by omega) c.2
  have e2 : ∀ s : Fin 3, A.t s c = ((rd A.t s c : ℝ) : EReal) := fun s => rd_at A.ft s.2 c.2
  rw [e3, e2, e2, e2]
  unfold Six.cv
  simp only [← EReal.coe_mul, ← EReal.coe_add]
  rw [Nat.add_comm r.val 1, Nat.add_comm r.val 2]
  rfl

theorem v29_at (S : Same A x0 x1 x2 x3 x4 x5) (r c : Fin 4096) :
    val_main_v29 (F := Ideal) x0 x1 x2 x3 (ix2 r c) = ((A.cv r c : ℝ) : EReal) := by
  pointwise [val_main_v29, v28_at S]

theorem v30_at (S : Same A x0 x1 x2 x3 x4 x5) (r c : Fin 4096) :
    val_main_v30 (F := Ideal) x0 x1 x2 x3 (ix2 r c) = ((A.cv r (4096 + c) : ℝ) : EReal) := by
  pointwise [val_main_v30, v28_at S]

theorem v41_at (S : Same A x0 x1 x2 x3 x4 x5) (r c : Fin 4096) :
    val_main_v41 (F := Ideal) x0 x1 x2 x3 (ix2 r c) = ((th (A.cv r c) : ℝ) : EReal) := by
  pointwise [val_main_v41, val_main_v40, val_main_v39, val_main_cst_4, val_main_v38, val_main_v37, val_main_v36, val_main_cst_3, val_main_v32,
    val_main_v31, v29_at S, Consts.ofBits_cc, Consts.ofBits_ca]
  simp only [← EReal.coe_mul, ← EReal.coe_add, Ideal.tanh_coe]
  unfold th
  congr 2
  ring

theorem v50_at (S : Same A x0 x1 x2 x3 x4 x5) (r c : Fin 4096) :
    val_main_v50 (F := Ideal) x0 x1 x2 x3 (ix2 r c) = ((1 / 2 * (1 + th (A.cv r c)) : ℝ) : EReal) := by
  pointwise [val_main_v50, val_main_v49, val_main_v48, val_main_v47, val_main_cst_7, val_main_cst_8, v41_at S, Consts.ofBits_half]
  simp only [EReal.coe_mul, EReal.coe_add, EReal.coe_one]

theorem v51_at (S : Same A x0 x1 x2 x3 x4 x5) (r c : Fin 4096) :
    val_main_v51 (F := Ideal) x0 x1 x2 x3 (ix2 r c) = ((act (A.cv r c) : ℝ) : EReal) := by
  pointwise [val_main_v51, v50_at S, v29_at S]
  rw [← EReal.coe_mul]
  unfold act
  congr 1
  ring

theorem v56_at (S : Same A x0 x1 x2 x3 x4 x5) (r c : Fin 4096) :
    val_main_v56 (F := Ideal) x4 x5 (ix2 r c) = ((A.data.dy r c : ℝ) : EReal) := by
  pointwise [val_main_v56]
  unfold Data.dy
  rw [← Consts.coe_sum]
  refine Finset.sum_congr rfl fun x _ => ?_
  rw [EReal.coe_mul]
  exact congrArg₂ (· * ·) ((S.g _ _).trans (rd_at A.fg r.2 x.2)) ((S.d _ _).trans (rd_at A.fd c.2 x.2))

theorem v57_at (S : Same A x0 x1 x2 x3 x4 x5) (r c : Fin 4096) :
    val_main_v57 (F := Ideal) x0 x1 x2 x3 x4 x5 (ix2 r c) = ((A.data.dc 1 r c : ℝ) : EReal) := by
  pointwise [val_main_v57, v51_at S, v56_at S]
  rw [← EReal.coe_mul, mul_comm]
  rfl

theorem v70_at (S : Same A x0 x1 x2 x3 x4 x5) (r c : Fin 4096) :
    val_main_v70 (F := Ideal) x0 x1 x2 x3 x4 x5 (ix2 r c) = ((A.data.dc 0 r c : ℝ) : EReal) := by
  pointwise [val_main_v70, val_main_v69, val_main_v68, val_main_v67, val_main_cst_11, val_main_v66, val_main_v65, val_main_v64, val_main_cst_10,
    val_main_v63, val_main_v62, val_main_v61, val_main_cst_9, val_main_v60, val_main_v59, val_main_v58, val_main_v46, val_main_v45, val_main_v44,
    val_main_cst_6, val_main_v43, val_main_v42, val_main_cst_5, val_main_v35, val_main_v34, val_main_cst_2, val_main_v33,
    v29_at S, v30_at S, v41_at S, v50_at S, v56_at S, Consts.ofBits_cc, Consts.ofBits_ca, Consts.ofBits_half, Consts.ofBits_three]
  rw [← EReal.coe_one]
  simp only [← EReal.coe_mul, ← EReal.coe_add, ← EReal.coe_sub]
  congr 1
  show _ = A.data.dy r c * A.data.cv r (4096 + c) * grad (A.data.cv r c)
  show _ = A.data.dy r c * A.cv r (4096 + c) * grad (A.cv r c)
  unfold grad
  ring

end Cert.ReferenceIdeal.Math

end
-- ==== Proof.RefBwd.lean ====
module

public import proofs.«01_k».proof.Proof.RefFwd

@[expose] public section

/-! The reference's gradients of the convolution and of the up projection, read in the model. -/

set_option maxRecDepth 16384

noncomputable section

namespace Cert.ReferenceIdeal.Math

open Cert.ReferenceIdeal Cert.ReferenceIdeal.Gen Cert.ReferenceIdeal.Read Idealize.ShloMosaic Idealize.SL.Sem Cert.Model

/-- The convolution's cotangent over the joined columns, gate first. -/
def dcf (D : Data) (r c : ℕ) : ℝ := if c < 4096 then D.dc 0 r c else D.dc 1 r (c - 4096)

theorem dcf_out (D : Data) (r c : ℕ) (h : 4096 ≤ r) : dcf D r c = 0 := by
  unfold dcf; split <;> exact D.dc_out _ r h _

variable {A : Six} {x0 : S4096x1024.Idx → EReal} {x1 : S1024x8192.Idx → EReal} {x2 : S3x8192.Idx → EReal} {x3 : S8192.Idx → EReal}
  {x4 x5 : S4096x1024.Idx → EReal}

theorem dcf_at (D : Data) (h : Fin 2) (r c : ℕ) (hc : c < 4096) : dcf D r (h.val * 4096 + c) = D.dc h r c := by
  unfold dcf
  match h with
  | 0 => rw [if_pos (by show 0 * 4096 + c < 4096; omega)]; exact congrArg _ (by show 0 * 4096 + c = c; omega)
  | 1 => rw [if_neg (by show ¬ 1 * 4096 + c < 4096; omega)]; exact congrArg _ (by show 1 * 4096 + c - 4096 = c; omega)

theorem v73_at (S : Same A x0 x1 x2 x3 x4 x5) (r : Fin 4096) (c : Fin 8192) :
    val_main_v73 (F := Ideal) x0 x1 x2 x3 x4 x5 (ix2 r c) = ((dcf A.data r c : ℝ) : EReal) := by
  pointwise [val_main_v73, val_main_v71, val_main_v72, val_main_cst_12, val_main_cst_13, v57_at S, v70_at S]
  unfold dcf
  by_cases h : c.val < 4096
  · rw [dif_neg (by omega), dif_pos h, if_pos h, zero_add]
  · rw [dif_pos (by omega), dif_neg h, if_neg h, add_zero]

/-- The gradient of the up projection over the joined columns. -/
def dupf (A : Six) (r c : ℕ) : ℝ := rd A.t 2 c * dcf A.data r c + rd A.t 1 c * dcf A.data (r + 1) c + rd A.t 0 c * dcf A.data (r + 2) c

theorem dupf_at (h : Fin 2) (r c : ℕ) (hc : c < 4096) : dupf A r (h.val * 4096 + c) = A.data.dup h r c := by
  unfold dupf Data.dup
  rw [dcf_at _ h _ _ hc, dcf_at _ h _ _ hc, dcf_at _ h _ _ hc, Nat.mul_comm]
  rfl

theorem v109_at (S : Same A x0 x1 x2 x3 x4 x5) (r : Fin 4096) (c : Fin 8192) :
    val_main_v109 (F := Ideal) x0 x1 x2 x3 x4 x5 (ix2 r c) = ((dupf A r c : ℝ) : EReal) := by
  pointwise [val_main_v109, val_main_v104, val_main_v103, val_main_v98, val_main_v97, val_main_v93, val_main_v92, val_main_v87, val_main_v86,
    val_main_v83, val_main_v78, val_main_v77, val_main_v22, val_main_v20, val_main_v19, val_main_v15, val_main_v13, val_main_v12, val_main_v7,
    val_main_v5, val_main_v4, val_main_cst_18, val_main_cst_22, val_main_cst_26, v73_at S, S.t]
  have e2 : ∀ s : Fin 3, A.t s c = ((rd A.t s c : ℝ) : EReal) := fun s => rd_at A.ft s.2 c.2
  have z : ∀ n : ℕ, 4096 ≤ n → dcf A.data n c = 0 := fun n h => dcf_out _ _ _ h
  have e1 : (if h : 1 ≤ 2 + r.val ∧ 2 + r.val - 1 < 4096 then A.t 1 c * ((dcf A.data (2 + r.val - 1) c : ℝ) : EReal) else 0)
      = ((rd A.t 1 c * dcf A.data (r + 1) c : ℝ) : EReal) := by
    have hr : 2 + r.val - 1 = r.val + 1 := by omega
    rw [hr]
    by_cases h : r.val + 1 < 4096
    · rw [dif_pos ⟨by omega, h⟩, e2, EReal.coe_mul]; rfl
    · rw [dif_neg (fun q => h q.2), z _ (by omega), mul_zero, EReal.coe_zero]
  have e0 : (if h : 2 + r.val < 4096 then A.t 0 c * ((dcf A.data (2 + r.val) c : ℝ) : EReal) else 0)
      = ((rd A.t 0 c * dcf A.data (r + 2) c : ℝ) : EReal) := by
    have hr : 2 + r.val = r.val + 2 := by omega
    rw [hr]
    by_cases h : r.val + 2 < 4096
    · rw [dif_pos h, e2, EReal.coe_mul]; rfl
    · rw [dif_neg h, z _ (by omega), mul_zero, EReal.coe_zero]
  rw [e1, e0, e2, ← EReal.coe_mul, ← EReal.coe_add, ← EReal.coe_add]
  rfl

/-- A sum over the joined columns, by halves and column blocks. -/
theorem sum_blocks (q : ℕ → ℝ) (n : ℕ) : ∑ i ∈ Finset.range (512 * n), q i = ∑ b ∈ Finset.range n, ∑ c : Fin 512, q (512 * b + c) := by
  induction n with
  | zero => simp
  | succ n ih => rw [Nat.mul_succ, Finset.sum_range_add, ih, Finset.sum_range_succ _ n, Finset.sum_range (fun x => q (512 * n + x))]

theorem sum_columns (q : ℕ → ℝ) :
    ∑ x : Fin 8192, q x = ∑ b ∈ Finset.range 8, (∑ c : Fin 512, q (512 * b + c) + ∑ c : Fin 512, q (4096 + 512 * b + c)) := by
  rw [← Finset.sum_range, show (8192 : ℕ) = 512 * 8 + 4096 from rfl, Finset.sum_range_add, sum_blocks, Finset.sum_add_distrib]
  refine congrArg _ ?_
  rw [show (4096 : ℕ) = 512 * 8 from rfl, sum_blocks]
  refine Finset.sum_congr rfl fun b _ => Finset.sum_congr rfl fun c _ => congrArg q ?_
  omega

theorem v110_at (S : Same A x0 x1 x2 x3 x4 x5) (r : Fin 4096) (k : Fin 1024) :
    val_main_v110 (F := Ideal) x0 x1 x2 x3 x4 x5 (ix2 r k) = ((∑ b ∈ Finset.range 8, A.data.dhPart b r k : ℝ) : EReal) := by
  pointwise [val_main_v110, v109_at S, S.w]
  have e : ∀ x : Fin 8192, A.w k x = ((rd A.w k x : ℝ) : EReal) := fun x => rd_at A.fw k.2 x.2
  simp only [e, ← EReal.coe_mul]
  rw [Consts.coe_sum, sum_columns (fun x => dupf A r x * rd A.w k x)]
  refine congrArg _ (Finset.sum_congr rfl fun b hb => ?_)
  have hb8 : b < 8 := Finset.mem_range.1 hb
  unfold Data.dhPart
  refine congrArg₂ (· + ·) (Finset.sum_congr rfl fun c _ => ?_) (Finset.sum_congr rfl fun c _ => ?_)
  · have := dupf_at (A := A) 0 r (512 * b + c) (by omega)
    rw [show (0 : Fin 2).val * 4096 + (512 * b + c.val) = 512 * b + c from by show 0 * 4096 + _ = _; omega] at this
    rw [this]; rfl
  · have := dupf_at (A := A) 1 r (512 * b + c) (by omega)
    rw [show (1 : Fin 2).val * 4096 + (512 * b + c.val) = 4096 + 512 * b + c from by show 1 * 4096 + _ = _; omega] at this
    rw [this]; rfl

theorem v113_at (S : Same A x0 x1 x2 x3 x4 x5) (h : Fin 2) (r c : Fin 4096) :
    val_main_v113 (F := Ideal) x0 x1 x2 x3 x4 x5 (ix3 h r c) = ((A.data.dup h r c : ℝ) : EReal) := by
  pointwise [val_main_v113, val_main_v112, val_main_v111, v109_at S]
  exact congrArg _ (dupf_at h r c c.2)

theorem v76_at (S : Same A x0 x1 x2 x3 x4 x5) (c : Fin 8192) :
    val_main_v76 (F := Ideal) x0 x1 x2 x3 x4 x5 (ix1 c) = ((∑ r ∈ Finset.range 4096, dcf A.data r c : ℝ) : EReal) := by
  pointwise [val_main_v76, val_main_v75, val_main_v74, val_main_cst_14, val_main_cst_15, v73_at S]
  simp only [Consts.coe_sum]
  rw [Finset.sum_range]
  simp

/-- A sum of the cotangent against the shifted up projection, as the shifted cotangent against the up projection. -/
theorem sum_shift (A : Six) (s : ℕ) (hs : s ≤ 2) (c : ℕ) :
    ∑ r ∈ Finset.range 4096, dcf A.data r c * A.pad (r + (2 - s)) c = ∑ r ∈ Finset.range 4096, dcf A.data (r + s) c * A.up r c := by
  have e1 := Finset.sum_range_add (fun r => dcf A.data r c * A.pad (r + (2 - s)) c) s (4096 - s)
  have e2 := Finset.sum_range_add (fun r => dcf A.data (r + s) c * A.up r c) (4096 - s) s
  rw [show s + (4096 - s) = 4096 by omega] at e1
  rw [show 4096 - s + s = 4096 by omega] at e2
  rw [e1, e2, Finset.sum_eq_zero (s := Finset.range s), Finset.sum_eq_zero (s := Finset.range s), zero_add, add_zero]
  · refine Finset.sum_congr rfl fun r _ => ?_
    unfold Six.pad
    rw [if_neg (by omega), Nat.add_comm s r, show r + s + (2 - s) - 2 = r by omega]
  · intro r hr
    rw [dcf_out _ _ _ (by omega), zero_mul]
  · intro r hr
    have : r < s := Finset.mem_range.1 hr
    unfold Six.pad
    rw [if_pos (by omega), mul_zero]

theorem v82_at (S : Same A x0 x1 x2 x3 x4 x5) (c : Fin 8192) :
    val_main_v82 (F := Ideal) x0 x1 x2 x3 x4 x5 (ix1 c) = ((∑ r ∈ Finset.range 4096, dcf A.data r c * A.pad (r + 2) c : ℝ) : EReal) := by
  pointwise [val_main_v82, val_main_v81, val_main_v80, val_main_v79, val_main_v21, val_main_cst_16, val_main_cst_17, v73_at S, v2_at S]
  simp only [← EReal.coe_mul, Consts.coe_sum]
  rw [Finset.sum_range]
  simp [Nat.add_comm 2]

theorem v91_at (S : Same A x0 x1 x2 x3 x4 x5) (c : Fin 8192) :
    val_main_v91 (F := Ideal) x0 x1 x2 x3 x4 x5 (ix1 c) = ((∑ r ∈ Finset.range 4096, dcf A.data r c * A.pad (r + 1) c : ℝ) : EReal) := by
  pointwise [val_main_v91, val_main_v90, val_main_v89, val_main_v88, val_main_v14, val_main_cst_20, val_main_cst_21, v73_at S, v2_at S]
  simp only [← EReal.coe_mul, Consts.coe_sum]
  rw [Finset.sum_range]
  simp [Nat.add_comm 1]

theorem v102_at (S : Same A x0 x1 x2 x3 x4 x5) (c : Fin 8192) :
    val_main_v102 (F := Ideal) x0 x1 x2 x3 x4 x5 (ix1 c) = ((∑ r ∈ Finset.range 4096, dcf A.data r c * A.pad r c : ℝ) : EReal) := by
  pointwise [val_main_v102, val_main_v101, val_main_v100, val_main_v99, val_main_v6, val_main_cst_24, val_main_cst_25, v73_at S, v2_at S]
  simp only [← EReal.coe_mul, Consts.coe_sum]
  rw [Finset.sum_range]
  simp

/-- The sums' terms over the joined columns. -/
theorem term_at (h : Fin 2) (k r c : ℕ) (hc : c < 4096) : A.data.term h k r c =
    match k with
    | 0 => dcf A.data (r + 2) (h.val * 4096 + c) * A.up r (h.val * 4096 + c)
    | 1 => dcf A.data (r + 1) (h.val * 4096 + c) * A.up r (h.val * 4096 + c)
    | 2 => dcf A.data r (h.val * 4096 + c) * A.up r (h.val * 4096 + c)
    | 3 => dcf A.data r (h.val * 4096 + c)
    | _ => 0 := by
  rw [dcf_at _ h _ _ hc, dcf_at _ h _ _ hc, dcf_at _ h _ _ hc, Nat.mul_comm h.val]
  rfl

theorem v118_at (S : Same A x0 x1 x2 x3 x4 x5) (j : Fin 8) (h : Fin 2) (k : Fin 8) (c : Fin 512) :
    val_main_v118 (F := Ideal) x0 x1 x2 x3 x4 x5 (ix4 j h k c)
      = ((∑ r ∈ Finset.range 4096, A.data.term h k r (512 * j + c) : ℝ) : EReal) := by
  pointwise [val_main_v118, val_main_v117, val_main_v116, val_main_v115, val_main_v114, val_main_v107, val_main_v106, val_main_v105, val_main_v96,
    val_main_v95, val_main_v94, val_main_v85, val_main_v84, val_main_cst_28, val_main_cst_27, val_main_cst_23, val_main_cst_19, v76_at S, v82_at S,
    v91_at S, v102_at S]
  have hx : h.val * 4096 + j.val * 512 + c.val = h.val * 4096 + (512 * j.val + c.val) := by omega
  have hl : h.val * 4096 + (512 * j.val + c.val) < 8192 := by omega
  rw [hx]
  have t0 := sum_shift A 0 (by omega) (h.val * 4096 + (512 * j.val + c.val))
  have t1 := sum_shift A 1 (by omega) (h.val * 4096 + (512 * j.val + c.val))
  have t2 := sum_shift A 2 (by omega) (h.val * 4096 + (512 * j.val + c.val))
  simp only [Nat.sub_zero, Nat.add_zero, Nat.sub_self, show 2 - 1 = 1 from rfl] at t0 t1 t2
  rw [t0, t1, t2]
  simp only [term_at h _ _ _ (show 512 * j.val + c.val < 4096 by omega)]
  fin_cases k <;> simp [hl]

end Cert.ReferenceIdeal.Math

end
-- ==== Proof.Join.lean ====
module

public import proofs.«01_k».proof.Proof.Finite
public import proofs.«01_k».proof.Proof.Arrays
public import proofs.«01_k».proof.Proof.RefBwd
public import proofs.«01_k».proof.Proof.Gen.Kernel.Frame
public import Idealize.ShloMosaic.Lib.Quiescent

@[expose] public section

/-! The claims. -/

set_option maxRecDepth 16384

noncomputable section

namespace Cert.Join

open Idealize.ShloMosaic Idealize.ShloMosaic.TcCoe Idealize.SL.Sem Cert.Model

theorem frame_p : Cert.quiescent_Kernel := fun m ρ _ => Cert.Kernel.Gen.frame m ρ
theorem frame_pi : Cert.quiescent_KernelIdeal := fun m ρ _ => Cert.KernelIdeal.Gen.frame m ρ
theorem frame_pi' : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)
theorem frame_ri' : Cert.quiescent_ReferenceIdeal_pre_finite := fun m ρ _ => frame_ri m ρ trivial

theorem preserves : Cert.preserves_Kernel_KernelIdeal :=
  ⟨IdealRules.named_const.statement Cert.KernelIdeal.κ "gelu_ca" .f32 0x3D122279#32 ((80338380498831 / 2251799813685248 : ℝ) : EReal) rfl,
    IdealRules.named_const.statement Cert.KernelIdeal.κ "gelu_3ca" .f32 0x3DDB33B6#32 ((241015141496493 / 2251799813685248 : ℝ) : EReal) rfl⟩

section
open Cert.ReferenceIdeal Cert.ReferenceIdeal.Read Cert.ReferenceIdeal.Math

variable {A : Six} {x0 : S4096x1024.Idx → EReal} {x1 : S1024x8192.Idx → EReal} {x2 : S3x8192.Idx → EReal} {x3 : S8192.Idx → EReal}
  {x4 x5 : S4096x1024.Idx → EReal}

theorem ref7 (S : Same A x0 x1 x2 x3 x4 x5) : val_main_v113 (F := Ideal) x0 x1 x2 x3 x4 x5 = Cert.KernelIdeal.Blk.H7 A.data := by
  funext y
  have e := v113_at S (y 0) (y 1) (y 2)
  have q : (y : S2x4096x4096.Idx) = ix3 (y 0) (y 1) (y 2) := by ext a; fin_cases a <;> rfl
  exact (congrArg _ q).trans e

theorem ref8 (S : Same A x0 x1 x2 x3 x4 x5) : val_main_v110 (F := Ideal) x0 x1 x2 x3 x4 x5 = Cert.KernelIdeal.Blk.H8 A.data := by
  funext y
  have e := v110_at S (y 0) (y 1)
  have q : (y : S4096x1024.Idx) = ix2 (y 0) (y 1) := by ext a; fin_cases a <;> rfl
  exact (congrArg _ q).trans e

theorem ref9 (S : Same A x0 x1 x2 x3 x4 x5) : val_main_v118 (F := Ideal) x0 x1 x2 x3 x4 x5 = Cert.KernelIdeal.Blk.H9 A.data := by
  funext y
  have e := v118_at S (y 0) (y 1) (y 2) (y 3)
  have q : (y : S8x2x8x512.Idx) = ix4 (y 0) (y 1) (y 2) (y 3) := by ext a; fin_cases a <;> rfl
  refine ((congrArg _ q).trans e).trans ?_
  unfold Cert.KernelIdeal.Blk.H9 Cert.KernelIdeal.Blk.GN
  rw [Finset.range_eq_Ico]

end

theorem algebraic : Cert.algebraic_KernelIdeal_ReferenceIdeal_pre_finite := by
  intro m ρ m' ρ' hpre hagree
  have hok : ∀ c : Dev Cert.KernelIdeal.nD, Cert.Finite.ok _ _ _ _ _ _ := fun c => hpre c
  let A : Dev Cert.KernelIdeal.nD → Six := fun c => Cert.Finite.six (hok c)
  have K : ∀ c, Cert.KernelIdeal.Blk.Holds m (A c) c := fun c =>
    ⟨fun _ _ => rfl, fun _ _ => rfl, fun _ _ => rfl, fun _ => rfl, fun _ _ => rfl, fun _ _ => rfl⟩
  refine ⟨fun c => Cert.KernelIdeal.Blk.H7 (A c).data, fun c => Cert.KernelIdeal.Blk.H8 (A c).data, fun c => Cert.KernelIdeal.Blk.H9 (A c).data, ?_, ?_⟩
  · refine (θ_run Cert.KernelIdeal.defs _ _).mono (fun r h c => ?_) (Cert.KernelIdeal.Value.run_blocks m ρ)
    obtain ⟨h7, h8, h9, h⟩ := h c
    have I := Cert.KernelIdeal.Blk.allIns (K c)
    exact ⟨h7.trans (Cert.KernelIdeal.Blk.arr7 I), h8.trans (Cert.KernelIdeal.Blk.arr8 I), h9.trans (Cert.KernelIdeal.Blk.arr9 I), h⟩
  · refine (θ_run Cert.ReferenceIdeal.defs _ _).mono (fun r h c => ?_) (Cert.ReferenceIdeal.Value.run (F := Ideal) m' ρ')
    obtain ⟨h7, h8, h9, h⟩ := h c
    obtain ⟨a0, a1, a2, a3, a4, a5⟩ := hagree c
    have S : Cert.ReferenceIdeal.Math.Same (A c) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) :=
      ⟨fun _ _ => congrFun a0 _, fun _ _ => congrFun a1 _, fun _ _ => congrFun a2 _, fun _ => congrFun a3 _, fun _ _ => congrFun a4 _,
        fun _ _ => congrFun a5 _⟩
    exact ⟨(h7.trans (Cert.ReferenceIdeal.Read.val_main_v113_eq (StableHlo.launchContents m' c))).trans (ref7 S),
      (h8.trans (Cert.ReferenceIdeal.Read.val_main_v110_eq (StableHlo.launchContents m' c))).trans (ref8 S),
      (h9.trans (Cert.ReferenceIdeal.Read.val_main_v118_eq (StableHlo.launchContents m' c))).trans (ref9 S), h⟩

end Cert.Join

end
-- ==== Proof.DownGrad.lean ====
module

public import proofs.«01_k».proof.Proof.Gen.Kernel2Ideal.Value
public import proofs.«01_k».proof.Proof.Gen.Reference2Ideal.Read
public import proofs.«01_k».proof.Proof.Gen.Kernel2.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The gradient of the down projection's weight: a product over all the rows, a row block of the weight at a time, its column halves
apart. -/

set_option maxRecDepth 16384

noncomputable section

namespace Cert.Kernel2Ideal.Blk

open Cert.Kernel2Ideal Cert.Kernel2Ideal.Gen Idealize.ShloMosaic Idealize.ShloMosaic.TcCoe Idealize.SL.Sem

/-- The gradient of the weight's entry in row `k` and column `c`: the sum over the rows of input times cotangent. -/
def entry (y : S4096x4096.Idx → EReal) (d : S4096x1024.Idx → EReal) (k : Fin 4096) (c : Fin 1024) : EReal :=
  ∑ r : Fin 4096, y (ix2 r k) * d (ix2 r c)

/-- The array of the two column halves. -/
def G (y : S4096x4096.Idx → EReal) (d : S4096x1024.Idx → EReal) (i : S2x4096x512.Idx) : EReal :=
  entry y d (i 1) ⟨512 * (i 0).val + (i 2).val, by
    have h0 : (i 0).val < 2 := (i 0).isLt
    have h2 : (i 2).val < 512 := (i 2).isLt
    omega⟩

theorem pay_at (d a : Vec Ideal S4096x1024 .bf16) (k c : Fin 1024) :
    k0_pay1 d a (ix2 k c) = ∑ r : Fin 4096, a (ix2 r k) * d (ix2 r c) := by
  pointwise [k0_pay1]

theorem out_at (a d : Vec Ideal S4096x1024 .bf16) (h : Fin 2) (k : Fin 1024) (c : Fin 512) :
    out0_2 a d (ix3 h k c) = ∑ r : Fin 4096, a (ix2 r k) * d (ix2 r ⟨h.val * 512 + c.val, by omega⟩) := by
  unfold out0_2
  rw [Value.canon2_eq,
    View.ld_unit_zero (S := S4096x1024) (off := ![0, 0]) (by funext a; fin_cases a <;> rfl),
    View.ld_unit_zero (S := S4096x1024) (off := ![0, 0]) (by funext a; fin_cases a <;> rfl)]
  refine Eq.trans ?_ (pay_at d a k ⟨h.val * 512 + c.val, by omega⟩)
  show k0_pay1 d a (Value.ix2_0 (ix3 h k c)) = _
  refine congrArg _ ?_
  ext b; fin_cases b <;> rfl

variable (m : (ℓ : Loc nD τ sig) → Buf (Elt Ideal) ℓ) (c : Dev nD)

theorem V0_at (r k : Fin 4096) : V m c main_v0 (ix2 r k) = m ((c : Thread nD τ).loc main_arg0) (ix2 r k) := by
  unfold V
  after_reads_at

theorem V1_at (r : Fin 4096) (k : Fin 1024) : V m c main_v1 (ix2 r k) = m ((c : Thread nD τ).loc main_arg1) (ix2 r k) := by
  unfold V
  after_reads_at

theorem idx0 : ∀ t : Fin grid0.N, win0_0.index t = ![0, t.val] := by decide +kernel
theorem idx1 : ∀ t : Fin grid0.N, win0_1.index t = ![0, 0] := by decide +kernel
theorem idx2 : ∀ t : Fin grid0.N, win0_2.index t = ![0, t.val, 0] := by decide +kernel

theorem blk0_at (t : Fin cfg0.N) (r : Fin 4096) (k : Fin 1024) :
    iblk m c 0 t (ix2 r k) = m ((c : Thread nD τ).loc main_arg0) (ix2 r ⟨1024 * t.val + k.val, by have : t.val < 4 := t.isLt; omega⟩) := by
  have ht : t.val < 4 := t.isLt
  have e : iblk m c 0 t (ix2 r k) = V m c main_v0 (ix2 r ⟨1024 * t.val + k.val, by omega⟩) := by
    blk_ext [iblk, idx0 t]
  exact e.trans (V0_at m c _ _)

theorem blk1_at (t : Fin cfg0.N) (r : Fin 4096) (k : Fin 1024) :
    iblk m c 1 t (ix2 r k) = m ((c : Thread nD τ).loc main_arg1) (ix2 r k) := by
  have e : iblk m c 1 t (ix2 r k) = V m c main_v1 (ix2 r k) := by
    blk_ext [iblk, idx1 t]
  exact e.trans (V1_at m c r k)

theorem emb2 (t : Fin cfg0.N) (y : S2x1024x512.Idx) (i : S2x4096x512.Idx) (h : i = (win0_2.blk t).view.emb y) :
    (i 0).val = (y 0).val ∧ (i 1).val = 1024 * t.val + (y 1).val ∧ (i 2).val = (y 2).val := by
  subst h
  blk_simp [idx2 t]
  refine ⟨?_, ?_, ?_⟩ <;> simp <;> omega

theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1, e2⟩ := emb2 t y _ rfl
  have q : (y : S2x1024x512.Idx) = ix3 (y 0) (y 1) (y 2) := by ext a; fin_cases a <;> rfl
  refine ((congrArg _ q).trans (out_at _ _ (y 0) (y 1) (y 2))).trans ?_
  unfold G entry
  refine Finset.sum_congr rfl fun r _ => congrArg₂ (· * ·) ((blk0_at m c t r _).trans ?_) ((blk1_at m c t r _).trans ?_)
  · exact congrArg (fun x => m ((c : Thread nD τ).loc main_arg0) (ix2 r x)) (Fin.ext e1.symm)
  · refine congrArg (fun x => m ((c : Thread nD τ).loc main_arg1) (ix2 r x)) (Fin.ext ?_)
    show (y 0).val * 512 + (y 2).val = 512 * _ + _
    rw [e0, e2]
    omega

end Cert.Kernel2Ideal.Blk

namespace Cert.DownGrad

open Idealize.ShloMosaic Idealize.ShloMosaic.TcCoe Idealize.SL.Sem

open Cert.Reference2Ideal Cert.Reference2Ideal.Read in
theorem ref (h : Cert.Reference2Ideal.S4096x4096.Idx → EReal) (d : Cert.Reference2Ideal.S4096x1024.Idx → EReal) :
    Cert.Reference2Ideal.Read.val_main_v6 (F := Ideal) h d = Cert.Kernel2Ideal.Blk.G h d := by
  funext y
  have e : val_main_v6 (F := Ideal) h d (ix3 (y 0) (y 1) (y 2)) = Cert.Kernel2Ideal.Blk.G h d (ix3 (y 0) (y 1) (y 2)) := by
    pointwise [val_main_v6, val_main_v5, val_main_v4, val_main_v3, val_main_v2]
    unfold Cert.Kernel2Ideal.Blk.G Cert.Kernel2Ideal.Blk.entry
    refine Finset.sum_congr rfl fun r _ => (mul_comm _ _).trans (congrArg₂ (· * ·) rfl (congrArg (fun x => d (ix2 r x)) (Fin.ext ?_)))
    show (y 0).val * 512 + (y 2).val = 512 * (y 0).val + (y 2).val
    omega
  have q : (y : S2x4096x512.Idx) = ix3 (y 0) (y 1) (y 2) := by ext a; fin_cases a <;> rfl
  exact ((congrArg _ q).trans e).trans (congrArg _ q.symm)

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => Cert.Kernel2Ideal.Blk.G (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), ?_, ?_⟩
  · refine (θ_run Cert.Kernel2Ideal.defs _ _).mono (fun r h c => ?_) (Cert.Kernel2Ideal.Value.run_blocks m ρ)
    obtain ⟨h2, h⟩ := h c
    exact ⟨h2.trans (Cert.Kernel2Ideal.Blk.arr m c), h⟩
  · refine (θ_run Cert.Reference2Ideal.defs _ _).mono (fun r h c => ?_) (Cert.Reference2Ideal.Value.run (F := Ideal) m' ρ')
    obtain ⟨h2, h⟩ := h c
    obtain ⟨a0, a1⟩ := hagree c
    refine ⟨((h2.trans (Cert.Reference2Ideal.Read.val_main_v6_eq _ _)).trans (ref _ _)).trans ?_, h⟩
    exact congrArg₂ Cert.Kernel2Ideal.Blk.G a0 a1

end Cert.DownGrad

end
-- ==== Proof.UpGrad.lean ====
module

public import proofs.«01_k».proof.Proof.Gen.Kernel3Ideal.Value
public import proofs.«01_k».proof.Proof.Gen.Reference3Ideal.Read
public import proofs.«01_k».proof.Proof.Gen.Kernel3.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The gradient of the up projection's weight: a product over all the rows, a column block at a time, laid out by the four pieces
of the weight. -/

set_option maxRecDepth 16384

noncomputable section

namespace Cert.Kernel3Ideal.Blk

open Cert.Kernel3Ideal Cert.Kernel3Ideal.Gen Idealize.ShloMosaic Idealize.ShloMosaic.TcCoe Idealize.SL.Sem

/-- The gradient of the weight's entry in row `k` and column `c`: the sum over the rows of input times cotangent. -/
def entry (h : S4096x1024.Idx → EReal) (d : S4096x8192.Idx → EReal) (k : Fin 1024) (c : Fin 8192) : EReal :=
  ∑ r : Fin 4096, h (ix2 r k) * d (ix2 r c)

/-- The array of the four pieces. -/
def G (h : S4096x1024.Idx → EReal) (d : S4096x8192.Idx → EReal) (y : S4x1024x2048.Idx) : EReal :=
  entry h d (y 1) ⟨2048 * (y 0).val + (y 2).val, by
    have h0 : (y 0).val < 4 := (y 0).isLt
    have h2 : (y 2).val < 2048 := (y 2).isLt
    omega⟩

theorem pay_at (v : Vec Ideal S1x4096x1024 .bf16) (a : Vec Ideal S4096x1024 .bf16) (k c : Fin 1024) :
    k0_pay1 v a (ix3 0 k c) = ∑ r : Fin 4096, a (ix2 r k) * v (ix3 0 r c) := by
  pointwise [k0_pay1]

theorem out_at (a : Vec Ideal S4096x1024 .bf16) (v : Vec Ideal S1x4096x1024 .bf16) (k c : Fin 1024) :
    out0_2 a v (ix3 0 k c) = ∑ r : Fin 4096, a (ix2 r k) * v (ix3 0 r c) := by
  unfold out0_2
  rw [View.canon_unit_zero (S := S1x1024x1024) (off := ![0, 0, 0]) (by funext a; fin_cases a <;> rfl),
    View.ld_unit_zero (S := S1x4096x1024) (off := ![0, 0, 0]) (by funext a; fin_cases a <;> rfl),
    View.ld_unit_zero (S := S4096x1024) (off := ![0, 0]) (by funext a; fin_cases a <;> rfl)]
  exact pay_at v a k c

variable (m : (ℓ : Loc nD τ sig) → Buf (Elt Ideal) ℓ) (c : Dev nD)

theorem V3_at (r : Fin 4096) (k : Fin 1024) : V m c main_v3 (ix2 r k) = m ((c : Thread nD τ).loc main_arg0) (ix2 r k) := by
  unfold V
  after_reads_at

theorem V2_at (h : Fin 2) (r q : Fin 4096) :
    V m c main_v2 (ix3 h r q) = m ((c : Thread nD τ).loc main_arg1) (ix2 r ⟨h.val * 4096 + q.val, by omega⟩) := by
  unfold V
  after_reads_at

theorem idx0 : ∀ t : Fin grid0.N, win0_0.index t = ![0, 0] := by decide +kernel
theorem idx1 : ∀ t : Fin grid0.N, win0_1.index t = ![t.val / 4, 0, t.val % 4] := by decide +kernel
theorem idx2 : ∀ t : Fin grid0.N, win0_2.index t = ![t.val / 2, 0, t.val % 2] := by decide +kernel

theorem blk0_at (t : Fin cfg0.N) (r : Fin 4096) (k : Fin 1024) :
    iblk m c 0 t (ix2 r k) = m ((c : Thread nD τ).loc main_arg0) (ix2 r k) := by
  have e : iblk m c 0 t (ix2 r k) = V m c main_v3 (ix2 r k) := by
    blk_ext [iblk, idx0 t]
  exact e.trans (V3_at m c r k)

theorem blk1_at (t : Fin cfg0.N) (r : Fin 4096) (q : Fin 1024) :
    iblk m c 1 t (ix3 0 r q) = m ((c : Thread nD τ).loc main_arg1) (ix2 r ⟨1024 * t.val + q.val, by have : t.val < 8 := t.isLt; omega⟩) := by
  have ht : t.val < 8 := t.isLt
  have e : iblk m c 1 t (ix3 0 r q) = V m c main_v2 (ix3 ⟨t.val / 4, by omega⟩ r ⟨1024 * (t.val % 4) + q.val, by omega⟩) := by
    blk_ext [iblk, idx1 t]
  refine (e.trans (V2_at m c _ _ _)).trans (congrArg (fun x => m ((c : Thread nD τ).loc main_arg1) (ix2 r x)) (Fin.ext ?_))
  show t.val / 4 * 4096 + (1024 * (t.val % 4) + q.val) = 1024 * t.val + q.val
  omega

theorem emb2 (t : Fin cfg0.N) (y : S1x1024x1024.Idx) (i : S4x1024x2048.Idx) (h : i = (win0_2.blk t).view.emb y) :
    (i 0).val = t.val / 2 ∧ (i 1).val = (y 1).val ∧ (i 2).val = 1024 * (t.val % 2) + (y 2).val := by
  subst h
  blk_simp [idx2 t]
  have h0 : (y 0).val < 1 := (y 0).isLt
  refine ⟨?_, ?_, ?_⟩ <;> simp <;> omega

theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1, e2⟩ := emb2 t y _ rfl
  have q : (y : S1x1024x1024.Idx) = ix3 0 (y 1) (y 2) := by
    ext a; fin_cases a
    · have h0 : (y 0).val < 1 := (y 0).isLt
      show (y 0).val = 0
      omega
    · rfl
    · rfl
  refine ((congrArg _ q).trans (out_at _ _ (y 1) (y 2))).trans ?_
  unfold G entry
  refine Finset.sum_congr rfl fun r _ => congrArg₂ (· * ·) ((blk0_at m c t r _).trans ?_) ((blk1_at m c t r _).trans ?_)
  · exact congrArg (fun x => m ((c : Thread nD τ).loc main_arg0) (ix2 r x)) (Fin.ext e1.symm)
  · refine congrArg (fun x => m ((c : Thread nD τ).loc main_arg1) (ix2 r x)) (Fin.ext ?_)
    show 1024 * t.val + (y 2).val = 2048 * _ + _
    rw [e0, e2]
    omega

end Cert.Kernel3Ideal.Blk

namespace Cert.UpGrad

open Idealize.ShloMosaic Idealize.ShloMosaic.TcCoe Idealize.SL.Sem

open Cert.Reference3Ideal Cert.Reference3Ideal.Read in
theorem ref (h : Cert.Reference3Ideal.S4096x1024.Idx → EReal) (d : Cert.Reference3Ideal.S4096x8192.Idx → EReal) :
    Cert.Reference3Ideal.Read.val_main_v6 (F := Ideal) h d = Cert.Kernel3Ideal.Blk.G h d := by
  funext y
  have e : val_main_v6 (F := Ideal) h d (ix3 (y 0) (y 1) (y 2)) = Cert.Kernel3Ideal.Blk.G h d (ix3 (y 0) (y 1) (y 2)) := by
    pointwise [val_main_v6, val_main_v5, val_main_v4, val_main_v3, val_main_v2]
    unfold Cert.Kernel3Ideal.Blk.G Cert.Kernel3Ideal.Blk.entry
    refine Finset.sum_congr rfl fun r _ => (mul_comm _ _).trans (congrArg₂ (· * ·) rfl (congrArg (fun x => d (ix2 r x)) (Fin.ext ?_)))
    show (y 0).val * 2048 + (y 2).val = 2048 * (y 0).val + (y 2).val
    omega
  have q : (y : S4x1024x2048.Idx) = ix3 (y 0) (y 1) (y 2) := by ext a; fin_cases a <;> rfl
  exact ((congrArg _ q).trans e).trans (congrArg _ q.symm)

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => Cert.Kernel3Ideal.Blk.G (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · refine (θ_run Cert.Kernel3Ideal.defs _ _).mono (fun r h c => ?_) (Cert.Kernel3Ideal.Value.run_blocks m ρ)
    obtain ⟨h2, h⟩ := h c
    exact ⟨h2.trans (Cert.Kernel3Ideal.Blk.arr m c), h⟩
  · refine (θ_run Cert.Reference3Ideal.defs _ _).mono (fun r h c => ?_) (Cert.Reference3Ideal.Value.run (F := Ideal) m' ρ')
    obtain ⟨h2, h⟩ := h c
    obtain ⟨a0, a1⟩ := hagree c
    refine ⟨((h2.trans (Cert.Reference3Ideal.Read.val_main_v6_eq _ _)).trans (ref _ _)).trans ?_, h⟩
    exact congrArg₂ Cert.Kernel3Ideal.Blk.G a0 a1

end Cert.UpGrad

end
-- ==== Proof.FwdOps.lean ====
module

public import proofs.«01_k».proof.Proof.Gen.Kernel4Ideal.Frame

@[expose] public section

/-! The vocabulary of one grid point of the forward call: what the body computes from a chunk of 256 rows, and what it loads. -/

noncomputable section

namespace Cert.Kernel4Ideal.Fwd

open Cert.Kernel4Ideal Cert.Kernel4Ideal.Gen Idealize.ShloMosaic Idealize.SL.Sem

variable {F : FTy → Type} [FloatOps F] [Named F]

/-- The up projection of a chunk, one half of its columns. -/
def upv (a : Vec F S256x1024 .bf16) (w : Vec F S1x1x1024x512 .bf16) : FVec F S256x512 .bf16 :=
  truncf .bf16
    (matmul dot_S256x1024_S1024x512_S256x512_1_0_0_1_n_n none (shapeCast S256x1024 a shapeCasts_S256x1024_S256x1024)
      (shapeCast S1024x512 w shapeCasts_S1x1x1024x512_S1024x512) (constant S256x512 .f32 0x00000000#32))
    bitsLt_bf16_f32

/-- A chunk widened. -/
def wide (v : FVec F S256x512 .bf16) : FVec F S256x512 .f32 := extf .f32 v bitsLt_bf16_f32

/-- Row `n` of the sixteen rows carried, as a masked sum. -/
def rowOf (n : BitVec 32) (h : FVec F S16x512 .f32) : FVec F S1x512 .f32 :=
  shapeCast S1x512
    (multiReduction .add [0] S512
      (select
        (broadcastTo S16x512
          (shapeCast S16x1 (cmpi .eq (iota .tc S16x1 32 [0] iota_S16x1_d0_w32) (broadcast S16x1 n)) shapeCasts_S16x1_S16x1)
          broadcasts_S16x1_S16x512)
        h (broadcast S16x512 (Scalar.ofBits .f32 0x00000000#32)))
      0x00000000#32 reduces_S16x512_S512 (.inl rfl) rfl)
    shapeCasts_S512_S1x512

/-- Row `n` replaced by `r`. -/
def pick (n : BitVec 32) (r : FVec F S1x512 .f32) (z : FVec F S256x512 .f32) : FVec F S256x512 .f32 :=
  select
    (broadcastTo S256x512
      (shapeCast S256x1 (cmpi .eq (iota .tc S256x1 32 [0] iota_S256x1_d0_w32) (broadcast S256x1 n)) shapeCasts_S256x1_S256x1)
      broadcasts_S256x1_S256x512)
    (broadcastTo S256x512 (shapeCast S1x512 r shapeCasts_S1x512_S1x512) broadcasts_S1x512_S256x512) z

/-- The rows one back. -/
def before1 (h : FVec F S16x512 .f32) (x : FVec F S256x512 .f32) : FVec F S256x512 .f32 :=
  pick 0#32 (rowOf 15#32 h) (dynamicRotate 0 1#32 none x rotates_S256x512_d0)

/-- The rows two back. -/
def before2 (h : FVec F S16x512 .f32) (x : FVec F S256x512 .f32) : FVec F S256x512 .f32 :=
  pick 0#32 (rowOf 14#32 h) (pick 1#32 (rowOf 15#32 h) (dynamicRotate 0 2#32 none x rotates_S256x512_d0))

/-- The last sixteen rows. -/
def bot (x : FVec F S256x512 .f32) : FVec F S16x512 .f32 :=
  extractStridedSlice S16x512 ![240, 0] x slices_S256x512_o240_0_S16x512

/-- A row of the filter or of the bias down the rows. -/
def down (w : Vec F S1x1x512 .f32) : FVec F S256x512 .f32 :=
  broadcastTo S256x512 (shapeCast S1x512 w shapeCasts_S1x1x512_S1x512) broadcasts_S1x512_S256x512

/-- The convolution of a chunk. -/
def conv (h : FVec F S16x512 .f32) (x : FVec F S256x512 .f32) (b w0 w1 w2 : Vec F S1x1x512 .f32) : FVec F S256x512 .f32 :=
  addf (addf (addf (down b) (mulf (down w0) (before2 h x))) (mulf (down w1) (before1 h x))) (mulf (down w2) x)

/-- The gate's inner function. -/
def inner (x : FVec F S256x512 .f32) : FVec F S256x512 .f32 :=
  tanh (mulf x (addf (broadcast S256x512 (Scalar.ofBits .f32 0x3F4C422A#32))
    (mulf (broadcast S256x512 (Named.named κ "gelu_ca" 0x3D122279#32)) (mulf x x))))

/-- Half of the gate. -/
def half (x : FVec F S256x512 .f32) : FVec F S256x512 .f32 :=
  mulf (broadcast S256x512 (Scalar.ofBits .f32 0x3F000000#32)) x

/-- The gated product. -/
def gated (g v : FVec F S256x512 .f32) : FVec F S256x512 .bf16 :=
  truncf .bf16 (mulf (addf (half g) (mulf (half g) (inner g))) v) bitsLt_bf16_f32

/-- A product with the down projection's weight added on. -/
def part (z : Vec F S256x1024 .f32) (y : FVec F S256x512 .bf16) (w : Vec F S1x1x512x1024 .bf16) : FVec F S256x1024 .f32 :=
  addf (shapeCast S256x1024 z shapeCasts_S256x1024_S256x1024)
    (matmul dot_S256x512_S512x1024_S256x1024_1_0_0_1_n_n none y
      (shapeCast S512x1024 w shapeCasts_S1x1x512x1024_S512x1024) (constant S256x1024 .f32 0x00000000#32))

/-! The loads. -/

theorem inb2 (o : ℕ) (ho : o + 256 ≤ 1024) : ∀ a, (![o, 0] : Fin 2 → ℕ) a + S256x1024.size a ≤ S1024x1024.size a := by
  intro a; match a with
  | 0 => simpa using ho
  | 1 => simp

theorem inby (o : ℕ) (ho : o + 256 ≤ 1024) : ∀ a, (![o, 0] : Fin 2 → ℕ) a + S256x512.size a ≤ S1024x512.size a := by
  intro a; match a with
  | 0 => simpa using ho
  | 1 => simp

theorem inb3 (hh o : ℕ) (hhh : hh < 2) (ho : o + 256 ≤ 1024) :
    ∀ a, (![hh, o, 0] : Fin 3 → ℕ) a + S1x256x512.size a ≤ S2x1024x512.size a := by
  intro a; match a with
  | 0 => simp; omega
  | 1 => simpa using ho
  | 2 => simp

theorem inbw (hh k : ℕ) (hhh : hh < 2) (hk : k < 3) :
    ∀ a, (![hh, k, 0] : Fin 3 → ℕ) a + S1x1x512.size a ≤ S2x3x512.size a := by
  intro a; match a with
  | 0 => simp; omega
  | 1 => simp; omega
  | 2 => simp

theorem inbb (hh : ℕ) (hhh : hh < 2) : ∀ a, (![hh, 0, 0] : Fin 3 → ℕ) a + S1x1x512.size a ≤ S2x1x512.size a := by
  intro a; match a with
  | 0 => simp; omega
  | 1 => simp
  | 2 => simp

def rowsL (o : ℕ) (ho : o + 256 ≤ 1024) {e : EltTy} (x : Vec F S1024x1024 e) : Vec F S256x1024 e :=
  View.ld x (Rect.unit ![o, 0] S256x1024.size (inb2 o ho))

def tapL (hh k : ℕ) (hhh : hh < 2) (hk : k < 3) (x : Vec F S2x3x512 .f32) : Vec F S1x1x512 .f32 :=
  View.ld x (Rect.unit ![hh, k, 0] S1x1x512.size (inbw hh k hhh hk))

def biasL (hh : ℕ) (hhh : hh < 2) (x : Vec F S2x1x512 .f32) : Vec F S1x1x512 .f32 :=
  View.ld x (Rect.unit ![hh, 0, 0] S1x1x512.size (inbb hh hhh))

/-- The down projection's block, loaded whole. -/
def downL (x : Vec F S1x1x512x1024 .bf16) : Vec F S1x1x512x1024 .bf16 :=
  View.ld x (Rect.unit ![0, 0, 0, 0] S1x1x512x1024.size inb_S1x1x512x1024_S1x1x512x1024_0_0_0_0)

/-- The up projection's block, loaded whole. -/
def upL (x : Vec F S1x1x1024x512 .bf16) : Vec F S1x1x1024x512 .bf16 :=
  View.ld x (Rect.unit ![0, 0, 0, 0] S1x1x1024x512.size inb_S1x1x1024x512_S1x1x1024x512_0_0_0_0)

/-- The up projection of the rows from `o`; `w` is the weight's block of one half. -/
def upAt (o : ℕ) (ho : o + 256 ≤ 1024) (x0 : Vec F S1024x1024 .bf16) (w : Vec F S1x1x1024x512 .bf16) : FVec F S256x512 .bf16 :=
  upv (rowsL o ho x0) (upL w)

/-- The last rows of the up projection of the rows from `o`. -/
def tail (o : ℕ) (ho : o + 256 ≤ 1024) (x0 : Vec F S1024x1024 .bf16) (w : Vec F S1x1x1024x512 .bf16) : FVec F S16x512 .f32 :=
  bot (wide (upAt o ho x0 w))

/-- The convolution of the rows from `o`, half `hh`. -/
def cvAt (hh o : ℕ) (hhh : hh < 2) (ho : o + 256 ≤ 1024) (h : FVec F S16x512 .f32) (x0 : Vec F S1024x1024 .bf16)
    (w : Vec F S1x1x1024x512 .bf16) (x4 : Vec F S2x3x512 .f32) (x5 : Vec F S2x1x512 .f32) : FVec F S256x512 .f32 :=
  conv h (wide (upAt o ho x0 w)) (biasL hh hhh x5) (tapL hh 0 hhh (by omega) x4) (tapL hh 1 hhh (by omega) x4)
    (tapL hh 2 hhh (by omega) x4)

/-- The gated product of the rows from `o`. -/
def yAt (o : ℕ) (ho : o + 256 ≤ 1024) (h0 h1 : FVec F S16x512 .f32) (x0 : Vec F S1024x1024 .bf16)
    (x1 x2 : Vec F S1x1x1024x512 .bf16) (x4 : Vec F S2x3x512 .f32) (x5 : Vec F S2x1x512 .f32) : FVec F S256x512 .bf16 :=
  gated (cvAt 0 o (by omega) ho h0 x0 x1 x4 x5) (cvAt 1 o (by omega) ho h1 x0 x2 x4 x5)

/-- The output in the rows from `o`, from what they held. -/
def fAt (o : ℕ) (ho : o + 256 ≤ 1024) (z : Vec F S256x1024 .f32) (h0 h1 : FVec F S16x512 .f32) (x0 : Vec F S1024x1024 .bf16)
    (x1 x2 : Vec F S1x1x1024x512 .bf16) (x3 : Vec F S1x1x512x1024 .bf16) (x4 : Vec F S2x3x512 .f32) (x5 : Vec F S2x1x512 .f32) :
    FVec F S256x1024 .f32 :=
  part z (yAt o ho h0 h1 x0 x1 x2 x4 x5) (downL x3)

/-! The stores of one point, last first. -/

def piece6 (o : ℕ) (ho : o + 256 ≤ 1024) (h0 h1 : FVec F S16x512 .f32) (x0 : Vec F S1024x1024 .bf16)
    (x1 x2 : Vec F S1x1x1024x512 .bf16) (x4 : Vec F S2x3x512 .f32) (x5 : Vec F S2x1x512 .f32) :
    View.Piece (Elt F) S1024x512 .bf16 :=
  ⟨Rect.unit ![o, 0] S256x512.size (inby o ho), yAt o ho h0 h1 x0 x1 x2 x4 x5⟩

def L6 (c0 c1 : FVec F S16x512 .f32) (x0 : Vec F S1024x1024 .bf16) (x1 x2 : Vec F S1x1x1024x512 .bf16)
    (x4 : Vec F S2x3x512 .f32) (x5 : Vec F S2x1x512 .f32) : List (View.Piece (Elt F) S1024x512 .bf16) :=
  [piece6 768 (by omega) (tail 512 (by omega) x0 x1) (tail 512 (by omega) x0 x2) x0 x1 x2 x4 x5,
   piece6 512 (by omega) (tail 256 (by omega) x0 x1) (tail 256 (by omega) x0 x2) x0 x1 x2 x4 x5,
   piece6 256 (by omega) (tail 0 (by omega) x0 x1) (tail 0 (by omega) x0 x2) x0 x1 x2 x4 x5,
   piece6 0 (by omega) c0 c1 x0 x1 x2 x4 x5]

def piece7 (hh o : ℕ) (hhh : hh < 2) (ho : o + 256 ≤ 1024) (x0 : Vec F S1024x1024 .bf16) (w : Vec F S1x1x1024x512 .bf16) :
    View.Piece (Elt F) S2x1024x512 .bf16 :=
  ⟨Rect.unit ![hh, o, 0] S1x256x512.size (inb3 hh o hhh ho),
    shapeCast S1x256x512 (upAt o ho x0 w) shapeCasts_S256x512_S1x256x512⟩

def L7 (x0 : Vec F S1024x1024 .bf16) (x1 x2 : Vec F S1x1x1024x512 .bf16) : List (View.Piece (Elt F) S2x1024x512 .bf16) :=
  [piece7 1 768 (by omega) (by omega) x0 x2, piece7 0 768 (by omega) (by omega) x0 x1,
   piece7 1 512 (by omega) (by omega) x0 x2, piece7 0 512 (by omega) (by omega) x0 x1,
   piece7 1 256 (by omega) (by omega) x0 x2, piece7 0 256 (by omega) (by omega) x0 x1,
   piece7 1 0 (by omega) (by omega) x0 x2, piece7 0 0 (by omega) (by omega) x0 x1]

def piece8 (hh o : ℕ) (hhh : hh < 2) (ho : o + 256 ≤ 1024) (h : FVec F S16x512 .f32) (x0 : Vec F S1024x1024 .bf16)
    (w : Vec F S1x1x1024x512 .bf16) (x4 : Vec F S2x3x512 .f32) (x5 : Vec F S2x1x512 .f32) :
    View.Piece (Elt F) S2x1024x512 .bf16 :=
  ⟨Rect.unit ![hh, o, 0] S1x256x512.size (inb3 hh o hhh ho),
    shapeCast S1x256x512 (truncf .bf16 (cvAt hh o hhh ho h x0 w x4 x5) bitsLt_bf16_f32) shapeCasts_S256x512_S1x256x512⟩

def L8 (c0 c1 : FVec F S16x512 .f32) (x0 : Vec F S1024x1024 .bf16) (x1 x2 : Vec F S1x1x1024x512 .bf16)
    (x4 : Vec F S2x3x512 .f32) (x5 : Vec F S2x1x512 .f32) : List (View.Piece (Elt F) S2x1024x512 .bf16) :=
  [piece8 1 768 (by omega) (by omega) (tail 512 (by omega) x0 x2) x0 x2 x4 x5,
   piece8 0 768 (by omega) (by omega) (tail 512 (by omega) x0 x1) x0 x1 x4 x5,
   piece8 1 512 (by omega) (by omega) (tail 256 (by omega) x0 x2) x0 x2 x4 x5,
   piece8 0 512 (by omega) (by omega) (tail 256 (by omega) x0 x1) x0 x1 x4 x5,
   piece8 1 256 (by omega) (by omega) (tail 0 (by omega) x0 x2) x0 x2 x4 x5,
   piece8 0 256 (by omega) (by omega) (tail 0 (by omega) x0 x1) x0 x1 x4 x5,
   piece8 1 0 (by omega) (by omega) c1 x0 x2 x4 x5,
   piece8 0 0 (by omega) (by omega) c0 x0 x1 x4 x5]

/-- A store of the output. -/
def piece9 (o : ℕ) (ho : o + 256 ≤ 1024) (z : Vec F S256x1024 .f32) (h0 h1 : FVec F S16x512 .f32) (x0 : Vec F S1024x1024 .bf16)
    (x1 x2 : Vec F S1x1x1024x512 .bf16) (x3 : Vec F S1x1x512x1024 .bf16) (x4 : Vec F S2x3x512 .f32) (x5 : Vec F S2x1x512 .f32) :
    View.Piece (Elt F) S1024x1024 .f32 :=
  ⟨Rect.unit ![o, 0] S256x1024.size (inb2 o ho), fAt o ho z h0 h1 x0 x1 x2 x3 x4 x5⟩

/-- The rows carried, as loaded. -/
def carried (z : Vec F S1x1x16x512 .f32) : FVec F S16x512 .f32 := shapeCast S16x512 z shapeCasts_S1x1x16x512_S16x512

/-- The rows carried, as stored. -/
def carryAt (z : FVec F S16x512 .f32) : Vec F S1x1x16x512 .f32 := shapeCast S1x1x16x512 z shapeCasts_S16x512_S1x1x16x512

def c1R (i : grid0.Coords) : Rect S8x2x16x512 := Rect.unit (k0_off1 i) S1x1x16x512.size (k0_off1_inb i)
def c2R (i : grid0.Coords) : Rect S8x2x16x512 := Rect.unit (k0_off2 i) S1x1x16x512.size (k0_off2_inb i)

/-- The whole of the output's block set to zero, and the whole of the rows carried. -/
def Z9 : List (View.Piece (Elt F) S1024x1024 .f32) :=
  [⟨Rect.unit ![0, 0] S1024x1024.size inb_S1024x1024_S1024x1024_0_0, k0_pay5⟩]

def ZS : List (View.Piece (Elt F) S8x2x16x512 .f32) :=
  [⟨Rect.unit ![0, 0, 0, 0] S8x2x16x512.size inb_S8x2x16x512_S8x2x16x512_0_0_0_0, k0_pay4⟩]

/-- What the rows from `o` hold after the stores `L`. -/
def cov9 (v : View sig .tc .vmem S1024x1024 .f32) (L : List (View.Piece (Elt F) S1024x1024 .f32)) (o : ℕ) (ho : o + 256 ≤ 1024) :
    Vec F S256x1024 .f32 :=
  v.readCov L (Rect.unit (s := S1024x1024) ![o, 0] S256x1024.size (inb2 o ho)).toLoadRect

section
variable (v : View sig .tc .vmem S1024x1024 .f32) (c0 c1 : FVec F S16x512 .f32) (x0 : Vec F S1024x1024 .bf16)
  (x1 x2 : Vec F S1x1x1024x512 .bf16) (x3 : Vec F S1x1x512x1024 .bf16) (x4 : Vec F S2x3x512 .f32) (x5 : Vec F S2x1x512 .f32)

/-- The stores of the output over a block that was set to zero, chunk by chunk. -/
def K1 : List (View.Piece (Elt F) S1024x1024 .f32) :=
  piece9 0 (by omega) (cov9 v Z9 0 (by omega)) c0 c1 x0 x1 x2 x3 x4 x5 :: Z9
def K2 : List (View.Piece (Elt F) S1024x1024 .f32) :=
  piece9 256 (by omega) (cov9 v (K1 v c0 c1 x0 x1 x2 x3 x4 x5) 256 (by omega)) (tail 0 (by omega) x0 x1) (tail 0 (by omega) x0 x2)
    x0 x1 x2 x3 x4 x5 :: K1 v c0 c1 x0 x1 x2 x3 x4 x5
def K3 : List (View.Piece (Elt F) S1024x1024 .f32) :=
  piece9 512 (by omega) (cov9 v (K2 v c0 c1 x0 x1 x2 x3 x4 x5) 512 (by omega)) (tail 256 (by omega) x0 x1) (tail 256 (by omega) x0 x2)
    x0 x1 x2 x3 x4 x5 :: K2 v c0 c1 x0 x1 x2 x3 x4 x5
def K4 : List (View.Piece (Elt F) S1024x1024 .f32) :=
  piece9 768 (by omega) (cov9 v (K3 v c0 c1 x0 x1 x2 x3 x4 x5) 768 (by omega)) (tail 512 (by omega) x0 x1) (tail 512 (by omega) x0 x2)
    x0 x1 x2 x3 x4 x5 :: K3 v c0 c1 x0 x1 x2 x3 x4 x5

/-- The stores of the output over what the block held. -/
def L9 (z : Vec F S1024x1024 .f32) : List (View.Piece (Elt F) S1024x1024 .f32) :=
  [piece9 768 (by omega) (rowsL 768 (by omega) z) (tail 512 (by omega) x0 x1) (tail 512 (by omega) x0 x2) x0 x1 x2 x3 x4 x5,
   piece9 512 (by omega) (rowsL 512 (by omega) z) (tail 256 (by omega) x0 x1) (tail 256 (by omega) x0 x2) x0 x1 x2 x3 x4 x5,
   piece9 256 (by omega) (rowsL 256 (by omega) z) (tail 0 (by omega) x0 x1) (tail 0 (by omega) x0 x2) x0 x1 x2 x3 x4 x5,
   piece9 0 (by omega) (rowsL 0 (by omega) z) c0 c1 x0 x1 x2 x3 x4 x5]
end

/-- The stores of the rows carried. -/
def LS (i : grid0.Coords) (x0 : Vec F S1024x1024 .bf16) (x1 x2 : Vec F S1x1x1024x512 .bf16) :
    List (View.Piece (Elt F) S8x2x16x512 .f32) :=
  [⟨c2R i, carryAt (tail 768 (by omega) x0 x2)⟩, ⟨c1R i, carryAt (tail 768 (by omega) x0 x1)⟩]

end Cert.Kernel4Ideal.Fwd

end
-- ==== Proof.FwdPieces.lean ====
module

public import proofs.«01_k».proof.Proof.FwdOps

@[expose] public section

/-! The stores of each kind of grid point of the forward call, in the vocabulary of one point: inner points (`B`), the first
point of a row block (`C`) and the very first point (`A`). -/

set_option maxRecDepth 16384

noncomputable section

namespace Cert.Kernel4Ideal.Fwd

open Cert.Kernel4Ideal Cert.Kernel4Ideal.Gen Idealize.ShloMosaic Idealize.ShloMosaic.TcCoe Idealize.SL.Sem

variable {F : FTy → Type} [FloatOps F] [Named F]

theorem runB_6 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xo9 : Vec F S1024x1024 .f32) (xs0 : Vec F S8x2x16x512 .f32) :
    (kernelRun0_B (F := F) c i a2 h2 a3 h3 a4 h4 a5 h5 a6 h6 a7 h7 a8 h8 a9 h9 a10 h10 a11 h11 a12 h12 hc0 hc1 x0 x1 x2 x3 x4 x5 xo9 xs0).1 =
      L6 (carried (View.ld (a12.view.read (Elt F) (h12.unread xs0)) (c1R i))) (carried (View.ld (a12.view.read (Elt F) (h12.unread xs0)) (c2R i))) (a2.view.read (Elt F) (h2.unread x0)) (a3.view.read (Elt F) (h3.unread x1)) (a4.view.read (Elt F) (h4.unread x2)) (a6.view.read (Elt F) (h6.unread x4)) (a7.view.read (Elt F) (h7.unread x5)) := by
  rfl

theorem runB_7 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xo9 : Vec F S1024x1024 .f32) (xs0 : Vec F S8x2x16x512 .f32) :
    (kernelRun0_B (F := F) c i a2 h2 a3 h3 a4 h4 a5 h5 a6 h6 a7 h7 a8 h8 a9 h9 a10 h10 a11 h11 a12 h12 hc0 hc1 x0 x1 x2 x3 x4 x5 xo9 xs0).2.1 =
      L7 (a2.view.read (Elt F) (h2.unread x0)) (a3.view.read (Elt F) (h3.unread x1)) (a4.view.read (Elt F) (h4.unread x2)) := by
  rfl

theorem runB_8 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xo9 : Vec F S1024x1024 .f32) (xs0 : Vec F S8x2x16x512 .f32) :
    (kernelRun0_B (F := F) c i a2 h2 a3 h3 a4 h4 a5 h5 a6 h6 a7 h7 a8 h8 a9 h9 a10 h10 a11 h11 a12 h12 hc0 hc1 x0 x1 x2 x3 x4 x5 xo9 xs0).2.2.1 =
      L8 (carried (View.ld (a12.view.read (Elt F) (h12.unread xs0)) (c1R i))) (carried (View.ld (a12.view.read (Elt F) (h12.unread xs0)) (c2R i))) (a2.view.read (Elt F) (h2.unread x0)) (a3.view.read (Elt F) (h3.unread x1)) (a4.view.read (Elt F) (h4.unread x2)) (a6.view.read (Elt F) (h6.unread x4)) (a7.view.read (Elt F) (h7.unread x5)) := by
  rfl

theorem runB_9 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xo9 : Vec F S1024x1024 .f32) (xs0 : Vec F S8x2x16x512 .f32) :
    (kernelRun0_B (F := F) c i a2 h2 a3 h3 a4 h4 a5 h5 a6 h6 a7 h7 a8 h8 a9 h9 a10 h10 a11 h11 a12 h12 hc0 hc1 x0 x1 x2 x3 x4 x5 xo9 xs0).2.2.2.1 =
      L9 (carried (View.ld (a12.view.read (Elt F) (h12.unread xs0)) (c1R i))) (carried (View.ld (a12.view.read (Elt F) (h12.unread xs0)) (c2R i))) (a2.view.read (Elt F) (h2.unread x0)) (a3.view.read (Elt F) (h3.unread x1)) (a4.view.read (Elt F) (h4.unread x2)) (a5.view.read (Elt F) (h5.unread x3)) (a6.view.read (Elt F) (h6.unread x4)) (a7.view.read (Elt F) (h7.unread x5)) (a11.view.read (Elt F) (h11.unread xo9)) := by
  rfl

theorem runB_S (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xo9 : Vec F S1024x1024 .f32) (xs0 : Vec F S8x2x16x512 .f32) :
    (kernelRun0_B (F := F) c i a2 h2 a3 h3 a4 h4 a5 h5 a6 h6 a7 h7 a8 h8 a9 h9 a10 h10 a11 h11 a12 h12 hc0 hc1 x0 x1 x2 x3 x4 x5 xo9 xs0).2.2.2.2.1 =
      LS i (a2.view.read (Elt F) (h2.unread x0)) (a3.view.read (Elt F) (h3.unread x1)) (a4.view.read (Elt F) (h4.unread x2)) := by
  rfl

theorem runC_6 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xs0 : Vec F S8x2x16x512 .f32) :
    (kernelRun0_C (F := F) c i a2 h2 a3 h3 a4 h4 a5 h5 a6 h6 a7 h7 a8 h8 a9 h9 a10 h10 a11 h11 a12 h12 hc0 hc1 x0 x1 x2 x3 x4 x5 xs0).1 =
      L6 (carried (View.ld (a12.view.read (Elt F) (h12.unread xs0)) (c1R i))) (carried (View.ld (a12.view.read (Elt F) (h12.unread xs0)) (c2R i))) (a2.view.read (Elt F) (h2.unread x0)) (a3.view.read (Elt F) (h3.unread x1)) (a4.view.read (Elt F) (h4.unread x2)) (a6.view.read (Elt F) (h6.unread x4)) (a7.view.read (Elt F) (h7.unread x5)) := by
  rfl

theorem runC_7 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xs0 : Vec F S8x2x16x512 .f32) :
    (kernelRun0_C (F := F) c i a2 h2 a3 h3 a4 h4 a5 h5 a6 h6 a7 h7 a8 h8 a9 h9 a10 h10 a11 h11 a12 h12 hc0 hc1 x0 x1 x2 x3 x4 x5 xs0).2.1 =
      L7 (a2.view.read (Elt F) (h2.unread x0)) (a3.view.read (Elt F) (h3.unread x1)) (a4.view.read (Elt F) (h4.unread x2)) := by
  rfl

theorem runC_8 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xs0 : Vec F S8x2x16x512 .f32) :
    (kernelRun0_C (F := F) c i a2 h2 a3 h3 a4 h4 a5 h5 a6 h6 a7 h7 a8 h8 a9 h9 a10 h10 a11 h11 a12 h12 hc0 hc1 x0 x1 x2 x3 x4 x5 xs0).2.2.1 =
      L8 (carried (View.ld (a12.view.read (Elt F) (h12.unread xs0)) (c1R i))) (carried (View.ld (a12.view.read (Elt F) (h12.unread xs0)) (c2R i))) (a2.view.read (Elt F) (h2.unread x0)) (a3.view.read (Elt F) (h3.unread x1)) (a4.view.read (Elt F) (h4.unread x2)) (a6.view.read (Elt F) (h6.unread x4)) (a7.view.read (Elt F) (h7.unread x5)) := by
  rfl

theorem runC_9 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xs0 : Vec F S8x2x16x512 .f32) :
    (kernelRun0_C (F := F) c i a2 h2 a3 h3 a4 h4 a5 h5 a6 h6 a7 h7 a8 h8 a9 h9 a10 h10 a11 h11 a12 h12 hc0 hc1 x0 x1 x2 x3 x4 x5 xs0).2.2.2.1 =
      K4 a11.view (carried (View.ld (a12.view.read (Elt F) (h12.unread xs0)) (c1R i))) (carried (View.ld (a12.view.read (Elt F) (h12.unread xs0)) (c2R i))) (a2.view.read (Elt F) (h2.unread x0)) (a3.view.read (Elt F) (h3.unread x1)) (a4.view.read (Elt F) (h4.unread x2)) (a5.view.read (Elt F) (h5.unread x3)) (a6.view.read (Elt F) (h6.unread x4)) (a7.view.read (Elt F) (h7.unread x5)) := by
  rfl

theorem runC_S (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
    (xs0 : Vec F S8x2x16x512 .f32) :
    (kernelRun0_C (F := F) c i a2 h2 a3 h3 a4 h4 a5 h5 a6 h6 a7 h7 a8 h8 a9 h9 a10 h10 a11 h11 a12 h12 hc0 hc1 x0 x1 x2 x3 x4 x5 xs0).2.2.2.2.1 =
      LS i (a2.view.read (Elt F) (h2.unread x0)) (a3.view.read (Elt F) (h3.unread x1)) (a4.view.read (Elt F) (h4.unread x2)) := by
  rfl

theorem runA_6 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
     :
    (kernelRun0_A (F := F) c i a2 h2 a3 h3 a4 h4 a5 h5 a6 h6 a7 h7 a8 h8 a9 h9 a10 h10 a11 h11 a12 h12 hc0 hc1 x0 x1 x2 x3 x4 x5 ).1 =
      L6 (carried (a12.view.readCov ZS (c1R i).toLoadRect)) (carried (a12.view.readCov ZS (c2R i).toLoadRect)) (a2.view.read (Elt F) (h2.unread x0)) (a3.view.read (Elt F) (h3.unread x1)) (a4.view.read (Elt F) (h4.unread x2)) (a6.view.read (Elt F) (h6.unread x4)) (a7.view.read (Elt F) (h7.unread x5)) := by
  rfl

theorem runA_7 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
     :
    (kernelRun0_A (F := F) c i a2 h2 a3 h3 a4 h4 a5 h5 a6 h6 a7 h7 a8 h8 a9 h9 a10 h10 a11 h11 a12 h12 hc0 hc1 x0 x1 x2 x3 x4 x5 ).2.1 =
      L7 (a2.view.read (Elt F) (h2.unread x0)) (a3.view.read (Elt F) (h3.unread x1)) (a4.view.read (Elt F) (h4.unread x2)) := by
  rfl

theorem runA_8 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
     :
    (kernelRun0_A (F := F) c i a2 h2 a3 h3 a4 h4 a5 h5 a6 h6 a7 h7 a8 h8 a9 h9 a10 h10 a11 h11 a12 h12 hc0 hc1 x0 x1 x2 x3 x4 x5 ).2.2.1 =
      L8 (carried (a12.view.readCov ZS (c1R i).toLoadRect)) (carried (a12.view.readCov ZS (c2R i).toLoadRect)) (a2.view.read (Elt F) (h2.unread x0)) (a3.view.read (Elt F) (h3.unread x1)) (a4.view.read (Elt F) (h4.unread x2)) (a6.view.read (Elt F) (h6.unread x4)) (a7.view.read (Elt F) (h7.unread x5)) := by
  rfl

theorem runA_9 (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
     :
    (kernelRun0_A (F := F) c i a2 h2 a3 h3 a4 h4 a5 h5 a6 h6 a7 h7 a8 h8 a9 h9 a10 h10 a11 h11 a12 h12 hc0 hc1 x0 x1 x2 x3 x4 x5 ).2.2.2.1 =
      K4 a11.view (carried (a12.view.readCov ZS (c1R i).toLoadRect)) (carried (a12.view.readCov ZS (c2R i).toLoadRect)) (a2.view.read (Elt F) (h2.unread x0)) (a3.view.read (Elt F) (h3.unread x1)) (a4.view.read (Elt F) (h4.unread x2)) (a5.view.read (Elt F) (h5.unread x3)) (a6.view.read (Elt F) (h6.unread x4)) (a7.view.read (Elt F) (h7.unread x5)) := by
  rfl

theorem runA_S (c : Dev nD) (i : grid0.Coords) (a2 h2 a3 h3 a4 h4 a5 h5 a6 h6 a7 h7 a8 h8 a9 h9 a10 h10 a11 h11 a12 h12 hc0 hc1)
    (x0 : Vec F S1024x1024 .bf16) (x1 x2 : Vec F S1x1x1024x512 .bf16) (x3 : Vec F S1x1x512x1024 .bf16) (x4 : Vec F S2x3x512 .f32) (x5 : Vec F S2x1x512 .f32)
     :
    (kernelRun0_A (F := F) c i a2 h2 a3 h3 a4 h4 a5 h5 a6 h6 a7 h7 a8 h8 a9 h9 a10 h10 a11 h11 a12 h12 hc0 hc1 x0 x1 x2 x3 x4 x5 ).2.2.2.2.1 =
      LS i (a2.view.read (Elt F) (h2.unread x0)) (a3.view.read (Elt F) (h3.unread x1)) (a4.view.read (Elt F) (h4.unread x2)) ++ ZS := by
  rfl

end Cert.Kernel4Ideal.Fwd

end
-- ==== Proof.FwdModel.lean ====
module

public import proofs.«01_k».proof.Proof.Args

@[expose] public section

/-! The mathematics of the forward call: from five arrays, the input of the up projection, its weights, the filter, its bias
(every value of these finite) and the down projection's weights (at any values). -/

noncomputable section

namespace Cert.Model

structure Five where
  h : Fin 4096 → Fin 1024 → EReal
  w : Fin 1024 → Fin 8192 → EReal
  t : Fin 3 → Fin 8192 → EReal
  b : Fin 1 → Fin 8192 → EReal
  d : Fin 4096 → Fin 1024 → EReal
  fh : ∀ r c, h r c = ((h r c).toReal : EReal)
  fw : ∀ r c, w r c = ((w r c).toReal : EReal)
  ft : ∀ r c, t r c = ((t r c).toReal : EReal)
  fb : ∀ r c, b r c = ((b r c).toReal : EReal)

namespace Five

variable (A : Five)

/-- The up projection, the same with two rows of zeros above, and with sixteen. -/
def up (r c : ℕ) : ℝ := ∑ k : Fin 1024, rd A.h r k * rd A.w k c
def pad (r c : ℕ) : ℝ := if r < 2 then 0 else A.up (r - 2) c
def far (r c : ℕ) : ℝ := if r < 16 then 0 else A.up (r - 16) c

/-- The convolution. -/
def cv (r c : ℕ) : ℝ :=
  rd A.b 0 c + ((rd A.t 0 c * A.pad r c + rd A.t 1 c * A.pad (r + 1) c) + rd A.t 2 c * A.pad (r + 2) c)

/-- The gated product. -/
def y (r c : ℕ) : ℝ := act (A.cv r c) * A.cv r (4096 + c)

/-- The down projection's weights, zero outside. -/
def dw (r k : ℕ) : EReal := if h : r < 4096 ∧ k < 1024 then A.d ⟨r, h.1⟩ ⟨k, h.2⟩ else 0

/-- One column block's part of the output. -/
def fPart (j r k : ℕ) : EReal := ∑ c : Fin 512, ((A.y r (512 * j + c) : ℝ) : EReal) * A.dw (512 * j + c) k

theorem far_pad (r c : ℕ) : A.far (14 + r) c = A.pad r c := by
  unfold far pad
  by_cases h : r < 2
  · rw [if_pos (by omega), if_pos h]
  · rw [if_neg (by omega), if_neg h, show 14 + r - 16 = r - 2 by omega]

theorem far_up (r c : ℕ) : A.far (16 + r) c = A.up r c := by
  unfold far
  rw [if_neg (by omega), Nat.add_sub_cancel_left]

end Five

end Cert.Model

end
-- ==== Proof.FwdReals.lean ====
module

public import proofs.«01_k».proof.Proof.FwdOps
public import proofs.«01_k».proof.Proof.FwdModel
public import Idealize.ShloMosaic.Lib.Pointwise

@[expose] public section

/-! What one point of the forward call computes from finite numbers. -/

set_option maxRecDepth 16384

noncomputable section

namespace Cert.Kernel4Ideal.Fwd

open Cert.Kernel4Ideal Cert.Kernel4Ideal.Gen Idealize.ShloMosaic Idealize.SL.Sem Cert.Model

theorem named_ca : Named.named (F := Ideal) κ "gelu_ca" (φ := .f32) 0x3D122279#32 = ((cc * ca : ℝ) : EReal) :=
  (IdealRules.named_const.ideal_named_scalar κ "gelu_ca" _ (v := ((80338380498831 / 2251799813685248 : ℝ) : EReal)) rfl).trans
    (congrArg _ (by norm_num [cc, ca]))

/-- A choice by a position's number. -/
theorem select_pos {α : Type} (k : ℕ) (hk : k < 2 ^ 32) (n : BitVec 32) (a b : α) :
    Scalar.select (IntOp.cmpi CmpIPredicate.eq (BitVec.ofNat 32 k) n) a b = if k = n.toNat then a else b := by
  have e : (BitVec.ofNat 32 k = n) ↔ k = n.toNat := by
    rw [← BitVec.toNat_inj, BitVec.toNat_ofNat, Nat.mod_eq_of_lt hk]
  by_cases h : k = n.toNat
  · rw [if_pos h]; simp [Scalar.select, IntOp.cmpi, e.2 h]
  · have h' : (BitVec.ofNat 32 k == n) = false := by simpa using fun h' => h (e.1 h')
    rw [if_neg h]; simp [Scalar.select, IntOp.cmpi, h']

theorem upv_real (a : Vec Ideal S256x1024 .bf16) (w : Vec Ideal S1x1x1024x512 .bf16) (f g : ℕ → ℕ → ℝ)
    (ha : ∀ (r : Fin 256) (k : Fin 1024), a (ix2 r k) = ((f r k : ℝ) : EReal))
    (hw : ∀ (k : Fin 1024) (c : Fin 512), w (ix4 0 0 k c) = ((g k c : ℝ) : EReal)) (r : Fin 256) (c : Fin 512) :
    upv a w (ix2 r c) = ((∑ k : Fin 1024, f r k * g k c : ℝ) : EReal) := by
  pointwise [upv, ha, hw]
  simp only [← EReal.coe_mul, Consts.coe_sum]

theorem wide_real (v : FVec Ideal S256x512 .bf16) (g : ℕ → ℕ → ℝ) (hv : ∀ (r : Fin 256) (c : Fin 512), v (ix2 r c) = ((g r c : ℝ) : EReal))
    (r : Fin 256) (c : Fin 512) : wide v (ix2 r c) = ((g r c : ℝ) : EReal) := by
  pointwise [wide, hv]

theorem rowOf_at (n : ℕ) (hn : n < 16) (h : FVec Ideal S16x512 .f32) (c : Fin 512) :
    rowOf (BitVec.ofNat 32 n) h (ix2 0 c) = h (ix2 ⟨n, hn⟩ c) := by
  pointwise [rowOf]
  have hs : ∀ x : Fin 16, Scalar.select (IntOp.cmpi CmpIPredicate.eq (BitVec.ofNat 32 ↑x) (BitVec.ofNat 32 n)) (h (ix2 x c)) 0
      = if x = ⟨n, hn⟩ then h (ix2 x c) else 0 := fun x => by
    rw [select_pos _ (by omega), BitVec.toNat_ofNat, Nat.mod_eq_of_lt (by omega)]
    simp only [Fin.ext_iff]
  rw [Finset.sum_congr rfl fun x _ => hs x, Finset.sum_ite_eq' Finset.univ]
  simp

theorem before1_real (h : FVec Ideal S16x512 .f32) (x : FVec Ideal S256x512 .f32) (g : ℕ → ℕ → ℝ)
    (hd : ∀ (r : Fin 256) (c : Fin 512), x (ix2 r c) = ((g (16 + r) c : ℝ) : EReal))
    (hh : ∀ (r : Fin 16) (c : Fin 512), h (ix2 r c) = ((g r c : ℝ) : EReal)) (r : Fin 256) (c : Fin 512) :
    before1 h x (ix2 r c) = ((g (15 + r) c : ℝ) : EReal) := by
  pointwise [before1, pick, hd]
  rw [select_pos _ (by omega), rowOf_at 15 (by omega), hh]
  split
  · rename_i e; have e : (r : ℕ) = 0 := e
    simp [e]
  · rename_i e; have e : (r : ℕ) ≠ 0 := e
    rw [show 16 + (↑r + 256 - 1) % 256 = 15 + (r : ℕ) by omega]

theorem before2_real (h : FVec Ideal S16x512 .f32) (x : FVec Ideal S256x512 .f32) (g : ℕ → ℕ → ℝ)
    (hd : ∀ (r : Fin 256) (c : Fin 512), x (ix2 r c) = ((g (16 + r) c : ℝ) : EReal))
    (hh : ∀ (r : Fin 16) (c : Fin 512), h (ix2 r c) = ((g r c : ℝ) : EReal)) (r : Fin 256) (c : Fin 512) :
    before2 h x (ix2 r c) = ((g (14 + r) c : ℝ) : EReal) := by
  pointwise [before2, pick, hd]
  rw [select_pos _ (by omega), select_pos _ (by omega), rowOf_at 14 (by omega), rowOf_at 15 (by omega), hh, hh]
  split
  · rename_i e; have e : (r : ℕ) = 0 := e
    simp [e]
  · rename_i e; have e : (r : ℕ) ≠ 0 := e
    split
    · rename_i e; have e : (r : ℕ) = 1 := e
      simp [e]
    · rename_i e; have e : (r : ℕ) ≠ 1 := e
      rw [show 16 + (↑r + 256 - 2) % 256 = 14 + (r : ℕ) by omega]

theorem bot_real (x : FVec Ideal S256x512 .f32) (g : ℕ → ℕ → ℝ)
    (hd : ∀ (r : Fin 256) (c : Fin 512), x (ix2 r c) = ((g (16 + r) c : ℝ) : EReal)) (r : Fin 16) (c : Fin 512) :
    bot x (ix2 r c) = ((g (256 + r) c : ℝ) : EReal) := by
  pointwise [bot, hd]
  rw [show 16 + (240 + r.val) = 256 + r.val by omega]

theorem conv_real (h : FVec Ideal S16x512 .f32) (x : FVec Ideal S256x512 .f32) (b w0 w1 w2 : Vec Ideal S1x1x512 .f32) (g : ℕ → ℕ → ℝ)
    (vb v0 v1 v2 : ℕ → ℝ)
    (hd : ∀ (r : Fin 256) (c : Fin 512), x (ix2 r c) = ((g (16 + r) c : ℝ) : EReal))
    (hh : ∀ (r : Fin 16) (c : Fin 512), h (ix2 r c) = ((g r c : ℝ) : EReal))
    (hb : ∀ c : Fin 512, b (ix3 0 0 c) = ((vb c : ℝ) : EReal)) (h0 : ∀ c : Fin 512, w0 (ix3 0 0 c) = ((v0 c : ℝ) : EReal))
    (h1 : ∀ c : Fin 512, w1 (ix3 0 0 c) = ((v1 c : ℝ) : EReal)) (h2 : ∀ c : Fin 512, w2 (ix3 0 0 c) = ((v2 c : ℝ) : EReal))
    (r : Fin 256) (c : Fin 512) :
    conv h x b w0 w1 w2 (ix2 r c)
      = ((vb c + ((v0 c * g (14 + r) c + v1 c * g (15 + r) c) + v2 c * g (16 + r) c) : ℝ) : EReal) := by
  pointwise [conv, down, hd, hb, h0, h1, h2]
  rw [before1_real h x g hd hh, before2_real h x g hd hh]
  simp only [← EReal.coe_mul, ← EReal.coe_add]
  congr 1
  ring

theorem gated_real (g v : FVec Ideal S256x512 .f32) (r : Fin 256) (c : Fin 512) (x z : ℝ) (hg : g (ix2 r c) = (x : EReal))
    (hv : v (ix2 r c) = (z : EReal)) : gated g v (ix2 r c) = ((act x * z : ℝ) : EReal) := by
  pointwise [gated, half, inner, hg, hv, Consts.ofBits_cc, Consts.ofBits_half, named_ca]
  simp only [← EReal.coe_mul, ← EReal.coe_add, Ideal.tanh_coe]
  rfl

theorem part_real (z : Vec Ideal S256x1024 .f32) (y : FVec Ideal S256x512 .bf16) (w : Vec Ideal S1x1x512x1024 .bf16) (r : Fin 256) (k : Fin 1024) :
    part z y w (ix2 r k) = z (ix2 r k) + ∑ c : Fin 512, y (ix2 r c) * w (ix4 0 0 c k) := by
  pointwise [part]

end Cert.Kernel4Ideal.Fwd

end
-- ==== Proof.FwdPoint.lean ====
module

public import proofs.«01_k».proof.Proof.FwdPieces
public import proofs.«01_k».proof.Proof.FwdReals

@[expose] public section

/-! What the stores of one point of the forward call leave, where its blocks are the model's: row block from `R`, column
block `j`. -/

set_option maxRecDepth 16384

noncomputable section

namespace Cert.Kernel4Ideal.Fwd

open Cert.Kernel4Ideal Cert.Kernel4Ideal.Gen Idealize.ShloMosaic Idealize.SL.Sem Cert.Model

/-- A block of the up projection's weights, half `hh`. -/
def IsW (A : Five) (j hh : ℕ) (w : Vec Ideal S1x1x1024x512 .bf16) : Prop :=
  ∀ (k : Fin 1024) (c : Fin 512), w (ix4 0 0 k c) = ((rd A.w k (4096 * hh + (512 * j + c)) : ℝ) : EReal)

/-- The blocks of a point are the model's numbers. -/
structure Ins (A : Five) (R j : ℕ) (x0 : Vec Ideal S1024x1024 .bf16) (x1 x2 : Vec Ideal S1x1x1024x512 .bf16)
    (x3 : Vec Ideal S1x1x512x1024 .bf16) (x4 : Vec Ideal S2x3x512 .f32) (x5 : Vec Ideal S2x1x512 .f32) : Prop where
  h0 : ∀ (r : Fin 1024) (k : Fin 1024), x0 (ix2 r k) = ((rd A.h (R + r) k : ℝ) : EReal)
  h1 : IsW A j 0 x1
  h2 : IsW A j 1 x2
  h3 : ∀ (c : Fin 512) (k : Fin 1024), x3 (ix4 0 0 c k) = A.dw (512 * j + c) k
  h4 : ∀ (hh : Fin 2) (t : Fin 3) (c : Fin 512), x4 (ix3 hh t c) = ((rd A.t t (4096 * hh + (512 * j + c)) : ℝ) : EReal)
  h5 : ∀ (hh : Fin 2) (c : Fin 512), x5 (ix3 hh 0 c) = ((rd A.b 0 (4096 * hh + (512 * j + c)) : ℝ) : EReal)

section
variable {A : Five} {R j : ℕ} {x0 : Vec Ideal S1024x1024 .bf16} {x1 x2 w : Vec Ideal S1x1x1024x512 .bf16}
  {x3 : Vec Ideal S1x1x512x1024 .bf16} {x4 : Vec Ideal S2x3x512 .f32} {x5 : Vec Ideal S2x1x512 .f32}

theorem downL_eq (x : Vec Ideal S1x1x512x1024 .bf16) : downL x = x :=
  View.ld_unit_zero (S := S1x1x512x1024) (off := ![0, 0, 0, 0]) (by funext a; fin_cases a <;> rfl) _ _
theorem upL_eq (x : Vec Ideal S1x1x1024x512 .bf16) : upL x = x :=
  View.ld_unit_zero (S := S1x1x1024x512) (off := ![0, 0, 0, 0]) (by funext a; fin_cases a <;> rfl) _ _

theorem biasL_at (hh : ℕ) (hhh : hh < 2) (x : Vec Ideal S2x1x512 .f32) (c : Fin 512) :
    biasL hh hhh x (ix3 0 0 c) = x (ix3 ⟨hh, hhh⟩ 0 c) := by
  pointwise [biasL]

theorem tapL_at (hh t : ℕ) (hhh : hh < 2) (ht : t < 3) (x : Vec Ideal S2x3x512 .f32) (c : Fin 512) :
    tapL hh t hhh ht x (ix3 0 0 c) = x (ix3 ⟨hh, hhh⟩ ⟨t, ht⟩ c) := by
  pointwise [tapL]

theorem rowsL_at (o : ℕ) (ho : o + 256 ≤ 1024) {e : EltTy} (x : Vec Ideal S1024x1024 e) (r : Fin 256) (k : Fin 1024) :
    rowsL o ho x (ix2 r k) = x (ix2 ⟨o + r, by omega⟩ k) := by
  pointwise [rowsL]

theorem upAt_real (I : Ins A R j x0 x1 x2 x3 x4 x5) (hh o : ℕ) (ho : o + 256 ≤ 1024) (hw : IsW A j hh w) (r : Fin 256) (c : Fin 512) :
    upAt o ho x0 w (ix2 r c) = ((A.up (R + o + r) (4096 * hh + (512 * j + c)) : ℝ) : EReal) :=
  upv_real (rowsL o ho x0) (upL w) (fun r k => rd A.h (R + o + r) k) (fun k c => rd A.w k (4096 * hh + (512 * j + c)))
    (fun r k => by rw [rowsL_at, I.h0]; simp [Nat.add_assoc]) (fun k c => by rw [upL_eq, hw]) r c

/-- The sixteen rows before a chunk from `o` are the model's. -/
def IsHalo (A : Five) (R j hh o : ℕ) (h : FVec Ideal S16x512 .f32) : Prop :=
  ∀ (r : Fin 16) (c : Fin 512), h (ix2 r c) = ((A.far (R + o + r) (4096 * hh + (512 * j + c)) : ℝ) : EReal)

theorem x_far (I : Ins A R j x0 x1 x2 x3 x4 x5) (hh o : ℕ) (ho : o + 256 ≤ 1024) (hw : IsW A j hh w) (r : Fin 256) (c : Fin 512) :
    wide (upAt o ho x0 w) (ix2 r c) = ((A.far (R + o + (16 + r)) (4096 * hh + (512 * j + c)) : ℝ) : EReal) := by
  rw [wide_real _ (fun r c => A.up (R + o + r) (4096 * hh + (512 * j + c))) (upAt_real I hh o ho hw),
    show R + o + (16 + r.val) = 16 + (R + o + r.val) by omega, A.far_up]

theorem tail_halo (I : Ins A R j x0 x1 x2 x3 x4 x5) (hh o o' : ℕ) (ho : o + 256 ≤ 1024) (hw : IsW A j hh w) (e : o + 256 = o') :
    IsHalo A R j hh o' (tail o ho x0 w) := fun r c => by
  subst e
  unfold tail
  rw [bot_real _ (fun r c => A.far (R + o + r) (4096 * hh + (512 * j + c))) (x_far I hh o ho hw) r c]
  simp [Nat.add_assoc]

theorem cvAt_real (I : Ins A R j x0 x1 x2 x3 x4 x5) (hh o : ℕ) (hhh : hh < 2) (ho : o + 256 ≤ 1024) (hw : IsW A j hh w)
    {h : FVec Ideal S16x512 .f32} (H : IsHalo A R j hh o h) (r : Fin 256) (c : Fin 512) :
    cvAt hh o hhh ho h x0 w x4 x5 (ix2 r c) = ((A.cv (R + o + r) (4096 * hh + (512 * j + c)) : ℝ) : EReal) := by
  unfold cvAt
  rw [conv_real h _ _ _ _ _ (fun r c => A.far (R + o + r) (4096 * hh + (512 * j + c))) (fun c => rd A.b 0 (4096 * hh + (512 * j + c)))
    (fun c => rd A.t 0 (4096 * hh + (512 * j + c))) (fun c => rd A.t 1 (4096 * hh + (512 * j + c)))
    (fun c => rd A.t 2 (4096 * hh + (512 * j + c))) (x_far I hh o ho hw) H
    (fun c => by rw [biasL_at, I.h5]) (fun c => by rw [tapL_at, I.h4]) (fun c => by rw [tapL_at, I.h4]) (fun c => by rw [tapL_at, I.h4]) r c]
  unfold Five.cv
  rw [← A.far_pad, ← A.far_pad, ← A.far_pad, show 14 + (R + o + r.val) = R + o + (14 + r.val) by omega,
    show 14 + (R + o + r.val + 1) = R + o + (15 + r.val) by omega, show 14 + (R + o + r.val + 2) = R + o + (16 + r.val) by omega]

theorem yAt_real (I : Ins A R j x0 x1 x2 x3 x4 x5) (o : ℕ) (ho : o + 256 ≤ 1024) {h0 h1 : FVec Ideal S16x512 .f32}
    (H0 : IsHalo A R j 0 o h0) (H1 : IsHalo A R j 1 o h1) (r : Fin 256) (c : Fin 512) :
    yAt o ho h0 h1 x0 x1 x2 x4 x5 (ix2 r c) = ((A.y (R + o + r) (512 * j + c) : ℝ) : EReal) := by
  unfold yAt
  rw [gated_real _ _ r c _ _ (cvAt_real I 0 o (by omega) ho I.h1 H0 r c) (cvAt_real I 1 o (by omega) ho I.h2 H1 r c)]
  simp [Five.y]

theorem fAt_real (I : Ins A R j x0 x1 x2 x3 x4 x5) (o : ℕ) (ho : o + 256 ≤ 1024) {h0 h1 : FVec Ideal S16x512 .f32}
    (H0 : IsHalo A R j 0 o h0) (H1 : IsHalo A R j 1 o h1) (z : Vec Ideal S256x1024 .f32) (r : Fin 256) (k : Fin 1024) :
    fAt o ho z h0 h1 x0 x1 x2 x3 x4 x5 (ix2 r k) = z (ix2 r k) + A.fPart j (R + o + r) k := by
  unfold fAt
  rw [part_real, downL_eq]
  congr 1
  refine Finset.sum_congr rfl fun c _ => ?_
  rw [yAt_real I o ho H0 H1, I.h3]

end

end Cert.Kernel4Ideal.Fwd

end
-- ==== Proof.FwdContents.lean ====
module

public import proofs.«01_k».proof.Proof.FwdPoint

@[expose] public section

/-! What the forward call's blocks hold after the stores of one point. -/

set_option maxRecDepth 16384

noncomputable section

namespace Cert.Kernel4Ideal.Fwd

open Cert.Kernel4Ideal Cert.Kernel4Ideal.Gen Idealize.ShloMosaic Idealize.SL.Sem Cert.Model

section
variable {A : Five} {R j : ℕ} {x0 : Vec Ideal S1024x1024 .bf16} {x1 x2 w : Vec Ideal S1x1x1024x512 .bf16}
  {x3 : Vec Ideal S1x1x512x1024 .bf16} {x4 : Vec Ideal S2x3x512 .f32} {x5 : Vec Ideal S2x1x512 .f32}

/-- The gated product over a block. -/
def G6 (A : Five) (R j : ℕ) (y : S1024x512.Idx) : EReal := ((A.y (R + (y 0).val) (512 * j + (y 1).val) : ℝ) : EReal)

theorem piece6_pt (I : Ins A R j x0 x1 x2 x3 x4 x5) (o : ℕ) (ho : o + 256 ≤ 1024) {h0 h1 : FVec Ideal S16x512 .f32}
    (H0 : IsHalo A R j 0 o h0) (H1 : IsHalo A R j 1 o h1) (r : Fin 256) (c : Fin 512) :
    yAt o ho h0 h1 x0 x1 x2 x4 x5 (ix2 r c) = ((A.y (R + (o + 1 * r.val)) (512 * j + (0 + 1 * c.val)) : ℝ) : EReal) := by
  rw [yAt_real I o ho H0 H1]
  simp [Nat.add_assoc]

theorem piece6_ok (I : Ins A R j x0 x1 x2 x3 x4 x5) (o : ℕ) (ho : o + 256 ≤ 1024) {h0 h1 : FVec Ideal S16x512 .f32}
    (H0 : IsHalo A R j 0 o h0) (H1 : IsHalo A R j 1 o h1) (x : S256x512.Idx) :
    (piece6 o ho h0 h1 x0 x1 x2 x4 x5).2 x = G6 A R j ((piece6 o ho h0 h1 x0 x1 x2 x4 x5).1.emb x) :=
  (congrArg _ (eq_ix2 x)).trans (piece6_pt I o ho H0 H1 (x 0) (x 1))

theorem mem_piece6 (o : ℕ) (ho : o + 256 ≤ 1024) (h0 h1 : FVec Ideal S16x512 .f32) (y : S1024x512.Idx)
    (hlo : o ≤ (y 0).val) (hhi : (y 0).val < o + 256) : y ∈ (piece6 o ho h0 h1 x0 x1 x2 x4 x5).1.set := by
  unfold piece6
  rw [Rect.mem_set_unit]
  intro a
  match a with
  | 0 => exact ⟨hlo, hhi⟩
  | 1 => exact ⟨Nat.zero_le _, (Nat.zero_add 512).symm ▸ (y 1).isLt⟩

theorem cover6 (c0 c1 : FVec Ideal S16x512 .f32) (y : S1024x512.Idx) : ∃ p ∈ L6 c0 c1 x0 x1 x2 x4 x5, y ∈ p.1.set := by
  have hy : (y 0).val < 1024 := (y 0).isLt
  unfold L6
  by_cases h1 : (y 0).val < 256
  · exact ⟨_, (.tail _ (.tail _ (.tail _ (.head _)))), mem_piece6 0 (by omega) _ _ y (by omega) (by omega)⟩
  by_cases h2 : (y 0).val < 512
  · exact ⟨_, (.tail _ (.tail _ (.head _))), mem_piece6 256 (by omega) _ _ y (by omega) (by omega)⟩
  by_cases h3 : (y 0).val < 768
  · exact ⟨_, (.tail _ (.head _)), mem_piece6 512 (by omega) _ _ y (by omega) (by omega)⟩
  · exact ⟨_, (.head _), mem_piece6 768 (by omega) _ _ y (by omega) (by omega)⟩

theorem L6_at (I : Ins A R j x0 x1 x2 x3 x4 x5) {c0 c1 : FVec Ideal S16x512 .f32} (H0 : IsHalo A R j 0 0 c0)
    (H1 : IsHalo A R j 1 0 c1) {sig : RefSig} {κ : Kind} {sp : Space} (v : View sig κ sp S1024x512 .bf16) (f : v.ty.Contents (Elt Ideal)) :
    v.read (Elt Ideal) (v.writes (Elt Ideal) f (L6 c0 c1 x0 x1 x2 x4 x5)) = G6 A R j := by
  funext y
  refine View.read_writes_apply_of_pieces v f (G6 A R j) _ ?_ y (cover6 _ _ y)
  unfold L6
  simp only [List.mem_cons, List.mem_nil_iff, or_false]
  rintro p (rfl | rfl | rfl | rfl)
  · exact piece6_ok I 768 _ (tail_halo I 0 512 768 (by omega) I.h1 rfl) (tail_halo I 1 512 768 (by omega) I.h2 rfl)
  · exact piece6_ok I 512 _ (tail_halo I 0 256 512 (by omega) I.h1 rfl) (tail_halo I 1 256 512 (by omega) I.h2 rfl)
  · exact piece6_ok I 256 _ (tail_halo I 0 0 256 (by omega) I.h1 rfl) (tail_halo I 1 0 256 (by omega) I.h2 rfl)
  · exact piece6_ok I 0 _ H0 H1

/-- The up projection over a block. -/
def G7 (A : Five) (R j : ℕ) (y : S2x1024x512.Idx) : EReal :=
  ((A.up (R + (y 1).val) (4096 * (y 0).val + (512 * j + (y 2).val)) : ℝ) : EReal)

theorem piece7_pt (I : Ins A R j x0 x1 x2 x3 x4 x5) (hh o : ℕ) (hhh : hh < 2) (ho : o + 256 ≤ 1024) (hw : IsW A j hh w)
     (a : Fin 1) (r : Fin 256) (c : Fin 512) :
    shapeCast S1x256x512 (upAt o ho x0 w) shapeCasts_S256x512_S1x256x512 (ix3 a r c)
      = ((A.up (R + (o + 1 * r.val)) (4096 * (hh + 1 * a.val) + (512 * j + (0 + 1 * c.val))) : ℝ) : EReal) := by
  pointwise
  rw [upAt_real I hh o ho hw]
  simp [Nat.add_assoc]

theorem piece7_ok (I : Ins A R j x0 x1 x2 x3 x4 x5) (hh o : ℕ) (hhh : hh < 2) (ho : o + 256 ≤ 1024) (hw : IsW A j hh w)
     (x : S1x256x512.Idx) :
    (piece7 hh o hhh ho x0 w).2 x = G7 A R j ((piece7 hh o hhh ho x0 w).1.emb x) :=
  (congrArg _ (eq_ix3 x)).trans (piece7_pt I hh o hhh ho hw (x 0) (x 1) (x 2))

theorem mem_piece7 (hh o : ℕ) (hhh : hh < 2) (ho : o + 256 ≤ 1024) (y : S2x1024x512.Idx)
    (e : (y 0).val = hh) (hlo : o ≤ (y 1).val) (hhi : (y 1).val < o + 256) : y ∈ (piece7 hh o hhh ho x0 w).1.set := by
  unfold piece7
  rw [Rect.mem_set_unit]
  intro a
  match a with
  | 0 => exact ⟨e.symm.le, by rw [e]; exact Nat.lt_succ_self _⟩
  | 1 => exact ⟨hlo, hhi⟩
  | 2 => exact ⟨Nat.zero_le _, (Nat.zero_add 512).symm ▸ (y 2).isLt⟩

theorem cover7 (y : S2x1024x512.Idx) : ∃ p ∈ L7 x0 x1 x2, y ∈ p.1.set := by
  have hy : (y 1).val < 1024 := (y 1).isLt
  have hz : (y 0).val < 2 := (y 0).isLt
  unfold L7
  by_cases e : (y 0).val = 0
  · by_cases h1 : (y 1).val < 256
    · exact ⟨_, (.tail _ (.tail _ (.tail _ (.tail _ (.tail _ (.tail _ (.tail _ (.head _)))))))), mem_piece7 0 0 (by omega) (by omega) y (by omega) (by omega) (by omega)⟩
    by_cases h2 : (y 1).val < 512
    · exact ⟨_, (.tail _ (.tail _ (.tail _ (.tail _ (.tail _ (.head _)))))), mem_piece7 0 256 (by omega) (by omega) y (by omega) (by omega) (by omega)⟩
    by_cases h3 : (y 1).val < 768
    · exact ⟨_, (.tail _ (.tail _ (.tail _ (.head _)))), mem_piece7 0 512 (by omega) (by omega) y (by omega) (by omega) (by omega)⟩
    · exact ⟨_, (.tail _ (.head _)), mem_piece7 0 768 (by omega) (by omega) y (by omega) (by omega) (by omega)⟩
  · by_cases h1 : (y 1).val < 256
    · exact ⟨_, (.tail _ (.tail _ (.tail _ (.tail _ (.tail _ (.tail _ (.head _))))))), mem_piece7 1 0 (by omega) (by omega) y (by omega) (by omega) (by omega)⟩
    by_cases h2 : (y 1).val < 512
    · exact ⟨_, (.tail _ (.tail _ (.tail _ (.tail _ (.head _))))), mem_piece7 1 256 (by omega) (by omega) y (by omega) (by omega) (by omega)⟩
    by_cases h3 : (y 1).val < 768
    · exact ⟨_, (.tail _ (.tail _ (.head _))), mem_piece7 1 512 (by omega) (by omega) y (by omega) (by omega) (by omega)⟩
    · exact ⟨_, (.head _), mem_piece7 1 768 (by omega) (by omega) y (by omega) (by omega) (by omega)⟩

theorem L7_at (I : Ins A R j x0 x1 x2 x3 x4 x5)
    {sig : RefSig} {κ : Kind} {sp : Space} (v : View sig κ sp S2x1024x512 .bf16) (f : v.ty.Contents (Elt Ideal)) :
    v.read (Elt Ideal) (v.writes (Elt Ideal) f (L7 x0 x1 x2)) = G7 A R j := by
  funext y
  refine View.read_writes_apply_of_pieces v f (G7 A R j) _ ?_ y (cover7 y)
  unfold L7
  simp only [List.mem_cons, List.mem_nil_iff, or_false]
  rintro p (rfl | rfl | rfl | rfl | rfl | rfl | rfl | rfl)
  · exact piece7_ok I 1 768 _ _ I.h2
  · exact piece7_ok I 0 768 _ _ I.h1
  · exact piece7_ok I 1 512 _ _ I.h2
  · exact piece7_ok I 0 512 _ _ I.h1
  · exact piece7_ok I 1 256 _ _ I.h2
  · exact piece7_ok I 0 256 _ _ I.h1
  · exact piece7_ok I 1 0 _ _ I.h2
  · exact piece7_ok I 0 0 _ _ I.h1

/-- The convolution over a block. -/
def G8 (A : Five) (R j : ℕ) (y : S2x1024x512.Idx) : EReal :=
  ((A.cv (R + (y 1).val) (4096 * (y 0).val + (512 * j + (y 2).val)) : ℝ) : EReal)

theorem piece8_pt (I : Ins A R j x0 x1 x2 x3 x4 x5) (hh o : ℕ) (hhh : hh < 2) (ho : o + 256 ≤ 1024) (hw : IsW A j hh w)
    {h : FVec Ideal S16x512 .f32} (H : IsHalo A R j hh o h) (a : Fin 1) (r : Fin 256) (c : Fin 512) :
    shapeCast S1x256x512 (truncf .bf16 (cvAt hh o hhh ho h x0 w x4 x5) bitsLt_bf16_f32) shapeCasts_S256x512_S1x256x512 (ix3 a r c)
      = ((A.cv (R + (o + 1 * r.val)) (4096 * (hh + 1 * a.val) + (512 * j + (0 + 1 * c.val))) : ℝ) : EReal) := by
  pointwise
  rw [cvAt_real I hh o hhh ho hw H]
  simp [Nat.add_assoc]

theorem piece8_ok (I : Ins A R j x0 x1 x2 x3 x4 x5) (hh o : ℕ) (hhh : hh < 2) (ho : o + 256 ≤ 1024) (hw : IsW A j hh w)
    {h : FVec Ideal S16x512 .f32} (H : IsHalo A R j hh o h) (x : S1x256x512.Idx) :
    (piece8 hh o hhh ho h x0 w x4 x5).2 x = G8 A R j ((piece8 hh o hhh ho h x0 w x4 x5).1.emb x) :=
  (congrArg _ (eq_ix3 x)).trans (piece8_pt I hh o hhh ho hw H (x 0) (x 1) (x 2))

theorem mem_piece8 (hh o : ℕ) (hhh : hh < 2) (ho : o + 256 ≤ 1024) (h : FVec Ideal S16x512 .f32) (y : S2x1024x512.Idx)
    (e : (y 0).val = hh) (hlo : o ≤ (y 1).val) (hhi : (y 1).val < o + 256) : y ∈ (piece8 hh o hhh ho h x0 w x4 x5).1.set := by
  unfold piece8
  rw [Rect.mem_set_unit]
  intro a
  match a with
  | 0 => exact ⟨e.symm.le, by rw [e]; exact Nat.lt_succ_self _⟩
  | 1 => exact ⟨hlo, hhi⟩
  | 2 => exact ⟨Nat.zero_le _, (Nat.zero_add 512).symm ▸ (y 2).isLt⟩

theorem cover8 (c0 c1 : FVec Ideal S16x512 .f32) (y : S2x1024x512.Idx) : ∃ p ∈ L8 c0 c1 x0 x1 x2 x4 x5, y ∈ p.1.set := by
  have hy : (y 1).val < 1024 := (y 1).isLt
  have hz : (y 0).val < 2 := (y 0).isLt
  unfold L8
  by_cases e : (y 0).val = 0
  · by_cases h1 : (y 1).val < 256
    · exact ⟨_, (.tail _ (.tail _ (.tail _ (.tail _ (.tail _ (.tail _ (.tail _ (.head _)))))))), mem_piece8 0 0 (by omega) (by omega) _ y (by omega) (by omega) (by omega)⟩
    by_cases h2 : (y 1).val < 512
    · exact ⟨_, (.tail _ (.tail _ (.tail _ (.tail _ (.tail _ (.head _)))))), mem_piece8 0 256 (by omega) (by omega) _ y (by omega) (by omega) (by omega)⟩
    by_cases h3 : (y 1).val < 768
    · exact ⟨_, (.tail _ (.tail _ (.tail _ (.head _)))), mem_piece8 0 512 (by omega) (by omega) _ y (by omega) (by omega) (by omega)⟩
    · exact ⟨_, (.tail _ (.head _)), mem_piece8 0 768 (by omega) (by omega) _ y (by omega) (by omega) (by omega)⟩
  · by_cases h1 : (y 1).val < 256
    · exact ⟨_, (.tail _ (.tail _ (.tail _ (.tail _ (.tail _ (.tail _ (.head _))))))), mem_piece8 1 0 (by omega) (by omega) _ y (by omega) (by omega) (by omega)⟩
    by_cases h2 : (y 1).val < 512
    · exact ⟨_, (.tail _ (.tail _ (.tail _ (.tail _ (.head _))))), mem_piece8 1 256 (by omega) (by omega) _ y (by omega) (by omega) (by omega)⟩
    by_cases h3 : (y 1).val < 768
    · exact ⟨_, (.tail _ (.tail _ (.head _))), mem_piece8 1 512 (by omega) (by omega) _ y (by omega) (by omega) (by omega)⟩
    · exact ⟨_, (.head _), mem_piece8 1 768 (by omega) (by omega) _ y (by omega) (by omega) (by omega)⟩

theorem L8_at (I : Ins A R j x0 x1 x2 x3 x4 x5) {c0 c1 : FVec Ideal S16x512 .f32} (H0 : IsHalo A R j 0 0 c0) (H1 : IsHalo A R j 1 0 c1)
    {sig : RefSig} {κ : Kind} {sp : Space} (v : View sig κ sp S2x1024x512 .bf16) (f : v.ty.Contents (Elt Ideal)) :
    v.read (Elt Ideal) (v.writes (Elt Ideal) f (L8 c0 c1 x0 x1 x2 x4 x5)) = G8 A R j := by
  funext y
  refine View.read_writes_apply_of_pieces v f (G8 A R j) _ ?_ y (cover8 _ _ y)
  unfold L8
  simp only [List.mem_cons, List.mem_nil_iff, or_false]
  rintro p (rfl | rfl | rfl | rfl | rfl | rfl | rfl | rfl)
  · exact piece8_ok I 1 768 _ _ I.h2 (tail_halo I 1 512 768 (by omega) I.h2 rfl)
  · exact piece8_ok I 0 768 _ _ I.h1 (tail_halo I 0 512 768 (by omega) I.h1 rfl)
  · exact piece8_ok I 1 512 _ _ I.h2 (tail_halo I 1 256 512 (by omega) I.h2 rfl)
  · exact piece8_ok I 0 512 _ _ I.h1 (tail_halo I 0 256 512 (by omega) I.h1 rfl)
  · exact piece8_ok I 1 256 _ _ I.h2 (tail_halo I 1 0 256 (by omega) I.h2 rfl)
  · exact piece8_ok I 0 256 _ _ I.h1 (tail_halo I 0 0 256 (by omega) I.h1 rfl)
  · exact piece8_ok I 1 0 _ _ I.h2 H1
  · exact piece8_ok I 0 0 _ _ I.h1 H0

/-- The output over a block: what it held and this column block's part. -/
def G9 (A : Five) (R j : ℕ) (f : ℕ → ℕ → EReal) (y : S1024x1024.Idx) : EReal :=
  f (R + (y 0).val) (y 1).val + A.fPart j (R + (y 0).val) (y 1).val

theorem piece9_pt (I : Ins A R j x0 x1 x2 x3 x4 x5) (o : ℕ) (ho : o + 256 ≤ 1024) {h0 h1 : FVec Ideal S16x512 .f32}
    (H0 : IsHalo A R j 0 o h0) (H1 : IsHalo A R j 1 o h1) (z : Vec Ideal S256x1024 .f32) (f : ℕ → ℕ → EReal)
    (hz : ∀ (r : Fin 256) (k : Fin 1024), z (ix2 r k) = f (R + o + r) k) (r : Fin 256) (k : Fin 1024) :
    fAt o ho z h0 h1 x0 x1 x2 x3 x4 x5 (ix2 r k)
      = f (R + (o + 1 * r.val)) (0 + 1 * k.val) + A.fPart j (R + (o + 1 * r.val)) (0 + 1 * k.val) := by
  rw [fAt_real I o ho H0 H1 z, hz]
  simp [Nat.add_assoc]

theorem piece9_ok (I : Ins A R j x0 x1 x2 x3 x4 x5) (o : ℕ) (ho : o + 256 ≤ 1024) {h0 h1 : FVec Ideal S16x512 .f32}
    (H0 : IsHalo A R j 0 o h0) (H1 : IsHalo A R j 1 o h1) (z : Vec Ideal S256x1024 .f32) (f : ℕ → ℕ → EReal)
    (hz : ∀ (r : Fin 256) (k : Fin 1024), z (ix2 r k) = f (R + o + r) k) (x : S256x1024.Idx) :
    (piece9 o ho z h0 h1 x0 x1 x2 x3 x4 x5).2 x = G9 A R j f ((piece9 o ho z h0 h1 x0 x1 x2 x3 x4 x5).1.emb x) :=
  (congrArg _ (eq_ix2 x)).trans (piece9_pt I o ho H0 H1 z f hz (x 0) (x 1))

theorem mem_piece9 (o : ℕ) (ho : o + 256 ≤ 1024) (z : Vec Ideal S256x1024 .f32) (h0 h1 : FVec Ideal S16x512 .f32) (y : S1024x1024.Idx)
    (hlo : o ≤ (y 0).val) (hhi : (y 0).val < o + 256) : y ∈ (piece9 o ho z h0 h1 x0 x1 x2 x3 x4 x5).1.set := by
  unfold piece9
  rw [Rect.mem_set_unit]
  intro a
  match a with
  | 0 => exact ⟨hlo, hhi⟩
  | 1 => exact ⟨Nat.zero_le _, (Nat.zero_add 1024).symm ▸ (y 1).isLt⟩

theorem cover9 (z0 z1 z2 z3 : Vec Ideal S256x1024 .f32) (a0 a1 b0 b1 c0 c1 d0 d1 : FVec Ideal S16x512 .f32) (y : S1024x1024.Idx) :
    ∃ p ∈ [piece9 768 (by omega) z3 d0 d1 x0 x1 x2 x3 x4 x5, piece9 512 (by omega) z2 c0 c1 x0 x1 x2 x3 x4 x5,
      piece9 256 (by omega) z1 b0 b1 x0 x1 x2 x3 x4 x5, piece9 0 (by omega) z0 a0 a1 x0 x1 x2 x3 x4 x5], y ∈ p.1.set := by
  have hy : (y 0).val < 1024 := (y 0).isLt
  by_cases h1 : (y 0).val < 256
  · exact ⟨_, (.tail _ (.tail _ (.tail _ (.head _)))), mem_piece9 0 (by omega) z0 a0 a1 y (by omega) (by omega)⟩
  by_cases h2 : (y 0).val < 512
  · exact ⟨_, (.tail _ (.tail _ (.head _))), mem_piece9 256 (by omega) z1 b0 b1 y (by omega) (by omega)⟩
  by_cases h3 : (y 0).val < 768
  · exact ⟨_, (.tail _ (.head _)), mem_piece9 512 (by omega) z2 c0 c1 y (by omega) (by omega)⟩
  · exact ⟨_, (.head _), mem_piece9 768 (by omega) z3 d0 d1 y (by omega) (by omega)⟩

/-- Four stores over four row chunks leave the block's values. -/
theorem four9 (I : Ins A R j x0 x1 x2 x3 x4 x5) {c0 c1 : FVec Ideal S16x512 .f32} (H0 : IsHalo A R j 0 0 c0)
    (H1 : IsHalo A R j 1 0 c1) (z0 z1 z2 z3 : Vec Ideal S256x1024 .f32) (g : ℕ → ℕ → EReal)
    (e0 : ∀ (r : Fin 256) (k : Fin 1024), z0 (ix2 r k) = g (R + 0 + r) k)
    (e1 : ∀ (r : Fin 256) (k : Fin 1024), z1 (ix2 r k) = g (R + 256 + r) k)
    (e2 : ∀ (r : Fin 256) (k : Fin 1024), z2 (ix2 r k) = g (R + 512 + r) k)
    (e3 : ∀ (r : Fin 256) (k : Fin 1024), z3 (ix2 r k) = g (R + 768 + r) k)
    {sig : RefSig} {κ : Kind} {sp : Space} (v : View sig κ sp S1024x1024 .f32) (f : v.ty.Contents (Elt Ideal)) :
    v.read (Elt Ideal) (v.writes (Elt Ideal) f
      [piece9 768 (by omega) z3 (tail 512 (by omega) x0 x1) (tail 512 (by omega) x0 x2) x0 x1 x2 x3 x4 x5,
       piece9 512 (by omega) z2 (tail 256 (by omega) x0 x1) (tail 256 (by omega) x0 x2) x0 x1 x2 x3 x4 x5,
       piece9 256 (by omega) z1 (tail 0 (by omega) x0 x1) (tail 0 (by omega) x0 x2) x0 x1 x2 x3 x4 x5,
       piece9 0 (by omega) z0 c0 c1 x0 x1 x2 x3 x4 x5]) = G9 A R j g := by
  funext y
  refine View.read_writes_apply_of_pieces v f (G9 A R j g) _ ?_ y (cover9 _ _ _ _ _ _ _ _ _ _ _ _ y)
  simp only [List.mem_cons, List.mem_nil_iff, or_false]
  rintro p (rfl | rfl | rfl | rfl)
  · exact piece9_ok I 768 _ (tail_halo I 0 512 768 (by omega) I.h1 rfl) (tail_halo I 1 512 768 (by omega) I.h2 rfl) _ g e3
  · exact piece9_ok I 512 _ (tail_halo I 0 256 512 (by omega) I.h1 rfl) (tail_halo I 1 256 512 (by omega) I.h2 rfl) _ g e2
  · exact piece9_ok I 256 _ (tail_halo I 0 0 256 (by omega) I.h1 rfl) (tail_halo I 1 0 256 (by omega) I.h2 rfl) _ g e1
  · exact piece9_ok I 0 _ H0 H1 _ g e0

theorem L9_at (I : Ins A R j x0 x1 x2 x3 x4 x5) {c0 c1 : FVec Ideal S16x512 .f32} (H0 : IsHalo A R j 0 0 c0)
    (H1 : IsHalo A R j 1 0 c1) (z : Vec Ideal S1024x1024 .f32) (g : ℕ → ℕ → EReal)
    (hz : ∀ (r : Fin 1024) (k : Fin 1024), z (ix2 r k) = g (R + r) k)
    {sig : RefSig} {κ : Kind} {sp : Space} (v : View sig κ sp S1024x1024 .f32) (f : v.ty.Contents (Elt Ideal)) :
    v.read (Elt Ideal) (v.writes (Elt Ideal) f (L9 c0 c1 x0 x1 x2 x3 x4 x5 z)) = G9 A R j g := by
  have hr : ∀ (o : ℕ) (ho : o + 256 ≤ 1024) (r : Fin 256) (k : Fin 1024), rowsL o ho z (ix2 r k) = g (R + o + r) k := by
    intro o ho r k
    rw [rowsL_at, hz]
    simp [Nat.add_assoc]
  exact four9 I H0 H1 _ _ _ _ g (hr 0 _) (hr 256 _) (hr 512 _) (hr 768 _) v f

/-- Rows that no store has reached yet hold the zeros of the fill. -/
theorem Z9_at (r : Fin 1024) (k : Fin 1024) : View.canon (Val := Elt Ideal) Z9 (ix2 r k) = (0 : EReal) := by
  unfold Z9
  rw [View.canon_unit_zero (S := S1024x1024) (off := ![0, 0]) (by funext a; fin_cases a <;> rfl)]
  exact Consts.ofBits_zero

theorem skip9 (o o' : ℕ) (ho : o + 256 ≤ 1024) (ho' : o' + 256 ≤ 1024) (hlt : o + 256 ≤ o') (z : Vec Ideal S256x1024 .f32)
    (h0 h1 : FVec Ideal S16x512 .f32) (L : List (View.Piece (Elt Ideal) S1024x1024 .f32)) (r : Fin 256) (k : Fin 1024) :
    View.canon (piece9 o ho z h0 h1 x0 x1 x2 x3 x4 x5 :: L) (ix2 ⟨o' + r, by omega⟩ k) = View.canon L (ix2 ⟨o' + r, by omega⟩ k) := by
  refine View.canon_cons_of_not_mem _ _ ?_
  unfold piece9
  rw [Rect.mem_set_unit]
  intro hm
  have := (hm 0).2
  simp at this
  omega

theorem cov9_at (v : View sig .tc .vmem S1024x1024 .f32) (L : List (View.Piece (Elt Ideal) S1024x1024 .f32)) (o : ℕ) (ho : o + 256 ≤ 1024)
    (r : Fin 256) (k : Fin 1024) : cov9 v L o ho (ix2 r k) = View.canon L (ix2 ⟨o + r, by omega⟩ k) := by
  unfold cov9
  rw [View.readCov_eq_canon']
  pointwise

theorem K4_at (I : Ins A R j x0 x1 x2 x3 x4 x5) {c0 c1 : FVec Ideal S16x512 .f32} (H0 : IsHalo A R j 0 0 c0)
    (H1 : IsHalo A R j 1 0 c1) (u : View sig .tc .vmem S1024x1024 .f32)
    {sig : RefSig} {κ : Kind} {sp : Space} (v : View sig κ sp S1024x1024 .f32) (f : v.ty.Contents (Elt Ideal)) :
    v.read (Elt Ideal) (v.writes (Elt Ideal) f (K4 u c0 c1 x0 x1 x2 x3 x4 x5)) = G9 A R j (fun _ _ => 0) := by
  have e : K4 u c0 c1 x0 x1 x2 x3 x4 x5 =
      [piece9 768 (by omega) (cov9 u (K3 u c0 c1 x0 x1 x2 x3 x4 x5) 768 (by omega)) (tail 512 (by omega) x0 x1) (tail 512 (by omega) x0 x2) x0 x1 x2 x3 x4 x5,
       piece9 512 (by omega) (cov9 u (K2 u c0 c1 x0 x1 x2 x3 x4 x5) 512 (by omega)) (tail 256 (by omega) x0 x1) (tail 256 (by omega) x0 x2) x0 x1 x2 x3 x4 x5,
       piece9 256 (by omega) (cov9 u (K1 u c0 c1 x0 x1 x2 x3 x4 x5) 256 (by omega)) (tail 0 (by omega) x0 x1) (tail 0 (by omega) x0 x2) x0 x1 x2 x3 x4 x5,
       piece9 0 (by omega) (cov9 u Z9 0 (by omega)) c0 c1 x0 x1 x2 x3 x4 x5] ++ Z9 := rfl
  rw [e, View.writes_append]
  refine four9 I H0 H1 _ _ _ _ (fun _ _ => 0) ?_ ?_ ?_ ?_ v _
  · intro r k
    rw [cov9_at, Z9_at]
  · intro r k
    rw [cov9_at]
    unfold K1
    rw [skip9 0 256 (by omega) (by omega) (by omega), Z9_at]
  · intro r k
    rw [cov9_at]
    unfold K2 K1
    rw [skip9 256 512 (by omega) (by omega) (by omega), skip9 0 512 (by omega) (by omega) (by omega), Z9_at]
  · intro r k
    rw [cov9_at]
    unfold K3 K2 K1
    rw [skip9 512 768 (by omega) (by omega) (by omega), skip9 256 768 (by omega) (by omega) (by omega), skip9 0 768 (by omega) (by omega) (by omega), Z9_at]

end

end Cert.Kernel4Ideal.Fwd

end
-- ==== Proof.FwdCarry.lean ====
module

public import proofs.«01_k».proof.Proof.FwdContents

@[expose] public section

/-! The forward call's rows carried, from one point to the next. -/

set_option maxRecDepth 16384

noncomputable section

namespace Cert.Kernel4Ideal.Fwd

open Cert.Kernel4Ideal Cert.Kernel4Ideal.Gen Idealize.ShloMosaic Idealize.SL.Sem Cert.Model

section
variable {j : ℕ}

theorem ldC_at (hh : ℕ) (hhh : hh < 2) (hj : j < 8) (off : Fin 4 → ℕ) (inb : ∀ a, off a + S1x1x16x512.size a ≤ S8x2x16x512.size a)
    (e : off = ![j, hh, 0, 0]) (x : Vec Ideal S8x2x16x512 .f32) (r : Fin 16) (c : Fin 512) :
    View.ld x (Rect.unit (s := S8x2x16x512) off S1x1x16x512.size inb) (ix4 0 0 r c) = x (ix4 ⟨j, hj⟩ ⟨hh, hhh⟩ r c) := by
  subst e
  pointwise

theorem memC (hh : ℕ) (off : Fin 4 → ℕ) (inb : ∀ a, off a + S1x1x16x512.size a ≤ S8x2x16x512.size a)
    (e : off = ![j, hh, 0, 0]) (y : S8x2x16x512.Idx) : y ∈ (Rect.unit (s := S8x2x16x512) off S1x1x16x512.size inb).set ↔ (y 0).val = j ∧ (y 1).val = hh := by
  subst e
  rw [Rect.mem_set_unit]
  have h2 : (y 2).val < 16 := (y 2).isLt
  have h3 : (y 3).val < 512 := (y 3).isLt
  constructor
  · intro h
    have a0 := h 0
    have a1 := h 1
    simp at a0 a1
    omega
  · rintro ⟨e0, e1⟩ a
    match a with
    | 0 => exact ⟨e0.symm.le, by rw [e0]; exact Nat.lt_succ_self _⟩
    | 1 => exact ⟨e1.symm.le, by rw [e1]; exact Nat.lt_succ_self _⟩
    | 2 => exact ⟨Nat.zero_le _, (Nat.zero_add 16).symm ▸ h2⟩
    | 3 => exact ⟨Nat.zero_le _, (Nat.zero_add 512).symm ▸ h3⟩

theorem embC (hh : ℕ) (hhh : hh < 2) (hj : j < 8) (off : Fin 4 → ℕ) (inb : ∀ a, off a + S1x1x16x512.size a ≤ S8x2x16x512.size a)
    (e : off = ![j, hh, 0, 0]) (x : S1x1x16x512.Idx) :
    ((Rect.unit (s := S8x2x16x512) off S1x1x16x512.size inb).emb x : S8x2x16x512.Idx) = ix4 ⟨j, hj⟩ ⟨hh, hhh⟩ (x 2) (x 3) := by
  subst e
  have h0 : (x 0).val < 1 := (x 0).isLt
  have h1 : (x 1).val < 1 := (x 1).isLt
  funext a
  apply Fin.ext
  match a with
  | 0 => show j + 1 * (x 0).val = j; omega
  | 1 => show hh + 1 * (x 1).val = hh; omega
  | 2 => show 0 + 1 * (x 2).val = (x 2).val; omega
  | 3 => show 0 + 1 * (x 3).val = (x 3).val; omega

/-- Two stores, one to each half of column block `j`, leave the new values there and the old ones elsewhere. -/
theorem twoC (hj : j < 8) (off off' : Fin 4 → ℕ) (inb : ∀ a, off a + S1x1x16x512.size a ≤ S8x2x16x512.size a)
    (inb' : ∀ a, off' a + S1x1x16x512.size a ≤ S8x2x16x512.size a) (e : off = ![j, 0, 0, 0]) (e' : off' = ![j, 1, 0, 0])
    (w w' : S1x1x16x512.Idx → EReal) (G G' : S8x2x16x512.Idx → EReal)
    (h : ∀ x, w x = G (ix4 ⟨j, hj⟩ 0 (x 2) (x 3))) (h' : ∀ x, w' x = G (ix4 ⟨j, hj⟩ 1 (x 2) (x 3)))
    (ho : ∀ y, (y 0).val ≠ j → G' y = G y)
    {sig : RefSig} {κ : Kind} {sp : Space} (v : View sig κ sp S8x2x16x512 .f32) (f : v.ty.Contents (Elt Ideal))
    (hf : v.read (Elt Ideal) f = G') :
    v.read (Elt Ideal) (v.writes (Elt Ideal) f [⟨Rect.unit (s := S8x2x16x512) off' S1x1x16x512.size inb', w'⟩, ⟨Rect.unit (s := S8x2x16x512) off S1x1x16x512.size inb, w⟩]) = G := by
  funext y
  by_cases hy : (y 0).val = j
  · refine View.read_writes_apply_of_pieces v f G _ ?_ y ?_
    · simp only [List.mem_cons, List.mem_nil_iff, or_false]
      rintro p (rfl | rfl)
      · intro x
        exact (h' x).trans (congrArg G (embC 1 (by omega) hj off' inb' e' x).symm)
      · intro x
        exact (h x).trans (congrArg G (embC 0 (by omega) hj off inb e x).symm)
    · have h1 : (y 1).val < 2 := (y 1).isLt
      by_cases h0 : (y 1).val = 0
      · exact ⟨_, .tail _ (.head _), (memC 0 off inb e y).2 ⟨hy, h0⟩⟩
      · exact ⟨_, .head _, (memC 1 off' inb' e' y).2 ⟨hy, by omega⟩⟩
  · rw [View.read_writes_apply_of_forall_not_mem v f y]
    · rw [hf, ho y hy]
    · simp only [List.mem_cons, List.mem_nil_iff, or_false]
      rintro p (rfl | rfl)
      · exact fun hm => hy ((memC 1 off' inb' e' y).1 hm).1
      · exact fun hm => hy ((memC 0 off inb e y).1 hm).1

end

/-- The rows carried, where column block `j'` has been visited up to row `hi j'`: the sixteen rows before that row. -/
def GS (A : Five) (hi : ℕ → ℕ) (y : S8x2x16x512.Idx) : EReal :=
  ((A.far (hi (y 0).val + (y 2).val) (4096 * (y 1).val + (512 * (y 0).val + (y 3).val)) : ℝ) : EReal)

/-- Column block `j` visited up to row `R`. -/
def visit (hi : ℕ → ℕ) (j R : ℕ) (k : ℕ) : ℕ := if k = j then R else hi k

section
variable {A : Five} {R j : ℕ} {x0 : Vec Ideal S1024x1024 .bf16} {x1 x2 w : Vec Ideal S1x1x1024x512 .bf16}
  {x3 : Vec Ideal S1x1x512x1024 .bf16} {x4 : Vec Ideal S2x3x512 .f32} {x5 : Vec Ideal S2x1x512 .f32} {hi : ℕ → ℕ}

theorem carried_halo (hh : ℕ) (hhh : hh < 2) (hj : j < 8) (hhi : hi j = R) (z : Vec Ideal S1x1x16x512 .f32)
    (hz : ∀ (r : Fin 16) (c : Fin 512), z (ix4 0 0 r c) = GS A hi (ix4 ⟨j, hj⟩ ⟨hh, hhh⟩ r c)) : IsHalo A R j hh 0 (carried z) := by
  intro r c
  pointwise [carried]
  rw [hz]
  show ((A.far (hi j + r.val) (4096 * hh + (512 * j + c.val)) : ℝ) : EReal) = _
  rw [hhi]

theorem LS_at (I : Ins A R j x0 x1 x2 x3 x4 x5) (hj : j < 8) (i : grid0.Coords) (e1 : k0_off1 i = ![j, 0, 0, 0])
    (e2 : k0_off2 i = ![j, 1, 0, 0]) {sig : RefSig} {κ : Kind} {sp : Space} (v : View sig κ sp S8x2x16x512 .f32)
    (f : v.ty.Contents (Elt Ideal)) (hf : v.read (Elt Ideal) f = GS A hi) :
    v.read (Elt Ideal) (v.writes (Elt Ideal) f (LS i x0 x1 x2)) = GS A (visit hi j (R + 1024)) := by
  have hp : ∀ (hh : ℕ) (hhh : hh < 2) (w : Vec Ideal S1x1x1024x512 .bf16) (hw : IsW A j hh w) (a b : Fin 1) (r : Fin 16) (c : Fin 512),
      carryAt (tail 768 (by omega) x0 w) (ix4 a b r c) = GS A (visit hi j (R + 1024)) (ix4 ⟨j, hj⟩ ⟨hh, hhh⟩ r c) := by
    intro hh hhh w hw a b r c
    pointwise [carryAt]
    rw [tail_halo I hh 768 1024 (by omega) hw rfl r c]
    show _ = ((A.far (visit hi j (R + 1024) j + r.val) (4096 * hh + (512 * j + c.val)) : ℝ) : EReal)
    simp [visit]
  refine twoC hj _ _ _ _ e1 e2 _ _ (GS A (visit hi j (R + 1024))) (GS A hi) ?_ ?_ ?_ v f hf
  · intro x
    exact (congrArg _ (eq_ix4 x)).trans (hp 0 (by omega) x1 I.h1 _ _ _ _)
  · intro x
    exact (congrArg _ (eq_ix4 x)).trans (hp 1 (by omega) x2 I.h2 _ _ _ _)
  · intro y hy
    simp [GS, visit, hy]

end

/-- Before any point the rows carried are zero. -/
theorem ZS_at (A : Five) (y : S8x2x16x512.Idx) : View.canon (Val := Elt Ideal) ZS y = GS A (fun _ => 0) y := by
  unfold ZS
  rw [View.canon_unit_zero (S := S8x2x16x512) (off := ![0, 0, 0, 0]) (by funext a; fin_cases a <;> rfl)]
  refine Eq.trans (b := ((0 : ℝ) : EReal)) Consts.ofBits_zero ?_
  have h2 : (y 2).val < 16 := (y 2).isLt
  unfold GS Five.far
  rw [if_pos (show 0 + (y 2).val < 16 by omega)]

end Cert.Kernel4Ideal.Fwd

end
-- ==== Proof.FwdSteps.lean ====
module

public import proofs.«01_k».proof.Proof.FwdCarry

@[expose] public section

/-! One point of the forward call: what it leaves in the four results' blocks and in the rows carried, over what the point
before left. -/

set_option maxRecDepth 16384

noncomputable section

namespace Cert.Kernel4Ideal.Fwd

open Cert.Kernel4Ideal Cert.Kernel4Ideal.Gen Idealize.ShloMosaic Idealize.SL.Sem Cert.Model

/-- The output over a block, from the first `j` column blocks. -/
def GP (A : Five) (R j : ℕ) (y : S1024x1024.Idx) : EReal :=
  ∑ b ∈ Finset.range j, A.fPart b (R + (y 0).val) (y 1).val

theorem GP_succ (A : Five) (R j : ℕ) : G9 A R j (fun r k => ∑ b ∈ Finset.range j, A.fPart b r k) = GP A R (j + 1) := by
  funext y
  simp only [G9, GP, Finset.sum_range_succ]

theorem GP_one (A : Five) (R : ℕ) : G9 A R 0 (fun _ _ => 0) = GP A R 1 := by
  rw [← GP_succ]
  simp

/-- A point's place among the others: row block from `R`, column block `j`, the rows visited before given by `hi`. -/
structure Place (R j : ℕ) (hi : ℕ → ℕ) (i : grid0.Coords) : Prop where
  hj : j < 8
  hhi : hi j = R
  e1 : k0_off1 i = ![j, 0, 0, 0]
  e2 : k0_off2 i = ![j, 1, 0, 0]

section
variable {A : Five} {R j : ℕ} {hi : ℕ → ℕ} {x0 : Vec Ideal S1024x1024 .bf16} {x1 x2 : Vec Ideal S1x1x1024x512 .bf16}
  {x3 : Vec Ideal S1x1x512x1024 .bf16} {x4 : Vec Ideal S2x3x512 .f32} {x5 : Vec Ideal S2x1x512 .f32}

theorem halo0 {i : grid0.Coords} (P : Place R j hi i) : IsHalo A R j 0 0 (carried (View.ld (Val := Elt Ideal) (e' := .f32) (GS A hi : Vec Ideal S8x2x16x512 .f32) (c1R i))) :=
  carried_halo 0 (by omega) P.hj P.hhi _ fun r c => ldC_at 0 (by omega) P.hj _ _ P.e1 _ r c

theorem halo1 {i : grid0.Coords} (P : Place R j hi i) : IsHalo A R j 1 0 (carried (View.ld (Val := Elt Ideal) (e' := .f32) (GS A hi : Vec Ideal S8x2x16x512 .f32) (c2R i))) :=
  carried_halo 1 (by omega) P.hj P.hhi _ fun r c => ldC_at 1 (by omega) P.hj _ _ P.e2 _ r c

theorem covS (v : View sig .tc .vmem S8x2x16x512 .f32) (r : Rect S8x2x16x512) :
    v.readCov ZS r.toLoadRect = View.ld (Val := Elt Ideal) (e' := .f32) (GS A (fun _ => 0) : Vec Ideal S8x2x16x512 .f32) r := by
  rw [View.readCov_eq_canon']
  funext y
  exact ZS_at A _

theorem haloA0 (v : View sig .tc .vmem S8x2x16x512 .f32) {i : grid0.Coords} (P : Place R j (fun _ => 0) i) :
    IsHalo A R j 0 0 (carried (v.readCov ZS (c1R i).toLoadRect)) :=
  carried_halo (hi := fun _ => 0) 0 (by omega) P.hj P.hhi _ fun r c => (congrFun (covS (A := A) v (c1R i)) (ix4 0 0 r c)).trans (ldC_at 0 (by omega) P.hj _ _ P.e1 _ r c)

theorem haloA1 (v : View sig .tc .vmem S8x2x16x512 .f32) {i : grid0.Coords} (P : Place R j (fun _ => 0) i) :
    IsHalo A R j 1 0 (carried (v.readCov ZS (c2R i).toLoadRect)) :=
  carried_halo (hi := fun _ => 0) 1 (by omega) P.hj P.hhi _ fun r c => (congrFun (covS (A := A) v (c2R i)) (ix4 0 0 r c)).trans (ldC_at 1 (by omega) P.hj _ _ P.e2 _ r c)

theorem stepB_6 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) :
    out0_B_6 (F := Ideal) c i a2 h2 a3 h3 a4 h4 a5 h5 a6 h6 a7 h7 a8 h8 a9 h9 a10 h10 a11 h11 a12 h12 hc0 hc1 x0 x1 x2 x3 x4 x5 (GP A R j) (GS A hi) = G6 A R j := by
  unfold out0_B_6
  rw [runB_6]
  simp only [Memref.IsWhole.read_unread]
  exact L6_at I (halo0 P) (halo1 P) _ _

theorem stepB_7 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) :
    out0_B_7 (F := Ideal) c i a2 h2 a3 h3 a4 h4 a5 h5 a6 h6 a7 h7 a8 h8 a9 h9 a10 h10 a11 h11 a12 h12 hc0 hc1 x0 x1 x2 x3 x4 x5 (GP A R j) (GS A hi) = G7 A R j := by
  unfold out0_B_7
  rw [runB_7]
  simp only [Memref.IsWhole.read_unread]
  exact L7_at I _ _

theorem stepB_8 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) :
    out0_B_8 (F := Ideal) c i a2 h2 a3 h3 a4 h4 a5 h5 a6 h6 a7 h7 a8 h8 a9 h9 a10 h10 a11 h11 a12 h12 hc0 hc1 x0 x1 x2 x3 x4 x5 (GP A R j) (GS A hi) = G8 A R j := by
  unfold out0_B_8
  rw [runB_8]
  simp only [Memref.IsWhole.read_unread]
  exact L8_at I (halo0 P) (halo1 P) _ _

theorem stepB_9 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) :
    out0_B_9 (F := Ideal) c i a2 h2 a3 h3 a4 h4 a5 h5 a6 h6 a7 h7 a8 h8 a9 h9 a10 h10 a11 h11 a12 h12 hc0 hc1 x0 x1 x2 x3 x4 x5 (GP A R j) (GS A hi) = GP A R (j + 1) := by
  unfold out0_B_9
  rw [runB_9]
  simp only [Memref.IsWhole.read_unread]
  exact (L9_at I (halo0 P) (halo1 P) _ (fun r k => ∑ b ∈ Finset.range j, A.fPart b r k) (fun _ _ => rfl) _ _).trans (GP_succ A R j)

theorem stepB_S (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) :
    sout0_B_0 (F := Ideal) c i a2 h2 a3 h3 a4 h4 a5 h5 a6 h6 a7 h7 a8 h8 a9 h9 a10 h10 a11 h11 a12 h12 hc0 hc1 x0 x1 x2 x3 x4 x5 (GP A R j) (GS A hi) = GS A (visit hi j (R + 1024)) := by
  unfold sout0_B_0
  rw [runB_S]
  simp only [Memref.IsWhole.read_unread]
  exact LS_at I P.hj i P.e1 P.e2 _ _ (Memref.IsWhole.read_unread _ _)

theorem stepC_6 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) :
    out0_C_6 (F := Ideal) c i a2 h2 a3 h3 a4 h4 a5 h5 a6 h6 a7 h7 a8 h8 a9 h9 a10 h10 a11 h11 a12 h12 hc0 hc1 x0 x1 x2 x3 x4 x5 (GS A hi) = G6 A R j := by
  unfold out0_C_6
  rw [runC_6]
  simp only [Memref.IsWhole.read_unread]
  exact L6_at I (halo0 P) (halo1 P) _ _

theorem stepC_7 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) :
    out0_C_7 (F := Ideal) c i a2 h2 a3 h3 a4 h4 a5 h5 a6 h6 a7 h7 a8 h8 a9 h9 a10 h10 a11 h11 a12 h12 hc0 hc1 x0 x1 x2 x3 x4 x5 (GS A hi) = G7 A R j := by
  unfold out0_C_7
  rw [runC_7]
  simp only [Memref.IsWhole.read_unread]
  exact L7_at I _ _

theorem stepC_8 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) :
    out0_C_8 (F := Ideal) c i a2 h2 a3 h3 a4 h4 a5 h5 a6 h6 a7 h7 a8 h8 a9 h9 a10 h10 a11 h11 a12 h12 hc0 hc1 x0 x1 x2 x3 x4 x5 (GS A hi) = G8 A R j := by
  unfold out0_C_8
  rw [runC_8]
  simp only [Memref.IsWhole.read_unread]
  exact L8_at I (halo0 P) (halo1 P) _ _

theorem stepC_9 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) (hj0 : j = 0) :
    out0_C_9 (F := Ideal) c i a2 h2 a3 h3 a4 h4 a5 h5 a6 h6 a7 h7 a8 h8 a9 h9 a10 h10 a11 h11 a12 h12 hc0 hc1 x0 x1 x2 x3 x4 x5 (GS A hi) = GP A R (j + 1) := by
  unfold out0_C_9
  rw [runC_9]
  simp only [Memref.IsWhole.read_unread]
  subst hj0
  exact (K4_at I (halo0 P) (halo1 P) _ _ _).trans (GP_one A R)

theorem stepC_S (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j hi i) :
    sout0_C_0 (F := Ideal) c i a2 h2 a3 h3 a4 h4 a5 h5 a6 h6 a7 h7 a8 h8 a9 h9 a10 h10 a11 h11 a12 h12 hc0 hc1 x0 x1 x2 x3 x4 x5 (GS A hi) = GS A (visit hi j (R + 1024)) := by
  unfold sout0_C_0
  rw [runC_S]
  simp only [Memref.IsWhole.read_unread]
  exact LS_at I P.hj i P.e1 P.e2 _ _ (Memref.IsWhole.read_unread _ _)

theorem stepA_6 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j (fun _ => 0) i) :
    out0_A_6 (F := Ideal) c i a2 h2 a3 h3 a4 h4 a5 h5 a6 h6 a7 h7 a8 h8 a9 h9 a10 h10 a11 h11 a12 h12 hc0 hc1 x0 x1 x2 x3 x4 x5  = G6 A R j := by
  unfold out0_A_6
  rw [runA_6]
  simp only [Memref.IsWhole.read_unread]
  exact L6_at I (haloA0 _ P) (haloA1 _ P) _ _

theorem stepA_7 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j (fun _ => 0) i) :
    out0_A_7 (F := Ideal) c i a2 h2 a3 h3 a4 h4 a5 h5 a6 h6 a7 h7 a8 h8 a9 h9 a10 h10 a11 h11 a12 h12 hc0 hc1 x0 x1 x2 x3 x4 x5  = G7 A R j := by
  unfold out0_A_7
  rw [runA_7]
  simp only [Memref.IsWhole.read_unread]
  exact L7_at I _ _

theorem stepA_8 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j (fun _ => 0) i) :
    out0_A_8 (F := Ideal) c i a2 h2 a3 h3 a4 h4 a5 h5 a6 h6 a7 h7 a8 h8 a9 h9 a10 h10 a11 h11 a12 h12 hc0 hc1 x0 x1 x2 x3 x4 x5  = G8 A R j := by
  unfold out0_A_8
  rw [runA_8]
  simp only [Memref.IsWhole.read_unread]
  exact L8_at I (haloA0 _ P) (haloA1 _ P) _ _

theorem stepA_9 (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j (fun _ => 0) i) (hj0 : j = 0) :
    out0_A_9 (F := Ideal) c i a2 h2 a3 h3 a4 h4 a5 h5 a6 h6 a7 h7 a8 h8 a9 h9 a10 h10 a11 h11 a12 h12 hc0 hc1 x0 x1 x2 x3 x4 x5  = GP A R (j + 1) := by
  unfold out0_A_9
  rw [runA_9]
  simp only [Memref.IsWhole.read_unread]
  subst hj0
  exact (K4_at I (haloA0 _ P) (haloA1 _ P) _ _ _).trans (GP_one A R)

theorem stepA_S (c : Dev nD) (i : grid0.Coords) (a2 h2 a3 h3 a4 h4 a5 h5 a6 h6 a7 h7 a8 h8 a9 h9 a10 h10 a11 h11 a12 h12 hc0 hc1) (I : Ins A R j x0 x1 x2 x3 x4 x5)
    (P : Place R j (fun _ => 0) i) :
    sout0_A_0 (F := Ideal) c i a2 h2 a3 h3 a4 h4 a5 h5 a6 h6 a7 h7 a8 h8 a9 h9 a10 h10 a11 h11 a12 h12 hc0 hc1 x0 x1 x2 x3 x4 x5  = GS A (visit (fun _ => 0) j (R + 1024)) := by
  unfold sout0_A_0
  rw [runA_S]
  simp only [Memref.IsWhole.read_unread]
  rw [View.writes_append]
  refine LS_at I P.hj i P.e1 P.e2 _ _ ?_
  funext y
  rw [View.read_writes_eq_canon]
  · exact ZS_at A y
  · exact fun y => ⟨_, .head _, by rw [Rect.mem_set_unit]; intro a; fin_cases a <;> exact ⟨Nat.zero_le _, (Nat.zero_add _).symm ▸ (y _).isLt⟩⟩

end

end Cert.Kernel4Ideal.Fwd

end
-- ==== Proof.FwdOuts.lean ====
module

public import proofs.«01_k».proof.Proof.FwdSteps
public import proofs.«01_k».proof.Proof.Gen.Kernel4Ideal.Value

@[expose] public section

/-! What every point of the forward call leaves, by going through the points in order. -/

set_option maxRecDepth 16384

noncomputable section

namespace Cert.Kernel4Ideal.Fwd

open Cert.Kernel4Ideal Cert.Kernel4Ideal.Gen Idealize.ShloMosaic Idealize.SL.Sem Cert.Model

/-- Up to which row each column block has been visited after `n` points: row blocks in order, column blocks within. -/
def seen (n k : ℕ) : ℕ := 1024 * if k < 8 then (n + 7 - k) / 8 else 0

theorem seen_zero : seen 0 = fun _ => 0 := by
  funext k
  unfold seen
  split <;> omega

theorem seen_succ (n : ℕ) : visit (seen n) (n % 8) (1024 * (n / 8) + 1024) = seen (n + 1) := by
  funext k
  unfold visit seen
  split
  · split <;> omega
  · split <;> omega

theorem off1 : ∀ t : Fin grid0.N, k0_off1 (grid0.coords t) = ![t.val % 8, 0, 0, 0] := by decide +kernel
theorem off2 : ∀ t : Fin grid0.N, k0_off2 (grid0.coords t) = ![t.val % 8, 1, 0, 0] := by decide +kernel

theorem place (t : Fin cfg0.N) : Place (1024 * (t.val / 8)) (t.val % 8) (seen t.val) (grid0.coords t) where
  hj := Nat.mod_lt _ (by omega)
  hhi := by
    unfold seen
    rw [if_pos (Nat.mod_lt _ (by omega))]
    omega
  e1 := off1 t
  e2 := off2 t

variable {m : (ℓ : Loc nD τ sig) → Buf (Elt Ideal) ℓ} {A : Five} {c : Dev nD}

/-- The blocks of every point are the model's numbers. -/
abbrev AllIns (m : (ℓ : Loc nD τ sig) → Buf (Elt Ideal) ℓ) (A : Five) (c : Dev nD) : Prop :=
  ∀ t : Fin cfg0.N, Ins A (1024 * (t.val / 8)) (t.val % 8) (iblk m c 0 t) (iblk m c 1 t) (iblk m c 2 t) (iblk m c 3 t) (iblk m c 4 t)
    (iblk m c 5 t)

theorem outA (t : Fin cfg0.N) (h0 : t.val % 32 = 0) (h1 : t.val % 8 = 0) {R j : ℕ}
    (I : Ins A R j (iblk m c 0 t) (iblk m c 1 t) (iblk m c 2 t) (iblk m c 3 t) (iblk m c 4 t) (iblk m c 5 t))
    (P : Place R j (fun _ => 0) (grid0.coords t)) (hj0 : j = 0) :
    outsAt0 (F := Ideal) m c t.val t.isLt = (G6 A R j, G7 A R j, G8 A R j, GP A R (j + 1), GS A (visit (fun _ => 0) j (R + 1024))) := by
  rw [outsAt0_A m c t h0 h1]
  refine congrArg₂ Prod.mk ?_ (congrArg₂ Prod.mk ?_ (congrArg₂ Prod.mk ?_ (congrArg₂ Prod.mk ?_ ?_)))
  · rw [stepA_6 (I := I) (P := P)]
  · rw [stepA_7 (I := I) (P := P)]
  · rw [stepA_8 (I := I) (P := P)]
  · rw [stepA_9 (I := I) (P := P) (hj0 := hj0)]
  · rw [stepA_S (I := I) (P := P)]

theorem outC (t : Fin cfg0.N) (h0 : ¬t.val % 32 = 0) (h1 : t.val % 8 = 0) {R j : ℕ} {hi : ℕ → ℕ}
    (I : Ins A R j (iblk m c 0 t) (iblk m c 1 t) (iblk m c 2 t) (iblk m c 3 t) (iblk m c 4 t) (iblk m c 5 t))
    (P : Place R j hi (grid0.coords t)) (hj0 : j = 0)
    (hn : t.val - 1 < cfg0.N) {z6 : Vec Ideal S1024x512 .bf16} {z7 z8 : Vec Ideal S2x1024x512 .bf16} {z9 : Vec Ideal S1024x1024 .f32}
    (e : outsAt0 (F := Ideal) m c (t.val - 1) hn = (z6, z7, z8, z9, GS A hi)) :
    outsAt0 (F := Ideal) m c t.val t.isLt = (G6 A R j, G7 A R j, G8 A R j, GP A R (j + 1), GS A (visit hi j (R + 1024))) := by
  rw [outsAt0_C m c t h0 h1]
  rw [e]
  refine congrArg₂ Prod.mk ?_ (congrArg₂ Prod.mk ?_ (congrArg₂ Prod.mk ?_ (congrArg₂ Prod.mk ?_ ?_)))
  · rw [stepC_6 (I := I) (P := P)]
  · rw [stepC_7 (I := I) (P := P)]
  · rw [stepC_8 (I := I) (P := P)]
  · rw [stepC_9 (I := I) (P := P) (hj0 := hj0)]
  · rw [stepC_S (I := I) (P := P)]

theorem outB (t : Fin cfg0.N) (h0 : ¬t.val % 32 = 0) (h1 : ¬t.val % 8 = 0) {R j : ℕ} {hi : ℕ → ℕ}
    (I : Ins A R j (iblk m c 0 t) (iblk m c 1 t) (iblk m c 2 t) (iblk m c 3 t) (iblk m c 4 t) (iblk m c 5 t))
    (P : Place R j hi (grid0.coords t))
    (hn : t.val - 1 < cfg0.N) {z6 : Vec Ideal S1024x512 .bf16} {z7 z8 : Vec Ideal S2x1024x512 .bf16}
    (e : outsAt0 (F := Ideal) m c (t.val - 1) hn = (z6, z7, z8, GP A R j, GS A hi)) :
    outsAt0 (F := Ideal) m c t.val t.isLt = (G6 A R j, G7 A R j, G8 A R j, GP A R (j + 1), GS A (visit hi j (R + 1024))) := by
  rw [outsAt0_B m c t h0 h1]
  rw [e]
  refine congrArg₂ Prod.mk ?_ (congrArg₂ Prod.mk ?_ (congrArg₂ Prod.mk ?_ (congrArg₂ Prod.mk ?_ ?_)))
  · rw [stepB_6 (I := I) (P := P)]
  · rw [stepB_7 (I := I) (P := P)]
  · rw [stepB_8 (I := I) (P := P)]
  · rw [stepB_9 (I := I) (P := P)]
  · rw [stepB_S (I := I) (P := P)]

theorem outs (I : AllIns m A c) : ∀ (n : ℕ) (hn : n < cfg0.N), outsAt0 (F := Ideal) m c n hn =
    (G6 A (1024 * (n / 8)) (n % 8), G7 A (1024 * (n / 8)) (n % 8), G8 A (1024 * (n / 8)) (n % 8), GP A (1024 * (n / 8)) (n % 8 + 1),
      GS A (seen (n + 1))) := by
  intro n
  induction n with
  | zero =>
    intro hn
    have P := place ⟨0, hn⟩
    have hz : seen (⟨0, hn⟩ : Fin cfg0.N).val = fun _ => 0 := seen_zero
    rw [hz] at P
    have e := seen_succ 0
    rw [seen_zero] at e
    rw [← e]
    exact outA ⟨0, hn⟩ (Nat.zero_mod _) (Nat.zero_mod _) (I ⟨0, hn⟩) P (Nat.zero_mod _)
  | succ n ih =>
    intro hn
    have P := place ⟨n + 1, hn⟩
    have hn' : n + 1 < 32 := hn
    have h0 : ¬(n + 1) % 32 = 0 := by omega
    have ih' := ih (Nat.lt_of_succ_lt hn)
    rw [← seen_succ (n + 1)]
    by_cases h1 : (n + 1) % 8 = 0
    · exact outC ⟨n + 1, hn⟩ h0 h1 (I ⟨n + 1, hn⟩) P h1 (Nat.lt_of_succ_lt hn) ih'
    · rw [show n / 8 = (n + 1) / 8 by omega, show n % 8 + 1 = (n + 1) % 8 by omega] at ih'
      exact outB ⟨n + 1, hn⟩ h0 h1 (I ⟨n + 1, hn⟩) P (Nat.lt_of_succ_lt hn) ih'

end Cert.Kernel4Ideal.Fwd

end
-- ==== Proof.FwdHost.lean ====
module

public import proofs.«01_k».proof.Proof.FwdOuts
public import Idealize.ShloMosaic.Lib.StableHlo.ReadAt
public import Idealize.ShloMosaic.Lib.Pointwise
public import Idealize.ShloMosaic.Lib.Pipeline.ValueKit

@[expose] public section

/-! The arrays the forward call is given, read off the host's operations, and the four result arrays after the run. -/

set_option maxRecDepth 16384

noncomputable section

namespace Cert.Kernel4Ideal.Fwd

open Cert.Kernel4Ideal Cert.Kernel4Ideal.Gen Idealize.ShloMosaic Idealize.ShloMosaic.TcCoe Idealize.SL.Sem Cert.Model

/-- The launch's arrays hold the five arrays. -/
structure Holds (m : (ℓ : Loc nD τ sig) → Buf (Elt Ideal) ℓ) (A : Five) (c : Dev nD) : Prop where
  h : ∀ (r : Fin 4096) (k : Fin 1024), m ((c : Thread nD τ).loc main_arg0) (ix2 r k) = A.h r k
  w : ∀ (r : Fin 1024) (k : Fin 8192), m ((c : Thread nD τ).loc main_arg1) (ix2 r k) = A.w r k
  t : ∀ (r : Fin 3) (k : Fin 8192), m ((c : Thread nD τ).loc main_arg2) (ix2 r k) = A.t r k
  b : ∀ (k : Fin 8192), m ((c : Thread nD τ).loc main_arg3) (ix1 k) = A.b 0 k
  d : ∀ (r : Fin 4096) (k : Fin 1024), m ((c : Thread nD τ).loc main_arg4) (ix2 r k) = A.d r k

variable {m : (ℓ : Loc nD τ sig) → Buf (Elt Ideal) ℓ} {A : Five} {c : Dev nD}

theorem dw_at (A : Five) {r k : ℕ} (hr : r < 4096) (hk : k < 1024) : A.d ⟨r, hr⟩ ⟨k, hk⟩ = A.dw r k := by
  rw [Five.dw, dif_pos ⟨hr, hk⟩]

theorem V9_at (H : Holds m A c) (r : Fin 4096) (k : Fin 1024) : V m c main_v9 (ix2 r k) = ((rd A.h r k : ℝ) : EReal) := by
  unfold V
  after_reads_at
  exact (H.h r k).trans (rd_at A.fh r.2 k.2)

theorem V5_at (H : Holds m A c) (a : Fin 4) (r k : Fin 1024) : V m c main_v5 (ix4 a 0 r k) = A.dw (1024 * a + r) k := by
  unfold V
  after_reads_at
  refine (H.d _ _).trans ((dw_at A _ k.2).trans ?_)
  rw [Nat.mul_comm]

theorem V3_at (H : Holds m A c) (a : Fin 4) (k : Fin 1024) (r : Fin 2048) : V m c main_v3 (ix4 a 0 k r) = ((rd A.w k (2048 * a + r) : ℝ) : EReal) := by
  unfold V
  after_reads_at
  refine (H.w _ _).trans ((rd_at A.fw k.2 _).trans ?_)
  rw [Nat.mul_comm]

theorem V7_at (H : Holds m A c) (h : Fin 2) (t : Fin 3) (r : Fin 4096) : V m c main_v7 (ix3 h t r) = ((rd A.t t (4096 * h + r) : ℝ) : EReal) := by
  unfold V
  after_reads_at
  refine (H.t _ _).trans ((rd_at A.ft t.2 _).trans ?_)
  rw [Nat.mul_comm]

theorem V8_at (H : Holds m A c) (h : Fin 2) (r : Fin 4096) : V m c main_v8 (ix3 h 0 r) = ((rd A.b 0 (4096 * h + r) : ℝ) : EReal) := by
  unfold V
  after_reads_at
  refine (H.b _).trans ((rd_at A.fb (by omega) _).trans ?_)
  rw [Nat.mul_comm]

theorem idx0 : ∀ t : Fin grid0.N, win0_0.index t = ![t.val / 8, 0] := by decide +kernel
theorem idx1 : ∀ t : Fin grid0.N, win0_1.index t = ![t.val % 8 / 4, 0, 0, t.val % 8 % 4] := by decide +kernel
theorem idx2 : ∀ t : Fin grid0.N, win0_2.index t = ![(t.val % 8 + 8) / 4, 0, 0, (t.val % 8 + 8) % 4] := by decide +kernel
theorem idx3 : ∀ t : Fin grid0.N, win0_3.index t = ![t.val % 8 / 2, 0, t.val % 8 % 2, 0] := by decide +kernel
theorem idx4 : ∀ t : Fin grid0.N, win0_4.index t = ![0, 0, t.val % 8] := by decide +kernel
theorem idx5 : ∀ t : Fin grid0.N, win0_5.index t = ![0, 0, t.val % 8] := by decide +kernel

theorem blk0_at (H : Holds m A c) (t : Fin cfg0.N) (r k : Fin 1024) : iblk m c 0 t (ix2 r k) = ((rd A.h (1024 * (t.val / 8) + r) k : ℝ) : EReal) := by
  have ht : t.val < 32 := t.isLt
  have e : iblk m c 0 t (ix2 r k) = V m c main_v9 (ix2 ⟨1024 * (t.val / 8) + r.val, by omega⟩ k) := by
    blk_ext [iblk, idx0 t]
  exact e.trans (V9_at H _ _)

theorem blk1_at (H : Holds m A c) (t : Fin cfg0.N) (k : Fin 1024) (q : Fin 512) :
    iblk m c 1 t (ix4 0 0 k q) = ((rd A.w k (4096 * 0 + (512 * (t.val % 8) + q)) : ℝ) : EReal) := by
  have ht : t.val < 32 := t.isLt
  have e : iblk m c 1 t (ix4 0 0 k q) = V m c main_v3 (ix4 ⟨t.val % 8 / 4, by omega⟩ 0 k ⟨512 * (t.val % 8 % 4) + q.val, by omega⟩) := by
    blk_ext [iblk, idx1 t]
  have e' : 2048 * (t.val % 8 / 4) + (512 * (t.val % 8 % 4) + q.val) = 4096 * 0 + (512 * (t.val % 8) + q) := by omega
  exact e.trans ((V3_at H _ _ _).trans (congrArg (fun x => ((rd A.w k x : ℝ) : EReal)) e'))

theorem blk2_at (H : Holds m A c) (t : Fin cfg0.N) (k : Fin 1024) (q : Fin 512) :
    iblk m c 2 t (ix4 0 0 k q) = ((rd A.w k (4096 * 1 + (512 * (t.val % 8) + q)) : ℝ) : EReal) := by
  have ht : t.val < 32 := t.isLt
  have e : iblk m c 2 t (ix4 0 0 k q) = V m c main_v3 (ix4 ⟨(t.val % 8 + 8) / 4, by omega⟩ 0 k ⟨512 * ((t.val % 8 + 8) % 4) + q.val, by omega⟩) := by
    blk_ext [iblk, idx2 t]
  have e' : 2048 * ((t.val % 8 + 8) / 4) + (512 * ((t.val % 8 + 8) % 4) + q.val) = 4096 * 1 + (512 * (t.val % 8) + q) := by omega
  exact e.trans ((V3_at H _ _ _).trans (congrArg (fun x => ((rd A.w k x : ℝ) : EReal)) e'))

theorem blk3_at (H : Holds m A c) (t : Fin cfg0.N) (q : Fin 512) (k : Fin 1024) : iblk m c 3 t (ix4 0 0 q k) = A.dw (512 * (t.val % 8) + q) k := by
  have ht : t.val < 32 := t.isLt
  have e : iblk m c 3 t (ix4 0 0 q k) = V m c main_v5 (ix4 ⟨t.val % 8 / 2, by omega⟩ 0 ⟨512 * (t.val % 8 % 2) + q.val, by omega⟩ k) := by
    blk_ext [iblk, idx3 t]
  have e' : 1024 * (t.val % 8 / 2) + (512 * (t.val % 8 % 2) + q.val) = 512 * (t.val % 8) + q := by omega
  exact e.trans ((V5_at H _ _ _).trans (congrArg (fun x => A.dw x k) e'))

theorem blk4_at (H : Holds m A c) (t : Fin cfg0.N) (hh : Fin 2) (s : Fin 3) (q : Fin 512) :
    iblk m c 4 t (ix3 hh s q) = ((rd A.t s (4096 * hh + (512 * (t.val % 8) + q)) : ℝ) : EReal) := by
  have ht : t.val < 32 := t.isLt
  have e : iblk m c 4 t (ix3 hh s q) = V m c main_v7 (ix3 hh s ⟨512 * (t.val % 8) + q.val, by omega⟩) := by
    blk_ext [iblk, idx4 t]
  exact e.trans (V7_at H _ _ _)

theorem blk5_at (H : Holds m A c) (t : Fin cfg0.N) (hh : Fin 2) (q : Fin 512) :
    iblk m c 5 t (ix3 hh 0 q) = ((rd A.b 0 (4096 * hh + (512 * (t.val % 8) + q)) : ℝ) : EReal) := by
  have ht : t.val < 32 := t.isLt
  have e : iblk m c 5 t (ix3 hh 0 q) = V m c main_v8 (ix3 hh 0 ⟨512 * (t.val % 8) + q.val, by omega⟩) := by
    blk_ext [iblk, idx5 t]
  exact e.trans (V8_at H _ _)

theorem allIns (H : Holds m A c) : AllIns m A c :=
  fun t => ⟨blk0_at H t, blk1_at H t, blk2_at H t, blk3_at H t, blk4_at H t, blk5_at H t⟩

/-! The results: the gated product, the up projection, the convolution, the output. -/

def H6 (A : Five) (y : S4096x4096.Idx) : EReal := ((A.y (y 0).val (y 1).val : ℝ) : EReal)
def H7 (A : Five) (y : S2x4096x4096.Idx) : EReal := ((A.up (y 1).val (4096 * (y 0).val + (y 2).val) : ℝ) : EReal)
def H8 (A : Five) (y : S2x4096x4096.Idx) : EReal := ((A.cv (y 1).val (4096 * (y 0).val + (y 2).val) : ℝ) : EReal)
def H9 (A : Five) (y : S4096x1024.Idx) : EReal := ∑ b ∈ Finset.range 8, A.fPart b (y 0).val (y 1).val

theorem idx6 : ∀ t : Fin grid0.N, win0_6.index t = ![t.val / 8, t.val % 8] := by decide +kernel
theorem idx7 : ∀ t : Fin grid0.N, win0_7.index t = ![0, t.val / 8, t.val % 8] := by decide +kernel
theorem idx8 : ∀ t : Fin grid0.N, win0_8.index t = ![0, t.val / 8, t.val % 8] := by decide +kernel
theorem idx9 : ∀ t : Fin grid0.N, win0_9.index t = ![t.val / 8, 0] := by decide +kernel

theorem emb6 (t : Fin cfg0.N) (y : S1024x512.Idx) (i : S4096x4096.Idx) (h : i = (win0_6.blk t).view.emb y) :
    (i 0).val = 1024 * (t.val / 8) + (y 0).val ∧ (i 1).val = 512 * (t.val % 8) + (y 1).val := by
  subst h
  blk_simp [idx6 t]
  refine ⟨?_, ?_⟩ <;> simp <;> omega

theorem emb7 (t : Fin cfg0.N) (y : S2x1024x512.Idx) (i : S2x4096x4096.Idx) (h : i = (win0_7.blk t).view.emb y) :
    (i 0).val = (y 0).val ∧ (i 1).val = 1024 * (t.val / 8) + (y 1).val ∧ (i 2).val = 512 * (t.val % 8) + (y 2).val := by
  subst h
  blk_simp [idx7 t]
  refine ⟨?_, ?_, ?_⟩ <;> simp <;> omega

theorem emb8 (t : Fin cfg0.N) (y : S2x1024x512.Idx) (i : S2x4096x4096.Idx) (h : i = (win0_8.blk t).view.emb y) :
    (i 0).val = (y 0).val ∧ (i 1).val = 1024 * (t.val / 8) + (y 1).val ∧ (i 2).val = 512 * (t.val % 8) + (y 2).val := by
  subst h
  blk_simp [idx8 t]
  refine ⟨?_, ?_, ?_⟩ <;> simp <;> omega

theorem arr6 (I : AllIns m A c) : (dats m 0 c).arrAt 6 cfg0.N = H6 A := by
  refine (dats m 0 c).arrAt_eq_of_covers 6 _ (by decide +kernel) fun t hf y => ?_
  blk_simp
  rw [after0_6, outs I]
  obtain ⟨e0, e1⟩ := emb6 t y _ rfl
  show G6 A _ _ y = ((A.y _ _ : ℝ) : EReal)
  rw [e0, e1]
  rfl

theorem arr7 (I : AllIns m A c) : (dats m 0 c).arrAt 7 cfg0.N = H7 A := by
  refine (dats m 0 c).arrAt_eq_of_covers 7 _ (by decide +kernel) fun t hf y => ?_
  blk_simp
  rw [after0_7, outs I]
  obtain ⟨e0, e1, e2⟩ := emb7 t y _ rfl
  show G7 A _ _ y = ((A.up _ (4096 * _ + _) : ℝ) : EReal)
  rw [e0, e1, e2]
  rfl

theorem arr8 (I : AllIns m A c) : (dats m 0 c).arrAt 8 cfg0.N = H8 A := by
  refine (dats m 0 c).arrAt_eq_of_covers 8 _ (by decide +kernel) fun t hf y => ?_
  blk_simp
  rw [after0_8, outs I]
  obtain ⟨e0, e1, e2⟩ := emb8 t y _ rfl
  show G8 A _ _ y = ((A.cv _ (4096 * _ + _) : ℝ) : EReal)
  rw [e0, e1, e2]
  rfl

theorem arr9 (I : AllIns m A c) : (dats m 0 c).arrAt 9 cfg0.N = H9 A := by
  refine (dats m 0 c).arrAt_eq_of_covers 9 _ (by decide +kernel) fun t hf y => ?_
  blk_simp
  rw [after0_9, outs I, (flush0_9 t).1 hf]
  show GP A _ 8 y = H9 A _
  unfold GP H9
  blk_simp [idx9 t]
  rw [Nat.mul_comm]

end Cert.Kernel4Ideal.Fwd

end
-- ==== Proof.FwdRef.lean ====
module

public import proofs.«01_k».proof.Proof.Gen.Reference4Ideal.Read
public import proofs.«01_k».proof.Proof.FwdModel
public import Idealize.ShloMosaic.Lib.Pointwise

@[expose] public section

/-! The forward reference's values, read in the model. -/

set_option maxRecDepth 16384

noncomputable section

namespace Cert.Reference4Ideal.Math

open Cert.Reference4Ideal Cert.Reference4Ideal.Gen Cert.Reference4Ideal.Read Idealize.ShloMosaic Idealize.SL.Sem Cert.Model

/-- The five arguments are the model's arrays. -/
structure Same (A : Five) (x0 : S4096x1024.Idx → EReal) (x1 : S1024x8192.Idx → EReal) (x2 : S3x8192.Idx → EReal) (x3 : S8192.Idx → EReal)
    (x4 : S4096x1024.Idx → EReal) : Prop where
  h : ∀ (r : Fin 4096) (k : Fin 1024), x0 (ix2 r k) = A.h r k
  w : ∀ (r : Fin 1024) (k : Fin 8192), x1 (ix2 r k) = A.w r k
  t : ∀ (r : Fin 3) (k : Fin 8192), x2 (ix2 r k) = A.t r k
  b : ∀ (k : Fin 8192), x3 (ix1 k) = A.b 0 k
  d : ∀ (r : Fin 4096) (k : Fin 1024), x4 (ix2 r k) = A.d r k

variable {A : Five} {x0 : S4096x1024.Idx → EReal} {x1 : S1024x8192.Idx → EReal} {x2 : S3x8192.Idx → EReal} {x3 : S8192.Idx → EReal}
  {x4 : S4096x1024.Idx → EReal}

theorem v0_at (S : Same A x0 x1 x2 x3 x4) (r : Fin 4096) (c : Fin 8192) :
    val_main_v0 (F := Ideal) x0 x1 (ix2 r c) = ((A.up r c : ℝ) : EReal) := by
  pointwise [val_main_v0]
  unfold Five.up
  rw [← Consts.coe_sum]
  refine Finset.sum_congr rfl fun x _ => ?_
  rw [EReal.coe_mul]
  exact congrArg₂ (· * ·) ((S.h _ _).trans (rd_at A.fh r.2 x.2)) ((S.w _ _).trans (rd_at A.fw x.2 c.2))

theorem v2_at (S : Same A x0 x1 x2 x3 x4) (r : Fin 4098) (c : Fin 8192) :
    val_main_v2 (F := Ideal) x0 x1 (ix2 r c) = ((A.pad r c : ℝ) : EReal) := by
  pointwise [val_main_v2, val_main_v1, val_main_cst, v0_at S]
  unfold Five.pad
  split <;> simp

theorem v27_at (S : Same A x0 x1 x2 x3 x4) (r : Fin 4096) (c : Fin 8192) :
    val_main_v27 (F := Ideal) x0 x1 x2 x3 (ix2 r c) = ((A.cv r c : ℝ) : EReal) := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_0, v2_at S, S.t, S.b]
  have e3 : A.b 0 c = ((rd A.b 0 c : ℝ) : EReal) := rd_at A.fb (by omega) c.2
  have e2 : ∀ s : Fin 3, A.t s c = ((rd A.t s c : ℝ) : EReal) := fun s => rd_at A.ft s.2 c.2
  rw [e3, e2, e2, e2]
  unfold Five.cv
  simp only [← EReal.coe_mul, ← EReal.coe_add]
  rw [Nat.add_comm r.val 1, Nat.add_comm r.val 2]
  rfl

theorem v28_at (S : Same A x0 x1 x2 x3 x4) (r c : Fin 4096) :
    val_main_v28 (F := Ideal) x0 x1 x2 x3 (ix2 r c) = ((A.cv r c : ℝ) : EReal) := by
  pointwise [val_main_v28, v27_at S]

theorem v29_at (S : Same A x0 x1 x2 x3 x4) (r c : Fin 4096) :
    val_main_v29 (F := Ideal) x0 x1 x2 x3 (ix2 r c) = ((A.cv r (4096 + c) : ℝ) : EReal) := by
  pointwise [val_main_v29, v27_at S]

theorem v43_at (S : Same A x0 x1 x2 x3 x4) (r c : Fin 4096) :
    val_main_v43 (F := Ideal) x0 x1 x2 x3 (ix2 r c) = ((A.y r c : ℝ) : EReal) := by
  pointwise [val_main_v43, val_main_v42, val_main_v41, val_main_v40, val_main_cst_4, val_main_v39, val_main_v38, val_main_cst_3, val_main_v37,
    val_main_v36, val_main_v35, val_main_cst_2, val_main_v34, val_main_v33, val_main_v32, val_main_cst_1, val_main_v31, val_main_v30,
    v28_at S, v29_at S, Consts.ofBits_cc, Consts.ofBits_ca, Consts.ofBits_half]
  rw [← EReal.coe_one]
  simp only [← EReal.coe_mul, ← EReal.coe_add, Ideal.tanh_coe]
  unfold Five.y act th
  congr 1
  rw [show cc * (A.cv r c + ca * (A.cv r c * A.cv r c * A.cv r c)) = A.cv r c * (cc + cc * ca * (A.cv r c * A.cv r c)) by ring]
  ring

theorem v45_at (S : Same A x0 x1 x2 x3 x4) (r c : Fin 4096) :
    val_main_v45 (F := Ideal) x0 x1 x2 x3 (ix2 r c) = ((A.y r c : ℝ) : EReal) := by
  pointwise [val_main_v45, v43_at S]

theorem v48_at (S : Same A x0 x1 x2 x3 x4) (h : Fin 2) (r c : Fin 4096) :
    val_main_v48 (F := Ideal) x0 x1 (ix3 h r c) = ((A.up r (4096 * h + c) : ℝ) : EReal) := by
  pointwise [val_main_v48, val_main_v47, val_main_v46, v0_at S]
  rw [Nat.mul_comm]

theorem v51_at (S : Same A x0 x1 x2 x3 x4) (h : Fin 2) (r c : Fin 4096) :
    val_main_v51 (F := Ideal) x0 x1 x2 x3 (ix3 h r c) = ((A.cv r (4096 * h + c) : ℝ) : EReal) := by
  pointwise [val_main_v51, val_main_v50, val_main_v49, v27_at S]
  rw [Nat.mul_comm]

/-- A sum over the columns, by column blocks. -/
theorem sum_blocks (q : ℕ → EReal) (n : ℕ) : ∑ i ∈ Finset.range (512 * n), q i = ∑ b ∈ Finset.range n, ∑ c : Fin 512, q (512 * b + c) := by
  induction n with
  | zero => simp
  | succ n ih => rw [Nat.mul_succ, Finset.sum_range_add, ih, Finset.sum_range_succ _ n, Finset.sum_range (fun x => q (512 * n + x))]

theorem v44_at (S : Same A x0 x1 x2 x3 x4) (r : Fin 4096) (k : Fin 1024) :
    val_main_v44 (F := Ideal) x0 x1 x2 x3 x4 (ix2 r k) = ∑ b ∈ Finset.range 8, A.fPart b r k := by
  pointwise [val_main_v44, v43_at S, S.d]
  have e : ∀ x : Fin 4096, A.d x k = A.dw x k := fun x => by rw [Five.dw, dif_pos ⟨x.2, k.2⟩]
  simp only [e]
  rw [← Finset.sum_range (fun x => ((A.y r x : ℝ) : EReal) * A.dw x k)]
  exact sum_blocks (fun x => ((A.y r x : ℝ) : EReal) * A.dw x k) 8

end Cert.Reference4Ideal.Math

end
-- ==== Proof.FwdJoin.lean ====
module

public import proofs.«01_k».proof.Defs
public import proofs.«01_k».proof.Proof.Finite
public import proofs.«01_k».proof.Proof.FwdHost
public import proofs.«01_k».proof.Proof.FwdRef
public import proofs.«01_k».proof.Proof.Gen.Pre_finite4
public import proofs.«01_k».proof.Proof.Gen.Kernel4.Frame
public import Idealize.ShloMosaic.Lib.Quiescent

@[expose] public section

/-! The forward call's claims. -/

set_option maxRecDepth 16384

noncomputable section

namespace Cert.Forward

open Idealize.ShloMosaic Idealize.ShloMosaic.TcCoe Idealize.SL.Sem Cert.Model

theorem frame_p : Cert.quiescent_Kernel4 := fun m ρ _ => Cert.Kernel4.Gen.frame m ρ
theorem frame_pi : Cert.quiescent_Kernel4Ideal := fun m ρ _ => Cert.Kernel4Ideal.Gen.frame m ρ
theorem frame_pi' : Cert.quiescent_Kernel4Ideal_pre_finite4 := fun m ρ _ => Cert.Kernel4Ideal.Gen.frame m ρ
theorem frame_ri : Cert.quiescent_Reference4Ideal := fun m ρ _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m ρ)
theorem frame_ri' : Cert.quiescent_Reference4Ideal_pre_finite4 := fun m ρ _ => frame_ri m ρ trivial

theorem preserves : Cert.preserves_Kernel4_Kernel4Ideal :=
  IdealRules.named_const.statement Cert.Kernel4Ideal.κ "gelu_ca" .f32 0x3D122279#32 ((80338380498831 / 2251799813685248 : ℝ) : EReal) rfl

section
open Cert.Pre_finite4 Cert.Pre_finite4.Gen

variable (a0 : FVec Ideal S4096x1024 .f32) (a1 : FVec Ideal S1024x8192 .f32) (a2 : FVec Ideal S3x8192 .f32) (a3 : FVec Ideal S8192 .f32)
  (a4 : FVec Ideal S4096x1024 .f32)

def ok : Prop :=
  (Cert.Pre_finite4.fn (F := Ideal) a0 a1 a2 a3 a4).1 = (fun _ => 1#1)
    ∧ (Cert.Pre_finite4.fn (F := Ideal) a0 a1 a2 a3 a4).2.1 = (fun _ => 1#1)
    ∧ (Cert.Pre_finite4.fn (F := Ideal) a0 a1 a2 a3 a4).2.2.1 = (fun _ => 1#1)
    ∧ (Cert.Pre_finite4.fn (F := Ideal) a0 a1 a2 a3 a4).2.2.2 = (fun _ => 1#1)

variable {a0 a1 a2 a3 a4}

/-- The arrays of the model. -/
def five (h : ok a0 a1 a2 a3 a4) : Five where
  h r k := a0 (ix2 r k)
  w r k := a1 (ix2 r k)
  t r k := a2 (ix2 r k)
  b _ k := a3 (ix1 k)
  d r k := a4 (ix2 r k)
  fh r k := Cert.Finite.real_of (congrFun h.1 (ix2 r k))
  fw r k := Cert.Finite.real_of (congrFun h.2.1 (ix2 r k))
  ft r k := Cert.Finite.real_of (congrFun h.2.2.1 (ix2 r k))
  fb _ k := Cert.Finite.real_of (congrFun h.2.2.2 (ix1 k))

end

section
open Cert.Reference4Ideal Cert.Reference4Ideal.Read Cert.Reference4Ideal.Math

variable {A : Five} {x0 : S4096x1024.Idx → EReal} {x1 : S1024x8192.Idx → EReal} {x2 : S3x8192.Idx → EReal} {x3 : S8192.Idx → EReal}
  {x4 : S4096x1024.Idx → EReal}

theorem ref6 (S : Same A x0 x1 x2 x3 x4) : val_main_v45 (F := Ideal) x0 x1 x2 x3 = Cert.Kernel4Ideal.Fwd.H6 A := by
  funext y
  have e := v45_at S (y 0) (y 1)
  have q : (y : S4096x4096.Idx) = ix2 (y 0) (y 1) := by ext a; fin_cases a <;> rfl
  exact (congrArg _ q).trans e

theorem ref7 (S : Same A x0 x1 x2 x3 x4) : val_main_v48 (F := Ideal) x0 x1 = Cert.Kernel4Ideal.Fwd.H7 A := by
  funext y
  have e := v48_at S (y 0) (y 1) (y 2)
  have q : (y : S2x4096x4096.Idx) = ix3 (y 0) (y 1) (y 2) := by ext a; fin_cases a <;> rfl
  exact (congrArg _ q).trans e

theorem ref8 (S : Same A x0 x1 x2 x3 x4) : val_main_v51 (F := Ideal) x0 x1 x2 x3 = Cert.Kernel4Ideal.Fwd.H8 A := by
  funext y
  have e := v51_at S (y 0) (y 1) (y 2)
  have q : (y : S2x4096x4096.Idx) = ix3 (y 0) (y 1) (y 2) := by ext a; fin_cases a <;> rfl
  exact (congrArg _ q).trans e

theorem ref9 (S : Same A x0 x1 x2 x3 x4) : val_main_v44 (F := Ideal) x0 x1 x2 x3 x4 = Cert.Kernel4Ideal.Fwd.H9 A := by
  funext y
  have e := v44_at S (y 0) (y 1)
  have q : (y : S4096x1024.Idx) = ix2 (y 0) (y 1) := by ext a; fin_cases a <;> rfl
  exact (congrArg _ q).trans e

end

theorem algebraic : Cert.algebraic_Kernel4Ideal_Reference4Ideal_pre_finite4 := by
  intro m ρ m' ρ' hpre hagree
  have hok : ∀ c : Dev Cert.Kernel4Ideal.nD, ok _ _ _ _ _ := fun c => hpre c
  let A : Dev Cert.Kernel4Ideal.nD → Five := fun c => five (hok c)
  have K : ∀ c, Cert.Kernel4Ideal.Fwd.Holds m (A c) c := fun c =>
    ⟨fun _ _ => rfl, fun _ _ => rfl, fun _ _ => rfl, fun _ => rfl, fun _ _ => rfl⟩
  refine ⟨fun c => Cert.Kernel4Ideal.Fwd.H6 (A c), fun c => Cert.Kernel4Ideal.Fwd.H7 (A c), fun c => Cert.Kernel4Ideal.Fwd.H8 (A c),
    fun c => Cert.Kernel4Ideal.Fwd.H9 (A c), ?_, ?_⟩
  · refine (θ_run Cert.Kernel4Ideal.defs _ _).mono (fun r h c => ?_) (Cert.Kernel4Ideal.Value.run_blocks m ρ)
    obtain ⟨h6, h7, h8, h9, h⟩ := h c
    have I := Cert.Kernel4Ideal.Fwd.allIns (K c)
    exact ⟨h6.trans (Cert.Kernel4Ideal.Fwd.arr6 I), h7.trans (Cert.Kernel4Ideal.Fwd.arr7 I), h8.trans (Cert.Kernel4Ideal.Fwd.arr8 I),
      h9.trans (Cert.Kernel4Ideal.Fwd.arr9 I), h⟩
  · refine (θ_run Cert.Reference4Ideal.defs _ _).mono (fun r h c => ?_) (Cert.Reference4Ideal.Value.run (F := Ideal) m' ρ')
    obtain ⟨h6, h7, h8, h9, h⟩ := h c
    obtain ⟨a0, a1, a2, a3, a4⟩ := hagree c
    have S : Cert.Reference4Ideal.Math.Same (A c) (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3))
        (m' ((c.tc : Thread Cert.Reference4Ideal.nD Cert.Reference4Ideal.τ).loc Cert.Reference4Ideal.main_arg4)) :=
      ⟨fun _ _ => congrFun a0 _, fun _ _ => congrFun a1 _, fun _ _ => congrFun a2 _, fun _ => congrFun a3 _, fun _ _ => congrFun a4 _⟩
    exact ⟨(h6.trans (Cert.Reference4Ideal.Read.val_main_v45_eq m' c)).trans (ref6 S),
      (h7.trans (Cert.Reference4Ideal.Read.val_main_v48_eq _ _)).trans (ref7 S),
      (h8.trans (Cert.Reference4Ideal.Read.val_main_v51_eq _ _ _ _)).trans (ref8 S),
      (h9.trans (Cert.Reference4Ideal.Read.val_main_v44_eq m' c)).trans (ref9 S), h⟩

end Cert.Forward

end
-- ==== Proof.InGrad.lean ====
module

public import proofs.«01_k».proof.Proof.Gen.Kernel5Ideal.Value
public import proofs.«01_k».proof.Proof.Gen.Reference5Ideal.Read
public import proofs.«01_k».proof.Proof.Gen.Kernel5.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The gradient of the input projection's weight: a product over all the rows, one of the weight's four pieces at a time. -/

set_option maxRecDepth 16384

noncomputable section

namespace Cert.Kernel5Ideal.Blk

open Cert.Kernel5Ideal Cert.Kernel5Ideal.Gen Idealize.ShloMosaic Idealize.ShloMosaic.TcCoe Idealize.SL.Sem

/-- The gradient of the weight's entry in row `k` and column `c`: the sum over the rows of input times cotangent. -/
def entry (h : S4096x1024.Idx → EReal) (d : S4096x2560.Idx → EReal) (k : Fin 1024) (c : Fin 2560) : EReal :=
  ∑ r : Fin 4096, h (ix2 r k) * d (ix2 r c)

/-- The array of the four pieces. -/
def G (h : S4096x1024.Idx → EReal) (d : S4096x2560.Idx → EReal) (y : S4x1024x640.Idx) : EReal :=
  entry h d (y 1) ⟨640 * (y 0).val + (y 2).val, by
    have h0 : (y 0).val < 4 := (y 0).isLt
    have h2 : (y 2).val < 640 := (y 2).isLt
    omega⟩

theorem pay_at (v : Vec Ideal S4096x640 .bf16) (a : Vec Ideal S4096x1024 .bf16) (k : Fin 1024) (c : Fin 640) :
    k0_pay1 v a (ix3 0 k c) = ∑ r : Fin 4096, a (ix2 r k) * v (ix2 r c) := by
  pointwise [k0_pay1]

theorem out_at (a : Vec Ideal S4096x1024 .bf16) (v : Vec Ideal S4096x640 .bf16) (k : Fin 1024) (c : Fin 640) :
    out0_2 a v (ix3 0 k c) = ∑ r : Fin 4096, a (ix2 r k) * v (ix2 r c) := by
  unfold out0_2
  rw [View.canon_unit_zero (S := S1x1024x640) (off := ![0, 0, 0]) (by funext a; fin_cases a <;> rfl),
    View.ld_unit_zero (S := S4096x640) (off := ![0, 0]) (by funext a; fin_cases a <;> rfl),
    View.ld_unit_zero (S := S4096x1024) (off := ![0, 0]) (by funext a; fin_cases a <;> rfl)]
  exact pay_at v a k c

variable (m : (ℓ : Loc nD τ sig) → Buf (Elt Ideal) ℓ) (c : Dev nD)

theorem V0_at (r : Fin 4096) (k : Fin 1024) : V m c main_v0 (ix2 r k) = m ((c : Thread nD τ).loc main_arg0) (ix2 r k) := by
  unfold V
  after_reads_at

theorem V1_at (r : Fin 4096) (k : Fin 2560) : V m c main_v1 (ix2 r k) = m ((c : Thread nD τ).loc main_arg1) (ix2 r k) := by
  unfold V
  after_reads_at

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![t.val, 0, 0] := by decide +kernel

theorem blk0_at (t : Fin cfg0.N) (r : Fin 4096) (k : Fin 1024) :
    iblk m c 0 t (ix2 r k) = m ((c : Thread nD τ).loc main_arg0) (ix2 r k) := by
  have e : iblk m c 0 t (ix2 r k) = V m c main_v0 (ix2 r k) := by
    blk_ext [iblk, idx0 t]
  exact e.trans (V0_at m c r k)

theorem blk1_at (t : Fin cfg0.N) (r : Fin 4096) (q : Fin 640) :
    iblk m c 1 t (ix2 r q) = m ((c : Thread nD τ).loc main_arg1) (ix2 r ⟨640 * t.val + q.val, by have : t.val < 4 := t.isLt; omega⟩) := by
  have ht : t.val < 4 := t.isLt
  have e : iblk m c 1 t (ix2 r q) = V m c main_v1 (ix2 r ⟨640 * t.val + q.val, by omega⟩) := by
    blk_ext [iblk, idx1 t]
  exact e.trans (V1_at m c _ _)

theorem emb2 (t : Fin cfg0.N) (y : S1x1024x640.Idx) (i : S4x1024x640.Idx) (h : i = (win0_2.blk t).view.emb y) :
    (i 0).val = t.val ∧ (i 1).val = (y 1).val ∧ (i 2).val = (y 2).val := by
  subst h
  blk_simp [idx2 t]
  have h0 : (y 0).val < 1 := (y 0).isLt
  refine ⟨?_, ?_, ?_⟩ <;> simp <;> omega

theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1, e2⟩ := emb2 t y _ rfl
  have q : (y : S1x1024x640.Idx) = ix3 0 (y 1) (y 2) := by
    ext a; fin_cases a
    · have h0 : (y 0).val < 1 := (y 0).isLt
      show (y 0).val = 0
      omega
    · rfl
    · rfl
  refine ((congrArg _ q).trans (out_at _ _ (y 1) (y 2))).trans ?_
  unfold G entry
  refine Finset.sum_congr rfl fun r _ => congrArg₂ (· * ·) ((blk0_at m c t r _).trans ?_) ((blk1_at m c t r _).trans ?_)
  · exact congrArg (fun x => m ((c : Thread nD τ).loc main_arg0) (ix2 r x)) (Fin.ext e1.symm)
  · refine congrArg (fun x => m ((c : Thread nD τ).loc main_arg1) (ix2 r x)) (Fin.ext ?_)
    show 640 * t.val + (y 2).val = 640 * _ + _
    rw [e0, e2]

end Cert.Kernel5Ideal.Blk

namespace Cert.InGrad

open Idealize.ShloMosaic Idealize.ShloMosaic.TcCoe Idealize.SL.Sem

open Cert.Reference5Ideal Cert.Reference5Ideal.Read in
theorem ref (h : Cert.Reference5Ideal.S4096x1024.Idx → EReal) (d : Cert.Reference5Ideal.S4096x2560.Idx → EReal) :
    Cert.Reference5Ideal.Read.val_main_v6 (F := Ideal) h d = Cert.Kernel5Ideal.Blk.G h d := by
  funext y
  have e : val_main_v6 (F := Ideal) h d (ix3 (y 0) (y 1) (y 2)) = Cert.Kernel5Ideal.Blk.G h d (ix3 (y 0) (y 1) (y 2)) := by
    pointwise [val_main_v6, val_main_v5, val_main_v4, val_main_v3, val_main_v2]
    unfold Cert.Kernel5Ideal.Blk.G Cert.Kernel5Ideal.Blk.entry
    refine Finset.sum_congr rfl fun r _ => (mul_comm _ _).trans (congrArg₂ (· * ·) rfl (congrArg (fun x => d (ix2 r x)) (Fin.ext ?_)))
    show (y 0).val * 640 + (y 2).val = 640 * (y 0).val + (y 2).val
    omega
  have q : (y : S4x1024x640.Idx) = ix3 (y 0) (y 1) (y 2) := by ext a; fin_cases a <;> rfl
  exact ((congrArg _ q).trans e).trans (congrArg _ q.symm)

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => Cert.Kernel5Ideal.Blk.G (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · refine (θ_run Cert.Kernel5Ideal.defs _ _).mono (fun r h c => ?_) (Cert.Kernel5Ideal.Value.run_blocks m ρ)
    obtain ⟨h2, h⟩ := h c
    exact ⟨h2.trans (Cert.Kernel5Ideal.Blk.arr m c), h⟩
  · refine (θ_run Cert.Reference5Ideal.defs _ _).mono (fun r h c => ?_) (Cert.Reference5Ideal.Value.run (F := Ideal) m' ρ')
    obtain ⟨h2, h⟩ := h c
    obtain ⟨a0, a1⟩ := hagree c
    refine ⟨((h2.trans (Cert.Reference5Ideal.Read.val_main_v6_eq _ _)).trans (ref _ _)).trans ?_, h⟩
    exact congrArg₂ Cert.Kernel5Ideal.Blk.G a0 a1

end Cert.InGrad

end
-- ==== Proof.ProjBwd.lean ====
module

public import proofs.«01_k».proof.Proof.Gen.Kernel6Ideal.Value
public import proofs.«01_k».proof.Proof.Gen.Reference6Ideal.Read
public import proofs.«01_k».proof.Proof.Gen.Kernel6.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The cotangent of the input projection's input: the output's cotangent times the transposed weight, added up over the weight's
four pieces, a row block at a time. -/

set_option maxRecDepth 16384

noncomputable section

namespace Cert.Kernel6Ideal.Blk

open Cert.Kernel6Ideal Cert.Kernel6Ideal.Gen Idealize.ShloMosaic Idealize.ShloMosaic.TcCoe Idealize.SL.Sem

/-- The cotangent of the input's entry in row `r` and column `k`. -/
def entry (d : S4096x2560.Idx → EReal) (w : S1024x2560.Idx → EReal) (r : Fin 4096) (k : Fin 1024) : EReal :=
  ∑ c : Fin 2560, d (ix2 r c) * w (ix2 k c)

/-- The whole array. -/
def G (d : S4096x2560.Idx → EReal) (w : S1024x2560.Idx → EReal) (y : S4096x1024.Idx) : EReal := entry d w (y 0) (y 1)

/-- A sum over the columns, by the weight's pieces. -/
theorem sum_pieces (q : ℕ → EReal) (n : ℕ) : ∑ i ∈ Finset.range (640 * n), q i = ∑ b ∈ Finset.range n, ∑ c : Fin 640, q (640 * b + c) := by
  induction n with
  | zero => simp
  | succ n ih => rw [Nat.mul_succ, Finset.sum_range_add, ih, Finset.sum_range_succ _ n, Finset.sum_range (fun x => q (640 * n + x))]

theorem sum_four (f : Fin 2560 → EReal) :
    ∑ i : Fin 2560, f i = (((∑ c : Fin 640, f ⟨c.val, by omega⟩) + ∑ c : Fin 640, f ⟨640 + c.val, by omega⟩)
      + ∑ c : Fin 640, f ⟨1280 + c.val, by omega⟩) + ∑ c : Fin 640, f ⟨1920 + c.val, by omega⟩ := by
  have e : ∀ i : Fin 2560, f i = (fun j : ℕ => if h : j < 2560 then f ⟨j, h⟩ else 0) i := fun i => by
    simp only [dif_pos i.isLt]
  have g : ∀ (b : ℕ) (hb : b ≤ 1920) (c : Fin 640), (fun j : ℕ => if h : j < 2560 then f ⟨j, h⟩ else 0) (b + c.val) = f ⟨b + c.val, by omega⟩ :=
    fun b hb c => dif_pos (by omega)
  rw [Finset.sum_congr rfl fun i _ => e i, ← Finset.sum_range (fun j : ℕ => if h : j < 2560 then f ⟨j, h⟩ else 0)]
  refine (sum_pieces _ 4).trans ?_
  rw [Finset.sum_range_succ, Finset.sum_range_succ, Finset.sum_range_succ, Finset.sum_range_succ, Finset.sum_range_zero, zero_add]
  refine congrArg₂ (· + ·) (congrArg₂ (· + ·) (congrArg₂ (· + ·) ?_ ?_) ?_) ?_
  · refine Finset.sum_congr rfl fun c _ => (g 0 (by omega) c).trans (congrArg f (Fin.ext ?_))
    show 0 + c.val = c.val
    omega
  · exact Finset.sum_congr rfl fun c _ => g 640 (by omega) c
  · exact Finset.sum_congr rfl fun c _ => g 1280 (by omega) c
  · exact Finset.sum_congr rfl fun c _ => g 1920 (by omega) c

theorem pay_at (a0 a1 a2 a3 : Vec Ideal S1024x640 .bf16) (w0 w1 w2 w3 : Vec Ideal S1x1x1024x640 .bf16) (r k : Fin 1024) :
    k0_pay1 a0 w0 a1 w1 a2 w2 a3 w3 (ix2 r k) = (((∑ c : Fin 640, a0 (ix2 r c) * w0 (ix4 0 0 k c)) + ∑ c : Fin 640, a1 (ix2 r c) * w1 (ix4 0 0 k c))
      + ∑ c : Fin 640, a2 (ix2 r c) * w2 (ix4 0 0 k c)) + ∑ c : Fin 640, a3 (ix2 r c) * w3 (ix4 0 0 k c) := by
  pointwise [k0_pay1]

theorem out_at (a : Vec Ideal S1024x2560 .bf16) (w : Vec Ideal S4x1x1024x640 .bf16) (r k : Fin 1024) :
    out0_2 a w (ix2 r k) = (((∑ c : Fin 640, a (ix2 r ⟨c.val, by omega⟩) * w (ix4 0 0 k c))
      + ∑ c : Fin 640, a (ix2 r ⟨640 + c.val, by omega⟩) * w (ix4 1 0 k c))
      + ∑ c : Fin 640, a (ix2 r ⟨1280 + c.val, by omega⟩) * w (ix4 2 0 k c)) + ∑ c : Fin 640, a (ix2 r ⟨1920 + c.val, by omega⟩) * w (ix4 3 0 k c) := by
  unfold out0_2
  rw [View.canon_unit_zero (S := S1024x1024) (off := ![0, 0]) (by funext a; fin_cases a <;> rfl)]
  refine (pay_at _ _ _ _ _ _ _ _ r k).trans ?_
  refine congrArg₂ (· + ·) (congrArg₂ (· + ·) (congrArg₂ (· + ·) ?_ ?_) ?_) ?_ <;>
    refine Finset.sum_congr rfl fun c _ => congrArg₂ (· * ·) (View.ld_unit_apply_of a _ _ _ _ _ fun b => ?_)
      (View.ld_unit_apply_of w _ _ _ _ _ fun b => ?_) <;>
    fin_cases b <;> first | rfl | exact (Nat.zero_add _).symm

variable (m : (ℓ : Loc nD τ sig) → Buf (Elt Ideal) ℓ) (c : Dev nD)

theorem V4_at (r : Fin 4096) (k : Fin 2560) : V m c main_v4 (ix2 r k) = m ((c : Thread nD τ).loc main_arg0) (ix2 r k) := by
  unfold V
  after_reads_at

theorem V3_at (p : Fin 4) (k : Fin 1024) (q : Fin 640) :
    V m c main_v3 (ix4 p 0 k q) = m ((c : Thread nD τ).loc main_arg1) (ix2 k ⟨p.val * 640 + q.val, by omega⟩) := by
  unfold V
  after_reads_at

theorem idx0 : ∀ t : Fin grid0.N, win0_0.index t = ![t.val, 0] := by decide +kernel
theorem idx1 : ∀ t : Fin grid0.N, win0_1.index t = ![0, 0, 0, 0] := by decide +kernel
theorem idx2 : ∀ t : Fin grid0.N, win0_2.index t = ![t.val, 0] := by decide +kernel

theorem blk0_at (t : Fin cfg0.N) (r : Fin 1024) (k : Fin 2560) :
    iblk m c 0 t (ix2 r k) = m ((c : Thread nD τ).loc main_arg0) (ix2 ⟨1024 * t.val + r.val, by have : t.val < 4 := t.isLt; omega⟩ k) := by
  have ht : t.val < 4 := t.isLt
  have e : iblk m c 0 t (ix2 r k) = V m c main_v4 (ix2 ⟨1024 * t.val + r.val, by omega⟩ k) := by
    blk_ext [iblk, idx0 t]
  exact e.trans (V4_at m c _ _)

theorem blk1_at (t : Fin cfg0.N) (p : Fin 4) (k : Fin 1024) (q : Fin 640) :
    iblk m c 1 t (ix4 p 0 k q) = m ((c : Thread nD τ).loc main_arg1) (ix2 k ⟨p.val * 640 + q.val, by omega⟩) := by
  have e : iblk m c 1 t (ix4 p 0 k q) = V m c main_v3 (ix4 p 0 k q) := by
    blk_ext [iblk, idx1 t]
  exact e.trans (V3_at m c p k q)

theorem emb2 (t : Fin cfg0.N) (y : S1024x1024.Idx) (i : S4096x1024.Idx) (h : i = (win0_2.blk t).view.emb y) :
    (i 0).val = 1024 * t.val + (y 0).val ∧ (i 1).val = (y 1).val := by
  subst h
  blk_simp [idx2 t]
  refine ⟨?_, ?_⟩ <;> simp <;> omega

theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb2 t y _ rfl
  have q : (y : S1024x1024.Idx) = ix2 (y 0) (y 1) := by ext a; fin_cases a <;> rfl
  refine ((congrArg _ q).trans (out_at _ _ (y 0) (y 1))).trans ?_
  unfold G entry
  refine Eq.trans ?_ (sum_four _).symm
  have hr : (⟨1024 * t.val + (y 0).val, by have : t.val < 4 := t.isLt; have : (y 0).val < 1024 := (y 0).isLt; omega⟩ : Fin 4096) = _ := Fin.ext e0.symm
  have hk : (⟨(y 1).val, (y 1).isLt⟩ : Fin 1024) = _ := Fin.ext e1.symm
  refine congrArg₂ (· + ·) (congrArg₂ (· + ·) (congrArg₂ (· + ·) ?_ ?_) ?_) ?_ <;>
    refine Finset.sum_congr rfl fun x _ => congrArg₂ (· * ·) ((blk0_at m c t _ _).trans ?_) ((blk1_at m c t _ _ _).trans ?_)
  · exact congrArg (fun z => m ((c : Thread nD τ).loc main_arg0) (ix2 z _)) hr
  · exact congrArg₂ (fun z u => m ((c : Thread nD τ).loc main_arg1) (ix2 z u)) hk (Fin.ext (by show 0 * 640 + x.val = x.val; omega))
  · exact congrArg (fun z => m ((c : Thread nD τ).loc main_arg0) (ix2 z _)) hr
  · exact congrArg₂ (fun z u => m ((c : Thread nD τ).loc main_arg1) (ix2 z u)) hk (Fin.ext (by show 1 * 640 + x.val = 640 + x.val; omega))
  · exact congrArg (fun z => m ((c : Thread nD τ).loc main_arg0) (ix2 z _)) hr
  · exact congrArg₂ (fun z u => m ((c : Thread nD τ).loc main_arg1) (ix2 z u)) hk (Fin.ext (by show 2 * 640 + x.val = 1280 + x.val; omega))
  · exact congrArg (fun z => m ((c : Thread nD τ).loc main_arg0) (ix2 z _)) hr
  · exact congrArg₂ (fun z u => m ((c : Thread nD τ).loc main_arg1) (ix2 z u)) hk (Fin.ext (by show 3 * 640 + x.val = 1920 + x.val; omega))

end Cert.Kernel6Ideal.Blk

namespace Cert.ProjBwd

open Idealize.ShloMosaic Idealize.ShloMosaic.TcCoe Idealize.SL.Sem

open Cert.Reference6Ideal Cert.Reference6Ideal.Read in
theorem ref (d : Cert.Reference6Ideal.S4096x2560.Idx → EReal) (w : Cert.Reference6Ideal.S1024x2560.Idx → EReal) :
    Cert.Reference6Ideal.Read.val_main_v2 (F := Ideal) d w = Cert.Kernel6Ideal.Blk.G d w := by
  funext y
  have e : val_main_v2 (F := Ideal) d w (ix2 (y 0) (y 1)) = Cert.Kernel6Ideal.Blk.G d w (ix2 (y 0) (y 1)) := by
    pointwise [val_main_v2]
    rfl
  have q : (y : S4096x1024.Idx) = ix2 (y 0) (y 1) := by ext a; fin_cases a <;> rfl
  exact ((congrArg _ q).trans e).trans (congrArg _ q.symm)

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨fun c => Cert.Kernel6Ideal.Blk.G (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · refine (θ_run Cert.Kernel6Ideal.defs _ _).mono (fun r h c => ?_) (Cert.Kernel6Ideal.Value.run_blocks m ρ)
    obtain ⟨h2, h⟩ := h c
    exact ⟨h2.trans (Cert.Kernel6Ideal.Blk.arr m c), h⟩
  · refine (θ_run Cert.Reference6Ideal.defs _ _).mono (fun r h c => ?_) (Cert.Reference6Ideal.Value.run (F := Ideal) m' ρ')
    obtain ⟨h2, h⟩ := h c
    obtain ⟨a0, a1⟩ := hagree c
    refine ⟨((h2.trans (Cert.Reference6Ideal.Read.val_main_v2_eq _ _)).trans (ref _ _)).trans ?_, h⟩
    exact congrArg₂ Cert.Kernel6Ideal.Blk.G a0 a1

end Cert.ProjBwd

end
-- ==== Proof.OutBwd.lean ====
module

public import proofs.«01_k».proof.Proof.Gen.Kernel7Ideal.Value
public import proofs.«01_k».proof.Proof.Gen.Reference7Ideal.Read
public import proofs.«01_k».proof.Proof.Gen.Kernel7.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The cotangent of the output projection's input: the output's cotangent times the transposed weight, a row block at a time. -/

set_option maxRecDepth 16384

noncomputable section

namespace Cert.Kernel7Ideal.Blk

open Cert.Kernel7Ideal Cert.Kernel7Ideal.Gen Idealize.ShloMosaic Idealize.ShloMosaic.TcCoe Idealize.SL.Sem

/-- The cotangent of the input's entry in row `r` and column `k`. -/
def entry (d : S4096x1024.Idx → EReal) (w : S1024x1024.Idx → EReal) (r : Fin 4096) (k : Fin 1024) : EReal :=
  ∑ c : Fin 1024, d (ix2 r c) * w (ix2 k c)

/-- The whole array. -/
def G (d : S4096x1024.Idx → EReal) (w : S1024x1024.Idx → EReal) (y : S4096x1024.Idx) : EReal := entry d w (y 0) (y 1)

theorem pay_at (w : Vec Ideal S4x1x256x1024 .bf16) (a : Vec Ideal S1024x1024 .bf16) (r k : Fin 1024) :
    k0_pay1 w a (ix2 r k) = ∑ c : Fin 1024, a (ix2 r c) * w (ix4 ⟨k.val / 256, by omega⟩ 0 ⟨k.val % 256, by omega⟩ c) := by
  pointwise [k0_pay1]

theorem out_at (a : Vec Ideal S1024x1024 .bf16) (w : Vec Ideal S4x1x256x1024 .bf16) (r k : Fin 1024) :
    out0_2 a w (ix2 r k) = ∑ c : Fin 1024, a (ix2 r c) * w (ix4 ⟨k.val / 256, by omega⟩ 0 ⟨k.val % 256, by omega⟩ c) := by
  unfold out0_2
  rw [View.canon_unit_zero (S := S1024x1024) (off := ![0, 0]) (by funext a; fin_cases a <;> rfl),
    View.ld_unit_zero (S := S4x1x256x1024) (off := ![0, 0, 0, 0]) (by funext a; fin_cases a <;> rfl),
    View.ld_unit_zero (S := S1024x1024) (off := ![0, 0]) (by funext a; fin_cases a <;> rfl)]
  exact pay_at w a r k

variable (m : (ℓ : Loc nD τ sig) → Buf (Elt Ideal) ℓ) (c : Dev nD)

theorem V2_at (r : Fin 4096) (k : Fin 1024) : V m c main_v2 (ix2 r k) = m ((c : Thread nD τ).loc main_arg0) (ix2 r k) := by
  unfold V
  after_reads_at

theorem V1_at (p : Fin 4) (q : Fin 256) (k : Fin 1024) :
    V m c main_v1 (ix4 p 0 q k) = m ((c : Thread nD τ).loc main_arg1) (ix2 ⟨p.val * 256 + q.val, by omega⟩ k) := by
  unfold V
  after_reads_at

theorem idx0 : ∀ t : Fin grid0.N, win0_0.index t = ![t.val, 0] := by decide +kernel
theorem idx1 : ∀ t : Fin grid0.N, win0_1.index t = ![0, 0, 0, 0] := by decide +kernel
theorem idx2 : ∀ t : Fin grid0.N, win0_2.index t = ![t.val, 0] := by decide +kernel

theorem blk0_at (t : Fin cfg0.N) (r k : Fin 1024) :
    iblk m c 0 t (ix2 r k) = m ((c : Thread nD τ).loc main_arg0) (ix2 ⟨1024 * t.val + r.val, by have : t.val < 4 := t.isLt; omega⟩ k) := by
  have ht : t.val < 4 := t.isLt
  have e : iblk m c 0 t (ix2 r k) = V m c main_v2 (ix2 ⟨1024 * t.val + r.val, by omega⟩ k) := by
    blk_ext [iblk, idx0 t]
  exact e.trans (V2_at m c _ _)

theorem blk1_at (t : Fin cfg0.N) (p : Fin 4) (q : Fin 256) (k : Fin 1024) :
    iblk m c 1 t (ix4 p 0 q k) = m ((c : Thread nD τ).loc main_arg1) (ix2 ⟨p.val * 256 + q.val, by omega⟩ k) := by
  have e : iblk m c 1 t (ix4 p 0 q k) = V m c main_v1 (ix4 p 0 q k) := by
    blk_ext [iblk, idx1 t]
  exact e.trans (V1_at m c p q k)

theorem emb2 (t : Fin cfg0.N) (y : S1024x1024.Idx) (i : S4096x1024.Idx) (h : i = (win0_2.blk t).view.emb y) :
    (i 0).val = 1024 * t.val + (y 0).val ∧ (i 1).val = (y 1).val := by
  subst h
  blk_simp [idx2 t]
  refine ⟨?_, ?_⟩ <;> simp <;> omega

theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb2 t y _ rfl
  have q : (y : S1024x1024.Idx) = ix2 (y 0) (y 1) := by ext a; fin_cases a <;> rfl
  refine ((congrArg _ q).trans (out_at _ _ (y 0) (y 1))).trans ?_
  unfold G entry
  refine Finset.sum_congr rfl fun r _ => congrArg₂ (· * ·) ((blk0_at m c t _ r).trans ?_) ((blk1_at m c t _ _ r).trans ?_)
  · exact congrArg (fun x => m ((c : Thread nD τ).loc main_arg0) (ix2 x r)) (Fin.ext e0.symm)
  · refine congrArg (fun x => m ((c : Thread nD τ).loc main_arg1) (ix2 x r)) (Fin.ext ?_)
    show (y 1).val / 256 * 256 + (y 1).val % 256 = _
    rw [e1]
    omega

end Cert.Kernel7Ideal.Blk

namespace Cert.OutBwd

open Idealize.ShloMosaic Idealize.ShloMosaic.TcCoe Idealize.SL.Sem

open Cert.Reference7Ideal Cert.Reference7Ideal.Read in
theorem ref (d : Cert.Reference7Ideal.S4096x1024.Idx → EReal) (w : Cert.Reference7Ideal.S1024x1024.Idx → EReal) :
    Cert.Reference7Ideal.Read.val_main_v2 (F := Ideal) d w = Cert.Kernel7Ideal.Blk.G d w := by
  funext y
  have e : val_main_v2 (F := Ideal) d w (ix2 (y 0) (y 1)) = Cert.Kernel7Ideal.Blk.G d w (ix2 (y 0) (y 1)) := by
    pointwise [val_main_v2]
    rfl
  have q : (y : S4096x1024.Idx) = ix2 (y 0) (y 1) := by ext a; fin_cases a <;> rfl
  exact ((congrArg _ q).trans e).trans (congrArg _ q.symm)

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨fun c => Cert.Kernel7Ideal.Blk.G (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), ?_, ?_⟩
  · refine (θ_run Cert.Kernel7Ideal.defs _ _).mono (fun r h c => ?_) (Cert.Kernel7Ideal.Value.run_blocks m ρ)
    obtain ⟨h2, h⟩ := h c
    exact ⟨h2.trans (Cert.Kernel7Ideal.Blk.arr m c), h⟩
  · refine (θ_run Cert.Reference7Ideal.defs _ _).mono (fun r h c => ?_) (Cert.Reference7Ideal.Value.run (F := Ideal) m' ρ')
    obtain ⟨h2, h⟩ := h c
    obtain ⟨a0, a1⟩ := hagree c
    refine ⟨((h2.trans (Cert.Reference7Ideal.Read.val_main_v2_eq _ _)).trans (ref _ _)).trans ?_, h⟩
    exact congrArg₂ Cert.Kernel7Ideal.Blk.G a0 a1

end Cert.OutBwd

end
-- ==== Proof.OutGrad.lean ====
module

public import proofs.«01_k».proof.Proof.Gen.Kernel8Ideal.Value
public import proofs.«01_k».proof.Proof.Gen.Reference8Ideal.Read
public import proofs.«01_k».proof.Proof.Gen.Kernel8.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The gradient of the output projection's weight: a product over all the rows, the column halves apart. -/

set_option maxRecDepth 16384

noncomputable section

namespace Cert.Kernel8Ideal.Blk

open Cert.Kernel8Ideal Cert.Kernel8Ideal.Gen Idealize.ShloMosaic Idealize.ShloMosaic.TcCoe Idealize.SL.Sem

/-- The gradient of the weight's entry in row `k` and column `c`: the sum over the rows of input times cotangent. -/
def entry (y d : S4096x1024.Idx → EReal) (k c : Fin 1024) : EReal :=
  ∑ r : Fin 4096, y (ix2 r k) * d (ix2 r c)

/-- The array of the two column halves. -/
def G (y d : S4096x1024.Idx → EReal) (i : S2x1024x512.Idx) : EReal :=
  entry y d (i 1) ⟨512 * (i 0).val + (i 2).val, by
    have h0 : (i 0).val < 2 := (i 0).isLt
    have h2 : (i 2).val < 512 := (i 2).isLt
    omega⟩

theorem pay_at (d a : Vec Ideal S4096x1024 .bf16) (k c : Fin 1024) :
    k0_pay1 d a (ix2 k c) = ∑ r : Fin 4096, a (ix2 r k) * d (ix2 r c) := by
  pointwise [k0_pay1]

theorem out_at (a d : Vec Ideal S4096x1024 .bf16) (h : Fin 2) (k : Fin 1024) (c : Fin 512) :
    out0_2 a d (ix3 h k c) = ∑ r : Fin 4096, a (ix2 r k) * d (ix2 r ⟨h.val * 512 + c.val, by omega⟩) := by
  unfold out0_2
  rw [Value.canon2_eq,
    View.ld_unit_zero (S := S4096x1024) (off := ![0, 0]) (by funext a; fin_cases a <;> rfl),
    View.ld_unit_zero (S := S4096x1024) (off := ![0, 0]) (by funext a; fin_cases a <;> rfl)]
  refine Eq.trans ?_ (pay_at d a k ⟨h.val * 512 + c.val, by omega⟩)
  show k0_pay1 d a (Value.ix2_0 (ix3 h k c)) = _
  refine congrArg _ ?_
  ext b; fin_cases b <;> rfl

variable (m : (ℓ : Loc nD τ sig) → Buf (Elt Ideal) ℓ) (c : Dev nD)

theorem V0_at (r : Fin 4096) (k : Fin 1024) : V m c main_v0 (ix2 r k) = m ((c : Thread nD τ).loc main_arg0) (ix2 r k) := by
  unfold V
  after_reads_at

theorem V1_at (r : Fin 4096) (k : Fin 1024) : V m c main_v1 (ix2 r k) = m ((c : Thread nD τ).loc main_arg1) (ix2 r k) := by
  unfold V
  after_reads_at

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0, 0] := by decide +kernel

theorem blk0_at (t : Fin cfg0.N) (r : Fin 4096) (k : Fin 1024) :
    iblk m c 0 t (ix2 r k) = m ((c : Thread nD τ).loc main_arg0) (ix2 r k) := by
  have e : iblk m c 0 t (ix2 r k) = V m c main_v0 (ix2 r k) := by
    blk_ext [iblk, idx0 t]
  exact e.trans (V0_at m c _ _)

theorem blk1_at (t : Fin cfg0.N) (r : Fin 4096) (k : Fin 1024) :
    iblk m c 1 t (ix2 r k) = m ((c : Thread nD τ).loc main_arg1) (ix2 r k) := by
  have e : iblk m c 1 t (ix2 r k) = V m c main_v1 (ix2 r k) := by
    blk_ext [iblk, idx1 t]
  exact e.trans (V1_at m c r k)

theorem emb2 (t : Fin cfg0.N) (y : S2x1024x512.Idx) (i : S2x1024x512.Idx) (h : i = (win0_2.blk t).view.emb y) :
    (i 0).val = (y 0).val ∧ (i 1).val = (y 1).val ∧ (i 2).val = (y 2).val := by
  subst h
  blk_simp [idx2 t]
  refine ⟨?_, ?_, ?_⟩ <;> simp

theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1, e2⟩ := emb2 t y _ rfl
  have q : (y : S2x1024x512.Idx) = ix3 (y 0) (y 1) (y 2) := by ext a; fin_cases a <;> rfl
  refine ((congrArg _ q).trans (out_at _ _ (y 0) (y 1) (y 2))).trans ?_
  unfold G entry
  refine Finset.sum_congr rfl fun r _ => congrArg₂ (· * ·) ((blk0_at m c t r _).trans ?_) ((blk1_at m c t r _).trans ?_)
  · exact congrArg (fun x => m ((c : Thread nD τ).loc main_arg0) (ix2 r x)) (Fin.ext e1.symm)
  · refine congrArg (fun x => m ((c : Thread nD τ).loc main_arg1) (ix2 r x)) (Fin.ext ?_)
    show (y 0).val * 512 + (y 2).val = 512 * _ + _
    rw [e0, e2]
    omega

end Cert.Kernel8Ideal.Blk

namespace Cert.OutGrad

open Idealize.ShloMosaic Idealize.ShloMosaic.TcCoe Idealize.SL.Sem

open Cert.Reference8Ideal Cert.Reference8Ideal.Read in
theorem ref (h d : Cert.Reference8Ideal.S4096x1024.Idx → EReal) :
    Cert.Reference8Ideal.Read.val_main_v6 (F := Ideal) h d = Cert.Kernel8Ideal.Blk.G h d := by
  funext y
  have e : val_main_v6 (F := Ideal) h d (ix3 (y 0) (y 1) (y 2)) = Cert.Kernel8Ideal.Blk.G h d (ix3 (y 0) (y 1) (y 2)) := by
    pointwise [val_main_v6, val_main_v5, val_main_v4, val_main_v3, val_main_v2]
    unfold Cert.Kernel8Ideal.Blk.G Cert.Kernel8Ideal.Blk.entry
    refine Finset.sum_congr rfl fun r _ => (mul_comm _ _).trans (congrArg₂ (· * ·) rfl (congrArg (fun x => d (ix2 r x)) (Fin.ext ?_)))
    show (y 0).val * 512 + (y 2).val = 512 * (y 0).val + (y 2).val
    omega
  have q : (y : S2x1024x512.Idx) = ix3 (y 0) (y 1) (y 2) := by ext a; fin_cases a <;> rfl
  exact ((congrArg _ q).trans e).trans (congrArg _ q.symm)

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨fun c => Cert.Kernel8Ideal.Blk.G (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)), ?_, ?_⟩
  · refine (θ_run Cert.Kernel8Ideal.defs _ _).mono (fun r h c => ?_) (Cert.Kernel8Ideal.Value.run_blocks m ρ)
    obtain ⟨h2, h⟩ := h c
    exact ⟨h2.trans (Cert.Kernel8Ideal.Blk.arr m c), h⟩
  · refine (θ_run Cert.Reference8Ideal.defs _ _).mono (fun r h c => ?_) (Cert.Reference8Ideal.Value.run (F := Ideal) m' ρ')
    obtain ⟨h2, h⟩ := h c
    obtain ⟨a0, a1⟩ := hagree c
    refine ⟨((h2.trans (Cert.Reference8Ideal.Read.val_main_v6_eq _ _)).trans (ref _ _)).trans ?_, h⟩
    exact congrArg₂ Cert.Kernel8Ideal.Blk.G a0 a1

end Cert.OutGrad

end
-- ==== Proof.Proj.lean ====
module

public import proofs.«01_k».proof.Proof.Gen.Kernel9Ideal.Value
public import proofs.«01_k».proof.Proof.Gen.Reference9Ideal.Read
public import proofs.«01_k».proof.Proof.Gen.Kernel9.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The input projection: a row block times one of the weight's four pieces at a time. -/

set_option maxRecDepth 16384

noncomputable section

namespace Cert.Kernel9Ideal.Blk

open Cert.Kernel9Ideal Cert.Kernel9Ideal.Gen Idealize.ShloMosaic Idealize.ShloMosaic.TcCoe Idealize.SL.Sem

/-- The projection's entry in row `r` and column `c`. -/
def entry (h : S4096x1024.Idx → EReal) (w : S1024x2560.Idx → EReal) (r : Fin 4096) (c : Fin 2560) : EReal :=
  ∑ k : Fin 1024, h (ix2 r k) * w (ix2 k c)

/-- The whole array. -/
def G (h : S4096x1024.Idx → EReal) (w : S1024x2560.Idx → EReal) (y : S4096x2560.Idx) : EReal := entry h w (y 0) (y 1)

theorem pay_at (w : Vec Ideal S1x1x1024x640 .bf16) (a : Vec Ideal S1024x1024 .bf16) (r : Fin 1024) (c : Fin 640) :
    k0_pay1 w a (ix2 r c) = ∑ k : Fin 1024, a (ix2 r k) * w (ix4 0 0 k c) := by
  pointwise [k0_pay1]

theorem out_at (a : Vec Ideal S1024x1024 .bf16) (w : Vec Ideal S1x1x1024x640 .bf16) (r : Fin 1024) (c : Fin 640) :
    out0_2 a w (ix2 r c) = ∑ k : Fin 1024, a (ix2 r k) * w (ix4 0 0 k c) := by
  unfold out0_2
  rw [View.canon_unit_zero (S := S1024x640) (off := ![0, 0]) (by funext a; fin_cases a <;> rfl),
    View.ld_unit_zero (S := S1x1x1024x640) (off := ![0, 0, 0, 0]) (by funext a; fin_cases a <;> rfl),
    View.ld_unit_zero (S := S1024x1024) (off := ![0, 0]) (by funext a; fin_cases a <;> rfl)]
  exact pay_at w a r c

variable (m : (ℓ : Loc nD τ sig) → Buf (Elt Ideal) ℓ) (c : Dev nD)

theorem V4_at (r : Fin 4096) (k : Fin 1024) : V m c main_v4 (ix2 r k) = m ((c : Thread nD τ).loc main_arg0) (ix2 r k) := by
  unfold V
  after_reads_at

theorem V3_at (p : Fin 4) (k : Fin 1024) (q : Fin 640) :
    V m c main_v3 (ix4 p 0 k q) = m ((c : Thread nD τ).loc main_arg1) (ix2 k ⟨p.val * 640 + q.val, by omega⟩) := by
  unfold V
  after_reads_at

theorem idx0 : ∀ t : Fin grid0.N, win0_0.index t = ![t.val / 4, 0] := by decide +kernel
theorem idx1 : ∀ t : Fin grid0.N, win0_1.index t = ![t.val % 4, 0, 0, 0] := by decide +kernel
theorem idx2 : ∀ t : Fin grid0.N, win0_2.index t = ![t.val / 4, t.val % 4] := by decide +kernel

theorem blk0_at (t : Fin cfg0.N) (r k : Fin 1024) :
    iblk m c 0 t (ix2 r k) = m ((c : Thread nD τ).loc main_arg0) (ix2 ⟨1024 * (t.val / 4) + r.val, by have : t.val < 16 := t.isLt; omega⟩ k) := by
  have ht : t.val < 16 := t.isLt
  have e : iblk m c 0 t (ix2 r k) = V m c main_v4 (ix2 ⟨1024 * (t.val / 4) + r.val, by omega⟩ k) := by
    blk_ext [iblk, idx0 t]
  exact e.trans (V4_at m c _ _)

theorem blk1_at (t : Fin cfg0.N) (k : Fin 1024) (q : Fin 640) :
    iblk m c 1 t (ix4 0 0 k q) = m ((c : Thread nD τ).loc main_arg1) (ix2 k ⟨t.val % 4 * 640 + q.val, by omega⟩) := by
  have e : iblk m c 1 t (ix4 0 0 k q) = V m c main_v3 (ix4 ⟨t.val % 4, by omega⟩ 0 k q) := by
    blk_ext [iblk, idx1 t]
  exact e.trans (V3_at m c _ k q)

theorem emb2 (t : Fin cfg0.N) (y : S1024x640.Idx) (i : S4096x2560.Idx) (h : i = (win0_2.blk t).view.emb y) :
    (i 0).val = 1024 * (t.val / 4) + (y 0).val ∧ (i 1).val = 640 * (t.val % 4) + (y 1).val := by
  subst h
  blk_simp [idx2 t]
  refine ⟨?_, ?_⟩ <;> simp <;> omega

theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb2 t y _ rfl
  have q : (y : S1024x640.Idx) = ix2 (y 0) (y 1) := by ext a; fin_cases a <;> rfl
  refine ((congrArg _ q).trans (out_at _ _ (y 0) (y 1))).trans ?_
  unfold G entry
  refine Finset.sum_congr rfl fun r _ => congrArg₂ (· * ·) ((blk0_at m c t _ r).trans ?_) ((blk1_at m c t r _).trans ?_)
  · exact congrArg (fun x => m ((c : Thread nD τ).loc main_arg0) (ix2 x r)) (Fin.ext e0.symm)
  · exact congrArg (fun x => m ((c : Thread nD τ).loc main_arg1) (ix2 r x)) (Fin.ext (by
      show t.val % 4 * 640 + (y 1).val = _
      rw [e1]
      omega))

end Cert.Kernel9Ideal.Blk

namespace Cert.Proj

open Idealize.ShloMosaic Idealize.ShloMosaic.TcCoe Idealize.SL.Sem

open Cert.Reference9Ideal Cert.Reference9Ideal.Read in
theorem ref (h : Cert.Reference9Ideal.S4096x1024.Idx → EReal) (w : Cert.Reference9Ideal.S1024x2560.Idx → EReal) :
    Cert.Reference9Ideal.Read.val_main_v1 (F := Ideal) h w = Cert.Kernel9Ideal.Blk.G h w := by
  funext y
  have e : val_main_v1 (F := Ideal) h w (ix2 (y 0) (y 1)) = Cert.Kernel9Ideal.Blk.G h w (ix2 (y 0) (y 1)) := by
    pointwise [val_main_v1, val_main_v0]
    rfl
  have q : (y : S4096x2560.Idx) = ix2 (y 0) (y 1) := by ext a; fin_cases a <;> rfl
  exact ((congrArg _ q).trans e).trans (congrArg _ q.symm)

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨fun c => Cert.Kernel9Ideal.Blk.G (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1)), ?_, ?_⟩
  · refine (θ_run Cert.Kernel9Ideal.defs _ _).mono (fun r h c => ?_) (Cert.Kernel9Ideal.Value.run_blocks m ρ)
    obtain ⟨h2, h⟩ := h c
    exact ⟨h2.trans (Cert.Kernel9Ideal.Blk.arr m c), h⟩
  · refine (θ_run Cert.Reference9Ideal.defs _ _).mono (fun r h c => ?_) (Cert.Reference9Ideal.Value.run (F := Ideal) m' ρ')
    obtain ⟨h2, h⟩ := h c
    obtain ⟨a0, a1⟩ := hagree c
    refine ⟨((h2.trans (Cert.Reference9Ideal.Read.val_main_v1_eq _ _)).trans (ref _ _)).trans ?_, h⟩
    exact congrArg₂ Cert.Kernel9Ideal.Blk.G a0 a1

end Cert.Proj

end
-- ==== Proof.OutNorm.lean ====
module

public import proofs.«01_k».proof.Proof.Gen.Kernel10Ideal.Value
public import proofs.«01_k».proof.Proof.Gen.Reference10Ideal.Read
public import proofs.«01_k».proof.Proof.Gen.Kernel10.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The output projection with the norms around it: a row block at a time, the product, the residual sum and the feed-forward layer's
input. -/

set_option maxRecDepth 16384

noncomputable section

namespace Cert.Kernel10Ideal.Blk

open Cert.Kernel10Ideal Cert.Kernel10Ideal.Gen Idealize.ShloMosaic Idealize.ShloMosaic.TcCoe Idealize.SL.Sem

/-- A row divided by its root mean square. -/
def norm (a : Fin 1024 → EReal) (k : Fin 1024) : EReal :=
  a k * Ideal.rsqrt (Ideal.div (∑ x, a x * a x) (Ideal.ofBits FTy.f32 1149239296#32) + Ideal.ofBits FTy.f32 897988541#32)

/-- The output projection's entry in row `r` and column `k`. -/
def Y (h : S4096x1024.Idx → EReal) (w : S1024x1024.Idx → EReal) (r : Fin 4096) (k : Fin 1024) : EReal :=
  ∑ c : Fin 1024, h (ix2 r c) * w (ix2 c k)

/-- The residual sum after the mixers. -/
def X1 (h : S4096x1024.Idx → EReal) (w : S1024x1024.Idx → EReal) (x : S4096x1024.Idx → EReal) (g : S1024.Idx → EReal) (r : Fin 4096)
    (k : Fin 1024) : EReal := x (ix2 r k) + norm (Y h w r) k * g (ix1 k)

/-- The feed-forward layer's input. -/
def H2 (h : S4096x1024.Idx → EReal) (w : S1024x1024.Idx → EReal) (x : S4096x1024.Idx → EReal) (g e : S1024.Idx → EReal) (r : Fin 4096)
    (k : Fin 1024) : EReal := norm (X1 h w x g r) k * e (ix1 k)

theorem pay2_at (a : Vec Ideal S512x1024 .bf16) (w : Vec Ideal S4x1x256x1024 .bf16) (r : Fin 512) (k : Fin 1024) :
    k0_pay2 a w (ix2 r k) = ∑ c : Fin 1024, a (ix2 r c) * w (ix4 ⟨c.val / 256, by omega⟩ 0 ⟨c.val % 256, by omega⟩ k) := by
  pointwise [k0_pay2]

theorem pay3_at (a : Vec Ideal S512x1024 .bf16) (w : Vec Ideal S4x1x256x1024 .bf16) (x : Vec Ideal S512x1024 .f32) (g : Vec Ideal S1x1024 .f32)
    (r : Fin 512) (k : Fin 1024) :
    k0_pay3 a w x g (ix2 r k) = x (ix2 r k) + norm (fun q => k0_pay2 a w (ix2 r q)) k * g (ix2 0 k) := by
  pointwise [k0_pay3]
  rfl

theorem pay1_at (a : Vec Ideal S512x1024 .bf16) (w : Vec Ideal S4x1x256x1024 .bf16) (x : Vec Ideal S512x1024 .f32) (g e : Vec Ideal S1x1024 .f32)
    (r : Fin 512) (k : Fin 1024) :
    k0_pay1 (k0_pay4 a w x g) e (ix2 r k) = norm (fun q => k0_pay3 a w x g (ix2 r q)) k * e (ix2 0 k) := by
  pointwise [k0_pay1, k0_pay4]
  rfl

theorem out5_eq (a : Vec Ideal S512x1024 .bf16) (w : Vec Ideal S4x1x256x1024 .bf16) (x : Vec Ideal S512x1024 .f32) (g e : Vec Ideal S1x1024 .f32) :
    out0_5 a w x g e = k0_pay2 a w := by
  unfold out0_5
  rw [View.canon_unit_zero (S := S512x1024) (off := ![0, 0]) (by funext a; fin_cases a <;> rfl),
    View.ld_unit_zero (S := S4x1x256x1024) (off := ![0, 0, 0, 0]) (by funext a; fin_cases a <;> rfl),
    View.ld_unit_zero (S := S512x1024) (off := ![0, 0]) (by funext a; fin_cases a <;> rfl)]

theorem out6_eq (a : Vec Ideal S512x1024 .bf16) (w : Vec Ideal S4x1x256x1024 .bf16) (x : Vec Ideal S512x1024 .f32) (g e : Vec Ideal S1x1024 .f32) :
    out0_6 a w x g e = k0_pay3 a w x g := by
  unfold out0_6
  rw [View.canon_unit_zero (S := S512x1024) (off := ![0, 0]) (by funext a; fin_cases a <;> rfl),
    View.ld_unit_zero (S := S4x1x256x1024) (off := ![0, 0, 0, 0]) (by funext a; fin_cases a <;> rfl),
    View.ld_unit_zero (S := S512x1024) (off := ![0, 0]) (by funext a; fin_cases a <;> rfl),
    View.ld_unit_zero (S := S512x1024) (off := ![0, 0]) (by funext a; fin_cases a <;> rfl),
    View.ld_unit_zero (S := S1x1024) (off := ![0, 0]) (by funext a; fin_cases a <;> rfl)]

theorem out7_eq (a : Vec Ideal S512x1024 .bf16) (w : Vec Ideal S4x1x256x1024 .bf16) (x : Vec Ideal S512x1024 .f32) (g e : Vec Ideal S1x1024 .f32) :
    out0_7 a w x g e = k0_pay1 (k0_pay4 a w x g) e := by
  unfold out0_7
  rw [View.canon_unit_zero (S := S512x1024) (off := ![0, 0]) (by funext a; fin_cases a <;> rfl),
    View.ld_unit_zero (S := S4x1x256x1024) (off := ![0, 0, 0, 0]) (by funext a; fin_cases a <;> rfl),
    View.ld_unit_zero (S := S512x1024) (off := ![0, 0]) (by funext a; fin_cases a <;> rfl),
    View.ld_unit_zero (S := S512x1024) (off := ![0, 0]) (by funext a; fin_cases a <;> rfl),
    View.ld_unit_zero (S := S1x1024) (off := ![0, 0]) (by funext a; fin_cases a <;> rfl),
    View.ld_unit_zero (S := S1x1024) (off := ![0, 0]) (by funext a; fin_cases a <;> rfl)]

variable (m : (ℓ : Loc nD τ sig) → Buf (Elt Ideal) ℓ) (c : Dev nD)

theorem V2_at (r : Fin 4096) (k : Fin 1024) : V m c main_v2 (ix2 r k) = m ((c : Thread nD τ).loc main_arg0) (ix2 r k) := by
  unfold V
  after_reads_at

theorem V1_at (p : Fin 4) (q : Fin 256) (k : Fin 1024) :
    V m c main_v1 (ix4 p 0 q k) = m ((c : Thread nD τ).loc main_arg1) (ix2 ⟨p.val * 256 + q.val, by omega⟩ k) := by
  unfold V
  after_reads_at

theorem V3_at (k : Fin 1024) : V m c main_v3 (ix2 0 k) = m ((c : Thread nD τ).loc main_arg3) (ix1 k) := by
  unfold V
  after_reads_at

theorem V4_at (k : Fin 1024) : V m c main_v4 (ix2 0 k) = m ((c : Thread nD τ).loc main_arg4) (ix1 k) := by
  unfold V
  after_reads_at

theorem idx0 : ∀ t : Fin grid0.N, win0_0.index t = ![t.val, 0] := by decide +kernel
theorem idx1 : ∀ t : Fin grid0.N, win0_1.index t = ![0, 0, 0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

/-- The array's row that a block's row `r` is. -/
def row (t : Fin cfg0.N) (r : Fin 512) : Fin 4096 := ⟨512 * t.val + r.val, by have : t.val < 8 := t.isLt; omega⟩

theorem blk0_at (t : Fin cfg0.N) (r : Fin 512) (k : Fin 1024) :
    iblk m c 0 t (ix2 r k) = m ((c : Thread nD τ).loc main_arg0) (ix2 (row t r) k) := by
  have e : iblk m c 0 t (ix2 r k) = V m c main_v2 (ix2 (row t r) k) := by
    blk_ext [iblk, idx0 t, row]
  exact e.trans (V2_at m c _ _)

theorem blk1_at (t : Fin cfg0.N) (p : Fin 4) (q : Fin 256) (k : Fin 1024) :
    iblk m c 1 t (ix4 p 0 q k) = m ((c : Thread nD τ).loc main_arg1) (ix2 ⟨p.val * 256 + q.val, by omega⟩ k) := by
  have e : iblk m c 1 t (ix4 p 0 q k) = V m c main_v1 (ix4 p 0 q k) := by
    blk_ext [iblk, idx1 t]
  exact e.trans (V1_at m c p q k)

theorem blk2_at (t : Fin cfg0.N) (r : Fin 512) (k : Fin 1024) :
    iblk m c 2 t (ix2 r k) = m ((c : Thread nD τ).loc main_arg2) (ix2 (row t r) k) := by
  have e : iblk m c 2 t (ix2 r k) = V m c main_arg2 (ix2 (row t r) k) := by
    blk_ext [iblk, idx2 t, row]
  exact e.trans (congrFun (V_main_arg2 m c) _)

theorem blk3_at (t : Fin cfg0.N) (k : Fin 1024) : iblk m c 3 t (ix2 0 k) = m ((c : Thread nD τ).loc main_arg3) (ix1 k) := by
  have e : iblk m c 3 t (ix2 0 k) = V m c main_v3 (ix2 0 k) := by
    blk_ext [iblk, idx3 t]
  exact e.trans (V3_at m c k)

theorem blk4_at (t : Fin cfg0.N) (k : Fin 1024) : iblk m c 4 t (ix2 0 k) = m ((c : Thread nD τ).loc main_arg4) (ix1 k) := by
  have e : iblk m c 4 t (ix2 0 k) = V m c main_v4 (ix2 0 k) := by
    blk_ext [iblk, idx4 t]
  exact e.trans (V4_at m c k)

theorem y_at (t : Fin cfg0.N) (r : Fin 512) (k : Fin 1024) :
    k0_pay2 (iblk m c 0 t) (iblk m c 1 t) (ix2 r k)
      = Y (m ((c : Thread nD τ).loc main_arg0)) (m ((c : Thread nD τ).loc main_arg1)) (row t r) k := by
  refine (pay2_at _ _ r k).trans ?_
  unfold Y
  refine Finset.sum_congr rfl fun x _ => congrArg₂ (· * ·) (blk0_at m c t r x) ((blk1_at m c t _ _ k).trans ?_)
  refine congrArg (fun z => m ((c : Thread nD τ).loc main_arg1) (ix2 z k)) (Fin.ext ?_)
  show x.val / 256 * 256 + x.val % 256 = x.val
  omega

theorem x1_at (t : Fin cfg0.N) (r : Fin 512) (k : Fin 1024) :
    k0_pay3 (iblk m c 0 t) (iblk m c 1 t) (iblk m c 2 t) (iblk m c 3 t) (ix2 r k)
      = X1 (m ((c : Thread nD τ).loc main_arg0)) (m ((c : Thread nD τ).loc main_arg1)) (m ((c : Thread nD τ).loc main_arg2))
        (m ((c : Thread nD τ).loc main_arg3)) (row t r) k := by
  refine (pay3_at _ _ _ _ r k).trans ?_
  unfold X1
  exact congrArg₂ (· + ·) (blk2_at m c t r k)
    (congrArg₂ (· * ·) (congrArg (fun a => norm a k) (funext fun q => y_at m c t r q)) (blk3_at m c t k))

theorem h2_at (t : Fin cfg0.N) (r : Fin 512) (k : Fin 1024) :
    k0_pay1 (k0_pay4 (iblk m c 0 t) (iblk m c 1 t) (iblk m c 2 t) (iblk m c 3 t)) (iblk m c 4 t) (ix2 r k)
      = H2 (m ((c : Thread nD τ).loc main_arg0)) (m ((c : Thread nD τ).loc main_arg1)) (m ((c : Thread nD τ).loc main_arg2))
        (m ((c : Thread nD τ).loc main_arg3)) (m ((c : Thread nD τ).loc main_arg4)) (row t r) k := by
  refine (pay1_at _ _ _ _ _ r k).trans ?_
  unfold H2
  exact congrArg₂ (· * ·) (congrArg (fun a => norm a k) (funext fun q => x1_at m c t r q)) (blk4_at m c t k)

/-- An array given by rows. -/
def rows (f : Fin 4096 → Fin 1024 → EReal) (y : S4096x1024.Idx) : EReal := f (y 0) (y 1)

theorem rows_congr (f : Fin 4096 → Fin 1024 → EReal) (t : Fin cfg0.N) (y : S512x1024.Idx) (i : S4096x1024.Idx)
    (h0 : (i 0).val = 512 * t.val + (y 0).val) (h1 : (i 1).val = (y 1).val) : f (row t (y 0)) (y 1) = rows f i :=
  congrArg₂ f (Fin.ext h0.symm) (Fin.ext h1.symm)

theorem emb5 (t : Fin cfg0.N) (y : S512x1024.Idx) (i : S4096x1024.Idx) (h : i = (win0_5.blk t).view.emb y) :
    (i 0).val = 512 * t.val + (y 0).val ∧ (i 1).val = (y 1).val := by
  subst h
  blk_simp [idx5 t]
  refine ⟨?_, ?_⟩ <;> simp <;> omega

theorem emb6 (t : Fin cfg0.N) (y : S512x1024.Idx) (i : S4096x1024.Idx) (h : i = (win0_6.blk t).view.emb y) :
    (i 0).val = 512 * t.val + (y 0).val ∧ (i 1).val = (y 1).val := by
  subst h
  blk_simp [idx6 t]
  refine ⟨?_, ?_⟩ <;> simp <;> omega

theorem emb7 (t : Fin cfg0.N) (y : S512x1024.Idx) (i : S4096x1024.Idx) (h : i = (win0_7.blk t).view.emb y) :
    (i 0).val = 512 * t.val + (y 0).val ∧ (i 1).val = (y 1).val := by
  subst h
  blk_simp [idx7 t]
  refine ⟨?_, ?_⟩ <;> simp <;> omega

theorem arr5 : (dats m 0 c).arrAt 5 cfg0.N = rows (Y (m ((c : Thread nD τ).loc main_arg0)) (m ((c : Thread nD τ).loc main_arg1))) := by
  refine (dats m 0 c).arrAt_eq_of_covers 5 _ (by decide +kernel) fun t hf y => ?_
  blk_simp
  rw [after0_5, out5_eq]
  obtain ⟨e0, e1⟩ := emb5 t y _ rfl
  have q : (y : S512x1024.Idx) = ix2 (y 0) (y 1) := by ext a; fin_cases a <;> rfl
  exact ((congrArg _ q).trans (y_at m c t (y 0) (y 1))).trans (rows_congr _ t y _ e0 e1)

theorem arr6 : (dats m 0 c).arrAt 6 cfg0.N = rows (X1 (m ((c : Thread nD τ).loc main_arg0)) (m ((c : Thread nD τ).loc main_arg1)) (m ((c : Thread nD τ).loc main_arg2)) (m ((c : Thread nD τ).loc main_arg3))) := by
  refine (dats m 0 c).arrAt_eq_of_covers 6 _ (by decide +kernel) fun t hf y => ?_
  blk_simp
  rw [after0_6, out6_eq]
  obtain ⟨e0, e1⟩ := emb6 t y _ rfl
  have q : (y : S512x1024.Idx) = ix2 (y 0) (y 1) := by ext a; fin_cases a <;> rfl
  exact ((congrArg _ q).trans (x1_at m c t (y 0) (y 1))).trans (rows_congr _ t y _ e0 e1)

theorem arr7 : (dats m 0 c).arrAt 7 cfg0.N = rows (H2 (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t hf y => ?_
  blk_simp
  rw [after0_7, out7_eq]
  obtain ⟨e0, e1⟩ := emb7 t y _ rfl
  have q : (y : S512x1024.Idx) = ix2 (y 0) (y 1) := by ext a; fin_cases a <;> rfl
  exact ((congrArg _ q).trans (h2_at m c t (y 0) (y 1))).trans (rows_congr _ t y _ e0 e1)

end Cert.Kernel10Ideal.Blk

namespace Cert.OutNorm

open Idealize.ShloMosaic Idealize.ShloMosaic.TcCoe Idealize.SL.Sem

section
open Cert.Reference10Ideal Cert.Reference10Ideal.Read Cert.Kernel10Ideal.Blk

variable (h : Cert.Reference10Ideal.S4096x1024.Idx → EReal) (w : Cert.Reference10Ideal.S1024x1024.Idx → EReal)
  (x : Cert.Reference10Ideal.S4096x1024.Idx → EReal) (g e : Cert.Reference10Ideal.S1024.Idx → EReal)

theorem y_at (r : Fin 4096) (k : Fin 1024) : val_main_v0 (F := Ideal) h w (ix2 r k) = Y h w r k := by
  pointwise [val_main_v0]
  rfl

theorem zero_at (i : Cert.Reference10Ideal.S_.Idx) : val_main_cst (F := Ideal) i = 0 := by
  pointwise [val_main_cst]

theorem zero2_at (i : Cert.Reference10Ideal.S_.Idx) : val_main_cst_2 (F := Ideal) i = 0 := by
  pointwise [val_main_cst_2]

theorem x1_at (r : Fin 4096) (k : Fin 1024) : val_main_v14 (F := Ideal) h w x g (ix2 r k) = X1 h w x g r k := by
  pointwise [val_main_v14, val_main_v13, val_main_v12, val_main_v11, val_main_v10, val_main_v9, val_main_v8, val_main_v7, val_main_v6,
    val_main_v5, val_main_v4, val_main_v3, val_main_v2, val_main_v1, y_at, zero_at, zero_add]
  rfl

theorem h2_at (r : Fin 4096) (k : Fin 1024) : val_main_v28 (F := Ideal) h w x g e (ix2 r k) = H2 h w x g e r k := by
  pointwise [val_main_v28, val_main_v27, val_main_v26, val_main_v25, val_main_v24, val_main_v23, val_main_v22, val_main_v21, val_main_v20,
    val_main_v19, val_main_v18, val_main_v17, val_main_v16, val_main_v15, x1_at, zero2_at, zero_add]
  rfl

theorem by_rows (u : Cert.Reference10Ideal.S4096x1024.Idx → EReal) (f : Fin 4096 → Fin 1024 → EReal) (q : ∀ r k, u (ix2 r k) = f r k) :
    u = rows f := by
  funext y
  have p : (y : Cert.Reference10Ideal.S4096x1024.Idx) = ix2 (y 0) (y 1) := by ext a; fin_cases a <;> rfl
  exact (congrArg _ p).trans (q (y 0) (y 1))

end

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2.2.2, Idealize.ShloMosaic.sem_eq_zero_of_no_sems (by decide) r.2⟩)
    (Cert.Reference10Ideal.Value.run (F := Ideal) m ρ)

open Cert.Kernel10Ideal.Blk in
theorem algebraic : Cert.algebraic_Kernel10Ideal_Reference10Ideal := by
  intro m ρ m' ρ' _ hagree
  refine ⟨fun c => rows (Y (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))),
    fun c => rows (X1 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))),
    fun c => rows (H2 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))), ?_, ?_⟩
  · refine (θ_run Cert.Kernel10Ideal.defs _ _).mono (fun r h c => ?_) (Cert.Kernel10Ideal.Value.run_blocks m ρ)
    obtain ⟨h5, h6, h7, h⟩ := h c
    exact ⟨h5.trans (arr5 m c), h6.trans (arr6 m c), h7.trans (arr7 m c), h⟩
  · refine (θ_run Cert.Reference10Ideal.defs _ _).mono (fun r h c => ?_) (Cert.Reference10Ideal.Value.run (F := Ideal) m' ρ')
    obtain ⟨h5, h6, h7, h⟩ := h c
    obtain ⟨a0, a1, a2, a3, a4⟩ := hagree c
    refine ⟨((h5.trans (Cert.Reference10Ideal.Read.val_main_v0_eq _ _)).trans (by_rows _ _ (y_at _ _))).trans ?_,
      ((h6.trans (Cert.Reference10Ideal.Read.val_main_v14_eq _ _ _ _)).trans (by_rows _ _ (x1_at _ _ _ _))).trans ?_,
      ((h7.trans (Cert.Reference10Ideal.Read.val_main_v28_eq _ _ _ _ _)).trans (by_rows _ _ (h2_at _ _ _ _ _))).trans ?_, h⟩
    · rw [a0, a1]
    · rw [a0, a1, a2, a3]
    · rw [a0, a1, a2, a3, a4]

end Cert.OutNorm

end
-- ==== Proof.NormBwd.lean ====
module

public import proofs.«01_k».proof.Proof.Gen.Kernel11Ideal.Value
public import proofs.«01_k».proof.Proof.Gen.Reference11Ideal.Read
public import proofs.«01_k».proof.Proof.Gen.Kernel11.Frame
public import proofs.«01_k».proof.Proof.Consts
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The gradient of the two norms and the residual sum between the mixers and the feed-forward layer. -/

set_option maxRecDepth 16384

noncomputable section

namespace Cert.Kernel11Ideal.Blk

open Cert.Kernel11Ideal Cert.Kernel11Ideal.Gen Idealize.ShloMosaic Idealize.ShloMosaic.TcCoe Idealize.SL.Sem

/-- One over a row's root mean square. -/
def inv (a : Fin 1024 → EReal) : EReal :=
  Ideal.rsqrt (Ideal.div (∑ x, a x * a x) (Ideal.ofBits FTy.f32 1149239296#32) + Ideal.ofBits FTy.f32 897988541#32)

/-- The norm's cotangent in one row, from the row, the scale and the cotangent of the norm. -/
def back (a g d : Fin 1024 → EReal) (k : Fin 1024) : EReal :=
  inv a * (d k * g k) - a k * (inv a * inv a * inv a) * Ideal.div (∑ x, d x * g x * a x) (Ideal.ofBits FTy.f32 1149239296#32)

theorem pay5_at (a : Vec Ideal S512x1024 .f32) (r : Fin 512) : k0_pay5 a (ix2 r 0) = inv (fun q => a (ix2 r q)) := by
  pointwise [k0_pay5, k0_pay4]
  rfl

theorem pay9_at (a : Vec Ideal S512x1024 .f32) (r : Fin 512) : k0_pay9 a (ix2 r 0) = inv (fun q => a (ix2 r q)) := by
  pointwise [k0_pay9]
  rfl

theorem pay7_at (a : Vec Ideal S512x1024 .f32) (g : Vec Ideal S1x1024 .f32) (d e : Vec Ideal S512x1024 .f32) (r : Fin 512) (k : Fin 1024) :
    k0_pay7 a g d e (ix2 r k) = e (ix2 r k) + back (fun q => a (ix2 r q)) (fun q => g (ix2 0 q)) (fun q => d (ix2 r q)) k := by
  pointwise [k0_pay7, k0_pay4, pay5_at]
  rfl

theorem pay10_at (d a : Vec Ideal S512x1024 .f32) (g : Vec Ideal S1x1024 .f32) (r : Fin 512) (k : Fin 1024) :
    k0_pay10 d a g (ix2 r k) = back (fun q => a (ix2 r q)) (fun q => g (ix2 0 q)) (fun q => d (ix2 r q)) k := by
  pointwise [k0_pay10, pay9_at]
  rfl

theorem pay8_at (a d : Vec Ideal S512x1024 .f32) (s : Vec Ideal S1x1024 .f32) (k : Fin 1024) :
    k0_pay8 (k0_pay6 a d) s (ix2 0 k) = s (ix2 0 k) + ∑ r : Fin 512, d (ix2 r k) * a (ix2 r k) * inv (fun q => a (ix2 r q)) := by
  pointwise [k0_pay8, k0_pay6, k0_pay4, pay5_at]

theorem pay1_at (a d : Vec Ideal S512x1024 .f32) (s : Vec Ideal S1x1024 .f32) (k : Fin 1024) :
    k0_pay1 (k0_pay11 s) (k0_pay12 d a) (ix2 0 k) = s (ix2 0 k) + ∑ r : Fin 512, d (ix2 r k) * a (ix2 r k) * inv (fun q => a (ix2 r q)) := by
  pointwise [k0_pay1, k0_pay11, k0_pay12, pay9_at]

theorem pay2_at (k : Fin 1024) : k0_pay2 (F := Ideal) (ix2 0 k) = 0 := by
  pointwise [k0_pay2]

theorem pay3_at (k : Fin 1024) : k0_pay3 (F := Ideal) (ix2 0 k) = 0 := by
  pointwise [k0_pay3]

variable (m : (ℓ : Loc nD τ sig) → Buf (Elt Ideal) ℓ) (c : Dev nD)

/-- The array's row that a block's row `r` is. -/
def row (t : Fin cfg0.N) (r : Fin 512) : Fin 4096 := ⟨512 * t.val + r.val, by have : t.val < 8 := t.isLt; omega⟩

/-- The residual sum after the mixers. -/
def X1 (x y : S4096x1024.Idx → EReal) (g : S1024.Idx → EReal) (r : Fin 4096) (k : Fin 1024) : EReal :=
  x (ix2 r k) + y (ix2 r k) * inv (fun q => y (ix2 r q)) * g (ix1 k)

theorem V13_at (r : Fin 4096) (k : Fin 1024) : V m c main_v13 (ix2 r k)
    = X1 (m ((c : Thread nD τ).loc main_arg0)) (m ((c : Thread nD τ).loc main_arg1)) (m ((c : Thread nD τ).loc main_arg2)) r k := by
  unfold V
  after_reads_at
  rfl

theorem V14_at (k : Fin 1024) : V m c main_v14 (ix2 0 k) = m ((c : Thread nD τ).loc main_arg3) (ix1 k) := by
  unfold V
  after_reads_at

theorem V15_at (k : Fin 1024) : V m c main_v15 (ix2 0 k) = m ((c : Thread nD τ).loc main_arg2) (ix1 k) := by
  unfold V
  after_reads_at

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![0, 0] := by decide +kernel
theorem idx9 : ∀ t : Fin grid0.N, win0_9.index t = ![0, 0] := by decide +kernel

theorem blk0_at (t : Fin cfg0.N) (r : Fin 512) (k : Fin 1024) :
    iblk m c 0 t (ix2 r k) = m ((c : Thread nD τ).loc main_arg4) (ix2 (row t r) k) := by
  have e : iblk m c 0 t (ix2 r k) = V m c main_arg4 (ix2 (row t r) k) := by
    blk_ext [iblk, idx0 t, row]
  exact e.trans (congrFun (V_main_arg4 m c) _)

theorem blk1_at (t : Fin cfg0.N) (r : Fin 512) (k : Fin 1024) :
    iblk m c 1 t (ix2 r k) = m ((c : Thread nD τ).loc main_arg5) (ix2 (row t r) k) := by
  have e : iblk m c 1 t (ix2 r k) = V m c main_arg5 (ix2 (row t r) k) := by
    blk_ext [iblk, idx1 t, row]
  exact e.trans (congrFun (V_main_arg5 m c) _)

theorem blk2_at (t : Fin cfg0.N) (r : Fin 512) (k : Fin 1024) : iblk m c 2 t (ix2 r k)
    = X1 (m ((c : Thread nD τ).loc main_arg0)) (m ((c : Thread nD τ).loc main_arg1)) (m ((c : Thread nD τ).loc main_arg2)) (row t r) k := by
  have e : iblk m c 2 t (ix2 r k) = V m c main_v13 (ix2 (row t r) k) := by
    blk_ext [iblk, idx2 t, row]
  exact e.trans (V13_at m c _ _)

theorem blk3_at (t : Fin cfg0.N) (k : Fin 1024) : iblk m c 3 t (ix2 0 k) = m ((c : Thread nD τ).loc main_arg3) (ix1 k) := by
  have e : iblk m c 3 t (ix2 0 k) = V m c main_v14 (ix2 0 k) := by
    blk_ext [iblk, idx3 t]
  exact e.trans (V14_at m c k)

theorem blk4_at (t : Fin cfg0.N) (r : Fin 512) (k : Fin 1024) :
    iblk m c 4 t (ix2 r k) = m ((c : Thread nD τ).loc main_arg1) (ix2 (row t r) k) := by
  have e : iblk m c 4 t (ix2 r k) = V m c main_arg1 (ix2 (row t r) k) := by
    blk_ext [iblk, idx4 t, row]
  exact e.trans (congrFun (V_main_arg1 m c) _)

theorem blk5_at (t : Fin cfg0.N) (k : Fin 1024) : iblk m c 5 t (ix2 0 k) = m ((c : Thread nD τ).loc main_arg2) (ix1 k) := by
  have e : iblk m c 5 t (ix2 0 k) = V m c main_v15 (ix2 0 k) := by
    blk_ext [iblk, idx5 t]
  exact e.trans (V15_at m c k)

theorem after6_eq (t : Fin cfg0.N) : (dats m 0 c).after 6 t = k0_pay7 (iblk m c 2 t) (iblk m c 3 t) (iblk m c 1 t) (iblk m c 0 t) := by
  rw [after0_6]
  by_cases h : t.val % 8 = 0
  · rw [outsAt0_A m c t h]
    frame_out
  · rw [outsAt0_B m c t h]
    frame_out

theorem after7_eq (t : Fin cfg0.N) : (dats m 0 c).after 7 t
    = k0_pay10 (k0_pay7 (iblk m c 2 t) (iblk m c 3 t) (iblk m c 1 t) (iblk m c 0 t)) (iblk m c 4 t) (iblk m c 5 t) := by
  rw [after0_7]
  by_cases h : t.val % 8 = 0
  · rw [outsAt0_A m c t h]
    frame_out
  · rw [outsAt0_B m c t h]
    frame_out

/-- The cotangent of the residual sum after the mixers. -/
def DX (x y : S4096x1024.Idx → EReal) (gm gf : S1024.Idx → EReal) (u v : S4096x1024.Idx → EReal) (r : Fin 4096) (k : Fin 1024) : EReal :=
  u (ix2 r k) + back (X1 x y gm r) (fun q => gf (ix1 q)) (fun q => v (ix2 r q)) k

/-- The cotangent of the mixers' output. -/
def DY (x y : S4096x1024.Idx → EReal) (gm gf : S1024.Idx → EReal) (u v : S4096x1024.Idx → EReal) (r : Fin 4096) (k : Fin 1024) : EReal :=
  back (fun q => y (ix2 r q)) (fun q => gm (ix1 q)) (DX x y gm gf u v r) k

/-- A row's part of the gradient of the second norm's scale. -/
def sF (x y : S4096x1024.Idx → EReal) (gm : S1024.Idx → EReal) (v : S4096x1024.Idx → EReal) (r : Fin 4096) (k : Fin 1024) : EReal :=
  v (ix2 r k) * X1 x y gm r k * inv (X1 x y gm r)

/-- A row's part of the gradient of the first norm's scale. -/
def sM (x y : S4096x1024.Idx → EReal) (gm gf : S1024.Idx → EReal) (u v : S4096x1024.Idx → EReal) (r : Fin 4096) (k : Fin 1024) : EReal :=
  DX x y gm gf u v r k * y (ix2 r k) * inv (fun q => y (ix2 r q))

/-- The gradient of the second norm's scale. -/
def GF (x y : S4096x1024.Idx → EReal) (gm : S1024.Idx → EReal) (v : S4096x1024.Idx → EReal) (k : Fin 1024) : EReal :=
  ∑ r : Fin 4096, sF x y gm v r k

/-- The gradient of the first norm's scale. -/
def GM (x y : S4096x1024.Idx → EReal) (gm gf : S1024.Idx → EReal) (u v : S4096x1024.Idx → EReal) (k : Fin 1024) : EReal :=
  ∑ r : Fin 4096, sM x y gm gf u v r k

theorem dx_at (t : Fin cfg0.N) (r : Fin 512) (k : Fin 1024) :
    k0_pay7 (iblk m c 2 t) (iblk m c 3 t) (iblk m c 1 t) (iblk m c 0 t) (ix2 r k) = DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) k := by
  refine (pay7_at _ _ _ _ r k).trans ?_
  simp only [blk0_at, blk1_at, blk2_at, blk3_at]
  rfl

theorem dy_at (t : Fin cfg0.N) (r : Fin 512) (k : Fin 1024) :
    k0_pay10 (k0_pay7 (iblk m c 2 t) (iblk m c 3 t) (iblk m c 1 t) (iblk m c 0 t)) (iblk m c 4 t) (iblk m c 5 t) (ix2 r k) = DY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) k := by
  refine (pay10_at _ _ _ r k).trans ?_
  simp only [blk4_at, blk5_at, dx_at]
  rfl

/-- A point's part of the gradient of the second norm's scale. -/
def tf (t : Fin cfg0.N) (k : Fin 1024) : EReal :=
  ∑ r : Fin 512, sF (m ((c : Thread nD τ).loc main_arg0)) (m ((c : Thread nD τ).loc main_arg1)) (m ((c : Thread nD τ).loc main_arg2)) (m ((c : Thread nD τ).loc main_arg5)) (row t r) k

/-- A point's part of the gradient of the first norm's scale. -/
def tm (t : Fin cfg0.N) (k : Fin 1024) : EReal :=
  ∑ r : Fin 512, sM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) k

theorem gf_at (t : Fin cfg0.N) (s : Vec Ideal S1x1024 .f32) (k : Fin 1024) :
    k0_pay8 (k0_pay6 (iblk m c 2 t) (iblk m c 1 t)) s (ix2 0 k) = s (ix2 0 k) + tf m c t k := by
  refine (pay8_at _ _ s k).trans ?_
  simp only [blk1_at, blk2_at]
  rfl

theorem gm_at (t : Fin cfg0.N) (s : Vec Ideal S1x1024 .f32) (k : Fin 1024) :
    k0_pay1 (k0_pay11 s) (k0_pay12 (k0_pay7 (iblk m c 2 t) (iblk m c 3 t) (iblk m c 1 t) (iblk m c 0 t)) (iblk m c 4 t)) (ix2 0 k)
      = s (ix2 0 k) + tm m c t k := by
  refine (pay1_at _ _ s k).trans ?_
  simp only [blk4_at, dx_at]
  rfl

theorem first8 (t : Fin cfg0.N) (h : t.val % 8 = 0) : (outsAt0 m c t.val t.isLt).2.2.1
    = k0_pay8 (k0_pay6 (iblk m c 2 t) (iblk m c 1 t)) (k0_pay2 (F := Ideal)) := by
  rw [outsAt0_A m c t h]
  frame_out

theorem next8 (t : Fin cfg0.N) (h : ¬t.val % 8 = 0) : (outsAt0 m c t.val t.isLt).2.2.1
    = k0_pay8 (k0_pay6 (iblk m c 2 t) (iblk m c 1 t)) (outsAt0 m c (t.val - 1) (Nat.lt_of_le_of_lt (Nat.sub_le _ _) t.isLt)).2.2.1 := by
  rw [outsAt0_B m c t h]
  frame_out

theorem first9 (t : Fin cfg0.N) (h : t.val % 8 = 0) : (outsAt0 m c t.val t.isLt).2.2.2
    = k0_pay1 (k0_pay11 (k0_pay3 (F := Ideal))) (k0_pay12 (k0_pay7 (iblk m c 2 t) (iblk m c 3 t) (iblk m c 1 t) (iblk m c 0 t)) (iblk m c 4 t)) := by
  rw [outsAt0_A m c t h]
  frame_out

theorem next9 (t : Fin cfg0.N) (h : ¬t.val % 8 = 0) : (outsAt0 m c t.val t.isLt).2.2.2
    = k0_pay1 (k0_pay11 (outsAt0 m c (t.val - 1) (Nat.lt_of_le_of_lt (Nat.sub_le _ _) t.isLt)).2.2.2)
        (k0_pay12 (k0_pay7 (iblk m c 2 t) (iblk m c 3 t) (iblk m c 1 t) (iblk m c 0 t)) (iblk m c 4 t)) := by
  rw [outsAt0_B m c t h]
  frame_out

theorem sum8 (t : Fin cfg0.N) (ht : t.val + 1 = cfg0.N) (k : Fin 1024) : (outsAt0 m c t.val t.isLt).2.2.1 (ix2 0 k) = ∑ p : Fin cfg0.N, tf m c p k := by
  refine (Pipeline.eq_sum_fin_of_reset_step_apply_last (fun n h (k : Fin 1024) => (outsAt0 m c n h).2.2.1 (ix2 0 k)) 8 (fun _ => 0) (tf m c)
    (fun t h k => ?_) (fun t h k => ?_) (by decide +kernel) t ht k).trans (zero_add _)
  · exact ((congrFun (first8 m c t h) _).trans (gf_at m c t _ k)).trans (congrArg (· + _) (pay2_at k))
  · exact (congrFun (next8 m c t h) _).trans (gf_at m c t _ k)

theorem sum9 (t : Fin cfg0.N) (ht : t.val + 1 = cfg0.N) (k : Fin 1024) : (outsAt0 m c t.val t.isLt).2.2.2 (ix2 0 k) = ∑ p : Fin cfg0.N, tm m c p k := by
  refine (Pipeline.eq_sum_fin_of_reset_step_apply_last (fun n h (k : Fin 1024) => (outsAt0 m c n h).2.2.2 (ix2 0 k)) 8 (fun _ => 0) (tm m c)
    (fun t h k => ?_) (fun t h k => ?_) (by decide +kernel) t ht k).trans (zero_add _)
  · exact ((congrFun (first9 m c t h) _).trans (gm_at m c t _ k)).trans (congrArg (· + _) (pay3_at k))
  · exact (congrFun (next9 m c t h) _).trans (gm_at m c t _ k)

/-- The sum over the points and their rows is the sum over the array's rows. -/
theorem over_rows (f : Fin 4096 → EReal) : ∑ p : Fin cfg0.N, ∑ r : Fin 512, f (row p r) = ∑ r : Fin 4096, f r := by
  refine Fin.sum_mul_add_congr (L := 4096) (S := 8) (n := 512) (f := f) fun s r hl => congrArg f (Fin.ext ?_)
  show 512 * s.val + r.val = s.val * 512 + r.val
  omega

/-- An array given by rows. -/
def rows (f : Fin 4096 → Fin 1024 → EReal) (y : S4096x1024.Idx) : EReal := f (y 0) (y 1)

/-- A single row. -/
def one (f : Fin 1024 → EReal) (y : S1x1024.Idx) : EReal := f (y 1)

theorem rows_congr (f : Fin 4096 → Fin 1024 → EReal) (t : Fin cfg0.N) (y : S512x1024.Idx) (i : S4096x1024.Idx)
    (h0 : (i 0).val = 512 * t.val + (y 0).val) (h1 : (i 1).val = (y 1).val) : f (row t (y 0)) (y 1) = rows f i :=
  congrArg₂ f (Fin.ext h0.symm) (Fin.ext h1.symm)

theorem emb6 (t : Fin cfg0.N) (y : S512x1024.Idx) (i : S4096x1024.Idx) (h : i = (win0_6.blk t).view.emb y) :
    (i 0).val = 512 * t.val + (y 0).val ∧ (i 1).val = (y 1).val := by
  subst h
  blk_simp [idx6 t]
  refine ⟨?_, ?_⟩ <;> simp <;> omega

theorem emb7 (t : Fin cfg0.N) (y : S512x1024.Idx) (i : S4096x1024.Idx) (h : i = (win0_7.blk t).view.emb y) :
    (i 0).val = 512 * t.val + (y 0).val ∧ (i 1).val = (y 1).val := by
  subst h
  blk_simp [idx7 t]
  refine ⟨?_, ?_⟩ <;> simp <;> omega

theorem emb8 (t : Fin cfg0.N) (y : S1x1024.Idx) (i : S1x1024.Idx) (h : i = (win0_8.blk t).view.emb y) : (i 1).val = (y 1).val := by
  subst h
  blk_simp [idx8 t]
  all_goals simp

theorem emb9 (t : Fin cfg0.N) (y : S1x1024.Idx) (i : S1x1024.Idx) (h : i = (win0_9.blk t).view.emb y) : (i 1).val = (y 1).val := by
  subst h
  blk_simp [idx9 t]
  all_goals simp

theorem arr6 : (dats m 0 c).arrAt 6 cfg0.N = rows (DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 6 _ (by decide +kernel) fun t hf y => ?_
  blk_simp
  rw [after6_eq]
  obtain ⟨e0, e1⟩ := emb6 t y _ rfl
  have q : (y : S512x1024.Idx) = ix2 (y 0) (y 1) := by ext a; fin_cases a <;> rfl
  exact ((congrArg _ q).trans (dx_at m c t (y 0) (y 1))).trans (rows_congr _ t y _ e0 e1)

theorem arr7 : (dats m 0 c).arrAt 7 cfg0.N = rows (DY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 7 _ (by decide +kernel) fun t hf y => ?_
  blk_simp
  rw [after7_eq]
  obtain ⟨e0, e1⟩ := emb7 t y _ rfl
  have q : (y : S512x1024.Idx) = ix2 (y 0) (y 1) := by ext a; fin_cases a <;> rfl
  exact ((congrArg _ q).trans (dy_at m c t (y 0) (y 1))).trans (rows_congr _ t y _ e0 e1)

theorem last (t : Fin cfg0.N) (h : t.val % 8 = 7) : t.val + 1 = cfg0.N := by
  have a : t.val < 8 := t.isLt
  have b : cfg0.N = 8 := by decide +kernel
  omega

theorem first_row (y : S1x1024.Idx) : y = ix2 0 (y 1) := by
  ext a; fin_cases a
  · have h0 : (y 0).val < 1 := (y 0).isLt
    show (y 0).val = 0
    omega
  · rfl

theorem arr8 : (dats m 0 c).arrAt 8 cfg0.N = one (GF (m ((c : Thread nD τ).loc main_arg0)) (m ((c : Thread nD τ).loc main_arg1)) (m ((c : Thread nD τ).loc main_arg2)) (m ((c : Thread nD τ).loc main_arg5))) := by
  refine (dats m 0 c).arrAt_eq_of_covers 8 _ (by decide +kernel) fun t hf y => ?_
  blk_simp
  rw [after0_8]
  have e1 := emb8 t y _ rfl
  exact (((congrArg _ (first_row y)).trans (sum8 m c t (last t ((flush0_8 t).mp hf)) (y 1))).trans
    (over_rows fun r => sF (m ((c : Thread nD τ).loc main_arg0)) (m ((c : Thread nD τ).loc main_arg1)) (m ((c : Thread nD τ).loc main_arg2)) (m ((c : Thread nD τ).loc main_arg5)) r (y 1))).trans (congrArg (GF (m ((c : Thread nD τ).loc main_arg0)) (m ((c : Thread nD τ).loc main_arg1)) (m ((c : Thread nD τ).loc main_arg2)) (m ((c : Thread nD τ).loc main_arg5))) (Fin.ext e1.symm))

theorem arr9 : (dats m 0 c).arrAt 9 cfg0.N = one (GM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 9 _ (by decide +kernel) fun t hf y => ?_
  blk_simp
  rw [after0_9]
  have e1 := emb9 t y _ rfl
  exact (((congrArg _ (first_row y)).trans (sum9 m c t (last t ((flush0_9 t).mp hf)) (y 1))).trans
    (over_rows fun r => sM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (y 1))).trans (congrArg (GM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext e1.symm))

end Cert.Kernel11Ideal.Blk

end
-- ==== Proof.NormRef.lean ====
module

public import proofs.«01_k».proof.Proof.NormBwd

@[expose] public section

/-! The gradient of the norm as the reference's text writes it, and the two texts' agreement over the extended real numbers. -/

set_option maxRecDepth 16384

noncomputable section

namespace Cert.NormRef

open Idealize.ShloMosaic Idealize.SL.Sem Cert.Kernel11Ideal.Blk

/-- The norms' small constant. -/
def eps : ℝ := 8796093 / 8796093022208

theorem bits_eps : Ideal.ofBits FTy.f32 897988541#32 = ((eps : ℝ) : EReal) := by
  simp [Ideal.ofBits, Ideal.ieee, -EReal.coe_mul, eps]; norm_num

theorem bits_width : Ideal.ofBits FTy.f32 1149239296#32 = ((1024 : ℝ) : EReal) := by
  simp [Ideal.ofBits, Ideal.ieee, -EReal.coe_mul]; norm_num

theorem bits_half : Ideal.ofBits FTy.f32 0xBF000000#32 = ((-(1 / 2) : ℝ) : EReal) := by
  simp [Ideal.ofBits, Ideal.ieee, -EReal.coe_mul]; norm_num

/-- A row's mean square with the small constant. -/
def ms (a : Fin 1024 → EReal) : EReal :=
  Ideal.div (∑ x, a x * a x) (Ideal.ofBits FTy.f32 1149239296#32) + Ideal.ofBits FTy.f32 897988541#32

theorem sq_nonneg (a : EReal) : 0 ≤ a * a := by
  induction a using EReal.rec with
  | bot => simp
  | top => simp
  | coe r => rw [← EReal.coe_mul]; exact_mod_cast mul_self_nonneg r

/-- The mean square is infinite or a positive number. -/
theorem ms_cases (a : Fin 1024 → EReal) : ms a = ⊤ ∨ ∃ μ : ℝ, 0 < μ ∧ ms a = (μ : EReal) := by
  have e : (0 : ℝ) < eps := by unfold eps; norm_num
  have h : 0 ≤ ∑ x, a x * a x := Finset.sum_nonneg fun x _ => sq_nonneg (a x)
  have hd : 0 ≤ (∑ x, a x * a x) * ((1 / 1024 : ℝ) : EReal) := mul_nonneg h (by exact_mod_cast (by norm_num : (0 : ℝ) ≤ 1 / 1024))
  have he : ((eps : ℝ) : EReal) ≤ ms a := by
    unfold ms
    rw [bits_width, bits_eps, Ideal.div_coe (by norm_num)]
    exact le_add_of_nonneg_left hd
  generalize ms a = x at he
  induction x using EReal.rec with
  | bot => exact absurd (le_bot_iff.mp he) (EReal.coe_ne_bot _)
  | top => exact Or.inl rfl
  | coe μ => exact Or.inr ⟨μ, lt_of_lt_of_le e (by exact_mod_cast he), rfl⟩

/-- What the reference adds twice: the part of the cotangent that passes through the mean square. -/
def mid (a g d : Fin 1024 → EReal) : EReal :=
  Ideal.div ((∑ x, a x * (d x * g x)) * (Ideal.ofBits FTy.f32 0xBF000000#32
    * Ideal.div (inv a) (ms a))) (Ideal.ofBits FTy.f32 1149239296#32)

/-- A product taken off once, or half of it taken off twice. -/
theorem twice (x p : EReal) (l : ℝ) (hl : 0 < l) : x - p * (l : EReal) = x + p * ((-(1 / 2) * l : ℝ) : EReal) + p * ((-(1 / 2) * l : ℝ) : EReal) := by
  have hn : -(1 / 2) * l < 0 := by linarith
  rw [add_assoc, sub_eq_add_neg]
  congr 1
  induction p using EReal.rec with
  | bot => rw [EReal.bot_mul_coe_of_pos hl, EReal.bot_mul_coe_of_neg hn]; rfl
  | top => rw [EReal.top_mul_coe_of_pos hl, EReal.top_mul_coe_of_neg hn]; rfl
  | coe q =>
    rw [← EReal.coe_mul, ← EReal.coe_mul, ← EReal.coe_neg, ← EReal.coe_add]
    congr 1
    ring

/-- The reference's order of the sum is the kernel's, whatever the row, the scale and the cotangent are. -/
theorem ref_eq (a g d : Fin 1024 → EReal) (k : Fin 1024) : d k * g k * inv a + a k * mid a g d + mid a g d * a k = back a g d k := by
  have hsum : ∑ x, a x * (d x * g x) = ∑ x, d x * g x * a x := Finset.sum_congr rfl fun x _ => mul_comm _ _
  have hw : ((1024 : ℝ) : ℝ) ≠ 0 := by norm_num
  have hinv : inv a = Ideal.rsqrt (ms a) := rfl
  unfold mid back
  rw [hsum, hinv, bits_width, bits_half, Ideal.div_coe hw, Ideal.div_coe hw]
  generalize ∑ x, d x * g x * a x = T
  rcases ms_cases a with h | ⟨μ, hμ, h⟩
  · rw [h]
    simp [Ideal.div]
  · rw [h, Ideal.rsqrt_coe, if_neg (not_lt.mpr hμ.le), if_neg hμ.ne', Ideal.div_coe hμ.ne']
    have hs : Real.sqrt μ * Real.sqrt μ = μ := Real.mul_self_sqrt hμ.le
    have hp : 0 < (Real.sqrt μ)⁻¹ := inv_pos.mpr (Real.sqrt_pos.mpr hμ)
    have hi : 1 / μ = (Real.sqrt μ)⁻¹ * (Real.sqrt μ)⁻¹ := by rw [← mul_inv, hs, one_div]
    rw [hi]
    generalize (Real.sqrt μ)⁻¹ = r at hp
    have e1 : a k * (T * (((-(1 / 2) : ℝ) : EReal) * ((r : EReal) * ((r * r : ℝ) : EReal))) * ((1 / 1024 : ℝ) : EReal))
        = a k * T * ((-(1 / 2) * (r * r * r * (1 / 1024)) : ℝ) : EReal) := by
      simp only [EReal.coe_mul]; ac_rfl
    have e2 : a k * ((r : EReal) * (r : EReal) * (r : EReal)) * (T * ((1 / 1024 : ℝ) : EReal)) = a k * T * ((r * r * r * (1 / 1024) : ℝ) : EReal) := by
      simp only [EReal.coe_mul]; ac_rfl
    rw [mul_comm _ (a k), e1, e2, mul_comm (r : EReal) (d k * g k)]
    exact (twice _ _ _ (by positivity)).symm

end Cert.NormRef

namespace Cert.NormRef

open Idealize.ShloMosaic Idealize.ShloMosaic.TcCoe Idealize.SL.Sem
open Cert.Reference11Ideal Cert.Reference11Ideal.Read Cert.Kernel11Ideal.Blk

variable (x y : Cert.Reference11Ideal.S4096x1024.Idx → EReal) (gm gf : Cert.Reference11Ideal.S1024.Idx → EReal)
  (u v : Cert.Reference11Ideal.S4096x1024.Idx → EReal)

theorem cst_at (i : Cert.Reference11Ideal.S_.Idx) : val_main_cst (F := Ideal) i = 0 := by pointwise [val_main_cst]
theorem cst3_at (i : Cert.Reference11Ideal.S_.Idx) : val_main_cst_3 (F := Ideal) i = 0 := by pointwise [val_main_cst_3]
theorem cst7_at (i : Cert.Reference11Ideal.S_.Idx) : val_main_cst_7 (F := Ideal) i = 0 := by pointwise [val_main_cst_7]
theorem cst8_at (i : Cert.Reference11Ideal.S_.Idx) : val_main_cst_8 (F := Ideal) i = 0 := by pointwise [val_main_cst_8]
theorem cst9_at (i : Cert.Reference11Ideal.S_.Idx) : val_main_cst_9 (F := Ideal) i = 0 := by pointwise [val_main_cst_9]
theorem cst11_at (i : Cert.Reference11Ideal.S_.Idx) : val_main_cst_11 (F := Ideal) i = 0 := by pointwise [val_main_cst_11]
theorem cst12_at (i : Cert.Reference11Ideal.S_.Idx) : val_main_cst_12 (F := Ideal) i = 0 := by pointwise [val_main_cst_12]
theorem cst13_at (i : Cert.Reference11Ideal.S_.Idx) : val_main_cst_13 (F := Ideal) i = 0 := by pointwise [val_main_cst_13]
theorem cst14_at (i : Cert.Reference11Ideal.S_.Idx) : val_main_cst_14 (F := Ideal) i = 0 := by pointwise [val_main_cst_14]
theorem cst16_at (i : Cert.Reference11Ideal.S_.Idx) : val_main_cst_16 (F := Ideal) i = 0 := by pointwise [val_main_cst_16]

theorem v7_at (r : Fin 4096) (z : Fin 1) : val_main_v7 (F := Ideal) y (ix2 r z) = inv (fun q => y (ix2 r q)) := by
  pointwise [val_main_v7, val_main_v6, val_main_v5, val_main_v4, val_main_v3, val_main_v2, val_main_v1, val_main_v0, cst_at, zero_add]
  rfl

theorem v10_at (r : Fin 4096) (z : Fin 1) : val_main_v10 (F := Ideal) y (ix2 r z) = Ideal.ofBits FTy.f32 0xBF000000#32
    * Ideal.div (inv fun q => y (ix2 r q)) (Ideal.div (∑ q, y (ix2 r q) * y (ix2 r q)) (Ideal.ofBits FTy.f32 1149239296#32) + Ideal.ofBits FTy.f32 897988541#32) := by
  pointwise [val_main_v10, val_main_v9, val_main_v8, v7_at, val_main_v6, val_main_v5, val_main_v4, val_main_v3, val_main_v2, val_main_v1, val_main_v0,
    cst_at, zero_add]
  rfl

theorem v16_at (r : Fin 4096) (k : Fin 1024) : val_main_v16 (F := Ideal) x y gm (ix2 r k) = X1 x y gm r k := by
  pointwise [val_main_v16, val_main_v15, val_main_v14, val_main_v13, val_main_v12, val_main_v11, v7_at]
  rfl

theorem v24_at (r : Fin 4096) (z : Fin 1) : val_main_v24 (F := Ideal) x y gm (ix2 r z) = inv (X1 x y gm r) := by
  pointwise [val_main_v24, val_main_v23, val_main_v22, val_main_v21, val_main_v20, val_main_v19, val_main_v18, val_main_v17, v16_at, cst3_at, zero_add]
  rfl

theorem v27_at (r : Fin 4096) (z : Fin 1) : val_main_v27 (F := Ideal) x y gm (ix2 r z) = Ideal.ofBits FTy.f32 0xBF000000#32
    * Ideal.div (inv (X1 x y gm r)) (Ideal.div (∑ q, X1 x y gm r q * X1 x y gm r q) (Ideal.ofBits FTy.f32 1149239296#32) + Ideal.ofBits FTy.f32 897988541#32) := by
  pointwise [val_main_v27, val_main_v26, val_main_v25, v24_at, val_main_v23, val_main_v22, val_main_v21, val_main_v20, val_main_v19, val_main_v18,
    val_main_v17, v16_at, cst3_at, zero_add]
  rfl

theorem v37_at (r : Fin 4096) (k : Fin 1024) : val_main_v37 (F := Ideal) gf v (ix2 r k) = v (ix2 r k) * gf (ix1 k) := by
  pointwise [val_main_v37, val_main_v36, val_main_v30]

theorem v47_at (r : Fin 4096) (z : Fin 1) : val_main_v47 (F := Ideal) x y gm gf v (ix2 r z)
    = mid (X1 x y gm r) (fun q => gf (ix1 q)) (fun q => v (ix2 r q)) := by
  pointwise [val_main_v47, val_main_v46, val_main_v45, val_main_v41, val_main_v40, val_main_v39, v16_at, v37_at, v27_at, cst9_at, zero_add]
  rfl

theorem v49_at (r : Fin 4096) (k : Fin 1024) : val_main_v49 (F := Ideal) x y gm gf v (ix2 r k)
    = mid (X1 x y gm r) (fun q => gf (ix1 q)) (fun q => v (ix2 r q)) := by
  pointwise [val_main_v49, val_main_v48, v47_at, cst11_at, zero_add]
  simp

theorem v53_at (r : Fin 4096) (k : Fin 1024) : val_main_v53 (F := Ideal) x y gm gf u v (ix2 r k)
    = u (ix2 r k) + v (ix2 r k) * gf (ix1 k) * inv (X1 x y gm r)
      + X1 x y gm r k * mid (X1 x y gm r) (fun q => gf (ix1 q)) (fun q => v (ix2 r q))
      + mid (X1 x y gm r) (fun q => gf (ix1 q)) (fun q => v (ix2 r q)) * X1 x y gm r k := by
  pointwise [val_main_v53, val_main_v52, val_main_v51, val_main_v50, val_main_v44, val_main_v43, val_main_v42, v37_at, v49_at, v16_at, v24_at]

theorem v54_at (r : Fin 4096) (k : Fin 1024) : val_main_v54 (F := Ideal) x y gm gf u v (ix2 r k) = val_main_v53 (F := Ideal) x y gm gf u v (ix2 r k) := by
  pointwise [val_main_v54]

theorem v59_at (r : Fin 4096) (k : Fin 1024) : val_main_v59 (F := Ideal) x y gm gf u v (ix2 r k)
    = val_main_v53 (F := Ideal) x y gm gf u v (ix2 r k) * gm (ix1 k) := by
  pointwise [val_main_v59, val_main_v58, val_main_v13, v54_at]

theorem v68_at (r : Fin 4096) (z : Fin 1) : val_main_v68 (F := Ideal) x y gm gf u v (ix2 r z)
    = mid (fun q => y (ix2 r q)) (fun q => gm (ix1 q)) (fun q => val_main_v53 (F := Ideal) x y gm gf u v (ix2 r q)) := by
  pointwise [val_main_v68, val_main_v67, val_main_v66, val_main_v63, val_main_v62, val_main_v61, v59_at, v10_at, cst14_at, zero_add]
  rfl

theorem v70_at (r : Fin 4096) (k : Fin 1024) : val_main_v70 (F := Ideal) x y gm gf u v (ix2 r k)
    = mid (fun q => y (ix2 r q)) (fun q => gm (ix1 q)) (fun q => val_main_v53 (F := Ideal) x y gm gf u v (ix2 r q)) := by
  pointwise [val_main_v70, val_main_v69, v68_at, cst16_at, zero_add]
  simp

theorem v75_at (r : Fin 4096) (k : Fin 1024) : val_main_v75 (F := Ideal) x y gm gf u v (ix2 r k)
    = val_main_v53 (F := Ideal) x y gm gf u v (ix2 r k) * gm (ix1 k) * inv (fun q => y (ix2 r q))
      + y (ix2 r k) * mid (fun q => y (ix2 r q)) (fun q => gm (ix1 q)) (fun q => val_main_v53 (F := Ideal) x y gm gf u v (ix2 r q))
      + mid (fun q => y (ix2 r q)) (fun q => gm (ix1 q)) (fun q => val_main_v53 (F := Ideal) x y gm gf u v (ix2 r q)) * y (ix2 r k) := by
  pointwise [val_main_v75, val_main_v74, val_main_v73, val_main_v72, val_main_v71, val_main_v65, val_main_v64, v7_at, v59_at, v70_at]

theorem v76_at (z : Fin 1) (k : Fin 1024) : val_main_v76 (F := Ideal) x y gm v (ix2 z k) = GF x y gm v k := by
  have e : val_main_v76 (F := Ideal) x y gm v (ix2 z k) = ∑ r : Fin 4096, X1 x y gm r k * inv (X1 x y gm r) * v (ix2 r k) := by
    pointwise [val_main_v76, val_main_v38, val_main_v35, val_main_v34, val_main_v33, val_main_v29, val_main_v28, v16_at, v24_at, cst7_at, cst8_at, zero_add]
    simp
  rw [e]
  unfold GF sF
  exact Finset.sum_congr rfl fun r _ => (mul_comm _ _).trans (mul_assoc _ _ _).symm

theorem v77_at (z : Fin 1) (k : Fin 1024) : val_main_v77 (F := Ideal) x y gm gf u v (ix2 z k)
    = ∑ r : Fin 4096, y (ix2 r k) * inv (fun q => y (ix2 r q)) * val_main_v53 (F := Ideal) x y gm gf u v (ix2 r k) := by
  pointwise [val_main_v77, val_main_v60, val_main_v57, val_main_v56, val_main_v55, val_main_v12, val_main_v11, v7_at, v54_at, cst12_at, cst13_at, zero_add]
  simp

theorem dx_eq (r : Fin 4096) (k : Fin 1024) : val_main_v53 (F := Ideal) x y gm gf u v (ix2 r k) = DX x y gm gf u v r k := by
  rw [v53_at]
  unfold DX
  rw [← ref_eq, add_assoc, add_assoc, ← add_assoc (v (ix2 r k) * _ * _)]

theorem dy_eq (r : Fin 4096) (k : Fin 1024) : val_main_v75 (F := Ideal) x y gm gf u v (ix2 r k) = DY x y gm gf u v r k := by
  rw [v75_at]
  simp only [dx_eq]
  exact ref_eq (fun q => y (ix2 r q)) (fun q => gm (ix1 q)) (DX x y gm gf u v r) k

theorem gm_eq (z : Fin 1) (k : Fin 1024) : val_main_v77 (F := Ideal) x y gm gf u v (ix2 z k) = GM x y gm gf u v k := by
  rw [v77_at]
  simp only [dx_eq]
  unfold GM sM
  exact Finset.sum_congr rfl fun r _ => (mul_comm _ _).trans (mul_assoc _ _ _).symm

theorem by_rows (a : Cert.Reference11Ideal.S4096x1024.Idx → EReal) (f : Fin 4096 → Fin 1024 → EReal) (q : ∀ r k, a (ix2 r k) = f r k) : a = rows f := by
  funext i
  have p : (i : Cert.Reference11Ideal.S4096x1024.Idx) = ix2 (i 0) (i 1) := by ext a; fin_cases a <;> rfl
  exact (congrArg _ p).trans (q (i 0) (i 1))

theorem by_row (a : Cert.Reference11Ideal.S1x1024.Idx → EReal) (f : Fin 1024 → EReal) (q : ∀ (z : Fin 1) k, a (ix2 z k) = f k) : a = one f := by
  funext i
  have p : (i : Cert.Reference11Ideal.S1x1024.Idx) = ix2 (i 0) (i 1) := by ext a; fin_cases a <;> rfl
  exact (congrArg _ p).trans (q (i 0) (i 1))

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)

theorem algebraic : Cert.algebraic_Kernel11Ideal_Reference11Ideal := by
  intro m ρ m' ρ' _ hagree
  refine ⟨fun c => rows (DX (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))),
    fun c => rows (DY (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))),
    fun c => one (GF (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg5))),
    fun c => one (GM (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))), ?_, ?_⟩
  · refine (θ_run Cert.Kernel11Ideal.defs _ _).mono (fun r h c => ?_) (Cert.Kernel11Ideal.Value.run_blocks m ρ)
    obtain ⟨h6, h7, h8, h9, h⟩ := h c
    exact ⟨h6.trans (arr6 m c), h7.trans (arr7 m c), h8.trans (arr8 m c), h9.trans (arr9 m c), h⟩
  · refine (θ_run Cert.Reference11Ideal.defs _ _).mono (fun r h c => ?_) (Cert.Reference11Ideal.Value.run (F := Ideal) m' ρ')
    obtain ⟨h6, h7, h8, h9, h⟩ := h c
    obtain ⟨a0, a1, a2, a3, a4, a5⟩ := hagree c
    refine ⟨((h6.trans (val_main_v53_eq m' c)).trans (by_rows _ _ (dx_eq _ _ _ _ _ _))).trans ?_,
      ((h7.trans (val_main_v75_eq m' c)).trans (by_rows _ _ (dy_eq _ _ _ _ _ _))).trans ?_,
      ((h8.trans (val_main_v76_eq _ _ _ _)).trans (by_row _ _ (v76_at _ _ _ _))).trans ?_,
      ((h9.trans (val_main_v77_eq m' c)).trans (by_row _ _ (gm_eq _ _ _ _ _ _))).trans ?_, h⟩
    · rw [a0, a1, a2, a3, a4, a5]
    · rw [a0, a1, a2, a3, a4, a5]
    · rw [a0, a1, a2, a5]
    · rw [a0, a1, a2, a3, a4, a5]

end Cert.NormRef

end
-- ==== Proof.LayerBwd.lean ====
module

public import proofs.«01_k».proof.Proof.Gen.Kernel12Ideal.Value
public import proofs.«01_k».proof.Proof.Gen.Reference12Ideal.Read
public import proofs.«01_k».proof.Proof.Gen.Kernel12.Frame
public import proofs.«01_k».proof.Proof.NormRef
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The gradient of the two norms and the residual sum between a layer's feed-forward part and the next layer's mixers. -/

set_option maxRecDepth 16384

noncomputable section

namespace Cert.Kernel12Ideal.Blk

open Cert.Kernel11Ideal.Blk (inv back X1 DX DY sF sM GF GM rows one)
open Cert.Kernel12Ideal Cert.Kernel12Ideal.Gen Idealize.ShloMosaic Idealize.ShloMosaic.TcCoe Idealize.SL.Sem

theorem pay5_at (a : Vec Ideal S512x1024 .f32) (r : Fin 512) : k0_pay5 a (ix2 r 0) = inv (fun q => a (ix2 r q)) := by
  pointwise [k0_pay5, k0_pay4]
  rfl

theorem pay9_at (a : Vec Ideal S512x1024 .f32) (r : Fin 512) : k0_pay9 a (ix2 r 0) = inv (fun q => a (ix2 r q)) := by
  pointwise [k0_pay9]
  rfl

theorem pay7_at (a : Vec Ideal S512x1024 .f32) (g : Vec Ideal S1x1024 .f32) (d e : Vec Ideal S512x1024 .f32) (r : Fin 512) (k : Fin 1024) :
    k0_pay7 a g d e (ix2 r k) = e (ix2 r k) + back (fun q => a (ix2 r q)) (fun q => g (ix2 0 q)) (fun q => d (ix2 r q)) k := by
  pointwise [k0_pay7, k0_pay4, pay5_at]
  rfl

theorem pay10_at (d a : Vec Ideal S512x1024 .f32) (g : Vec Ideal S1x1024 .f32) (r : Fin 512) (k : Fin 1024) :
    k0_pay10 d a g (ix2 r k) = back (fun q => a (ix2 r q)) (fun q => g (ix2 0 q)) (fun q => d (ix2 r q)) k := by
  pointwise [k0_pay10, pay9_at]
  rfl

theorem pay8_at (a d : Vec Ideal S512x1024 .f32) (s : Vec Ideal S1x1024 .f32) (k : Fin 1024) :
    k0_pay8 (k0_pay6 a d) s (ix2 0 k) = s (ix2 0 k) + ∑ r : Fin 512, d (ix2 r k) * a (ix2 r k) * inv (fun q => a (ix2 r q)) := by
  pointwise [k0_pay8, k0_pay6, k0_pay4, pay5_at]

theorem pay1_at (a d : Vec Ideal S512x1024 .f32) (s : Vec Ideal S1x1024 .f32) (k : Fin 1024) :
    k0_pay1 (k0_pay11 s) (k0_pay12 d a) (ix2 0 k) = s (ix2 0 k) + ∑ r : Fin 512, d (ix2 r k) * a (ix2 r k) * inv (fun q => a (ix2 r q)) := by
  pointwise [k0_pay1, k0_pay11, k0_pay12, pay9_at]

theorem pay2_at (k : Fin 1024) : k0_pay2 (F := Ideal) (ix2 0 k) = 0 := by
  pointwise [k0_pay2]

theorem pay3_at (k : Fin 1024) : k0_pay3 (F := Ideal) (ix2 0 k) = 0 := by
  pointwise [k0_pay3]

variable (m : (ℓ : Loc nD τ sig) → Buf (Elt Ideal) ℓ) (c : Dev nD)

/-- The array's row that a block's row `r` is. -/
def row (t : Fin cfg0.N) (r : Fin 512) : Fin 4096 := ⟨512 * t.val + r.val, by have : t.val < 8 := t.isLt; omega⟩

theorem V13_at (r : Fin 4096) (k : Fin 1024) : V m c main_v13 (ix2 r k)
    = X1 (m ((c : Thread nD τ).loc main_arg0)) (m ((c : Thread nD τ).loc main_arg1)) (m ((c : Thread nD τ).loc main_arg2)) r k := by
  unfold V
  after_reads_at
  rfl

theorem V14_at (k : Fin 1024) : V m c main_v14 (ix2 0 k) = m ((c : Thread nD τ).loc main_arg3) (ix1 k) := by
  unfold V
  after_reads_at

theorem V15_at (k : Fin 1024) : V m c main_v15 (ix2 0 k) = m ((c : Thread nD τ).loc main_arg2) (ix1 k) := by
  unfold V
  after_reads_at

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![t.val, 0] := by decide +kernel
theorem idx8 : ∀ t : Fin grid0.N, win0_8.index t = ![t.val, 0] := by decide +kernel
theorem idx7 : ∀ t : Fin grid0.N, win0_7.index t = ![0, 0] := by decide +kernel
theorem idx9 : ∀ t : Fin grid0.N, win0_9.index t = ![0, 0] := by decide +kernel

theorem blk0_at (t : Fin cfg0.N) (r : Fin 512) (k : Fin 1024) :
    iblk m c 0 t (ix2 r k) = m ((c : Thread nD τ).loc main_arg4) (ix2 (row t r) k) := by
  have e : iblk m c 0 t (ix2 r k) = V m c main_arg4 (ix2 (row t r) k) := by
    blk_ext [iblk, idx0 t, row]
  exact e.trans (congrFun (V_main_arg4 m c) _)

theorem blk1_at (t : Fin cfg0.N) (r : Fin 512) (k : Fin 1024) :
    iblk m c 1 t (ix2 r k) = m ((c : Thread nD τ).loc main_arg5) (ix2 (row t r) k) := by
  have e : iblk m c 1 t (ix2 r k) = V m c main_arg5 (ix2 (row t r) k) := by
    blk_ext [iblk, idx1 t, row]
  exact e.trans (congrFun (V_main_arg5 m c) _)

theorem blk2_at (t : Fin cfg0.N) (r : Fin 512) (k : Fin 1024) : iblk m c 2 t (ix2 r k)
    = X1 (m ((c : Thread nD τ).loc main_arg0)) (m ((c : Thread nD τ).loc main_arg1)) (m ((c : Thread nD τ).loc main_arg2)) (row t r) k := by
  have e : iblk m c 2 t (ix2 r k) = V m c main_v13 (ix2 (row t r) k) := by
    blk_ext [iblk, idx2 t, row]
  exact e.trans (V13_at m c _ _)

theorem blk3_at (t : Fin cfg0.N) (k : Fin 1024) : iblk m c 3 t (ix2 0 k) = m ((c : Thread nD τ).loc main_arg3) (ix1 k) := by
  have e : iblk m c 3 t (ix2 0 k) = V m c main_v14 (ix2 0 k) := by
    blk_ext [iblk, idx3 t]
  exact e.trans (V14_at m c k)

theorem blk4_at (t : Fin cfg0.N) (r : Fin 512) (k : Fin 1024) :
    iblk m c 4 t (ix2 r k) = m ((c : Thread nD τ).loc main_arg1) (ix2 (row t r) k) := by
  have e : iblk m c 4 t (ix2 r k) = V m c main_arg1 (ix2 (row t r) k) := by
    blk_ext [iblk, idx4 t, row]
  exact e.trans (congrFun (V_main_arg1 m c) _)

theorem blk5_at (t : Fin cfg0.N) (k : Fin 1024) : iblk m c 5 t (ix2 0 k) = m ((c : Thread nD τ).loc main_arg2) (ix1 k) := by
  have e : iblk m c 5 t (ix2 0 k) = V m c main_v15 (ix2 0 k) := by
    blk_ext [iblk, idx5 t]
  exact e.trans (V15_at m c k)

theorem after6_eq (t : Fin cfg0.N) : (dats m 0 c).after 6 t = k0_pay7 (iblk m c 2 t) (iblk m c 3 t) (iblk m c 1 t) (iblk m c 0 t) := by
  rw [after0_6]
  by_cases h : t.val % 8 = 0
  · rw [outsAt0_A m c t h]
    frame_out
  · rw [outsAt0_B m c t h]
    frame_out

theorem after8_eq (t : Fin cfg0.N) : (dats m 0 c).after 8 t
    = k0_pay10 (k0_pay7 (iblk m c 2 t) (iblk m c 3 t) (iblk m c 1 t) (iblk m c 0 t)) (iblk m c 4 t) (iblk m c 5 t) := by
  rw [after0_8]
  by_cases h : t.val % 8 = 0
  · rw [outsAt0_A m c t h]
    frame_out
  · rw [outsAt0_B m c t h]
    frame_out

theorem dx_at (t : Fin cfg0.N) (r : Fin 512) (k : Fin 1024) :
    k0_pay7 (iblk m c 2 t) (iblk m c 3 t) (iblk m c 1 t) (iblk m c 0 t) (ix2 r k) = DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) k := by
  refine (pay7_at _ _ _ _ r k).trans ?_
  simp only [blk0_at, blk1_at, blk2_at, blk3_at]
  rfl

theorem dy_at (t : Fin cfg0.N) (r : Fin 512) (k : Fin 1024) :
    k0_pay10 (k0_pay7 (iblk m c 2 t) (iblk m c 3 t) (iblk m c 1 t) (iblk m c 0 t)) (iblk m c 4 t) (iblk m c 5 t) (ix2 r k) = DY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) k := by
  refine (pay10_at _ _ _ r k).trans ?_
  simp only [blk4_at, blk5_at, dx_at]
  rfl

/-- A point's part of the gradient of the second norm's scale. -/
def tf (t : Fin cfg0.N) (k : Fin 1024) : EReal :=
  ∑ r : Fin 512, sF (m ((c : Thread nD τ).loc main_arg0)) (m ((c : Thread nD τ).loc main_arg1)) (m ((c : Thread nD τ).loc main_arg2)) (m ((c : Thread nD τ).loc main_arg5)) (row t r) k

/-- A point's part of the gradient of the first norm's scale. -/
def tm (t : Fin cfg0.N) (k : Fin 1024) : EReal :=
  ∑ r : Fin 512, sM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) k

theorem gf_at (t : Fin cfg0.N) (s : Vec Ideal S1x1024 .f32) (k : Fin 1024) :
    k0_pay8 (k0_pay6 (iblk m c 2 t) (iblk m c 1 t)) s (ix2 0 k) = s (ix2 0 k) + tf m c t k := by
  refine (pay8_at _ _ s k).trans ?_
  simp only [blk1_at, blk2_at]
  rfl

theorem gm_at (t : Fin cfg0.N) (s : Vec Ideal S1x1024 .f32) (k : Fin 1024) :
    k0_pay1 (k0_pay11 s) (k0_pay12 (k0_pay7 (iblk m c 2 t) (iblk m c 3 t) (iblk m c 1 t) (iblk m c 0 t)) (iblk m c 4 t)) (ix2 0 k)
      = s (ix2 0 k) + tm m c t k := by
  refine (pay1_at _ _ s k).trans ?_
  simp only [blk4_at, dx_at]
  rfl

theorem first7 (t : Fin cfg0.N) (h : t.val % 8 = 0) : (outsAt0 m c t.val t.isLt).2.1
    = k0_pay8 (k0_pay6 (iblk m c 2 t) (iblk m c 1 t)) (k0_pay2 (F := Ideal)) := by
  rw [outsAt0_A m c t h]
  frame_out

theorem next7 (t : Fin cfg0.N) (h : ¬t.val % 8 = 0) : (outsAt0 m c t.val t.isLt).2.1
    = k0_pay8 (k0_pay6 (iblk m c 2 t) (iblk m c 1 t)) (outsAt0 m c (t.val - 1) (Nat.lt_of_le_of_lt (Nat.sub_le _ _) t.isLt)).2.1 := by
  rw [outsAt0_B m c t h]
  frame_out

theorem first9 (t : Fin cfg0.N) (h : t.val % 8 = 0) : (outsAt0 m c t.val t.isLt).2.2.2
    = k0_pay1 (k0_pay11 (k0_pay3 (F := Ideal))) (k0_pay12 (k0_pay7 (iblk m c 2 t) (iblk m c 3 t) (iblk m c 1 t) (iblk m c 0 t)) (iblk m c 4 t)) := by
  rw [outsAt0_A m c t h]
  frame_out

theorem next9 (t : Fin cfg0.N) (h : ¬t.val % 8 = 0) : (outsAt0 m c t.val t.isLt).2.2.2
    = k0_pay1 (k0_pay11 (outsAt0 m c (t.val - 1) (Nat.lt_of_le_of_lt (Nat.sub_le _ _) t.isLt)).2.2.2)
        (k0_pay12 (k0_pay7 (iblk m c 2 t) (iblk m c 3 t) (iblk m c 1 t) (iblk m c 0 t)) (iblk m c 4 t)) := by
  rw [outsAt0_B m c t h]
  frame_out

theorem sum7 (t : Fin cfg0.N) (ht : t.val + 1 = cfg0.N) (k : Fin 1024) : (outsAt0 m c t.val t.isLt).2.1 (ix2 0 k) = ∑ p : Fin cfg0.N, tf m c p k := by
  refine (Pipeline.eq_sum_fin_of_reset_step_apply_last (fun n h (k : Fin 1024) => (outsAt0 m c n h).2.1 (ix2 0 k)) 8 (fun _ => 0) (tf m c)
    (fun t h k => ?_) (fun t h k => ?_) (by decide +kernel) t ht k).trans (zero_add _)
  · exact ((congrFun (first7 m c t h) _).trans (gf_at m c t _ k)).trans (congrArg (· + _) (pay2_at k))
  · exact (congrFun (next7 m c t h) _).trans (gf_at m c t _ k)

theorem sum9 (t : Fin cfg0.N) (ht : t.val + 1 = cfg0.N) (k : Fin 1024) : (outsAt0 m c t.val t.isLt).2.2.2 (ix2 0 k) = ∑ p : Fin cfg0.N, tm m c p k := by
  refine (Pipeline.eq_sum_fin_of_reset_step_apply_last (fun n h (k : Fin 1024) => (outsAt0 m c n h).2.2.2 (ix2 0 k)) 8 (fun _ => 0) (tm m c)
    (fun t h k => ?_) (fun t h k => ?_) (by decide +kernel) t ht k).trans (zero_add _)
  · exact ((congrFun (first9 m c t h) _).trans (gm_at m c t _ k)).trans (congrArg (· + _) (pay3_at k))
  · exact (congrFun (next9 m c t h) _).trans (gm_at m c t _ k)

/-- The sum over the points and their rows is the sum over the array's rows. -/
theorem over_rows (f : Fin 4096 → EReal) : ∑ p : Fin cfg0.N, ∑ r : Fin 512, f (row p r) = ∑ r : Fin 4096, f r := by
  refine Fin.sum_mul_add_congr (L := 4096) (S := 8) (n := 512) (f := f) fun s r hl => congrArg f (Fin.ext ?_)
  show 512 * s.val + r.val = s.val * 512 + r.val
  omega

theorem rows_congr (f : Fin 4096 → Fin 1024 → EReal) (t : Fin cfg0.N) (y : S512x1024.Idx) (i : S4096x1024.Idx)
    (h0 : (i 0).val = 512 * t.val + (y 0).val) (h1 : (i 1).val = (y 1).val) : f (row t (y 0)) (y 1) = rows f i :=
  congrArg₂ f (Fin.ext h0.symm) (Fin.ext h1.symm)

theorem emb6 (t : Fin cfg0.N) (y : S512x1024.Idx) (i : S4096x1024.Idx) (h : i = (win0_6.blk t).view.emb y) :
    (i 0).val = 512 * t.val + (y 0).val ∧ (i 1).val = (y 1).val := by
  subst h
  blk_simp [idx6 t]
  refine ⟨?_, ?_⟩ <;> simp <;> omega

theorem emb8 (t : Fin cfg0.N) (y : S512x1024.Idx) (i : S4096x1024.Idx) (h : i = (win0_8.blk t).view.emb y) :
    (i 0).val = 512 * t.val + (y 0).val ∧ (i 1).val = (y 1).val := by
  subst h
  blk_simp [idx8 t]
  refine ⟨?_, ?_⟩ <;> simp <;> omega

theorem emb7 (t : Fin cfg0.N) (y : S1x1024.Idx) (i : S1x1024.Idx) (h : i = (win0_7.blk t).view.emb y) : (i 1).val = (y 1).val := by
  subst h
  blk_simp [idx7 t]
  all_goals simp

theorem emb9 (t : Fin cfg0.N) (y : S1x1024.Idx) (i : S1x1024.Idx) (h : i = (win0_9.blk t).view.emb y) : (i 1).val = (y 1).val := by
  subst h
  blk_simp [idx9 t]
  all_goals simp

theorem arr6 : (dats m 0 c).arrAt 6 cfg0.N = rows (DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 6 _ (by decide +kernel) fun t hf y => ?_
  blk_simp
  rw [after6_eq]
  obtain ⟨e0, e1⟩ := emb6 t y _ rfl
  have q : (y : S512x1024.Idx) = ix2 (y 0) (y 1) := by ext a; fin_cases a <;> rfl
  exact ((congrArg _ q).trans (dx_at m c t (y 0) (y 1))).trans (rows_congr _ t y _ e0 e1)

theorem arr8 : (dats m 0 c).arrAt 8 cfg0.N = rows (DY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 8 _ (by decide +kernel) fun t hf y => ?_
  blk_simp
  rw [after8_eq]
  obtain ⟨e0, e1⟩ := emb8 t y _ rfl
  have q : (y : S512x1024.Idx) = ix2 (y 0) (y 1) := by ext a; fin_cases a <;> rfl
  exact ((congrArg _ q).trans (dy_at m c t (y 0) (y 1))).trans (rows_congr _ t y _ e0 e1)

theorem last (t : Fin cfg0.N) (h : t.val % 8 = 7) : t.val + 1 = cfg0.N := by
  have a : t.val < 8 := t.isLt
  have b : cfg0.N = 8 := by decide +kernel
  omega

theorem first_row (y : S1x1024.Idx) : y = ix2 0 (y 1) := by
  ext a; fin_cases a
  · have h0 : (y 0).val < 1 := (y 0).isLt
    show (y 0).val = 0
    omega
  · rfl

theorem arr7 : (dats m 0 c).arrAt 7 cfg0.N = one (GF (m ((c : Thread nD τ).loc main_arg0)) (m ((c : Thread nD τ).loc main_arg1)) (m ((c : Thread nD τ).loc main_arg2)) (m ((c : Thread nD τ).loc main_arg5))) := by
  refine (dats m 0 c).arrAt_eq_of_covers 7 _ (by decide +kernel) fun t hf y => ?_
  blk_simp
  rw [after0_7]
  have e1 := emb7 t y _ rfl
  exact (((congrArg _ (first_row y)).trans (sum7 m c t (last t ((flush0_7 t).mp hf)) (y 1))).trans
    (over_rows fun r => sF (m ((c : Thread nD τ).loc main_arg0)) (m ((c : Thread nD τ).loc main_arg1)) (m ((c : Thread nD τ).loc main_arg2)) (m ((c : Thread nD τ).loc main_arg5)) r (y 1))).trans (congrArg (GF (m ((c : Thread nD τ).loc main_arg0)) (m ((c : Thread nD τ).loc main_arg1)) (m ((c : Thread nD τ).loc main_arg2)) (m ((c : Thread nD τ).loc main_arg5))) (Fin.ext e1.symm))

theorem arr9 : (dats m 0 c).arrAt 9 cfg0.N = one (GM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 9 _ (by decide +kernel) fun t hf y => ?_
  blk_simp
  rw [after0_9]
  have e1 := emb9 t y _ rfl
  exact (((congrArg _ (first_row y)).trans (sum9 m c t (last t ((flush0_9 t).mp hf)) (y 1))).trans
    (over_rows fun r => sM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (y 1))).trans (congrArg (GM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext e1.symm))

end Cert.Kernel12Ideal.Blk

end
-- ==== Proof.LayerRef.lean ====
module

public import proofs.«01_k».proof.Proof.LayerBwd

@[expose] public section

/-! The gradient of the norms between two layers as the reference's text writes it, and its agreement with the call's. -/

set_option maxRecDepth 16384

noncomputable section

namespace Cert.LayerRef

open Idealize.ShloMosaic Idealize.ShloMosaic.TcCoe Idealize.SL.Sem
open Cert.Reference12Ideal Cert.Reference12Ideal.Read
open Cert.NormRef (mid ref_eq)
open Cert.Kernel11Ideal.Blk (inv back X1 DX DY sF sM GF GM rows one)
open Cert.Kernel12Ideal.Blk (arr6 arr7 arr8 arr9)

variable (x y : Cert.Reference12Ideal.S4096x1024.Idx → EReal) (gm gf : Cert.Reference12Ideal.S1024.Idx → EReal)
  (u v : Cert.Reference12Ideal.S4096x1024.Idx → EReal)

theorem cst_at (i : Cert.Reference12Ideal.S_.Idx) : val_main_cst (F := Ideal) i = 0 := by pointwise [val_main_cst]
theorem cst3_at (i : Cert.Reference12Ideal.S_.Idx) : val_main_cst_3 (F := Ideal) i = 0 := by pointwise [val_main_cst_3]
theorem cst7_at (i : Cert.Reference12Ideal.S_.Idx) : val_main_cst_7 (F := Ideal) i = 0 := by pointwise [val_main_cst_7]
theorem cst8_at (i : Cert.Reference12Ideal.S_.Idx) : val_main_cst_8 (F := Ideal) i = 0 := by pointwise [val_main_cst_8]
theorem cst9_at (i : Cert.Reference12Ideal.S_.Idx) : val_main_cst_9 (F := Ideal) i = 0 := by pointwise [val_main_cst_9]
theorem cst11_at (i : Cert.Reference12Ideal.S_.Idx) : val_main_cst_11 (F := Ideal) i = 0 := by pointwise [val_main_cst_11]
theorem cst12_at (i : Cert.Reference12Ideal.S_.Idx) : val_main_cst_12 (F := Ideal) i = 0 := by pointwise [val_main_cst_12]
theorem cst13_at (i : Cert.Reference12Ideal.S_.Idx) : val_main_cst_13 (F := Ideal) i = 0 := by pointwise [val_main_cst_13]
theorem cst14_at (i : Cert.Reference12Ideal.S_.Idx) : val_main_cst_14 (F := Ideal) i = 0 := by pointwise [val_main_cst_14]
theorem cst16_at (i : Cert.Reference12Ideal.S_.Idx) : val_main_cst_16 (F := Ideal) i = 0 := by pointwise [val_main_cst_16]

theorem v7_at (r : Fin 4096) (z : Fin 1) : val_main_v7 (F := Ideal) y (ix2 r z) = inv (fun q => y (ix2 r q)) := by
  pointwise [val_main_v7, val_main_v6, val_main_v5, val_main_v4, val_main_v3, val_main_v2, val_main_v1, val_main_v0, cst_at, zero_add]
  rfl

theorem v10_at (r : Fin 4096) (z : Fin 1) : val_main_v10 (F := Ideal) y (ix2 r z) = Ideal.ofBits FTy.f32 0xBF000000#32
    * Ideal.div (inv fun q => y (ix2 r q)) (Ideal.div (∑ q, y (ix2 r q) * y (ix2 r q)) (Ideal.ofBits FTy.f32 1149239296#32) + Ideal.ofBits FTy.f32 897988541#32) := by
  pointwise [val_main_v10, val_main_v9, val_main_v8, v7_at, val_main_v6, val_main_v5, val_main_v4, val_main_v3, val_main_v2, val_main_v1, val_main_v0,
    cst_at, zero_add]
  rfl

theorem v16_at (r : Fin 4096) (k : Fin 1024) : val_main_v16 (F := Ideal) x y gm (ix2 r k) = X1 x y gm r k := by
  pointwise [val_main_v16, val_main_v15, val_main_v14, val_main_v13, val_main_v12, val_main_v11, v7_at]
  rfl

theorem v24_at (r : Fin 4096) (z : Fin 1) : val_main_v24 (F := Ideal) x y gm (ix2 r z) = inv (X1 x y gm r) := by
  pointwise [val_main_v24, val_main_v23, val_main_v22, val_main_v21, val_main_v20, val_main_v19, val_main_v18, val_main_v17, v16_at, cst3_at, zero_add]
  rfl

theorem v27_at (r : Fin 4096) (z : Fin 1) : val_main_v27 (F := Ideal) x y gm (ix2 r z) = Ideal.ofBits FTy.f32 0xBF000000#32
    * Ideal.div (inv (X1 x y gm r)) (Ideal.div (∑ q, X1 x y gm r q * X1 x y gm r q) (Ideal.ofBits FTy.f32 1149239296#32) + Ideal.ofBits FTy.f32 897988541#32) := by
  pointwise [val_main_v27, val_main_v26, val_main_v25, v24_at, val_main_v23, val_main_v22, val_main_v21, val_main_v20, val_main_v19, val_main_v18,
    val_main_v17, v16_at, cst3_at, zero_add]
  rfl

theorem v37_at (r : Fin 4096) (k : Fin 1024) : val_main_v37 (F := Ideal) gf v (ix2 r k) = v (ix2 r k) * gf (ix1 k) := by
  pointwise [val_main_v37, val_main_v36, val_main_v30]

theorem v47_at (r : Fin 4096) (z : Fin 1) : val_main_v47 (F := Ideal) x y gm gf v (ix2 r z)
    = mid (X1 x y gm r) (fun q => gf (ix1 q)) (fun q => v (ix2 r q)) := by
  pointwise [val_main_v47, val_main_v46, val_main_v45, val_main_v41, val_main_v40, val_main_v39, v16_at, v37_at, v27_at, cst9_at, zero_add]
  rfl

theorem v49_at (r : Fin 4096) (k : Fin 1024) : val_main_v49 (F := Ideal) x y gm gf v (ix2 r k)
    = mid (X1 x y gm r) (fun q => gf (ix1 q)) (fun q => v (ix2 r q)) := by
  pointwise [val_main_v49, val_main_v48, v47_at, cst11_at, zero_add]
  simp

theorem v53_at (r : Fin 4096) (k : Fin 1024) : val_main_v53 (F := Ideal) x y gm gf u v (ix2 r k)
    = u (ix2 r k) + v (ix2 r k) * gf (ix1 k) * inv (X1 x y gm r)
      + X1 x y gm r k * mid (X1 x y gm r) (fun q => gf (ix1 q)) (fun q => v (ix2 r q))
      + mid (X1 x y gm r) (fun q => gf (ix1 q)) (fun q => v (ix2 r q)) * X1 x y gm r k := by
  pointwise [val_main_v53, val_main_v52, val_main_v51, val_main_v50, val_main_v44, val_main_v43, val_main_v42, v37_at, v49_at, v16_at, v24_at]

theorem v54_at (r : Fin 4096) (k : Fin 1024) : val_main_v54 (F := Ideal) x y gm gf u v (ix2 r k) = val_main_v53 (F := Ideal) x y gm gf u v (ix2 r k) := by
  pointwise [val_main_v54]

theorem v59_at (r : Fin 4096) (k : Fin 1024) : val_main_v59 (F := Ideal) x y gm gf u v (ix2 r k)
    = val_main_v53 (F := Ideal) x y gm gf u v (ix2 r k) * gm (ix1 k) := by
  pointwise [val_main_v59, val_main_v58, val_main_v13, v54_at]

theorem v68_at (r : Fin 4096) (z : Fin 1) : val_main_v68 (F := Ideal) x y gm gf u v (ix2 r z)
    = mid (fun q => y (ix2 r q)) (fun q => gm (ix1 q)) (fun q => val_main_v53 (F := Ideal) x y gm gf u v (ix2 r q)) := by
  pointwise [val_main_v68, val_main_v67, val_main_v66, val_main_v63, val_main_v62, val_main_v61, v59_at, v10_at, cst14_at, zero_add]
  rfl

theorem v70_at (r : Fin 4096) (k : Fin 1024) : val_main_v70 (F := Ideal) x y gm gf u v (ix2 r k)
    = mid (fun q => y (ix2 r q)) (fun q => gm (ix1 q)) (fun q => val_main_v53 (F := Ideal) x y gm gf u v (ix2 r q)) := by
  pointwise [val_main_v70, val_main_v69, v68_at, cst16_at, zero_add]
  simp

theorem v76_at (r : Fin 4096) (k : Fin 1024) : val_main_v76 (F := Ideal) x y gm gf u v (ix2 r k)
    = val_main_v53 (F := Ideal) x y gm gf u v (ix2 r k) * gm (ix1 k) * inv (fun q => y (ix2 r q))
      + y (ix2 r k) * mid (fun q => y (ix2 r q)) (fun q => gm (ix1 q)) (fun q => val_main_v53 (F := Ideal) x y gm gf u v (ix2 r q))
      + mid (fun q => y (ix2 r q)) (fun q => gm (ix1 q)) (fun q => val_main_v53 (F := Ideal) x y gm gf u v (ix2 r q)) * y (ix2 r k) := by
  pointwise [val_main_v76, val_main_v74, val_main_v73, val_main_v72, val_main_v71, val_main_v65, val_main_v64, v7_at, v59_at, v70_at]

theorem v75_at (z : Fin 1) (k : Fin 1024) : val_main_v75 (F := Ideal) x y gm v (ix2 z k) = GF x y gm v k := by
  have e : val_main_v75 (F := Ideal) x y gm v (ix2 z k) = ∑ r : Fin 4096, X1 x y gm r k * inv (X1 x y gm r) * v (ix2 r k) := by
    pointwise [val_main_v75, val_main_v38, val_main_v35, val_main_v34, val_main_v33, val_main_v29, val_main_v28, v16_at, v24_at, cst7_at, cst8_at, zero_add]
    simp
  rw [e]
  unfold GF sF
  exact Finset.sum_congr rfl fun r _ => (mul_comm _ _).trans (mul_assoc _ _ _).symm

theorem v77_at (z : Fin 1) (k : Fin 1024) : val_main_v77 (F := Ideal) x y gm gf u v (ix2 z k)
    = ∑ r : Fin 4096, y (ix2 r k) * inv (fun q => y (ix2 r q)) * val_main_v53 (F := Ideal) x y gm gf u v (ix2 r k) := by
  pointwise [val_main_v77, val_main_v60, val_main_v57, val_main_v56, val_main_v55, val_main_v12, val_main_v11, v7_at, v54_at, cst12_at, cst13_at, zero_add]
  simp

theorem dx_eq (r : Fin 4096) (k : Fin 1024) : val_main_v53 (F := Ideal) x y gm gf u v (ix2 r k) = DX x y gm gf u v r k := by
  rw [v53_at]
  unfold DX
  rw [← ref_eq, add_assoc, add_assoc, ← add_assoc (v (ix2 r k) * _ * _)]

theorem dy_eq (r : Fin 4096) (k : Fin 1024) : val_main_v76 (F := Ideal) x y gm gf u v (ix2 r k) = DY x y gm gf u v r k := by
  rw [v76_at]
  simp only [dx_eq]
  exact ref_eq (fun q => y (ix2 r q)) (fun q => gm (ix1 q)) (DX x y gm gf u v r) k

theorem gm_eq (z : Fin 1) (k : Fin 1024) : val_main_v77 (F := Ideal) x y gm gf u v (ix2 z k) = GM x y gm gf u v k := by
  rw [v77_at]
  simp only [dx_eq]
  unfold GM sM
  exact Finset.sum_congr rfl fun r _ => (mul_comm _ _).trans (mul_assoc _ _ _).symm

theorem by_rows (a : Cert.Reference12Ideal.S4096x1024.Idx → EReal) (f : Fin 4096 → Fin 1024 → EReal) (q : ∀ r k, a (ix2 r k) = f r k) : a = rows f := by
  funext i
  have p : (i : Cert.Reference12Ideal.S4096x1024.Idx) = ix2 (i 0) (i 1) := by ext a; fin_cases a <;> rfl
  exact (congrArg _ p).trans (q (i 0) (i 1))

theorem by_row (a : Cert.Reference12Ideal.S1x1024.Idx → EReal) (f : Fin 1024 → EReal) (q : ∀ (z : Fin 1) k, a (ix2 z k) = f k) : a = one f := by
  funext i
  have p : (i : Cert.Reference12Ideal.S1x1024.Idx) = ix2 (i 0) (i 1) := by ext a; fin_cases a <;> rfl
  exact (congrArg _ p).trans (q (i 0) (i 1))

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

theorem algebraic : Cert.algebraic_Kernel12Ideal_Reference12Ideal := by
  intro m ρ m' ρ' _ hagree
  refine ⟨fun c => rows (DX (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))),
    fun c => one (GF (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg5))),
    fun c => rows (DY (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))),
    fun c => one (GM (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))), ?_, ?_⟩
  · refine (θ_run Cert.Kernel12Ideal.defs _ _).mono (fun r h c => ?_) (Cert.Kernel12Ideal.Value.run_blocks m ρ)
    obtain ⟨h6, h7, h8, h9, h⟩ := h c
    exact ⟨h6.trans (arr6 m c), h7.trans (arr7 m c), h8.trans (arr8 m c), h9.trans (arr9 m c), h⟩
  · refine (θ_run Cert.Reference12Ideal.defs _ _).mono (fun r h c => ?_) (Cert.Reference12Ideal.Value.run (F := Ideal) m' ρ')
    obtain ⟨h6, h7, h8, h9, h⟩ := h c
    obtain ⟨a0, a1, a2, a3, a4, a5⟩ := hagree c
    refine ⟨((h6.trans (val_main_v53_eq m' c)).trans (by_rows _ _ (dx_eq _ _ _ _ _ _))).trans ?_,
      ((h7.trans (val_main_v75_eq _ _ _ _)).trans (by_row _ _ (v75_at _ _ _ _))).trans ?_,
      ((h8.trans (val_main_v76_eq m' c)).trans (by_rows _ _ (dy_eq _ _ _ _ _ _))).trans ?_,
      ((h9.trans (val_main_v77_eq m' c)).trans (by_row _ _ (gm_eq _ _ _ _ _ _))).trans ?_, h⟩
    · rw [a0, a1, a2, a3, a4, a5]
    · rw [a0, a1, a2, a5]
    · rw [a0, a1, a2, a3, a4, a5]
    · rw [a0, a1, a2, a3, a4, a5]

end Cert.LayerRef

end
-- ==== Proof.InBwd.lean ====
module

public import proofs.«01_k».proof.Proof.Gen.Kernel13Ideal.Value
public import proofs.«01_k».proof.Proof.Gen.Reference13Ideal.Read
public import proofs.«01_k».proof.Proof.Gen.Kernel13.Frame
public import proofs.«01_k».proof.Proof.NormRef

@[expose] public section

/-! The gradient of the first norm: the two cotangents of a layer's input added up, and the norm's scale's gradient. -/

set_option maxRecDepth 16384

noncomputable section

namespace Cert.Kernel13Ideal.Blk

open Cert.Kernel11Ideal.Blk (inv back X1 rows one)
open Cert.Kernel13Ideal Cert.Kernel13Ideal.Gen Idealize.ShloMosaic Idealize.ShloMosaic.TcCoe Idealize.SL.Sem

theorem pay3_at (a : Vec Ideal S512x1024 .f32) (r : Fin 512) : k0_pay3 a (ix2 r 0) = inv (fun q => a (ix2 r q)) := by
  pointwise [k0_pay3]
  rfl

theorem pay5_at (a : Vec Ideal S512x1024 .f32) (g : Vec Ideal S1x1024 .f32) (d e : Vec Ideal S512x1024 .f32) (r : Fin 512) (k : Fin 1024) :
    k0_pay5 a g d e (ix2 r k) = e (ix2 r k) + back (fun q => a (ix2 r q)) (fun q => g (ix2 0 q)) (fun q => d (ix2 r q)) k := by
  pointwise [k0_pay5, pay3_at]
  rfl

theorem pay1_at (a d : Vec Ideal S512x1024 .f32) (s : Vec Ideal S1x1024 .f32) (k : Fin 1024) :
    k0_pay1 (k0_pay4 a d) s (ix2 0 k) = s (ix2 0 k) + ∑ r : Fin 512, d (ix2 r k) * a (ix2 r k) * inv (fun q => a (ix2 r q)) := by
  pointwise [k0_pay1, k0_pay4, pay3_at]

theorem pay2_at (k : Fin 1024) : k0_pay2 (F := Ideal) (ix2 0 k) = 0 := by
  pointwise [k0_pay2]

variable (m : (ℓ : Loc nD τ sig) → Buf (Elt Ideal) ℓ) (c : Dev nD)

/-- The array's row that a block's row `r` is. -/
def row (t : Fin cfg0.N) (r : Fin 512) : Fin 4096 := ⟨512 * t.val + r.val, by have : t.val < 8 := t.isLt; omega⟩

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel

theorem blk0_at (t : Fin cfg0.N) (r : Fin 512) (k : Fin 1024) :
    iblk m c 0 t (ix2 r k) = m ((c : Thread nD τ).loc main_arg2) (ix2 (row t r) k) := by
  have e : iblk m c 0 t (ix2 r k) = V m c main_arg2 (ix2 (row t r) k) := by
    blk_ext [iblk, idx0 t, row]
  exact e.trans (congrFun (V_main_arg2 m c) _)

theorem blk1_at (t : Fin cfg0.N) (r : Fin 512) (k : Fin 1024) :
    iblk m c 1 t (ix2 r k) = m ((c : Thread nD τ).loc main_arg3) (ix2 (row t r) k) := by
  have e : iblk m c 1 t (ix2 r k) = V m c main_arg3 (ix2 (row t r) k) := by
    blk_ext [iblk, idx1 t, row]
  exact e.trans (congrFun (V_main_arg3 m c) _)

theorem blk2_at (t : Fin cfg0.N) (r : Fin 512) (k : Fin 1024) :
    iblk m c 2 t (ix2 r k) = m ((c : Thread nD τ).loc main_arg0) (ix2 (row t r) k) := by
  have e : iblk m c 2 t (ix2 r k) = V m c main_arg0 (ix2 (row t r) k) := by
    blk_ext [iblk, idx2 t, row]
  exact e.trans (congrFun (V_main_arg0 m c) _)

theorem V0_at (k : Fin 1024) : V m c main_v0 (ix2 0 k) = m ((c : Thread nD τ).loc main_arg1) (ix1 k) := by
  unfold V
  after_reads_at

theorem blk3_at (t : Fin cfg0.N) (k : Fin 1024) : iblk m c 3 t (ix2 0 k) = m ((c : Thread nD τ).loc main_arg1) (ix1 k) := by
  have e : iblk m c 3 t (ix2 0 k) = V m c main_v0 (ix2 0 k) := by
    blk_ext [iblk, idx3 t]
  exact e.trans (V0_at m c k)

theorem after4_eq (t : Fin cfg0.N) : (dats m 0 c).after 4 t = k0_pay5 (iblk m c 2 t) (iblk m c 3 t) (iblk m c 1 t) (iblk m c 0 t) := by
  rw [after0_4]
  by_cases h : t.val % 8 = 0
  · rw [outsAt0_A m c t h]
    frame_out
  · rw [outsAt0_B m c t h]
    frame_out

/-- The cotangent of the layer's input. -/
def DZ (x : S4096x1024.Idx → EReal) (g : S1024.Idx → EReal) (u v : S4096x1024.Idx → EReal) (r : Fin 4096) (k : Fin 1024) : EReal :=
  u (ix2 r k) + back (fun q => x (ix2 r q)) (fun q => g (ix1 q)) (fun q => v (ix2 r q)) k

/-- A row's part of the gradient of the norm's scale. -/
def sZ (x v : S4096x1024.Idx → EReal) (r : Fin 4096) (k : Fin 1024) : EReal :=
  v (ix2 r k) * x (ix2 r k) * inv (fun q => x (ix2 r q))

/-- The gradient of the norm's scale. -/
def GZ (x v : S4096x1024.Idx → EReal) (k : Fin 1024) : EReal := ∑ r : Fin 4096, sZ x v r k

theorem dz_at (t : Fin cfg0.N) (r : Fin 512) (k : Fin 1024) :
    k0_pay5 (iblk m c 2 t) (iblk m c 3 t) (iblk m c 1 t) (iblk m c 0 t) (ix2 r k) = DZ (m ((c : Thread nD τ).loc main_arg0)) (m ((c : Thread nD τ).loc main_arg1)) (m ((c : Thread nD τ).loc main_arg2)) (m ((c : Thread nD τ).loc main_arg3)) (row t r) k := by
  refine (pay5_at _ _ _ _ r k).trans ?_
  simp only [blk0_at, blk1_at, blk2_at, blk3_at]
  rfl

/-- A point's part of the gradient of the norm's scale. -/
def tz (t : Fin cfg0.N) (k : Fin 1024) : EReal :=
  ∑ r : Fin 512, sZ (m ((c : Thread nD τ).loc main_arg0)) (m ((c : Thread nD τ).loc main_arg3)) (row t r) k

theorem gz_at (t : Fin cfg0.N) (s : Vec Ideal S1x1024 .f32) (k : Fin 1024) :
    k0_pay1 (k0_pay4 (iblk m c 2 t) (iblk m c 1 t)) s (ix2 0 k) = s (ix2 0 k) + tz m c t k := by
  refine (pay1_at _ _ s k).trans ?_
  simp only [blk1_at, blk2_at]
  rfl

theorem first5 (t : Fin cfg0.N) (h : t.val % 8 = 0) : (outsAt0 m c t.val t.isLt).2 = k0_pay1 (k0_pay4 (iblk m c 2 t) (iblk m c 1 t)) (k0_pay2 (F := Ideal)) := by
  rw [outsAt0_A m c t h]
  frame_out

theorem next5 (t : Fin cfg0.N) (h : ¬t.val % 8 = 0) : (outsAt0 m c t.val t.isLt).2
    = k0_pay1 (k0_pay4 (iblk m c 2 t) (iblk m c 1 t)) (outsAt0 m c (t.val - 1) (Nat.lt_of_le_of_lt (Nat.sub_le _ _) t.isLt)).2 := by
  rw [outsAt0_B m c t h]
  frame_out

theorem sum5 (t : Fin cfg0.N) (ht : t.val + 1 = cfg0.N) (k : Fin 1024) : (outsAt0 m c t.val t.isLt).2 (ix2 0 k) = ∑ p : Fin cfg0.N, tz m c p k := by
  refine (Pipeline.eq_sum_fin_of_reset_step_apply_last (fun n h (k : Fin 1024) => (outsAt0 m c n h).2 (ix2 0 k)) 8 (fun _ => 0) (tz m c)
    (fun t h k => ?_) (fun t h k => ?_) (by decide +kernel) t ht k).trans (zero_add _)
  · exact ((congrFun (first5 m c t h) _).trans (gz_at m c t _ k)).trans (congrArg (· + _) (pay2_at k))
  · exact (congrFun (next5 m c t h) _).trans (gz_at m c t _ k)

/-- The sum over the points and their rows is the sum over the array's rows. -/
theorem over_rows (f : Fin 4096 → EReal) : ∑ p : Fin cfg0.N, ∑ r : Fin 512, f (row p r) = ∑ r : Fin 4096, f r := by
  refine Fin.sum_mul_add_congr (L := 4096) (S := 8) (n := 512) (f := f) fun s r hl => congrArg f (Fin.ext ?_)
  show 512 * s.val + r.val = s.val * 512 + r.val
  omega

theorem rows_congr (f : Fin 4096 → Fin 1024 → EReal) (t : Fin cfg0.N) (y : S512x1024.Idx) (i : S4096x1024.Idx)
    (h0 : (i 0).val = 512 * t.val + (y 0).val) (h1 : (i 1).val = (y 1).val) : f (row t (y 0)) (y 1) = rows f i :=
  congrArg₂ f (Fin.ext h0.symm) (Fin.ext h1.symm)

theorem last (t : Fin cfg0.N) (h : t.val % 8 = 7) : t.val + 1 = cfg0.N := by
  have a : t.val < 8 := t.isLt
  have b : cfg0.N = 8 := by decide +kernel
  omega

theorem first_row (y : S1x1024.Idx) : y = ix2 0 (y 1) := by
  ext a; fin_cases a
  · have h0 : (y 0).val < 1 := (y 0).isLt
    show (y 0).val = 0
    omega
  · rfl

theorem emb4 (t : Fin cfg0.N) (y : S512x1024.Idx) (i : S4096x1024.Idx) (h : i = (win0_4.blk t).view.emb y) :
    (i 0).val = 512 * t.val + (y 0).val ∧ (i 1).val = (y 1).val := by
  subst h
  blk_simp [idx4 t]
  refine ⟨?_, ?_⟩ <;> simp <;> omega

theorem emb5 (t : Fin cfg0.N) (y : S1x1024.Idx) (i : S1x1024.Idx) (h : i = (win0_5.blk t).view.emb y) : (i 1).val = (y 1).val := by
  subst h
  blk_simp [idx5 t]
  all_goals simp

theorem arr4 : (dats m 0 c).arrAt 4 cfg0.N = rows (DZ (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after4_eq]
  obtain ⟨e0, e1⟩ := emb4 t y _ rfl
  have q : (y : S512x1024.Idx) = ix2 (y 0) (y 1) := by ext a; fin_cases a <;> rfl
  exact ((congrArg _ q).trans (dz_at m c t (y 0) (y 1))).trans (rows_congr _ t y _ e0 e1)

theorem arr5 : (dats m 0 c).arrAt 5 cfg0.N = one (GZ (m ((c : Thread nD τ).loc main_arg0)) (m ((c : Thread nD τ).loc main_arg3))) := by
  refine (dats m 0 c).arrAt_eq_of_covers 5 _ (by decide +kernel) fun t hf y => ?_
  blk_simp
  rw [after0_5]
  have e1 := emb5 t y _ rfl
  exact (((congrArg _ (first_row y)).trans (sum5 m c t (last t ((flush0_5 t).mp hf)) (y 1))).trans
    (over_rows fun r => sZ (m ((c : Thread nD τ).loc main_arg0)) (m ((c : Thread nD τ).loc main_arg3)) r (y 1))).trans (congrArg (GZ (m ((c : Thread nD τ).loc main_arg0)) (m ((c : Thread nD τ).loc main_arg3))) (Fin.ext e1.symm))

end Cert.Kernel13Ideal.Blk

namespace Cert.InBwd

open Idealize.ShloMosaic Idealize.ShloMosaic.TcCoe Idealize.SL.Sem
open Cert.Reference13Ideal Cert.Reference13Ideal.Read
open Cert.NormRef (mid ref_eq by_rows by_row)
open Cert.Kernel11Ideal.Blk (inv back rows one)
open Cert.Kernel13Ideal.Blk (DZ sZ GZ arr4 arr5)

variable (x : Cert.Reference13Ideal.S4096x1024.Idx → EReal) (g : Cert.Reference13Ideal.S1024.Idx → EReal)
  (u v : Cert.Reference13Ideal.S4096x1024.Idx → EReal)

theorem cst_at (i : Cert.Reference13Ideal.S_.Idx) : val_main_cst (F := Ideal) i = 0 := by pointwise [val_main_cst]
theorem cst3_at (i : Cert.Reference13Ideal.S_.Idx) : val_main_cst_3 (F := Ideal) i = 0 := by pointwise [val_main_cst_3]
theorem cst4_at (i : Cert.Reference13Ideal.S_.Idx) : val_main_cst_4 (F := Ideal) i = 0 := by pointwise [val_main_cst_4]
theorem cst5_at (i : Cert.Reference13Ideal.S_.Idx) : val_main_cst_5 (F := Ideal) i = 0 := by pointwise [val_main_cst_5]
theorem cst7_at (i : Cert.Reference13Ideal.S_.Idx) : val_main_cst_7 (F := Ideal) i = 0 := by pointwise [val_main_cst_7]

theorem v7_at (r : Fin 4096) (z : Fin 1) : val_main_v7 (F := Ideal) x (ix2 r z) = inv (fun q => x (ix2 r q)) := by
  pointwise [val_main_v7, val_main_v6, val_main_v5, val_main_v4, val_main_v3, val_main_v2, val_main_v1, val_main_v0, cst_at, zero_add]
  rfl

theorem v10_at (r : Fin 4096) (z : Fin 1) : val_main_v10 (F := Ideal) x (ix2 r z) = Ideal.ofBits FTy.f32 0xBF000000#32
    * Ideal.div (inv fun q => x (ix2 r q)) (Ideal.div (∑ q, x (ix2 r q) * x (ix2 r q)) (Ideal.ofBits FTy.f32 1149239296#32) + Ideal.ofBits FTy.f32 897988541#32) := by
  pointwise [val_main_v10, val_main_v9, val_main_v8, v7_at, val_main_v6, val_main_v5, val_main_v4, val_main_v3, val_main_v2, val_main_v1, val_main_v0,
    cst_at, zero_add]
  rfl

theorem v20_at (r : Fin 4096) (k : Fin 1024) : val_main_v20 (F := Ideal) g v (ix2 r k) = v (ix2 r k) * g (ix1 k) := by
  pointwise [val_main_v20, val_main_v19, val_main_v13]

theorem v30_at (r : Fin 4096) (z : Fin 1) : val_main_v30 (F := Ideal) x g v (ix2 r z)
    = mid (fun q => x (ix2 r q)) (fun q => g (ix1 q)) (fun q => v (ix2 r q)) := by
  pointwise [val_main_v30, val_main_v29, val_main_v28, val_main_v24, val_main_v23, val_main_v22, v20_at, v10_at, cst5_at, zero_add]
  rfl

theorem v32_at (r : Fin 4096) (k : Fin 1024) : val_main_v32 (F := Ideal) x g v (ix2 r k)
    = mid (fun q => x (ix2 r q)) (fun q => g (ix1 q)) (fun q => v (ix2 r q)) := by
  pointwise [val_main_v32, val_main_v31, v30_at, cst7_at, zero_add]
  simp

theorem dz_eq (r : Fin 4096) (k : Fin 1024) : val_main_v36 (F := Ideal) x g u v (ix2 r k) = DZ x g u v r k := by
  have e : val_main_v36 (F := Ideal) x g u v (ix2 r k) = u (ix2 r k) + v (ix2 r k) * g (ix1 k) * inv (fun q => x (ix2 r q))
      + x (ix2 r k) * mid (fun q => x (ix2 r q)) (fun q => g (ix1 q)) (fun q => v (ix2 r q))
      + mid (fun q => x (ix2 r q)) (fun q => g (ix1 q)) (fun q => v (ix2 r q)) * x (ix2 r k) := by
    pointwise [val_main_v36, val_main_v35, val_main_v34, val_main_v33, val_main_v27, val_main_v26, val_main_v25, v20_at, v32_at, v7_at]
  rw [e]
  unfold DZ
  rw [← ref_eq, add_assoc, add_assoc, ← add_assoc (v (ix2 r k) * _ * _)]

theorem gz_eq (z : Fin 1) (k : Fin 1024) : val_main_v37 (F := Ideal) x v (ix2 z k) = GZ x v k := by
  have e : val_main_v37 (F := Ideal) x v (ix2 z k) = ∑ r : Fin 4096, x (ix2 r k) * inv (fun q => x (ix2 r q)) * v (ix2 r k) := by
    pointwise [val_main_v37, val_main_v21, val_main_v18, val_main_v17, val_main_v16, val_main_v12, val_main_v11, v7_at, cst3_at, cst4_at, zero_add]
    simp
  rw [e]
  unfold GZ sZ
  exact Finset.sum_congr rfl fun r _ => (mul_comm _ _).trans (mul_assoc _ _ _).symm

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2.2, Idealize.ShloMosaic.sem_eq_zero_of_no_sems (by decide) r.2⟩)
    (Cert.Reference13Ideal.Value.run (F := Ideal) m ρ)

theorem algebraic : Cert.algebraic_Kernel13Ideal_Reference13Ideal := by
  intro m ρ m' ρ' _ hagree
  refine ⟨fun c => rows (DZ (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))), fun c => one (GZ (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg3))), ?_, ?_⟩
  · refine (θ_run Cert.Kernel13Ideal.defs _ _).mono (fun r h c => ?_) (Cert.Kernel13Ideal.Value.run_blocks m ρ)
    obtain ⟨h4, h5, h⟩ := h c
    exact ⟨h4.trans (arr4 m c), h5.trans (arr5 m c), h⟩
  · refine (θ_run Cert.Reference13Ideal.defs _ _).mono (fun r h c => ?_) (Cert.Reference13Ideal.Value.run (F := Ideal) m' ρ')
    obtain ⟨h4, h5, h⟩ := h c
    obtain ⟨a0, a1, a2, a3⟩ := hagree c
    refine ⟨((h4.trans (val_main_v36_eq _ _ _ _)).trans (by_rows _ _ (dz_eq _ _ _ _))).trans ?_,
      ((h5.trans (val_main_v37_eq _ _)).trans (by_row _ _ (gz_eq _ _))).trans ?_, h⟩
    · rw [a0, a1, a2, a3]
    · rw [a0, a3]

end Cert.InBwd

end
-- ==== Proof.LossBwd.lean ====
module

public import proofs.«01_k».proof.Proof.Gen.Kernel14Ideal.Value
public import proofs.«01_k».proof.Proof.Gen.Reference14Ideal.Read
public import proofs.«01_k».proof.Proof.Gen.Kernel14.Frame
public import proofs.«01_k».proof.Proof.NormRef

@[expose] public section

/-! The loss and its gradient: half the sum of the rows' mean square errors, and the cotangents it sends to the last layer's residual sum. -/

set_option maxRecDepth 16384

noncomputable section

namespace Cert.Kernel14Ideal.Blk

open Cert.NormRef (bits_width sq_nonneg)
open Cert.Kernel11Ideal.Blk (inv back X1 rows one)
open Cert.Kernel14Ideal Cert.Kernel14Ideal.Gen Idealize.ShloMosaic Idealize.ShloMosaic.TcCoe Idealize.SL.Sem

/-- One half. -/
abbrev half : EReal := Ideal.ofBits FTy.f32 0x3F000000#32

/-- The mean of the squares of a row. -/
def meanSq (e : Fin 1024 → EReal) : EReal := Ideal.div (∑ k, e k * e k) (Ideal.ofBits FTy.f32 1149239296#32)

theorem meanSq_nonneg (e : Fin 1024 → EReal) : 0 ≤ meanSq e := by
  unfold meanSq
  rw [bits_width, Ideal.div_coe (by norm_num)]
  exact mul_nonneg (Finset.sum_nonneg fun x _ => sq_nonneg (e x)) (by exact_mod_cast (by norm_num : (0 : ℝ) ≤ 1 / 1024))

/-- Half a sum of values that are not negative is the sum of their halves. -/
theorem half_sum {n : ℕ} (f : Fin n → EReal) (h : ∀ i, 0 ≤ f i) : half * ∑ i, f i = ∑ i, half * f i := by
  have go : ∀ s : Finset (Fin n), half * ∑ i ∈ s, f i = ∑ i ∈ s, half * f i := by
    intro s
    induction s using Finset.induction_on with
    | empty => simp
    | insert a s ha ih =>
      rw [Finset.sum_insert ha, Finset.sum_insert ha, EReal.left_distrib_of_nonneg (h a) (Finset.sum_nonneg fun i _ => h i), ih]
  exact go _

theorem pay6_at (a : Vec Ideal S512x1024 .f32) (r : Fin 512) : k0_pay6 a (ix2 r 0) = inv (fun q => a (ix2 r q)) := by
  pointwise [k0_pay6]
  rfl

theorem pay7_at (f x : Vec Ideal S512x1024 .f32) (g : Vec Ideal S1x1024 .f32) (t : Vec Ideal S512x1024 .f32) (r : Fin 512) (k : Fin 1024) :
    k0_pay7 f x g t (ix2 r k) = x (ix2 r k) + f (ix2 r k) * inv (fun q => f (ix2 r q)) * g (ix2 0 k) - t (ix2 r k) := by
  pointwise [k0_pay7, pay6_at]

theorem pay8_at (f x : Vec Ideal S512x1024 .f32) (g : Vec Ideal S1x1024 .f32) (t : Vec Ideal S512x1024 .f32) (r : Fin 512) (k : Fin 1024) :
    k0_pay8 f x g t (ix2 r k) = k0_pay7 f x g t (ix2 r k) * Ideal.ofBits FTy.f32 0x3A800000#32 := by
  pointwise [k0_pay8]

theorem pay9_at (f x : Vec Ideal S512x1024 .f32) (g : Vec Ideal S1x1024 .f32) (t : Vec Ideal S512x1024 .f32) :
    k0_pay9 f x g t (ix2 0 0) = half * ∑ r : Fin 512, meanSq fun k => k0_pay7 f x g t (ix2 r k) := by
  pointwise [k0_pay9]
  rfl

theorem pay1_at (a : Vec Ideal S1x1 .f32) (s : Vec Ideal S8x128 .f32) (p : Fin 8) (q : Fin 128) :
    k0_pay1 a s (ix2 p q) = s (ix2 p q) + a (ix2 0 0) := by
  pointwise [k0_pay1]

theorem pay2_at (f d : Vec Ideal S512x1024 .f32) (g : Vec Ideal S1x1024 .f32) (r : Fin 512) (k : Fin 1024) :
    k0_pay2 f (k0_pay6 f) d g (ix2 r k) = back (fun q => f (ix2 r q)) (fun q => g (ix2 0 q)) (fun q => d (ix2 r q)) k := by
  pointwise [k0_pay2, pay6_at]
  rfl

theorem pay3_at (f d : Vec Ideal S512x1024 .f32) (s : Vec Ideal S1x1024 .f32) (k : Fin 1024) :
    k0_pay3 f (k0_pay6 f) d s (ix2 0 k) = s (ix2 0 k) + ∑ r : Fin 512, d (ix2 r k) * f (ix2 r k) * inv (fun q => f (ix2 r q)) := by
  pointwise [k0_pay3, pay6_at]

theorem pay4_at (p : Fin 8) (q : Fin 128) : k0_pay4 (F := Ideal) (ix2 p q) = 0 := by
  pointwise [k0_pay4]

theorem pay5_at (k : Fin 1024) : k0_pay5 (F := Ideal) (ix2 0 k) = 0 := by
  pointwise [k0_pay5]

variable (m : (ℓ : Loc nD τ sig) → Buf (Elt Ideal) ℓ) (c : Dev nD)

/-- The array's row that a block's row `r` is. -/
def row (t : Fin cfg0.N) (r : Fin 512) : Fin 4096 := ⟨512 * t.val + r.val, by have : t.val < 8 := t.isLt; omega⟩

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![0, 0] := by decide +kernel

theorem blk0_at (t : Fin cfg0.N) (r : Fin 512) (k : Fin 1024) :
    iblk m c 0 t (ix2 r k) = m ((c : Thread nD τ).loc main_arg0) (ix2 (row t r) k) := by
  have e : iblk m c 0 t (ix2 r k) = V m c main_arg0 (ix2 (row t r) k) := by
    blk_ext [iblk, idx0 t, row]
  exact e.trans (congrFun (V_main_arg0 m c) _)

theorem blk1_at (t : Fin cfg0.N) (r : Fin 512) (k : Fin 1024) :
    iblk m c 1 t (ix2 r k) = m ((c : Thread nD τ).loc main_arg1) (ix2 (row t r) k) := by
  have e : iblk m c 1 t (ix2 r k) = V m c main_arg1 (ix2 (row t r) k) := by
    blk_ext [iblk, idx1 t, row]
  exact e.trans (congrFun (V_main_arg1 m c) _)

theorem V0_at (k : Fin 1024) : V m c main_v0 (ix2 0 k) = m ((c : Thread nD τ).loc main_arg2) (ix1 k) := by
  unfold V
  after_reads_at

theorem blk2_at (t : Fin cfg0.N) (k : Fin 1024) : iblk m c 2 t (ix2 0 k) = m ((c : Thread nD τ).loc main_arg2) (ix1 k) := by
  have e : iblk m c 2 t (ix2 0 k) = V m c main_v0 (ix2 0 k) := by
    blk_ext [iblk, idx2 t]
  exact e.trans (V0_at m c k)

theorem blk3_at (t : Fin cfg0.N) (r : Fin 512) (k : Fin 1024) :
    iblk m c 3 t (ix2 r k) = m ((c : Thread nD τ).loc main_arg3) (ix2 (row t r) k) := by
  have e : iblk m c 3 t (ix2 r k) = V m c main_arg3 (ix2 (row t r) k) := by
    blk_ext [iblk, idx3 t, row]
  exact e.trans (congrFun (V_main_arg3 m c) _)

theorem after5_eq (t : Fin cfg0.N) : (dats m 0 c).after 5 t = k0_pay8 (iblk m c 1 t) (iblk m c 0 t) (iblk m c 2 t) (iblk m c 3 t) := by
  rw [after0_5]
  by_cases h : t.val % 8 = 0
  · rw [outsAt0_A m c t h]
    frame_out
  · rw [outsAt0_B m c t h]
    frame_out

theorem after6_eq (t : Fin cfg0.N) : (dats m 0 c).after 6 t = k0_pay2 (iblk m c 1 t) (k0_pay6 (iblk m c 1 t)) (k0_pay8 (iblk m c 1 t) (iblk m c 0 t) (iblk m c 2 t) (iblk m c 3 t)) (iblk m c 2 t) := by
  rw [after0_6]
  by_cases h : t.val % 8 = 0
  · rw [outsAt0_A m c t h]
    frame_out
  · rw [outsAt0_B m c t h]
    frame_out

/-- The error. -/
def ER (x f : S4096x1024.Idx → EReal) (g : S1024.Idx → EReal) (t : S4096x1024.Idx → EReal) (r : Fin 4096) (k : Fin 1024) : EReal :=
  X1 x f g r k - t (ix2 r k)

/-- The cotangent of the residual sum. -/
def DE (x f : S4096x1024.Idx → EReal) (g : S1024.Idx → EReal) (t : S4096x1024.Idx → EReal) (r : Fin 4096) (k : Fin 1024) : EReal :=
  ER x f g t r k * Ideal.ofBits FTy.f32 0x3A800000#32

/-- The cotangent of the feed-forward layer's output. -/
def DF (x f : S4096x1024.Idx → EReal) (g : S1024.Idx → EReal) (t : S4096x1024.Idx → EReal) (r : Fin 4096) (k : Fin 1024) : EReal :=
  back (fun q => f (ix2 r q)) (fun q => g (ix1 q)) (DE x f g t r) k

/-- A row's part of the gradient of the norm's scale. -/
def sE (x f : S4096x1024.Idx → EReal) (g : S1024.Idx → EReal) (t : S4096x1024.Idx → EReal) (r : Fin 4096) (k : Fin 1024) : EReal :=
  DE x f g t r k * f (ix2 r k) * inv (fun q => f (ix2 r q))

/-- The gradient of the norm's scale. -/
def GE (x f : S4096x1024.Idx → EReal) (g : S1024.Idx → EReal) (t : S4096x1024.Idx → EReal) (k : Fin 1024) : EReal :=
  ∑ r : Fin 4096, sE x f g t r k

/-- The loss. -/
def LS (x f : S4096x1024.Idx → EReal) (g : S1024.Idx → EReal) (t : S4096x1024.Idx → EReal) : EReal :=
  half * ∑ r : Fin 4096, meanSq (ER x f g t r)

theorem er_at (t : Fin cfg0.N) (r : Fin 512) (k : Fin 1024) : k0_pay7 (iblk m c 1 t) (iblk m c 0 t) (iblk m c 2 t) (iblk m c 3 t) (ix2 r k) = ER (m ((c : Thread nD τ).loc main_arg0)) (m ((c : Thread nD τ).loc main_arg1)) (m ((c : Thread nD τ).loc main_arg2)) (m ((c : Thread nD τ).loc main_arg3)) (row t r) k := by
  refine (pay7_at _ _ _ _ r k).trans ?_
  simp only [blk0_at, blk1_at, blk2_at, blk3_at]
  rfl

theorem de_at (t : Fin cfg0.N) (r : Fin 512) (k : Fin 1024) : k0_pay8 (iblk m c 1 t) (iblk m c 0 t) (iblk m c 2 t) (iblk m c 3 t) (ix2 r k) = DE (m ((c : Thread nD τ).loc main_arg0)) (m ((c : Thread nD τ).loc main_arg1)) (m ((c : Thread nD τ).loc main_arg2)) (m ((c : Thread nD τ).loc main_arg3)) (row t r) k :=
  (pay8_at _ _ _ _ r k).trans (congrArg (· * _) (er_at m c t r k))

theorem df_at (t : Fin cfg0.N) (r : Fin 512) (k : Fin 1024) : k0_pay2 (iblk m c 1 t) (k0_pay6 (iblk m c 1 t)) (k0_pay8 (iblk m c 1 t) (iblk m c 0 t) (iblk m c 2 t) (iblk m c 3 t)) (iblk m c 2 t) (ix2 r k) = DF (m ((c : Thread nD τ).loc main_arg0)) (m ((c : Thread nD τ).loc main_arg1)) (m ((c : Thread nD τ).loc main_arg2)) (m ((c : Thread nD τ).loc main_arg3)) (row t r) k := by
  refine (pay2_at _ _ _ r k).trans ?_
  simp only [blk1_at, blk2_at, de_at]
  rfl

/-- A point's part of the loss. -/
def tl (t : Fin cfg0.N) (_ : Fin 8 × Fin 128) : EReal := half * ∑ r : Fin 512, meanSq (ER (m ((c : Thread nD τ).loc main_arg0)) (m ((c : Thread nD τ).loc main_arg1)) (m ((c : Thread nD τ).loc main_arg2)) (m ((c : Thread nD τ).loc main_arg3)) (row t r))

/-- A point's part of the gradient of the norm's scale. -/
def te (t : Fin cfg0.N) (k : Fin 1024) : EReal := ∑ r : Fin 512, sE (m ((c : Thread nD τ).loc main_arg0)) (m ((c : Thread nD τ).loc main_arg1)) (m ((c : Thread nD τ).loc main_arg2)) (m ((c : Thread nD τ).loc main_arg3)) (row t r) k

theorem ls_at (t : Fin cfg0.N) (s : Vec Ideal S8x128 .f32) (k : Fin 8 × Fin 128) :
    k0_pay1 (k0_pay9 (iblk m c 1 t) (iblk m c 0 t) (iblk m c 2 t) (iblk m c 3 t)) s (ix2 k.1 k.2) = s (ix2 k.1 k.2) + tl m c t k := by
  refine (pay1_at _ s k.1 k.2).trans ?_
  rw [pay9_at]
  simp only [er_at]
  rfl

theorem ge_at (t : Fin cfg0.N) (s : Vec Ideal S1x1024 .f32) (k : Fin 1024) :
    k0_pay3 (iblk m c 1 t) (k0_pay6 (iblk m c 1 t)) (k0_pay8 (iblk m c 1 t) (iblk m c 0 t) (iblk m c 2 t) (iblk m c 3 t)) s (ix2 0 k) = s (ix2 0 k) + te m c t k := by
  refine (pay3_at _ _ s k).trans ?_
  simp only [blk1_at, de_at]
  rfl

theorem first4 (t : Fin cfg0.N) (h : t.val % 8 = 0) : (outsAt0 m c t.val t.isLt).1 = k0_pay1 (k0_pay9 (iblk m c 1 t) (iblk m c 0 t) (iblk m c 2 t) (iblk m c 3 t)) (k0_pay4 (F := Ideal)) := by
  rw [outsAt0_A m c t h]
  frame_out

theorem next4 (t : Fin cfg0.N) (h : ¬t.val % 8 = 0) : (outsAt0 m c t.val t.isLt).1
    = k0_pay1 (k0_pay9 (iblk m c 1 t) (iblk m c 0 t) (iblk m c 2 t) (iblk m c 3 t)) (outsAt0 m c (t.val - 1) (Nat.lt_of_le_of_lt (Nat.sub_le _ _) t.isLt)).1 := by
  rw [outsAt0_B m c t h]
  frame_out

theorem first7 (t : Fin cfg0.N) (h : t.val % 8 = 0) : (outsAt0 m c t.val t.isLt).2.2.2 = k0_pay3 (iblk m c 1 t) (k0_pay6 (iblk m c 1 t)) (k0_pay8 (iblk m c 1 t) (iblk m c 0 t) (iblk m c 2 t) (iblk m c 3 t)) (k0_pay5 (F := Ideal)) := by
  rw [outsAt0_A m c t h]
  frame_out

theorem next7 (t : Fin cfg0.N) (h : ¬t.val % 8 = 0) : (outsAt0 m c t.val t.isLt).2.2.2
    = k0_pay3 (iblk m c 1 t) (k0_pay6 (iblk m c 1 t)) (k0_pay8 (iblk m c 1 t) (iblk m c 0 t) (iblk m c 2 t) (iblk m c 3 t)) (outsAt0 m c (t.val - 1) (Nat.lt_of_le_of_lt (Nat.sub_le _ _) t.isLt)).2.2.2 := by
  rw [outsAt0_B m c t h]
  frame_out

theorem sum4 (t : Fin cfg0.N) (ht : t.val + 1 = cfg0.N) (k : Fin 8 × Fin 128) :
    (outsAt0 m c t.val t.isLt).1 (ix2 k.1 k.2) = ∑ p : Fin cfg0.N, tl m c p k := by
  refine (Pipeline.eq_sum_fin_of_reset_step_apply_last (fun n h (k : Fin 8 × Fin 128) => (outsAt0 m c n h).1 (ix2 k.1 k.2)) 8 (fun _ => 0) (tl m c)
    (fun t h k => ?_) (fun t h k => ?_) (by decide +kernel) t ht k).trans (zero_add _)
  · exact ((congrFun (first4 m c t h) _).trans (ls_at m c t _ k)).trans (congrArg (· + _) (pay4_at k.1 k.2))
  · exact (congrFun (next4 m c t h) _).trans (ls_at m c t _ k)

theorem sum7 (t : Fin cfg0.N) (ht : t.val + 1 = cfg0.N) (k : Fin 1024) : (outsAt0 m c t.val t.isLt).2.2.2 (ix2 0 k) = ∑ p : Fin cfg0.N, te m c p k := by
  refine (Pipeline.eq_sum_fin_of_reset_step_apply_last (fun n h (k : Fin 1024) => (outsAt0 m c n h).2.2.2 (ix2 0 k)) 8 (fun _ => 0) (te m c)
    (fun t h k => ?_) (fun t h k => ?_) (by decide +kernel) t ht k).trans (zero_add _)
  · exact ((congrFun (first7 m c t h) _).trans (ge_at m c t _ k)).trans (congrArg (· + _) (pay5_at k))
  · exact (congrFun (next7 m c t h) _).trans (ge_at m c t _ k)

/-- The sum over the points and their rows is the sum over the array's rows. -/
theorem over_rows (f : Fin 4096 → EReal) : ∑ p : Fin cfg0.N, ∑ r : Fin 512, f (row p r) = ∑ r : Fin 4096, f r := by
  refine Fin.sum_mul_add_congr (L := 4096) (S := 8) (n := 512) (f := f) fun s r hl => congrArg f (Fin.ext ?_)
  show 512 * s.val + r.val = s.val * 512 + r.val
  omega

theorem rows_congr (f : Fin 4096 → Fin 1024 → EReal) (t : Fin cfg0.N) (y : S512x1024.Idx) (i : S4096x1024.Idx)
    (h0 : (i 0).val = 512 * t.val + (y 0).val) (h1 : (i 1).val = (y 1).val) : f (row t (y 0)) (y 1) = rows f i :=
  congrArg₂ f (Fin.ext h0.symm) (Fin.ext h1.symm)

theorem last (t : Fin cfg0.N) (h : t.val % 8 = 7) : t.val + 1 = cfg0.N := by
  have a : t.val < 8 := t.isLt
  have b : cfg0.N = 8 := by decide +kernel
  omega

theorem first_row (y : S1x1024.Idx) : y = ix2 0 (y 1) := by
  ext a; fin_cases a
  · have h0 : (y 0).val < 1 := (y 0).isLt
    show (y 0).val = 0
    omega
  · rfl

theorem emb5 (t : Fin cfg0.N) (y : S512x1024.Idx) (i : S4096x1024.Idx) (h : i = (win0_5.blk t).view.emb y) :
    (i 0).val = 512 * t.val + (y 0).val ∧ (i 1).val = (y 1).val := by
  subst h
  blk_simp [idx5 t]
  refine ⟨?_, ?_⟩ <;> simp <;> omega

theorem emb6 (t : Fin cfg0.N) (y : S512x1024.Idx) (i : S4096x1024.Idx) (h : i = (win0_6.blk t).view.emb y) :
    (i 0).val = 512 * t.val + (y 0).val ∧ (i 1).val = (y 1).val := by
  subst h
  blk_simp [idx6 t]
  refine ⟨?_, ?_⟩ <;> simp <;> omega

theorem emb7 (t : Fin cfg0.N) (y : S1x1024.Idx) (i : S1x1024.Idx) (h : i = (win0_7.blk t).view.emb y) : (i 1).val = (y 1).val := by
  subst h
  blk_simp [idx7 t]
  all_goals simp

theorem loss_sum (k : Fin 8 × Fin 128) : ∑ p : Fin cfg0.N, tl m c p k = LS (m ((c : Thread nD τ).loc main_arg0)) (m ((c : Thread nD τ).loc main_arg1)) (m ((c : Thread nD τ).loc main_arg2)) (m ((c : Thread nD τ).loc main_arg3)) := by
  unfold LS
  rw [← over_rows, half_sum (n := cfg0.N) _ fun p => Finset.sum_nonneg fun r _ => meanSq_nonneg _]
  rfl

theorem arr4 : (dats m 0 c).arrAt 4 cfg0.N = fun _ => LS (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have q : (y : S8x128.Idx) = ix2 (y 0) (y 1) := by ext a; fin_cases a <;> rfl
  exact ((congrArg _ q).trans (sum4 m c t (last t ((flush0_4 t).mp hf)) (y 0, y 1))).trans (loss_sum m c _)

theorem arr5 : (dats m 0 c).arrAt 5 cfg0.N = rows (DE (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp
  rw [after5_eq]
  obtain ⟨e0, e1⟩ := emb5 t y _ rfl
  have q : (y : S512x1024.Idx) = ix2 (y 0) (y 1) := by ext a; fin_cases a <;> rfl
  exact ((congrArg _ q).trans (de_at m c t (y 0) (y 1))).trans (rows_congr _ t y _ e0 e1)

theorem arr6 : (dats m 0 c).arrAt 6 cfg0.N = rows (DF (m ((c : Thread nD τ).loc main_arg0)) (m ((c : Thread nD τ).loc main_arg1)) (m ((c : Thread nD τ).loc main_arg2)) (m ((c : Thread nD τ).loc main_arg3))) := by
  refine (dats m 0 c).arrAt_eq_of_covers 6 _ (by decide +kernel) fun t hf y => ?_
  blk_simp
  rw [after6_eq]
  obtain ⟨e0, e1⟩ := emb6 t y _ rfl
  have q : (y : S512x1024.Idx) = ix2 (y 0) (y 1) := by ext a; fin_cases a <;> rfl
  exact ((congrArg _ q).trans (df_at m c t (y 0) (y 1))).trans (rows_congr _ t y _ e0 e1)

theorem arr7 : (dats m 0 c).arrAt 7 cfg0.N = one (GE (m ((c : Thread nD τ).loc main_arg0)) (m ((c : Thread nD τ).loc main_arg1)) (m ((c : Thread nD τ).loc main_arg2)) (m ((c : Thread nD τ).loc main_arg3))) := by
  refine (dats m 0 c).arrAt_eq_of_covers 7 _ (by decide +kernel) fun t hf y => ?_
  blk_simp
  rw [after0_7]
  have e1 := emb7 t y _ rfl
  exact (((congrArg _ (first_row y)).trans (sum7 m c t (last t ((flush0_7 t).mp hf)) (y 1))).trans
    (over_rows fun r => sE (m ((c : Thread nD τ).loc main_arg0)) (m ((c : Thread nD τ).loc main_arg1)) (m ((c : Thread nD τ).loc main_arg2)) (m ((c : Thread nD τ).loc main_arg3)) r (y 1))).trans (congrArg (GE (m ((c : Thread nD τ).loc main_arg0)) (m ((c : Thread nD τ).loc main_arg1)) (m ((c : Thread nD τ).loc main_arg2)) (m ((c : Thread nD τ).loc main_arg3))) (Fin.ext e1.symm))

end Cert.Kernel14Ideal.Blk

namespace Cert.LossBwd

open Idealize.ShloMosaic Idealize.ShloMosaic.TcCoe Idealize.SL.Sem
open Cert.Reference14Ideal Cert.Reference14Ideal.Read
open Cert.NormRef (mid ref_eq by_rows by_row bits_width)
open Cert.Kernel11Ideal.Blk (inv back X1 rows one)
open Cert.Kernel14Ideal.Blk (half meanSq ER DE DF sE GE LS arr4 arr5 arr6 arr7)

variable (x f : Cert.Reference14Ideal.S4096x1024.Idx → EReal) (g : Cert.Reference14Ideal.S1024.Idx → EReal)
  (t : Cert.Reference14Ideal.S4096x1024.Idx → EReal)

theorem bits_half : Ideal.ofBits FTy.f32 0x3F000000#32 = ((1 / 2 : ℝ) : EReal) := by
  simp [Ideal.ofBits, Ideal.ieee, -EReal.coe_mul]; norm_num

theorem bits_one : Ideal.ofBits FTy.f32 0x3F800000#32 = ((1 : ℝ) : EReal) := by
  simp [Ideal.ofBits, Ideal.ieee, -EReal.coe_mul]; norm_num

theorem bits_two : Ideal.ofBits FTy.f32 0x40000000#32 = ((2 : ℝ) : EReal) := by
  simp [Ideal.ofBits, Ideal.ieee, -EReal.coe_mul]; norm_num

theorem bits_part : Ideal.ofBits FTy.f32 0x3A800000#32 = ((1 / 1024 : ℝ) : EReal) := by
  simp [Ideal.ofBits, Ideal.ieee, -EReal.coe_mul]; norm_num

/-- The derivative of half the mean of the squares, as the reference multiplies it out. -/
theorem slope (e : EReal) : Ideal.div (Ideal.ofBits FTy.f32 0x3F000000#32 * Ideal.ofBits FTy.f32 0x3F800000#32) (Ideal.ofBits FTy.f32 1149239296#32)
    * (Ideal.ofBits FTy.f32 0x40000000#32 * e) = e * Ideal.ofBits FTy.f32 0x3A800000#32 := by
  rw [bits_half, bits_one, bits_two, bits_part, bits_width, Ideal.div_coe (by norm_num), ← EReal.coe_mul, ← EReal.coe_mul, ← mul_assoc,
    ← EReal.coe_mul, mul_comm e]
  congr 2
  norm_num

theorem cst_at (i : Cert.Reference14Ideal.S_.Idx) : val_main_cst (F := Ideal) i = 0 := by pointwise [val_main_cst]
theorem cst4_at (i : Cert.Reference14Ideal.S_.Idx) : val_main_cst_4 (F := Ideal) i = 0 := by pointwise [val_main_cst_4]
theorem cst6_at (i : Cert.Reference14Ideal.S_.Idx) : val_main_cst_6 (F := Ideal) i = 0 := by pointwise [val_main_cst_6]
theorem cst11_at (i : Cert.Reference14Ideal.S_.Idx) : val_main_cst_11 (F := Ideal) i = 0 := by pointwise [val_main_cst_11]
theorem cst12_at (i : Cert.Reference14Ideal.S_.Idx) : val_main_cst_12 (F := Ideal) i = 0 := by pointwise [val_main_cst_12]
theorem cst13_at (i : Cert.Reference14Ideal.S_.Idx) : val_main_cst_13 (F := Ideal) i = 0 := by pointwise [val_main_cst_13]
theorem cst15_at (i : Cert.Reference14Ideal.S_.Idx) : val_main_cst_15 (F := Ideal) i = 0 := by pointwise [val_main_cst_15]

theorem v7_at (r : Fin 4096) (z : Fin 1) : val_main_v7 (F := Ideal) f (ix2 r z) = inv (fun q => f (ix2 r q)) := by
  pointwise [val_main_v7, val_main_v6, val_main_v5, val_main_v4, val_main_v3, val_main_v2, val_main_v1, val_main_v0, cst_at, zero_add]
  rfl

theorem v10_at (r : Fin 4096) (z : Fin 1) : val_main_v10 (F := Ideal) f (ix2 r z) = Ideal.ofBits FTy.f32 0xBF000000#32
    * Ideal.div (inv fun q => f (ix2 r q)) (Ideal.div (∑ q, f (ix2 r q) * f (ix2 r q)) (Ideal.ofBits FTy.f32 1149239296#32) + Ideal.ofBits FTy.f32 897988541#32) := by
  pointwise [val_main_v10, val_main_v9, val_main_v8, v7_at, val_main_v6, val_main_v5, val_main_v4, val_main_v3, val_main_v2, val_main_v1, val_main_v0,
    cst_at, zero_add]
  rfl

theorem v17_at (r : Fin 4096) (k : Fin 1024) : val_main_v17 (F := Ideal) x f g t (ix2 r k) = ER x f g t r k := by
  pointwise [val_main_v17, val_main_v16, val_main_v15, val_main_v14, val_main_v13, val_main_v12, val_main_v11, v7_at]
  rfl

theorem v31_at (r : Fin 4096) (k : Fin 1024) : val_main_v31 (F := Ideal) x f g t (ix2 r k) = DE x f g t r k := by
  have e : val_main_v31 (F := Ideal) x f g t (ix2 r k) = Ideal.div (val_main_cst_8 (F := Ideal) ix0 * val_main_cst_9 (F := Ideal) ix0)
      (val_main_cst_10 (F := Ideal) ix0) * (val_main_cst_3 (F := Ideal) ix0 * ER x f g t r k) := by
    pointwise [val_main_v31, val_main_v30, val_main_v29, val_main_v28, val_main_v27, val_main_v26, val_main_v20, val_main_v19, v17_at]
  exact e.trans (slope (ER x f g t r k))

theorem v52_at (p : Fin 8) (q : Fin 128) : val_main_v52 (F := Ideal) x f g t (ix2 p q) = LS x f g t := by
  pointwise [val_main_v52, val_main_v25, val_main_v24, val_main_v23, val_main_v22, val_main_v21, val_main_v18, v17_at, cst4_at, cst6_at, zero_add]
  rfl

theorem v36_at (r : Fin 4096) (k : Fin 1024) : val_main_v36 (F := Ideal) x f g t (ix2 r k) = DE x f g t r k * g (ix1 k) := by
  pointwise [val_main_v36, val_main_v35, val_main_v13, v31_at]

theorem v45_at (r : Fin 4096) (z : Fin 1) : val_main_v45 (F := Ideal) x f g t (ix2 r z)
    = mid (fun q => f (ix2 r q)) (fun q => g (ix1 q)) (DE x f g t r) := by
  pointwise [val_main_v45, val_main_v44, val_main_v43, val_main_v40, val_main_v39, val_main_v38, v36_at, v10_at, cst13_at, zero_add]
  rfl

theorem v47_at (r : Fin 4096) (k : Fin 1024) : val_main_v47 (F := Ideal) x f g t (ix2 r k)
    = mid (fun q => f (ix2 r q)) (fun q => g (ix1 q)) (DE x f g t r) := by
  pointwise [val_main_v47, val_main_v46, v45_at, cst15_at, zero_add]
  simp

theorem df_eq (r : Fin 4096) (k : Fin 1024) : val_main_v53 (F := Ideal) x f g t (ix2 r k) = DF x f g t r k := by
  refine Eq.trans ?_ (ref_eq (fun q => f (ix2 r q)) (fun q => g (ix1 q)) (DE x f g t r) k)
  pointwise [val_main_v53, val_main_v51, val_main_v50, val_main_v49, val_main_v48, val_main_v42, val_main_v41, v36_at, v47_at, v7_at]

theorem ge_eq (z : Fin 1) (k : Fin 1024) : val_main_v54 (F := Ideal) x f g t (ix2 z k) = GE x f g t k := by
  have e : val_main_v54 (F := Ideal) x f g t (ix2 z k) = ∑ r : Fin 4096, f (ix2 r k) * inv (fun q => f (ix2 r q)) * DE x f g t r k := by
    pointwise [val_main_v54, val_main_v37, val_main_v34, val_main_v33, val_main_v32, val_main_v12, val_main_v11, v7_at, v31_at, cst11_at, cst12_at, zero_add]
    simp
  rw [e]
  unfold GE sE
  exact Finset.sum_congr rfl fun r _ => (mul_comm _ _).trans (mul_assoc _ _ _).symm

theorem ls_eq : val_main_v52 (F := Ideal) x f g t = fun _ => LS x f g t := by
  funext i
  have p : (i : Cert.Reference14Ideal.S8x128.Idx) = ix2 (i 0) (i 1) := by ext a; fin_cases a <;> rfl
  exact (congrArg _ p).trans (v52_at x f g t (i 0) (i 1))

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2.2.2.2, Idealize.ShloMosaic.sem_eq_zero_of_no_sems (by decide) r.2⟩)
    (Cert.Reference14Ideal.Value.run (F := Ideal) m ρ)

theorem algebraic : Cert.algebraic_Kernel14Ideal_Reference14Ideal := by
  intro m ρ m' ρ' _ hagree
  refine ⟨fun c _ => LS (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)), fun c => rows (DE (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))), fun c => rows (DF (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))), fun c => one (GE (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))), ?_, ?_⟩
  · refine (θ_run Cert.Kernel14Ideal.defs _ _).mono (fun r h c => ?_) (Cert.Kernel14Ideal.Value.run_blocks m ρ)
    obtain ⟨h4, h5, h6, h7, h⟩ := h c
    exact ⟨h4.trans (arr4 m c), h5.trans (arr5 m c), h6.trans (arr6 m c), h7.trans (arr7 m c), h⟩
  · refine (θ_run Cert.Reference14Ideal.defs _ _).mono (fun r hh c => ?_) (Cert.Reference14Ideal.Value.run (F := Ideal) m' ρ')
    have h := hh c
    clear hh
    obtain ⟨h4, h5, h6, h7, h⟩ := h
    obtain ⟨a0, a1, a2, a3⟩ := hagree c
    have e4 := (h4.trans (val_main_v52_eq _ _ _ _)).trans (ls_eq _ _ _ _)
    have e5 := (h5.trans (val_main_v31_eq _ _ _ _)).trans (by_rows _ _ (v31_at _ _ _ _))
    have e6 := (h6.trans (val_main_v53_eq m' c)).trans (by_rows _ _ (df_eq _ _ _ _))
    have e7 := (h7.trans (val_main_v54_eq _ _ _ _)).trans (by_row _ _ (ge_eq _ _ _ _))
    clear h4 h5 h6 h7
    refine ⟨e4.trans ?_, e5.trans ?_, e6.trans ?_, e7.trans ?_, h⟩
    all_goals rw [a0, a1, a2, a3]
    rfl

end Cert.LossBwd

end
-- ==== Proof.Adam.lean ====
module

public import proofs.«01_k».proof.Proof.Gen.Kernel15Ideal.Value
public import proofs.«01_k».proof.Proof.Gen.Reference15Ideal.Read
public import proofs.«01_k».proof.Proof.Gen.Kernel15.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The optimiser's step of the up projection's weight, both layers in one call. -/

set_option maxRecDepth 16384

noncomputable section

namespace Cert.Kernel15Ideal.Blk

open Cert.Kernel15Ideal Cert.Kernel15Ideal.Gen Idealize.ShloMosaic Idealize.ShloMosaic.TcCoe Idealize.SL.Sem

/-- The new running mean of the gradient, from the old one `a` and the gradient `g`. -/
def mean (a g : EReal) : EReal := Ideal.ofBits .f32 0x3F666666#32 * a + Ideal.ofBits .f32 0x3DCCCCCD#32 * g

/-- The new running mean of the gradient's square, from the old one `b` and the gradient `g`. -/
def square (b g : EReal) : EReal := Ideal.ofBits .f32 0x3F7FBE77#32 * b + Ideal.ofBits .f32 0x3A83126F#32 * (g * g)

/-- The weight's step: the corrected mean over the root of the corrected square, and the decay of the weight. -/
def change (w a b g : EReal) : EReal :=
  Ideal.ofBits .f32 0xBA83126F#32 *
    (Ideal.div (Ideal.div (mean a g) (Ideal.ofBits .f32 0x3F26BD02#32))
        (Ideal.sqrt (Ideal.div (square b g) (Ideal.ofBits .f32 0x3C231ACC#32)) + Ideal.ofBits .f32 0x322BCC77#32) +
      Ideal.ofBits .f32 0x3C23D70A#32 * w)

/-- The two layers' gradients, one above the other. -/
def both (p q : S1024x2048.Idx → EReal) (l : Fin 2) (r : Fin 1024) (k : Fin 2048) : EReal := if l.val = 0 then p (ix2 r k) else q (ix2 r k)

/-- The four arrays the call writes. -/
def Gg (p q : S1024x2048.Idx → EReal) : S2x1024x2048.Idx → EReal := fun y => both p q (y 0) (y 1) (y 2)
def Gm (p q : S1024x2048.Idx → EReal) (a : S2x1024x2048.Idx → EReal) : S2x1024x2048.Idx → EReal :=
  fun y => mean (a (ix3 (y 0) (y 1) (y 2))) (both p q (y 0) (y 1) (y 2))
def Gv (p q : S1024x2048.Idx → EReal) (b : S2x1024x2048.Idx → EReal) : S2x1024x2048.Idx → EReal :=
  fun y => square (b (ix3 (y 0) (y 1) (y 2))) (both p q (y 0) (y 1) (y 2))
def Gd (w : S2x1024x2048.Idx → EReal) (p q : S1024x2048.Idx → EReal) (a b : S2x1024x2048.Idx → EReal) : S2x1024x2048.Idx → EReal :=
  fun y => change (w (ix3 (y 0) (y 1) (y 2))) (a (ix3 (y 0) (y 1) (y 2))) (b (ix3 (y 0) (y 1) (y 2))) (both p q (y 0) (y 1) (y 2))

theorem pay7_at (i : grid0.Coords) (x3 x4 : Vec Ideal S256x2048 .f32) (x1 : Vec Ideal S1x256x2048 .f32) (r : Fin 256) (k : Fin 2048) :
    k0_pay7 i x3 x4 x1 (ix2 r k) = mean (x1 (ix3 0 r k)) (k0_pay4 i x3 x4 (ix2 r k)) := by
  pointwise [k0_pay7]
  rfl

theorem pay8_at (i : grid0.Coords) (x3 x4 : Vec Ideal S256x2048 .f32) (x2 : Vec Ideal S1x256x2048 .f32) (r : Fin 256) (k : Fin 2048) :
    k0_pay8 i x3 x4 x2 (ix2 r k) = square (x2 (ix3 0 r k)) (k0_pay4 i x3 x4 (ix2 r k)) := by
  pointwise [k0_pay8]
  rfl

theorem pay6_at (i : grid0.Coords) (x0 x1 x2 : Vec Ideal S1x256x2048 .f32) (x3 x4 : Vec Ideal S256x2048 .f32) (r : Fin 256) (k : Fin 2048) :
    k0_pay1 (F := Ideal) (k0_pay6 x0) (k0_pay9 i x3 x4 x1 x2) (Scalar.ofBits .f32 0x3C23D70A#32) (ix3 0 r k) =
      change (x0 (ix3 0 r k)) (x1 (ix3 0 r k)) (x2 (ix3 0 r k)) (k0_pay4 i x3 x4 (ix2 r k)) := by
  pointwise [k0_pay1, k0_pay6, k0_pay9, pay7_at, pay8_at]
  rfl

theorem pay5_at (i : grid0.Coords) (x3 x4 : Vec Ideal S256x2048 .f32) (r : Fin 256) (k : Fin 2048) :
    k0_pay5 i x3 x4 (ix3 0 r k) = k0_pay4 i x3 x4 (ix2 r k) := by
  pointwise [k0_pay5]

theorem pay2_at (a : Vec Ideal S256x2048 .f32) (r : Fin 256) (k : Fin 2048) : k0_pay2 (F := Ideal) a (ix3 0 r k) = a (ix2 r k) := by
  pointwise [k0_pay2]

theorem pay3_at (a : Vec Ideal S256x2048 .f32) (r : Fin 256) (k : Fin 2048) : k0_pay3 (F := Ideal) a (ix3 0 r k) = a (ix2 r k) := by
  pointwise [k0_pay3]

theorem layer_of : ∀ t : Fin grid0.N, (grid0.coords t 0).val = t.val / 4 := by decide +kernel

theorem pay4_at (t : Fin grid0.N) (x3 x4 : Vec Ideal S256x2048 .f32) :
    k0_pay4 (F := Ideal) (grid0.coords t) x3 x4 = if t.val < 4 then x3 else x4 := by
  have ht : t.val < 8 := t.isLt
  show Scalar.select (Scalar.cmpi .eq (BitVec.ofNat 32 (grid0.coords t 0).val) 1#32) x4 x3 = _
  rw [layer_of t]
  by_cases h : t.val < 4
  · rw [if_pos h, show t.val / 4 = 0 by omega]
    rfl
  · rw [if_neg h, show t.val / 4 = 1 by omega]
    rfl

variable (m : (ℓ : Loc nD τ sig) → Buf (Elt Ideal) ℓ) (c : Dev nD)

/-- The layer of a block, and the array's row that a block's row `r` is. -/
def lay (t : Fin cfg0.N) : Fin 2 := ⟨t.val / 4, by have : t.val < 8 := t.isLt; omega⟩
def row (t : Fin cfg0.N) (r : Fin 256) : Fin 1024 := ⟨256 * (t.val % 4) + r.val, by omega⟩

theorem idx0 : ∀ t : Fin grid0.N, win0_0.index t = ![t.val / 4, t.val % 4, 0] := by decide +kernel
theorem idx1 : ∀ t : Fin grid0.N, win0_1.index t = ![t.val / 4, t.val % 4, 0] := by decide +kernel
theorem idx2 : ∀ t : Fin grid0.N, win0_2.index t = ![t.val / 4, t.val % 4, 0] := by decide +kernel
theorem idx5 : ∀ t : Fin grid0.N, win0_5.index t = ![t.val / 4, t.val % 4, 0] := by decide +kernel
theorem idx6 : ∀ t : Fin grid0.N, win0_6.index t = ![t.val / 4, t.val % 4, 0] := by decide +kernel
theorem idx7 : ∀ t : Fin grid0.N, win0_7.index t = ![t.val / 4, t.val % 4, 0] := by decide +kernel
theorem idx8 : ∀ t : Fin grid0.N, win0_8.index t = ![t.val / 4, t.val % 4, 0] := by decide +kernel
theorem idx3 : ∀ t : Fin grid0.N, t.val < 4 → win0_3.index t = ![t.val % 4, 0] := by decide +kernel
theorem idx4 : ∀ t : Fin grid0.N, ¬ t.val < 4 → win0_4.index t = ![t.val % 4, 0] := by decide +kernel

theorem blk0_at (t : Fin cfg0.N) (r : Fin 256) (k : Fin 2048) :
    iblk m c 0 t (ix3 0 r k) = m ((c : Thread nD τ).loc main_arg0) (ix3 (lay t) (row t r) k) := by
  have e : iblk m c 0 t (ix3 0 r k) = V m c main_arg0 (ix3 (lay t) (row t r) k) := by
    blk_ext [iblk, idx0 t, lay, row]
  exact e.trans (congrFun (V_main_arg0 m c) _)

theorem blk1_at (t : Fin cfg0.N) (r : Fin 256) (k : Fin 2048) :
    iblk m c 1 t (ix3 0 r k) = m ((c : Thread nD τ).loc main_arg3) (ix3 (lay t) (row t r) k) := by
  have e : iblk m c 1 t (ix3 0 r k) = V m c main_arg3 (ix3 (lay t) (row t r) k) := by
    blk_ext [iblk, idx1 t, lay, row]
  exact e.trans (congrFun (V_main_arg3 m c) _)

theorem blk2_at (t : Fin cfg0.N) (r : Fin 256) (k : Fin 2048) :
    iblk m c 2 t (ix3 0 r k) = m ((c : Thread nD τ).loc main_arg4) (ix3 (lay t) (row t r) k) := by
  have e : iblk m c 2 t (ix3 0 r k) = V m c main_arg4 (ix3 (lay t) (row t r) k) := by
    blk_ext [iblk, idx2 t, lay, row]
  exact e.trans (congrFun (V_main_arg4 m c) _)

theorem blk3_at (t : Fin cfg0.N) (h : t.val < 4) (r : Fin 256) (k : Fin 2048) :
    iblk m c 3 t (ix2 r k) = m ((c : Thread nD τ).loc main_arg1) (ix2 (row t r) k) := by
  have e : iblk m c 3 t (ix2 r k) = V m c main_arg1 (ix2 (row t r) k) := by
    blk_ext [iblk, idx3 t h, row]
  exact e.trans (congrFun (V_main_arg1 m c) _)

theorem blk4_at (t : Fin cfg0.N) (h : ¬ t.val < 4) (r : Fin 256) (k : Fin 2048) :
    iblk m c 4 t (ix2 r k) = m ((c : Thread nD τ).loc main_arg2) (ix2 (row t r) k) := by
  have e : iblk m c 4 t (ix2 r k) = V m c main_arg2 (ix2 (row t r) k) := by
    blk_ext [iblk, idx4 t h, row]
  exact e.trans (congrFun (V_main_arg2 m c) _)

/-- A block's gradient is its layer's. -/
theorem both_at (t : Fin cfg0.N) (r : Fin 256) (k : Fin 2048) :
    k0_pay4 (F := Ideal) (grid0.coords t) (iblk m c 3 t) (iblk m c 4 t) (ix2 r k) =
      both (m ((c : Thread nD τ).loc main_arg1)) (m ((c : Thread nD τ).loc main_arg2)) (lay t) (row t r) k := by
  have ht : t.val < 8 := t.isLt
  unfold both
  by_cases h : t.val < 4
  · refine (congrFun ((pay4_at t (iblk m c 3 t) (iblk m c 4 t)).trans (if_pos h)) _).trans ((blk3_at m c t h r k).trans ?_)
    exact (if_pos (show t.val / 4 = 0 by omega)).symm
  · refine (congrFun ((pay4_at t (iblk m c 3 t) (iblk m c 4 t)).trans (if_neg h)) _).trans ((blk4_at m c t h r k).trans ?_)
    exact (if_neg (show ¬ t.val / 4 = 0 by omega)).symm

theorem out5_at (t : Fin cfg0.N) (r : Fin 256) (k : Fin 2048) :
    out0_5 (F := Ideal) (grid0.coords t) (iblk m c 0 t) (iblk m c 1 t) (iblk m c 2 t) (iblk m c 3 t) (iblk m c 4 t) (ix3 0 r k) =
      (both (m ((c : Thread nD τ).loc main_arg1)) (m ((c : Thread nD τ).loc main_arg2)) (lay t) (row t r) k) := by
  unfold out0_5
  rw [View.canon_unit_zero (S := S1x256x2048) (off := ![0, 0, 0]) (by funext a; fin_cases a <;> rfl)]
  simp only [View.ld_unit_zero (S := S256x2048) (off := ![0, 0]) (by funext a; fin_cases a <;> rfl)]
  refine (pay5_at _ _ _ _ _).trans (both_at m c t r k)

theorem emb5 (t : Fin cfg0.N) (r : Fin 256) (k : Fin 2048) :
    (win0_5.blk t).view.emb (ix3 0 r k : S1x256x2048.Idx) = (ix3 (lay t) (row t r) k : S2x1024x2048.Idx) := by
  blk_ext [idx5 t, lay, row]

theorem arr5 : (dats m 0 c).arrAt 5 cfg0.N = Gg (m ((c : Thread nD τ).loc main_arg1)) (m ((c : Thread nD τ).loc main_arg2)) := by
  refine (dats m 0 c).arrAt_eq_of_covers 5 _ (by decide +kernel) fun t hf y => ?_
  blk_simp
  rw [after0_5]
  have q : (y : S1x256x2048.Idx) = ix3 0 (y 1) (y 2) := by
    ext a; fin_cases a
    · have h0 : (y 0).val < 1 := (y 0).isLt
      show (y 0).val = 0
      omega
    · rfl
    · rfl
  rw [q]
  refine (out5_at m c t (y 1) (y 2)).trans ?_
  exact (congrArg (Gg (m ((c : Thread nD τ).loc main_arg1)) (m ((c : Thread nD τ).loc main_arg2))) (emb5 t (y 1) (y 2))).symm

theorem out6_at (t : Fin cfg0.N) (r : Fin 256) (k : Fin 2048) :
    out0_6 (F := Ideal) (grid0.coords t) (iblk m c 0 t) (iblk m c 1 t) (iblk m c 2 t) (iblk m c 3 t) (iblk m c 4 t) (ix3 0 r k) =
      change (m ((c : Thread nD τ).loc main_arg0) (ix3 (lay t) (row t r) k)) (m ((c : Thread nD τ).loc main_arg3) (ix3 (lay t) (row t r) k)) (m ((c : Thread nD τ).loc main_arg4) (ix3 (lay t) (row t r) k)) (both (m ((c : Thread nD τ).loc main_arg1)) (m ((c : Thread nD τ).loc main_arg2)) (lay t) (row t r) k) := by
  unfold out0_6
  rw [View.canon_unit_zero (S := S1x256x2048) (off := ![0, 0, 0]) (by funext a; fin_cases a <;> rfl)]
  simp only [View.ld_unit_zero (S := S1x256x2048) (off := ![0, 0, 0]) (by funext a; fin_cases a <;> rfl),
    View.ld_unit_zero (S := S256x2048) (off := ![0, 0]) (by funext a; fin_cases a <;> rfl)]
  refine (pay6_at _ _ _ _ _ _ _ _).trans ?_
  rw [blk0_at, blk1_at, blk2_at, both_at]

theorem emb6 (t : Fin cfg0.N) (r : Fin 256) (k : Fin 2048) :
    (win0_6.blk t).view.emb (ix3 0 r k : S1x256x2048.Idx) = (ix3 (lay t) (row t r) k : S2x1024x2048.Idx) := by
  blk_ext [idx6 t, lay, row]

theorem arr6 : (dats m 0 c).arrAt 6 cfg0.N = Gd (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have q : (y : S1x256x2048.Idx) = ix3 0 (y 1) (y 2) := by
    ext a; fin_cases a
    · have h0 : (y 0).val < 1 := (y 0).isLt
      show (y 0).val = 0
      omega
    · rfl
    · rfl
  rw [q]
  refine (out6_at m c t (y 1) (y 2)).trans ?_
  exact (congrArg (Gd (m ((c : Thread nD τ).loc main_arg0)) (m ((c : Thread nD τ).loc main_arg1)) (m ((c : Thread nD τ).loc main_arg2)) (m ((c : Thread nD τ).loc main_arg3)) (m ((c : Thread nD τ).loc main_arg4))) (emb6 t (y 1) (y 2))).symm

theorem out7_at (t : Fin cfg0.N) (r : Fin 256) (k : Fin 2048) :
    out0_7 (F := Ideal) (grid0.coords t) (iblk m c 0 t) (iblk m c 1 t) (iblk m c 2 t) (iblk m c 3 t) (iblk m c 4 t) (ix3 0 r k) =
      mean (m ((c : Thread nD τ).loc main_arg3) (ix3 (lay t) (row t r) k)) (both (m ((c : Thread nD τ).loc main_arg1)) (m ((c : Thread nD τ).loc main_arg2)) (lay t) (row t r) k) := by
  unfold out0_7
  rw [View.canon_unit_zero (S := S1x256x2048) (off := ![0, 0, 0]) (by funext a; fin_cases a <;> rfl)]
  simp only [View.ld_unit_zero (S := S1x256x2048) (off := ![0, 0, 0]) (by funext a; fin_cases a <;> rfl),
    View.ld_unit_zero (S := S256x2048) (off := ![0, 0]) (by funext a; fin_cases a <;> rfl)]
  refine (pay2_at _ _ _).trans ((pay7_at _ _ _ _ _ _).trans ?_)
  rw [blk1_at, both_at]

theorem emb7 (t : Fin cfg0.N) (r : Fin 256) (k : Fin 2048) :
    (win0_7.blk t).view.emb (ix3 0 r k : S1x256x2048.Idx) = (ix3 (lay t) (row t r) k : S2x1024x2048.Idx) := by
  blk_ext [idx7 t, lay, row]

theorem arr7 : (dats m 0 c).arrAt 7 cfg0.N = Gm (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have q : (y : S1x256x2048.Idx) = ix3 0 (y 1) (y 2) := by
    ext a; fin_cases a
    · have h0 : (y 0).val < 1 := (y 0).isLt
      show (y 0).val = 0
      omega
    · rfl
    · rfl
  rw [q]
  refine (out7_at m c t (y 1) (y 2)).trans ?_
  exact (congrArg (Gm (m ((c : Thread nD τ).loc main_arg1)) (m ((c : Thread nD τ).loc main_arg2)) (m ((c : Thread nD τ).loc main_arg3))) (emb7 t (y 1) (y 2))).symm

theorem out8_at (t : Fin cfg0.N) (r : Fin 256) (k : Fin 2048) :
    out0_8 (F := Ideal) (grid0.coords t) (iblk m c 0 t) (iblk m c 1 t) (iblk m c 2 t) (iblk m c 3 t) (iblk m c 4 t) (ix3 0 r k) =
      square (m ((c : Thread nD τ).loc main_arg4) (ix3 (lay t) (row t r) k)) (both (m ((c : Thread nD τ).loc main_arg1)) (m ((c : Thread nD τ).loc main_arg2)) (lay t) (row t r) k) := by
  unfold out0_8
  rw [View.canon_unit_zero (S := S1x256x2048) (off := ![0, 0, 0]) (by funext a; fin_cases a <;> rfl)]
  simp only [View.ld_unit_zero (S := S1x256x2048) (off := ![0, 0, 0]) (by funext a; fin_cases a <;> rfl),
    View.ld_unit_zero (S := S256x2048) (off := ![0, 0]) (by funext a; fin_cases a <;> rfl)]
  refine (pay3_at _ _ _).trans ((pay8_at _ _ _ _ _ _).trans ?_)
  rw [blk2_at, both_at]

theorem emb8 (t : Fin cfg0.N) (r : Fin 256) (k : Fin 2048) :
    (win0_8.blk t).view.emb (ix3 0 r k : S1x256x2048.Idx) = (ix3 (lay t) (row t r) k : S2x1024x2048.Idx) := by
  blk_ext [idx8 t, lay, row]

theorem arr8 : (dats m 0 c).arrAt 8 cfg0.N = Gv (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  have q : (y : S1x256x2048.Idx) = ix3 0 (y 1) (y 2) := by
    ext a; fin_cases a
    · have h0 : (y 0).val < 1 := (y 0).isLt
      show (y 0).val = 0
      omega
    · rfl
    · rfl
  rw [q]
  refine (out8_at m c t (y 1) (y 2)).trans ?_
  exact (congrArg (Gv (m ((c : Thread nD τ).loc main_arg1)) (m ((c : Thread nD τ).loc main_arg2)) (m ((c : Thread nD τ).loc main_arg4))) (emb8 t (y 1) (y 2))).symm

end Cert.Kernel15Ideal.Blk

namespace Cert.Adam

open Idealize.ShloMosaic Idealize.ShloMosaic.TcCoe Idealize.SL.Sem
open Cert.Kernel15Ideal.Blk (mean square change both Gg Gm Gv Gd)

section
open Cert.Reference15Ideal Cert.Reference15Ideal.Read

theorem v2_at0 (x1 x2 : S1024x2048.Idx → EReal) (r : Fin 1024) (k : Fin 2048) :
    val_main_v2 (F := Ideal) x1 x2 (ix3 0 r k) = x1 (ix2 r k) := by
  unfold val_main_v2
  refine (concatenate_pair_apply_left (t := S2x1024x2048) (s₁ := S1x1024x2048) (s₂ := S1x1024x2048) 0 _ _ _ _ rfl (ix3 (0 : Fin 1) r k)
    (fun b => match b with | ⟨0, _⟩ => rfl | ⟨1, _⟩ => rfl | ⟨2, _⟩ => rfl)).trans ?_
  pointwise [val_main_v0]

theorem v2_at1 (x1 x2 : S1024x2048.Idx → EReal) (r : Fin 1024) (k : Fin 2048) :
    val_main_v2 (F := Ideal) x1 x2 (ix3 1 r k) = x2 (ix2 r k) := by
  unfold val_main_v2
  refine (concatenate_pair_apply_right (t := S2x1024x2048) (s₁ := S1x1024x2048) (s₂ := S1x1024x2048) 0 _ _ _ _ rfl rfl (ix3 (0 : Fin 1) r k)
    (fun b => match b with | ⟨0, _⟩ => fun h => absurd rfl h | ⟨1, _⟩ => fun _ => rfl | ⟨2, _⟩ => fun _ => rfl) rfl).trans ?_
  pointwise [val_main_v1]

theorem v2_at (x1 x2 : S1024x2048.Idx → EReal) (l : Fin 2) (r : Fin 1024) (k : Fin 2048) :
    val_main_v2 (F := Ideal) x1 x2 (ix3 l r k) = both x1 x2 l r k := by
  match l with
  | ⟨0, _⟩ => exact v2_at0 x1 x2 r k
  | ⟨1, _⟩ => exact v2_at1 x1 x2 r k

theorem v7_at (x1 x2 : S1024x2048.Idx → EReal) (x3 : S2x1024x2048.Idx → EReal) (l : Fin 2) (r : Fin 1024) (k : Fin 2048) :
    val_main_v7 (F := Ideal) x1 x2 x3 (ix3 l r k) = mean (x3 (ix3 l r k)) (both x1 x2 l r k) := by
  pointwise [val_main_v7, val_main_v6, val_main_v5, val_main_v4, val_main_v3, v2_at]
  rfl

theorem v13_at (x1 x2 : S1024x2048.Idx → EReal) (x3 : S2x1024x2048.Idx → EReal) (l : Fin 2) (r : Fin 1024) (k : Fin 2048) :
    val_main_v13 (F := Ideal) x1 x2 x3 (ix3 l r k) = square (x3 (ix3 l r k)) (both x1 x2 l r k) := by
  pointwise [val_main_v13, val_main_v12, val_main_v11, val_main_v10, val_main_v9, val_main_v8, v2_at]
  rfl

theorem v26_at (x0 : S2x1024x2048.Idx → EReal) (x1 x2 : S1024x2048.Idx → EReal) (x3 x4 : S2x1024x2048.Idx → EReal) (l : Fin 2) (r : Fin 1024) (k : Fin 2048) :
    val_main_v26 (F := Ideal) x0 x1 x2 x3 x4 (ix3 l r k) =
      change (x0 (ix3 l r k)) (x3 (ix3 l r k)) (x4 (ix3 l r k)) (both x1 x2 l r k) := by
  pointwise [val_main_v26, val_main_v25, val_main_v24, val_main_v23, val_main_v22, val_main_v21, val_main_v20, val_main_v19, val_main_v18,
    val_main_v17, val_main_v16, val_main_v15, val_main_v14, v7_at, v13_at]
  rfl

theorem every (y : S2x1024x2048.Idx) : y = ix3 (y 0) (y 1) (y 2) := by ext a; fin_cases a <;> rfl

theorem ref2 (x1 x2 : S1024x2048.Idx → EReal) : val_main_v2 (F := Ideal) x1 x2 = Gg x1 x2 := by
  funext y
  exact (congrArg _ (every y)).trans (v2_at x1 x2 (y 0) (y 1) (y 2))

theorem ref7 (x1 x2 : S1024x2048.Idx → EReal) (x3 : S2x1024x2048.Idx → EReal) : val_main_v7 (F := Ideal) x1 x2 x3 = Gm x1 x2 x3 := by
  funext y
  exact (congrArg _ (every y)).trans (v7_at x1 x2 x3 (y 0) (y 1) (y 2))

theorem ref13 (x1 x2 : S1024x2048.Idx → EReal) (x4 : S2x1024x2048.Idx → EReal) : val_main_v13 (F := Ideal) x1 x2 x4 = Gv x1 x2 x4 := by
  funext y
  exact (congrArg _ (every y)).trans (v13_at x1 x2 x4 (y 0) (y 1) (y 2))

theorem ref26 (x0 : S2x1024x2048.Idx → EReal) (x1 x2 : S1024x2048.Idx → EReal) (x3 x4 : S2x1024x2048.Idx → EReal) :
    val_main_v26 (F := Ideal) x0 x1 x2 x3 x4 = Gd x0 x1 x2 x3 x4 := by
  funext y
  exact (congrArg _ (every y)).trans (v26_at x0 x1 x2 x3 x4 (y 0) (y 1) (y 2))

end

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2.2.2.2, Idealize.ShloMosaic.sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨fun c => Gg (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)),
    fun c => Gd (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))
      (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
    fun c => Gm (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))
      (m ((c.tc : Thread Cert.Kernel15Ideal.nD Cert.Kernel15Ideal.τ).loc Cert.Kernel15Ideal.main_arg3)),
    fun c => Gv (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))
      (m ((c.tc : Thread Cert.Kernel15Ideal.nD Cert.Kernel15Ideal.τ).loc Cert.Kernel15Ideal.main_arg4)), ?_, ?_⟩
  · refine (θ_run Cert.Kernel15Ideal.defs _ _).mono (fun r h c => ?_) (Cert.Kernel15Ideal.Value.run_blocks m ρ)
    obtain ⟨h5, h6, h7, h8, h⟩ := h c
    exact ⟨h5.trans (Cert.Kernel15Ideal.Blk.arr5 m c), h6.trans (Cert.Kernel15Ideal.Blk.arr6 m c),
      h7.trans (Cert.Kernel15Ideal.Blk.arr7 m c), h8.trans (Cert.Kernel15Ideal.Blk.arr8 m c), h⟩
  · refine (θ_run Cert.Reference15Ideal.defs _ _).mono (fun r h c => ?_) (Cert.Reference15Ideal.Value.run (F := Ideal) m' ρ')
    obtain ⟨h5, h6, h7, h8, h⟩ := h c
    obtain ⟨a0, a1, a2, a3, a4⟩ := hagree c
    refine ⟨h5.trans ((Cert.Reference15Ideal.Read.val_main_v2_eq _ _).trans ((ref2 _ _).trans ?_)),
      h6.trans ((Cert.Reference15Ideal.Read.val_main_v26_eq _ _ _ _ _).trans ((ref26 _ _ _ _ _).trans ?_)),
      h7.trans ((Cert.Reference15Ideal.Read.val_main_v7_eq _ _ _).trans ((ref7 _ _ _).trans ?_)),
      h8.trans ((Cert.Reference15Ideal.Read.val_main_v13_eq _ _ _).trans ((ref13 _ _ _).trans ?_)), h⟩
    · rw [a1, a2]
    · rw [a0, a1, a2, a3, a4]
    · rw [a1, a2, a3]
    · rw [a1, a2, a4]

end Cert.Adam

end

end
-- ==== Proof.Gating.lean ====
module

public import proofs.«01_k».proof.Proof.Gen.Kernel16Ideal.Value
public import proofs.«01_k».proof.Proof.Gen.Reference16Ideal.Read
public import proofs.«01_k».proof.Proof.Gen.Kernel16.Frame
public import proofs.«01_k».proof.Proof.NormRef

@[expose] public section

/-! The forward call of the spatial gating: the exact gelu, the layer norm of half the channels, the causal mixing of the rows
of a chunk group by group, the product with the other half, and the norm of that. -/

set_option maxRecDepth 16384

noncomputable section

namespace Cert.Gate

open Idealize.ShloMosaic

/-- The exact gelu. -/
def act (x : EReal) : EReal := Ideal.ofBits FTy.f32 0x3F000000#32 * x * (1 + Ideal.erf (x * Ideal.ofBits FTy.f32 0x3F3504F3#32))

/-- The mean of a row. -/
def avg (v : Fin 512 → EReal) : EReal := Ideal.div (∑ q, v q) (Ideal.ofBits FTy.f32 0x44000000#32)

/-- One over the root of a row's mean square. -/
def rinv (v : Fin 512 → EReal) : EReal := Ideal.rsqrt (avg (fun q => v q * v q) + Ideal.ofBits FTy.f32 0x358637BD#32)

/-- A row without its mean. -/
def cent (v : Fin 512 → EReal) (k : Fin 512) : EReal := v k - avg v

/-- The layer norm of a row. -/
def lnorm (v g b : Fin 512 → EReal) (k : Fin 512) : EReal := cent v k * rinv (cent v) * g k + b k

/-- The left half of a row of channels, after the gelu. -/
def left (x : Fin 1024 → EReal) (k : Fin 512) : EReal := act (x ⟨k.val, by omega⟩)

/-- The right half of a row of channels, after the gelu. -/
def right (x : Fin 1024 → EReal) (k : Fin 512) : EReal := act (x ⟨512 + k.val, by omega⟩)

/-- The group of a channel. -/
def grp (k : Fin 512) : Fin 4 := ⟨k.val / 128, by omega⟩

/-- Whether row `q` comes no later than row `r`, as a bit. -/
def upto (r q : Fin 128) : BitVec 1 := IntOp.cmpi .sge (BitVec.ofNat 32 r.val) (BitVec.ofNat 32 q.val)

/-- A mixing matrix with the later rows left out. -/
def lead (w : Fin 128 → Fin 128 → EReal) (r q : Fin 128) : EReal := Scalar.select (upto r q) (w r q) 0

/-- The gated channels of a chunk: the left half times the mixed right half with its bias. -/
def gated (x : Fin 128 → Fin 1024 → EReal) (g b : Fin 512 → EReal) (w : Fin 4 → Fin 128 → Fin 128 → EReal)
    (s : Fin 128 → Fin 512 → EReal) (r : Fin 128) (k : Fin 512) : EReal :=
  left (x r) k * (∑ q, lead (w (grp k)) r q * lnorm (right (x q)) g b k + s r k)

/-- The normed gated channels of a chunk. -/
def mixed (x : Fin 128 → Fin 1024 → EReal) (g b : Fin 512 → EReal) (w : Fin 4 → Fin 128 → Fin 128 → EReal)
    (s : Fin 128 → Fin 512 → EReal) (o : Fin 512 → EReal) (r : Fin 128) (k : Fin 512) : EReal :=
  gated x g b w s r k * rinv (gated x g b w s r) * o k

end Cert.Gate

namespace Cert.Kernel16Ideal.Blk

open Cert.Gate
open Cert.Kernel16Ideal Cert.Kernel16Ideal.Gen Idealize.ShloMosaic Idealize.ShloMosaic.TcCoe Idealize.SL.Sem

theorem pay18_at (p : Vec Ideal S128x1024 .bf16) (r : Fin 128) (k : Fin 1024) : k0_pay18 p (ix2 r k) = act (p (ix2 r k)) := by
  pointwise [k0_pay18]
  rfl

theorem pay19_at (p : Vec Ideal S128x1024 .bf16) (r : Fin 128) (k : Fin 512) :
    k0_pay19 p (ix2 r k) = left (fun q => p (ix2 r q)) k := by
  pointwise [k0_pay19, pay18_at]
  unfold left
  rfl

theorem pay20_at (p : Vec Ideal S128x1024 .bf16) (r : Fin 128) (k : Fin 512) :
    k0_pay20 p (ix2 r k) = cent (right fun q => p (ix2 r q)) k := by
  pointwise [k0_pay20, pay18_at]
  unfold cent avg right
  rfl

theorem pay21_at (p : Vec Ideal S128x1024 .bf16) (r : Fin 128) (z : Fin 1) :
    k0_pay21 p (ix2 r z) = avg fun k => cent (right fun q => p (ix2 r q)) k * cent (right fun q => p (ix2 r q)) k := by
  pointwise [k0_pay21, pay20_at]
  unfold avg
  rfl

/-- The normed right half of a chunk, from the rows without their means and their mean squares. -/
def nv (g b : FVec Ideal S1x512 .f32) (x : FVec Ideal S128x512 .f32) (z : FVec Ideal S128x1 .f32) : FVec Ideal S128x512 .bf16 :=
  truncf .bf16 (addf (mulf (mulf x (broadcastTo S128x512 (rsqrt (addf z (broadcast S128x1 (Scalar.ofBits .f32 0x358637BD#32))))
    broadcasts_S128x1_S128x512)) (broadcastTo S128x512 g broadcasts_S1x512_S128x512)) (broadcastTo S128x512 b broadcasts_S1x512_S128x512))
    bitsLt_bf16_f32

theorem nv_at (g b : FVec Ideal S1x512 .f32) (x : FVec Ideal S128x512 .f32) (z : FVec Ideal S128x1 .f32) (r : Fin 128) (k : Fin 512) :
    nv g b x z (ix2 r k) = x (ix2 r k) * Ideal.rsqrt (z (ix2 r 0) + Ideal.ofBits FTy.f32 0x358637BD#32) * g (ix2 0 k) + b (ix2 0 k) := by
  pointwise [nv]

/-- Four products of mixing matrices with the groups of a chunk, side by side. -/
def mixv (w0 w1 w2 w3 : FVec Ideal S128x128 .bf16) (n : FVec Ideal S128x512 .bf16) : FVec Ideal S128x512 .f32 :=
  concatenate S128x512 1
    [⟨S128x128, matmul dot_S128x128_S128x128_S128x128_1_0_0_1_n_n none w0 (extractStridedSlice S128x128 ![0, 0] n slices_S128x512_o0_0_S128x128) (constant S128x128 .f32 0x00000000#32)⟩,
      ⟨S128x128, matmul dot_S128x128_S128x128_S128x128_1_0_0_1_n_n none w1 (extractStridedSlice S128x128 ![0, 128] n slices_S128x512_o0_128_S128x128) (constant S128x128 .f32 0x00000000#32)⟩,
      ⟨S128x128, matmul dot_S128x128_S128x128_S128x128_1_0_0_1_n_n none w2 (extractStridedSlice S128x128 ![0, 256] n slices_S128x512_o0_256_S128x128) (constant S128x128 .f32 0x00000000#32)⟩,
      ⟨S128x128, matmul dot_S128x128_S128x128_S128x128_1_0_0_1_n_n none w3 (extractStridedSlice S128x128 ![0, 384] n slices_S128x512_o0_384_S128x128) (constant S128x128 .f32 0x00000000#32)⟩]
    concatenates_S128x128_S128x128_S128x128_S128x128_S128x512_d1

/-- One of four mixing matrices. -/
def pick (w0 w1 w2 w3 : FVec Ideal S128x128 .bf16) : Fin 4 → FVec Ideal S128x128 .bf16 := ![w0, w1, w2, w3]

theorem mixv_at (w0 w1 w2 w3 : FVec Ideal S128x128 .bf16) (n : FVec Ideal S128x512 .bf16) (r : Fin 128) (k : Fin 512) :
    mixv w0 w1 w2 w3 n (ix2 r k) = ∑ q : Fin 128, pick w0 w1 w2 w3 (grp k) (ix2 r q) * n (ix2 q k) := by
  pointwise [mixv]
  split
  · rename_i h
    exact Finset.sum_congr rfl fun q _ => congrArg₂ (· * ·) (congrArg (fun g => pick w0 w1 w2 w3 g (ix2 r q)) (show (0 : Fin 4) = grp k from Fin.ext (by show 0 = k.val / 128; omega))) rfl
  split
  · rename_i h h'
    exact Finset.sum_congr rfl fun q _ => congrArg₂ (· * ·) (congrArg (fun g => pick w0 w1 w2 w3 g (ix2 r q)) (show (1 : Fin 4) = grp k from Fin.ext (by show 1 = k.val / 128; omega)))
      (congrArg (fun k => n (ix2 q k)) (Fin.ext (by show 128 + (k.val - 128) = k.val; omega)))
  split
  · rename_i h h' h''
    exact Finset.sum_congr rfl fun q _ => congrArg₂ (· * ·) (congrArg (fun g => pick w0 w1 w2 w3 g (ix2 r q)) (show (2 : Fin 4) = grp k from Fin.ext (by show 2 = k.val / 128; omega)))
      (congrArg (fun k => n (ix2 q k)) (Fin.ext (by show 256 + (k.val - 128 - 128) = k.val; omega)))
  · rename_i h h' h''
    have hk := k.isLt
    exact Finset.sum_congr rfl fun q _ => congrArg₂ (· * ·) (congrArg (fun g => pick w0 w1 w2 w3 g (ix2 r q)) (show (3 : Fin 4) = grp k from Fin.ext (by show 3 = k.val / 128; omega)))
      (congrArg (fun k => n (ix2 q k)) (Fin.ext (by show 384 + (k.val - 128 - 128 - 128) = k.val; omega)))

theorem pay2_at (w : Vec Ideal S1x128x128 .f32) (r q : Fin 128) : k0_pay2 w (ix2 r q) = lead (fun r q => w (ix3 0 r q)) r q := by
  pointwise [k0_pay2, k0_pay1]
  rfl

theorem pay3_at (w : Vec Ideal S1x128x128 .f32) (r q : Fin 128) : k0_pay3 w (ix2 r q) = lead (fun r q => w (ix3 0 r q)) r q := by
  pointwise [k0_pay3, k0_pay1]
  rfl

theorem pay4_at (w : Vec Ideal S1x128x128 .f32) (r q : Fin 128) : k0_pay4 w (ix2 r q) = lead (fun r q => w (ix3 0 r q)) r q := by
  pointwise [k0_pay4, k0_pay1]
  rfl

theorem pay5_at (w : Vec Ideal S1x128x128 .f32) (r q : Fin 128) : k0_pay5 w (ix2 r q) = lead (fun r q => w (ix3 0 r q)) r q := by
  pointwise [k0_pay5, k0_pay1]
  rfl

theorem pay28_at (u m : FVec Ideal S128x512 .f32) (o : Vec Ideal S1x512 .f32) (r : Fin 128) (k : Fin 512) :
    k0_pay28 u m o (ix2 r k) = u (ix2 r k) * m (ix2 r k) * rinv (fun q => u (ix2 r q) * m (ix2 r q)) * o (ix2 0 k) := by
  pointwise [k0_pay28]
  unfold rinv avg
  rfl

/-- A chunk's result, from its rows and the loads of the other operands. -/
def chunk (w0 w1 w2 w3 : FVec Ideal S128x128 .bf16) (p : Vec Ideal S128x1024 .bf16) (g b : Vec Ideal S1x512 .f32) (s : Vec Ideal S128x512 .f32)
    (o : Vec Ideal S1x512 .f32) : FVec Ideal S128x512 .bf16 :=
  k0_pay28 (k0_pay19 p) (addf (mixv w0 w1 w2 w3 (nv (k0_pay15 g) (k0_pay16 b) (k0_pay20 p) (k0_pay21 p))) (k0_pay17 s)) o

section
variable (w0 w1 w2 w3 : FVec Ideal S128x128 .bf16) (p : Vec Ideal S128x1024 .bf16) (g b : Vec Ideal S1x512 .f32) (s : Vec Ideal S128x512 .f32)
  (o : Vec Ideal S1x512 .f32)

theorem chunk0 : k0_pay14 (k0_pay11 w0 w1 w2 w3 (k0_pay6 p) (k0_pay7 g) (k0_pay8 b) (k0_pay9 s) (k0_pay10 p))
    (k0_pay12 w0 w1 w2 w3 (k0_pay6 p) (k0_pay7 g) (k0_pay8 b) (k0_pay9 s) (k0_pay10 p)) k0_pay13 o = chunk w0 w1 w2 w3 p g b s o := rfl
theorem chunk1 : k0_pay22 w0 w1 w2 w3 (k0_pay15 g) (k0_pay16 b) (k0_pay17 s) (k0_pay19 p) (k0_pay20 p) (k0_pay21 p) o
    = chunk w0 w1 w2 w3 p g b s o := rfl
theorem chunk2 : k0_pay28 (k0_pay26 (k0_pay23 p)) (k0_pay27 w0 w1 w2 w3 (k0_pay23 p) (k0_pay24 g) b s) o
    = chunk w0 w1 w2 w3 p g b s o := rfl
theorem chunk3 : k0_pay37 w0 w1 w2 w3 (k0_pay29 g) (k0_pay30 b) (k0_pay31 s) (k0_pay33 p) (k0_pay34 p) (k0_pay35 p) k0_pay36 o
    = chunk w0 w1 w2 w3 p g b s o := rfl

theorem pay15_at (z : Fin 1) (k : Fin 512) : k0_pay15 g (ix2 z k) = g (ix2 z k) := by pointwise [k0_pay15]
theorem pay16_at (z : Fin 1) (k : Fin 512) : k0_pay16 g (ix2 z k) = g (ix2 z k) := by pointwise [k0_pay16]
theorem pay17_at (r : Fin 128) (k : Fin 512) : k0_pay17 s (ix2 r k) = s (ix2 r k) := by pointwise [k0_pay17]

theorem sum_at (r : Fin 128) (k : Fin 512) :
    addf (mixv w0 w1 w2 w3 (nv (k0_pay15 g) (k0_pay16 b) (k0_pay20 p) (k0_pay21 p))) (k0_pay17 s) (ix2 r k)
      = ∑ q : Fin 128, pick w0 w1 w2 w3 (grp k) (ix2 r q) * lnorm (right fun k => p (ix2 q k)) (fun k => g (ix2 0 k)) (fun k => b (ix2 0 k)) k
        + s (ix2 r k) := by
  pointwise [mixv_at, nv_at, pay15_at, pay16_at, pay17_at, pay20_at, pay21_at]
  rfl

theorem chunk_at (w : Fin 4 → Fin 128 → Fin 128 → EReal) (hw : ∀ h r q, pick w0 w1 w2 w3 h (ix2 r q) = lead (w h) r q)
    (r : Fin 128) (k : Fin 512) : chunk w0 w1 w2 w3 p g b s o (ix2 r k)
      = mixed (fun r k => p (ix2 r k)) (fun k => g (ix2 0 k)) (fun k => b (ix2 0 k)) w (fun r k => s (ix2 r k)) (fun k => o (ix2 0 k)) r k := by
  unfold chunk
  refine (pay28_at _ _ o r k).trans ?_
  simp only [pay19_at, sum_at, hw]
  rfl
end

/-! The loads and the stores of a block. -/

theorem inbR (o : ℕ) (ho : o + 128 ≤ 512) : ∀ a, (![o, 0] : Fin 2 → ℕ) a + S128x1024.size a ≤ S512x1024.size a := by
  intro a; match a with
  | 0 => simpa using ho
  | 1 => simp

theorem inbO (o : ℕ) (ho : o + 128 ≤ 512) : ∀ a, (![o, 0] : Fin 2 → ℕ) a + S128x512.size a ≤ S512x512.size a := by
  intro a; match a with
  | 0 => simpa using ho
  | 1 => simp

theorem inbM (h : ℕ) (hh : h < 4) : ∀ a, (![h, 0, 0] : Fin 3 → ℕ) a + S1x128x128.size a ≤ S4x128x128.size a := by
  intro a; match a with
  | 0 => simp; omega
  | 1 => simp
  | 2 => simp

def rowsL (o : ℕ) (ho : o + 128 ≤ 512) (x : Vec Ideal S512x1024 .bf16) : Vec Ideal S128x1024 .bf16 :=
  View.ld x (Rect.unit ![o, 0] S128x1024.size (inbR o ho))

def matL (h : ℕ) (hh : h < 4) (x : Vec Ideal S4x128x128 .f32) : Vec Ideal S1x128x128 .f32 :=
  View.ld x (Rect.unit ![h, 0, 0] S1x128x128.size (inbM h hh))

section
variable (x : Vec Ideal S512x1024 .bf16) (g b : Vec Ideal S1x512 .f32) (w : Vec Ideal S4x128x128 .f32) (s : Vec Ideal S128x512 .f32)
  (o : Vec Ideal S1x512 .f32)

/-- The store of a chunk. -/
def piece (n : ℕ) (hn : n + 128 ≤ 512) : View.Piece (Elt Ideal) S512x512 .bf16 :=
  ⟨Rect.unit ![n, 0] S128x512.size (inbO n hn), chunk (k0_pay2 (matL 0 (by omega) w)) (k0_pay3 (matL 1 (by omega) w))
    (k0_pay4 (matL 2 (by omega) w)) (k0_pay5 (matL 3 (by omega) w)) (rowsL n hn x) g b s o⟩

/-- The stores of a block. -/
def stores : List (View.Piece (Elt Ideal) S512x512 .bf16) :=
  [piece x g b w s o 384 (by omega), piece x g b w s o 256 (by omega), piece x g b w s o 128 (by omega), piece x g b w s o 0 (by omega)]

theorem run_eq (c : Dev nD) (i : grid0.Coords) (a1 h1 a2 h2 a3 h3 a4 h4 a5 h5 a6 h6 a7 h7) :
    (kernelRun0_A (F := Ideal) c i a1 h1 a2 h2 a3 h3 a4 h4 a5 h5 a6 h6 a7 h7 x g b w s o).1
      = stores (a1.view.read (Elt Ideal) (h1.unread x))
        (View.ld (a2.view.read (Elt Ideal) (h2.unread g)) (Rect.unit ![0, 0] S1x512.size (by decide)))
        (View.ld (a3.view.read (Elt Ideal) (h3.unread b)) (Rect.unit ![0, 0] S1x512.size (by decide)))
        (a4.view.read (Elt Ideal) (h4.unread w))
        (View.ld (a5.view.read (Elt Ideal) (h5.unread s)) (Rect.unit ![0, 0] S128x512.size (by decide)))
        (View.ld (a6.view.read (Elt Ideal) (h6.unread o)) (Rect.unit ![0, 0] S1x512.size (by decide))) := by
  rfl
end

/-- The normed gated channels over a block of four chunks. -/
def G (x : S512x1024.Idx → EReal) (g b : S1x512.Idx → EReal) (w : S4x128x128.Idx → EReal) (s : S128x512.Idx → EReal)
    (o : S1x512.Idx → EReal) (r k : Fin 512) : EReal :=
  mixed (fun q k => x (ix2 ⟨128 * (r.val / 128) + q.val, by omega⟩ k)) (fun k => g (ix2 0 k)) (fun k => b (ix2 0 k)) (fun h r q => w (ix3 h r q))
    (fun r k => s (ix2 r k)) (fun k => o (ix2 0 k)) ⟨r.val % 128, by omega⟩ k

section
variable (x : Vec Ideal S512x1024 .bf16) (g b : Vec Ideal S1x512 .f32) (w : Vec Ideal S4x128x128 .f32) (s : Vec Ideal S128x512 .f32)
  (o : Vec Ideal S1x512 .f32)

theorem rowsL_at (n : ℕ) (hn : n + 128 ≤ 512) (r : Fin 128) (k : Fin 1024) : rowsL n hn x (ix2 r k) = x (ix2 ⟨n + r.val, by omega⟩ k) := by
  unfold rowsL
  refine congrArg x ?_
  ext a; fin_cases a
  · show n + 1 * r.val = n + r.val
    omega
  · show 0 + 1 * k.val = k.val
    omega

theorem matL_at (h : ℕ) (hh : h < 4) (r q : Fin 128) : matL h hh w (ix3 0 r q) = w (ix3 ⟨h, hh⟩ r q) := by
  unfold matL
  refine congrArg w ?_
  ext a; fin_cases a
  · show h + 1 * 0 = h
    omega
  · show 0 + 1 * r.val = r.val
    omega
  · show 0 + 1 * q.val = q.val
    omega

theorem mats (h : Fin 4) (r q : Fin 128) : pick (k0_pay2 (matL 0 (by omega) w)) (k0_pay3 (matL 1 (by omega) w))
    (k0_pay4 (matL 2 (by omega) w)) (k0_pay5 (matL 3 (by omega) w)) h (ix2 r q) = lead (fun r q => w (ix3 h r q)) r q := by
  fin_cases h
  · exact (pay2_at _ r q).trans (congrArg (fun f => lead f r q) (funext fun r => funext fun q => matL_at w 0 (by omega) r q))
  · exact (pay3_at _ r q).trans (congrArg (fun f => lead f r q) (funext fun r => funext fun q => matL_at w 1 (by omega) r q))
  · exact (pay4_at _ r q).trans (congrArg (fun f => lead f r q) (funext fun r => funext fun q => matL_at w 2 (by omega) r q))
  · exact (pay5_at _ r q).trans (congrArg (fun f => lead f r q) (funext fun r => funext fun q => matL_at w 3 (by omega) r q))

theorem piece_pt (n : ℕ) (hn : n + 128 ≤ 512) (h : n % 128 = 0) (r : Fin 128) (k : Fin 512) (y : S512x512.Idx)
    (h0 : (y 0).val = n + r.val) (h1 : (y 1).val = k.val) :
    (piece x g b w s o n hn).2 (ix2 r k) = G x g b w s o (y 0) (y 1) := by
  refine (chunk_at _ _ _ _ _ g b s o (fun h r q => w (ix3 h r q)) (mats w) r k).trans ?_
  have e : (⟨(y 0).val % 128, by omega⟩ : Fin 128) = r := Fin.ext (by show (y 0).val % 128 = r.val; omega)
  have e1 : (y 1) = k := Fin.ext h1
  unfold G
  rw [e, e1]
  refine congrArg (fun f => mixed f _ _ _ _ _ r k) (funext fun q => funext fun k => (rowsL_at x n hn q k).trans ?_)
  exact congrArg (fun i => x (ix2 i k)) (Fin.ext (by show n + q.val = 128 * ((y 0).val / 128) + q.val; omega))

theorem piece_ok (n : ℕ) (hn : n + 128 ≤ 512) (h : n % 128 = 0) (z : S128x512.Idx) :
    (piece x g b w s o n hn).2 z = (fun y : S512x512.Idx => G x g b w s o (y 0) (y 1)) ((piece x g b w s o n hn).1.emb z) := by
  have q : z = ix2 (z 0) (z 1) := by ext a; fin_cases a <;> rfl
  refine (congrArg _ q).trans (piece_pt x g b w s o n hn h (z 0) (z 1) _ ?_ ?_)
  · show n + 1 * (z 0).val = n + (z 0).val
    omega
  · show 0 + 1 * (z 1).val = (z 1).val
    omega

theorem mem_piece (n : ℕ) (hn : n + 128 ≤ 512) (y : S512x512.Idx) (hlo : n ≤ (y 0).val) (hhi : (y 0).val < n + 128) :
    y ∈ (piece x g b w s o n hn).1.set := by
  unfold piece
  rw [Rect.mem_set_unit]
  intro a
  match a with
  | 0 => exact ⟨hlo, hhi⟩
  | 1 => exact ⟨Nat.zero_le _, (Nat.zero_add 512).symm ▸ (y 1).isLt⟩

theorem cover (y : S512x512.Idx) : ∃ p ∈ stores x g b w s o, y ∈ p.1.set := by
  have hy : (y 0).val < 512 := (y 0).isLt
  unfold stores
  by_cases h1 : (y 0).val < 128
  · exact ⟨_, (.tail _ (.tail _ (.tail _ (.head _)))), mem_piece x g b w s o 0 (by omega) y (by omega) (by omega)⟩
  by_cases h2 : (y 0).val < 256
  · exact ⟨_, (.tail _ (.tail _ (.head _))), mem_piece x g b w s o 128 (by omega) y (by omega) (by omega)⟩
  by_cases h3 : (y 0).val < 384
  · exact ⟨_, (.tail _ (.head _)), mem_piece x g b w s o 256 (by omega) y (by omega) (by omega)⟩
  · exact ⟨_, (.head _), mem_piece x g b w s o 384 (by omega) y (by omega) (by omega)⟩

theorem stores_at {sig : RefSig} {κ : Kind} {sp : Space} (v : View sig κ sp S512x512 .bf16) (f : v.ty.Contents (Elt Ideal)) :
    v.read (Elt Ideal) (v.writes (Elt Ideal) f (stores x g b w s o)) = fun y : S512x512.Idx => G x g b w s o (y 0) (y 1) := by
  funext y
  refine View.read_writes_apply_of_pieces v f (fun y : S512x512.Idx => G x g b w s o (y 0) (y 1)) _ ?_ y (cover x g b w s o y)
  unfold stores
  simp only [List.mem_cons, List.mem_nil_iff, or_false]
  rintro p (rfl | rfl | rfl | rfl)
  · exact piece_ok x g b w s o 384 (by omega) (by omega)
  · exact piece_ok x g b w s o 256 (by omega) (by omega)
  · exact piece_ok x g b w s o 128 (by omega) (by omega)
  · exact piece_ok x g b w s o 0 (by omega) (by omega)

theorem out_eq (c : Dev nD) (i : grid0.Coords) (a1 h1 a2 h2 a3 h3 a4 h4 a5 h5 a6 h6 a7 h7) :
    out0_A_6 (F := Ideal) c i a1 h1 a2 h2 a3 h3 a4 h4 a5 h5 a6 h6 a7 h7 x g b w s o = fun y : S512x512.Idx => G x g b w s o (y 0) (y 1) := by
  unfold out0_A_6
  rw [run_eq]
  simp only [Memref.IsWhole.read_unread]
  rw [View.ld_unit_zero, View.ld_unit_zero, View.ld_unit_zero, View.ld_unit_zero]
  · exact stores_at x g b w s o _ _
  all_goals (funext a; fin_cases a <;> rfl)
end

variable (m : (ℓ : Loc nD τ sig) → Buf (Elt Ideal) ℓ) (c : Dev nD)

/-- The array's row that a block's row `r` is. -/
def row (t : Fin cfg0.N) (r : Fin 512) : Fin 4096 := ⟨512 * t.val + r.val, by have : t.val < 8 := t.isLt; omega⟩

/-- The array's column that a block's column `k` is. -/
def col (k : Fin 1024) : Fin 2560 := ⟨k.val, by omega⟩

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel

theorem V3_at (r : Fin 4096) (k : Fin 2560) : V m c main_v3 (ix2 r k) = m ((c : Thread nD τ).loc main_arg0) (ix2 r k) := by
  unfold V
  after_reads_at

theorem V4_at (k : Fin 512) : V m c main_v4 (ix2 0 k) = m ((c : Thread nD τ).loc main_arg1) (ix1 k) := by
  unfold V
  after_reads_at

theorem V5_at (k : Fin 512) : V m c main_v5 (ix2 0 k) = m ((c : Thread nD τ).loc main_arg2) (ix1 k) := by
  unfold V
  after_reads_at

theorem V6_at (k : Fin 512) : V m c main_v6 (ix2 0 k) = m ((c : Thread nD τ).loc main_arg5) (ix1 k) := by
  unfold V
  after_reads_at

theorem V2_at (r : Fin 128) (k : Fin 512) : V m c main_v2 (ix2 r k) = m ((c : Thread nD τ).loc main_arg4) (ix2 (grp k) r) := by
  unfold V
  after_reads_at
  rfl

theorem blk0_at (t : Fin cfg0.N) (r : Fin 512) (k : Fin 1024) :
    X0_0 m c t (ix2 r k) = m ((c : Thread nD τ).loc main_arg0) (ix2 (row t r) (col k)) := by
  have e : X0_0 m c t (ix2 r k) = V m c main_v3 (ix2 (row t r) (col k)) := by
    unfold X0_0 Pipeline.Window.fill
    rw [dif_pos (moved0_0 t _)]
    blk_ext [iblk, idx0 t, row, col]
  exact e.trans (V3_at m c _ _)

theorem blk1_at (t : Fin cfg0.N) (k : Fin 512) : iblk m c 1 t (ix2 0 k) = m ((c : Thread nD τ).loc main_arg1) (ix1 k) := by
  have e : iblk m c 1 t (ix2 0 k) = V m c main_v4 (ix2 0 k) := by
    blk_ext [iblk, idx1 t]
  exact e.trans (V4_at m c k)

theorem blk2_at (t : Fin cfg0.N) (k : Fin 512) : iblk m c 2 t (ix2 0 k) = m ((c : Thread nD τ).loc main_arg2) (ix1 k) := by
  have e : iblk m c 2 t (ix2 0 k) = V m c main_v5 (ix2 0 k) := by
    blk_ext [iblk, idx2 t]
  exact e.trans (V5_at m c k)

theorem blk3_at (t : Fin cfg0.N) (h : Fin 4) (r q : Fin 128) :
    iblk m c 3 t (ix3 h r q) = m ((c : Thread nD τ).loc main_arg3) (ix3 h r q) := by
  have e : iblk m c 3 t (ix3 h r q) = V m c main_arg3 (ix3 h r q) := by
    blk_ext [iblk, idx3 t]
  exact e.trans (congrFun (V_main_arg3 m c) _)

theorem blk4_at (t : Fin cfg0.N) (r : Fin 128) (k : Fin 512) :
    iblk m c 4 t (ix2 r k) = m ((c : Thread nD τ).loc main_arg4) (ix2 (grp k) r) := by
  have e : iblk m c 4 t (ix2 r k) = V m c main_v2 (ix2 r k) := by
    blk_ext [iblk, idx4 t]
  exact e.trans (V2_at m c r k)

theorem blk5_at (t : Fin cfg0.N) (k : Fin 512) : iblk m c 5 t (ix2 0 k) = m ((c : Thread nD τ).loc main_arg5) (ix1 k) := by
  have e : iblk m c 5 t (ix2 0 k) = V m c main_v6 (ix2 0 k) := by
    blk_ext [iblk, idx5 t]
  exact e.trans (V6_at m c k)

/-- The normed gated channels of every row. -/
def OA (x : S4096x2560.Idx → EReal) (g b : S512.Idx → EReal) (w : S4x128x128.Idx → EReal) (s : S4x128.Idx → EReal) (o : S512.Idx → EReal)
    (r : Fin 4096) (k : Fin 512) : EReal :=
  mixed (fun q k => x (ix2 ⟨128 * (r.val / 128) + q.val, by omega⟩ (col k))) (fun k => g (ix1 k)) (fun k => b (ix1 k)) (fun h r q => w (ix3 h r q))
    (fun r k => s (ix2 (grp k) r)) (fun k => o (ix1 k)) ⟨r.val % 128, by omega⟩ k

theorem G_at (t : Fin cfg0.N) (r k : Fin 512) :
    G (X0_0 m c t) (iblk m c 1 t) (iblk m c 2 t) (iblk m c 3 t) (iblk m c 4 t) (iblk m c 5 t) r k
      = OA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (row t r) k := by
  unfold G OA
  simp only [blk0_at, blk1_at, blk2_at, blk3_at, blk4_at, blk5_at]
  have e : (⟨r.val % 128, by omega⟩ : Fin 128) = ⟨(row t r).val % 128, by omega⟩ :=
    Fin.ext (by show r.val % 128 = (512 * t.val + r.val) % 128; omega)
  rw [e]
  refine congrArg (fun f => mixed f _ _ _ _ _ _ k) (funext fun q => funext fun k => congrArg (fun i => m ((c : Thread nD τ).loc main_arg0) (ix2 i (col k))) (Fin.ext ?_))
  show 512 * t.val + (128 * (r.val / 128) + q.val) = 128 * ((512 * t.val + r.val) / 128) + q.val
  omega

/-- An array of rows of channels. -/
def rows2 (f : Fin 4096 → Fin 512 → EReal) : S4096x512.Idx → EReal := fun i => f (i 0) (i 1)

theorem rows_congr (f : Fin 4096 → Fin 512 → EReal) (t : Fin cfg0.N) (y : S512x512.Idx) (i : S4096x512.Idx)
    (h0 : (i 0).val = 512 * t.val + (y 0).val) (h1 : (i 1).val = (y 1).val) : f (row t (y 0)) (y 1) = rows2 f i :=
  congrArg₂ f (Fin.ext h0.symm) (Fin.ext h1.symm)

theorem emb6 (t : Fin cfg0.N) (y : S512x512.Idx) (i : S4096x512.Idx) (h : i = (win0_6.blk t).view.emb y) :
    (i 0).val = 512 * t.val + (y 0).val ∧ (i 1).val = (y 1).val := by
  subst h
  blk_simp [idx6 t]
  refine ⟨?_, ?_⟩ <;> simp <;> omega

theorem arr6 : (dats m 0 c).arrAt 6 cfg0.N = rows2 (OA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  refine (dats m 0 c).arrAt_eq_of_covers 6 _ (by decide +kernel) fun t hf y => ?_
  blk_simp
  rw [after0_6]
  unfold outsAt0
  rw [out_eq]
  obtain ⟨e0, e1⟩ := emb6 t y _ rfl
  exact (G_at m c t (y 0) (y 1)).trans (rows_congr _ t y _ e0 e1)

end Cert.Kernel16Ideal.Blk

namespace Cert.Gating

open Cert.Gate
open Idealize.ShloMosaic Idealize.ShloMosaic.TcCoe Idealize.SL.Sem
open Cert.Reference16Ideal Cert.Reference16Ideal.Read
open Cert.Kernel16Ideal.Blk (OA rows2 arr6)

variable (x : Cert.Reference16Ideal.S4096x2560.Idx → EReal) (g b : Cert.Reference16Ideal.S512.Idx → EReal)
  (w : Cert.Reference16Ideal.S4x128x128.Idx → EReal) (s : Cert.Reference16Ideal.S4x128.Idx → EReal) (o : Cert.Reference16Ideal.S512.Idx → EReal)

/-- The first channels of a row. -/
def xr (r : Fin 4096) (k : Fin 1024) : EReal := x (ix2 r ⟨k.val, by omega⟩)

/-- The layer norm of a row's right half. -/
def ln (r : Fin 4096) (k : Fin 512) : EReal := lnorm (right (xr x r)) (fun k => g (ix1 k)) (fun k => b (ix1 k)) k

theorem cst1_at (i : Cert.Reference16Ideal.S_.Idx) : val_main_cst_1 (F := Ideal) i = 0 := by pointwise [val_main_cst_1]
theorem cst3_at (i : Cert.Reference16Ideal.S_.Idx) : val_main_cst_3 (F := Ideal) i = 0 := by pointwise [val_main_cst_3]
theorem cst6_at (i : Cert.Reference16Ideal.S_.Idx) : val_main_cst_6 (F := Ideal) i = 0 := by pointwise [val_main_cst_6]

theorem v7_at (r : Fin 4096) (k : Fin 1024) : val_main_v7 (F := Ideal) x (ix2 r k) = act (xr x r k) := by
  have e : val_main_v7 (F := Ideal) x (ix2 r k) = Ideal.ofBits FTy.f32 0x3F000000#32 * xr x r k
      * Ideal.erfc (-(xr x r k) * Ideal.ofBits FTy.f32 0x3F3504F3#32) := by
    pointwise [val_main_v7, val_main_v6, val_main_v5, val_main_v4, val_main_v3, val_main_v2, val_main_v1, val_main_v0, val_main_cst, val_main_cst_0]
    rfl
  rw [e, neg_mul, Ideal.erfc_neg]
  rfl

theorem v8_at (r : Fin 4096) (k : Fin 512) : val_main_v8 (F := Ideal) x (ix2 r k) = left (xr x r) k := by
  pointwise [val_main_v8, v7_at]
  rfl

theorem v9_at (r : Fin 4096) (k : Fin 512) : val_main_v9 (F := Ideal) x (ix2 r k) = right (xr x r) k := by
  pointwise [val_main_v9, v7_at]
  rfl

theorem v15_at (r : Fin 4096) (k : Fin 512) : val_main_v15 (F := Ideal) x (ix2 r k) = cent (right (xr x r)) k := by
  pointwise [val_main_v15, val_main_v14, val_main_v13, val_main_v12, val_main_v11, val_main_v10, v9_at, cst1_at, val_main_cst_2, zero_add]
  rfl

theorem v23_at (r : Fin 4096) (z : Fin 1) : val_main_v23 (F := Ideal) x (ix2 r z) = rinv (cent (right (xr x r))) := by
  pointwise [val_main_v23, val_main_v22, val_main_v21, val_main_v20, val_main_v19, val_main_v18, val_main_v17, val_main_v16, v15_at, cst3_at,
    val_main_cst_4, val_main_cst_5, zero_add]
  rfl

theorem v31_at (r : Fin 4096) (k : Fin 512) : val_main_v31 (F := Ideal) x g b (ix2 r k) = ln x g b r k := by
  pointwise [val_main_v31, val_main_v30, val_main_v29, val_main_v28, val_main_v27, val_main_v26, val_main_v25, val_main_v24, v15_at, v23_at]
  rfl

theorem v32_at (n : Fin 32) (p : Fin 128) (h : Fin 4) (d : Fin 128) : val_main_v32 (F := Ideal) x g b (ix4 n p h d)
    = ln x g b ⟨128 * n.val + p.val, by omega⟩ ⟨128 * h.val + d.val, by omega⟩ := by
  rw [val_main_v32_apply]
  refine Eq.trans (congrArg _ ?_) (v31_at x g b _ _)
  ext a; fin_cases a
  · show (((n.val * 128 + p.val) * 4 + h.val) * 128 + d.val) / 512 = 128 * n.val + p.val
    omega
  · show (((n.val * 128 + p.val) * 4 + h.val) * 128 + d.val) % 512 = 128 * h.val + d.val
    omega

theorem v33_at (h : Fin 4) (r q : Fin 128) : val_main_v33 (F := Ideal) w (ix3 h r q) = lead (fun r q => w (ix3 h r q)) r q := by
  pointwise [val_main_v33, val_main_call0_v6, val_main_call0_v5, val_main_call0_v4, val_main_call0_v3, val_main_call0_v2, val_main_call0_v1,
    val_main_call0_v0, val_main_call0_c, val_main_call0_cst]
  unfold lead upto IntOp.addi
  rw [BitVec.add_zero]

theorem v39_at (n : Fin 32) (p : Fin 128) (h : Fin 4) (d : Fin 128) : val_main_v39 (F := Ideal) x g b w s (ix4 n p h d)
    = ∑ q : Fin 128, ln x g b ⟨128 * n.val + q.val, by omega⟩ ⟨128 * h.val + d.val, by omega⟩ * lead (fun r q => w (ix3 h r q)) p q
      + s (ix2 h p) := by
  pointwise [val_main_v39, val_main_v38, val_main_v37, val_main_v36, val_main_v35, val_main_v34, v32_at, v33_at]

theorem v40_at (r : Fin 4096) (k : Fin 512) : val_main_v40 (F := Ideal) x g b w s (ix2 r k)
    = ∑ q : Fin 128, lead (fun r q => w (ix3 (grp k) r q)) ⟨r.val % 128, by omega⟩ q * ln x g b ⟨128 * (r.val / 128) + q.val, by omega⟩ k
      + s (ix2 (grp k) ⟨r.val % 128, by omega⟩) := by
  rw [val_main_v40_apply]
  refine (congrArg _ (show _ = ix4 ⟨r.val / 128, by omega⟩ ⟨r.val % 128, by omega⟩ (grp k) ⟨k.val % 128, by omega⟩ from ?_)).trans
    ((v39_at x g b w s _ _ _ _).trans ?_)
  · ext a; fin_cases a
    · show (r.val * 512 + k.val) / 65536 = r.val / 128
      omega
    · show (r.val * 512 + k.val) / 512 % 128 = r.val % 128
      omega
    · show (r.val * 512 + k.val) / 128 % 4 = k.val / 128
      omega
    · show (r.val * 512 + k.val) % 128 = k.val % 128
      omega
  · have e : (⟨128 * (grp k).val + k.val % 128, by have := (grp k).isLt; omega⟩ : Fin 512) = k :=
      Fin.ext (by show 128 * (k.val / 128) + k.val % 128 = k.val; omega)
    rw [e]
    exact congrArg (· + _) (Finset.sum_congr rfl fun q _ => mul_comm _ _)

/-- The gated channels of a row. -/
def gt (r : Fin 4096) (k : Fin 512) : EReal :=
  gated (fun q k => x (ix2 ⟨128 * (r.val / 128) + q.val, by omega⟩ (Cert.Kernel16Ideal.Blk.col k))) (fun k => g (ix1 k)) (fun k => b (ix1 k))
    (fun h r q => w (ix3 h r q)) (fun r k => s (ix2 (grp k) r)) ⟨r.val % 128, by omega⟩ k

theorem v41_at (r : Fin 4096) (k : Fin 512) : val_main_v41 (F := Ideal) x g b w s (ix2 r k) = gt x g b w s r k := by
  pointwise [val_main_v41, v8_at, v40_at]
  refine congrArg (· * _) (congrArg (fun i => left (xr x i) k) (Fin.ext ?_))
  show r.val = 128 * (r.val / 128) + r.val % 128
  omega

theorem out_eq (r : Fin 4096) (k : Fin 512) : val_main_v55 (F := Ideal) x g b w s o (ix2 r k) = OA x g b w s o r k := by
  pointwise [val_main_v55, val_main_v54, val_main_v53, val_main_v52, val_main_v51, val_main_v50, val_main_v49, val_main_v48, val_main_v47,
    val_main_v46, val_main_v45, val_main_v44, val_main_v43, val_main_v42, v41_at, cst6_at, val_main_cst_7, val_main_cst_8, zero_add]
  rfl

theorem by_rows (a : Cert.Reference16Ideal.S4096x512.Idx → EReal) (f : Fin 4096 → Fin 512 → EReal) (q : ∀ r k, a (ix2 r k) = f r k) : a = rows2 f := by
  funext i
  have p : (i : Cert.Reference16Ideal.S4096x512.Idx) = ix2 (i 0) (i 1) := by ext a; fin_cases a <;> rfl
  exact (congrArg _ p).trans (q (i 0) (i 1))

theorem frame_p : Cert.quiescent_Kernel16 := fun m ρ _ => Cert.Kernel16.Gen.frame m ρ
theorem frame_pi : Cert.quiescent_Kernel16Ideal := fun m ρ _ => Cert.Kernel16Ideal.Gen.frame m ρ
theorem frame_ri : Cert.quiescent_Reference16Ideal := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)

theorem algebraic : Cert.algebraic_Kernel16Ideal_Reference16Ideal := by
  intro m ρ m' ρ' _ hagree
  refine ⟨fun c => rows2 (OA (m ((c.tc : Thread Cert.Kernel16Ideal.nD Cert.Kernel16Ideal.τ).loc Cert.Kernel16Ideal.main_arg0))
      (m ((c.tc : Thread Cert.Kernel16Ideal.nD Cert.Kernel16Ideal.τ).loc Cert.Kernel16Ideal.main_arg1))
      (m ((c.tc : Thread Cert.Kernel16Ideal.nD Cert.Kernel16Ideal.τ).loc Cert.Kernel16Ideal.main_arg2))
      (m ((c.tc : Thread Cert.Kernel16Ideal.nD Cert.Kernel16Ideal.τ).loc Cert.Kernel16Ideal.main_arg3))
      (m ((c.tc : Thread Cert.Kernel16Ideal.nD Cert.Kernel16Ideal.τ).loc Cert.Kernel16Ideal.main_arg4))
      (m ((c.tc : Thread Cert.Kernel16Ideal.nD Cert.Kernel16Ideal.τ).loc Cert.Kernel16Ideal.main_arg5))), ?_, ?_⟩
  · refine (θ_run Cert.Kernel16Ideal.defs _ _).mono (fun r h c => ?_) (Cert.Kernel16Ideal.Value.run_blocks m ρ)
    obtain ⟨h6, h⟩ := h c
    exact ⟨h6.trans (arr6 m c), h⟩
  · refine (θ_run Cert.Reference16Ideal.defs _ _).mono (fun r h c => ?_) (Cert.Reference16Ideal.Value.run (F := Ideal) m' ρ')
    obtain ⟨h6, h⟩ := h c
    obtain ⟨a0, a1, a2, a3, a4, a5⟩ := hagree c
    refine ⟨((h6.trans (val_main_v55_eq _ _)).trans (by_rows _ _ (out_eq _ _ _ _ _ _))).trans ?_, h⟩
    rw [a0, a1, a2, a3, a4, a5]

end Cert.Gating

end
-- ==== Proof.AdamIn.lean ====
module

public import proofs.«01_k».proof.Proof.Gen.Kernel17Ideal.Value
public import proofs.«01_k».proof.Proof.Gen.Reference17Ideal.Read
public import proofs.«01_k».proof.Proof.Gen.Kernel17.Frame
public import proofs.«01_k».proof.Defs
public import Idealize.ShloMosaic.Lib.StableHlo.ReadAt
public import Idealize.ShloMosaic.Lib.Pointwise
public import Idealize.ShloMosaic.Lib.Pipeline.ValueKit
public import Idealize.ShloMosaic.Lib.Quiescent

@[expose] public section

/-! The optimiser's step of the input projection's weight, both layers in one call. -/

set_option maxRecDepth 16384

noncomputable section

namespace Cert.Kernel17Ideal.Blk

open Cert.Kernel17Ideal Cert.Kernel17Ideal.Gen Idealize.ShloMosaic Idealize.ShloMosaic.TcCoe Idealize.SL.Sem

/-- The new running mean of the gradient, from the old one `a` and the gradient `g`. -/
def mean (a g : EReal) : EReal := Ideal.ofBits .f32 0x3F666666#32 * a + Ideal.ofBits .f32 0x3DCCCCCD#32 * g

/-- The new running mean of the gradient's square, from the old one `b` and the gradient `g`. -/
def square (b g : EReal) : EReal := Ideal.ofBits .f32 0x3F7FBE77#32 * b + Ideal.ofBits .f32 0x3A83126F#32 * (g * g)

/-- The weight's step: the corrected mean over the root of the corrected square, and the decay of the weight. -/
def change (w a b g : EReal) : EReal :=
  Ideal.ofBits .f32 0xBA83126F#32 *
    (Ideal.div (Ideal.div (mean a g) (Ideal.ofBits .f32 0x3F26BD02#32))
        (Ideal.sqrt (Ideal.div (square b g) (Ideal.ofBits .f32 0x3C231ACC#32)) + Ideal.ofBits .f32 0x322BCC77#32) +
      Ideal.ofBits .f32 0x3C23D70A#32 * w)

/-- The two layers' gradients, one above the other. -/
def both (p q : S1024x640.Idx → EReal) (l : Fin 2) (r : Fin 1024) (k : Fin 640) : EReal := if l.val = 0 then p (ix2 r k) else q (ix2 r k)

/-- The four arrays the call writes. -/
def Gg (p q : S1024x640.Idx → EReal) : S2x1024x640.Idx → EReal := fun y => both p q (y 0) (y 1) (y 2)
def Gm (p q : S1024x640.Idx → EReal) (a : S2x1024x640.Idx → EReal) : S2x1024x640.Idx → EReal :=
  fun y => mean (a (ix3 (y 0) (y 1) (y 2))) (both p q (y 0) (y 1) (y 2))
def Gv (p q : S1024x640.Idx → EReal) (b : S2x1024x640.Idx → EReal) : S2x1024x640.Idx → EReal :=
  fun y => square (b (ix3 (y 0) (y 1) (y 2))) (both p q (y 0) (y 1) (y 2))
def Gd (w : S2x1024x640.Idx → EReal) (p q : S1024x640.Idx → EReal) (a b : S2x1024x640.Idx → EReal) : S2x1024x640.Idx → EReal :=
  fun y => change (w (ix3 (y 0) (y 1) (y 2))) (a (ix3 (y 0) (y 1) (y 2))) (b (ix3 (y 0) (y 1) (y 2))) (both p q (y 0) (y 1) (y 2))

theorem pay7_at (i : grid0.Coords) (x3 x4 : Vec Ideal S256x640 .f32) (x1 : Vec Ideal S1x256x640 .f32) (r : Fin 256) (k : Fin 640) :
    k0_pay7 i x3 x4 x1 (ix2 r k) = mean (x1 (ix3 0 r k)) (k0_pay4 i x3 x4 (ix2 r k)) := by
  pointwise [k0_pay7]
  rfl

theorem pay8_at (i : grid0.Coords) (x3 x4 : Vec Ideal S256x640 .f32) (x2 : Vec Ideal S1x256x640 .f32) (r : Fin 256) (k : Fin 640) :
    k0_pay8 i x3 x4 x2 (ix2 r k) = square (x2 (ix3 0 r k)) (k0_pay4 i x3 x4 (ix2 r k)) := by
  pointwise [k0_pay8]
  rfl

theorem pay6_at (i : grid0.Coords) (x0 x1 x2 : Vec Ideal S1x256x640 .f32) (x3 x4 : Vec Ideal S256x640 .f32) (r : Fin 256) (k : Fin 640) :
    k0_pay1 (F := Ideal) (k0_pay6 x0) (k0_pay9 i x3 x4 x1 x2) (Scalar.ofBits .f32 0x3C23D70A#32) (ix3 0 r k) =
      change (x0 (ix3 0 r k)) (x1 (ix3 0 r k)) (x2 (ix3 0 r k)) (k0_pay4 i x3 x4 (ix2 r k)) := by
  pointwise [k0_pay1, k0_pay6, k0_pay9, pay7_at, pay8_at]
  rfl

theorem pay5_at (i : grid0.Coords) (x3 x4 : Vec Ideal S256x640 .f32) (r : Fin 256) (k : Fin 640) :
    k0_pay5 i x3 x4 (ix3 0 r k) = k0_pay4 i x3 x4 (ix2 r k) := by
  pointwise [k0_pay5]

theorem pay2_at (a : Vec Ideal S256x640 .f32) (r : Fin 256) (k : Fin 640) : k0_pay2 (F := Ideal) a (ix3 0 r k) = a (ix2 r k) := by
  pointwise [k0_pay2]

theorem pay3_at (a : Vec Ideal S256x640 .f32) (r : Fin 256) (k : Fin 640) : k0_pay3 (F := Ideal) a (ix3 0 r k) = a (ix2 r k) := by
  pointwise [k0_pay3]

theorem layer_of : ∀ t : Fin grid0.N, (grid0.coords t 0).val = t.val / 4 := by decide +kernel

theorem pay4_at (t : Fin grid0.N) (x3 x4 : Vec Ideal S256x640 .f32) :
    k0_pay4 (F := Ideal) (grid0.coords t) x3 x4 = if t.val < 4 then x3 else x4 := by
  have ht : t.val < 8 := t.isLt
  show Scalar.select (Scalar.cmpi .eq (BitVec.ofNat 32 (grid0.coords t 0).val) 1#32) x4 x3 = _
  rw [layer_of t]
  by_cases h : t.val < 4
  · rw [if_pos h, show t.val / 4 = 0 by omega]
    rfl
  · rw [if_neg h, show t.val / 4 = 1 by omega]
    rfl

variable (m : (ℓ : Loc nD τ sig) → Buf (Elt Ideal) ℓ) (c : Dev nD)

/-- The layer of a block, and the array's row that a block's row `r` is. -/
def lay (t : Fin cfg0.N) : Fin 2 := ⟨t.val / 4, by have : t.val < 8 := t.isLt; omega⟩
def row (t : Fin cfg0.N) (r : Fin 256) : Fin 1024 := ⟨256 * (t.val % 4) + r.val, by omega⟩

theorem idx0 : ∀ t : Fin grid0.N, win0_0.index t = ![t.val / 4, t.val % 4, 0] := by decide +kernel
theorem idx1 : ∀ t : Fin grid0.N, win0_1.index t = ![t.val / 4, t.val % 4, 0] := by decide +kernel
theorem idx2 : ∀ t : Fin grid0.N, win0_2.index t = ![t.val / 4, t.val % 4, 0] := by decide +kernel
theorem idx5 : ∀ t : Fin grid0.N, win0_5.index t = ![t.val / 4, t.val % 4, 0] := by decide +kernel
theorem idx6 : ∀ t : Fin grid0.N, win0_6.index t = ![t.val / 4, t.val % 4, 0] := by decide +kernel
theorem idx7 : ∀ t : Fin grid0.N, win0_7.index t = ![t.val / 4, t.val % 4, 0] := by decide +kernel
theorem idx8 : ∀ t : Fin grid0.N, win0_8.index t = ![t.val / 4, t.val % 4, 0] := by decide +kernel
theorem idx3 : ∀ t : Fin grid0.N, t.val < 4 → win0_3.index t = ![t.val % 4, 0] := by decide +kernel
theorem idx4 : ∀ t : Fin grid0.N, ¬ t.val < 4 → win0_4.index t = ![t.val % 4, 0] := by decide +kernel

theorem blk0_at (t : Fin cfg0.N) (r : Fin 256) (k : Fin 640) :
    iblk m c 0 t (ix3 0 r k) = m ((c : Thread nD τ).loc main_arg0) (ix3 (lay t) (row t r) k) := by
  have e : iblk m c 0 t (ix3 0 r k) = V m c main_arg0 (ix3 (lay t) (row t r) k) := by
    blk_ext [iblk, idx0 t, lay, row]
  exact e.trans (congrFun (V_main_arg0 m c) _)

theorem blk1_at (t : Fin cfg0.N) (r : Fin 256) (k : Fin 640) :
    iblk m c 1 t (ix3 0 r k) = m ((c : Thread nD τ).loc main_arg3) (ix3 (lay t) (row t r) k) := by
  have e : iblk m c 1 t (ix3 0 r k) = V m c main_arg3 (ix3 (lay t) (row t r) k) := by
    blk_ext [iblk, idx1 t, lay, row]
  exact e.trans (congrFun (V_main_arg3 m c) _)

theorem blk2_at (t : Fin cfg0.N) (r : Fin 256) (k : Fin 640) :
    iblk m c 2 t (ix3 0 r k) = m ((c : Thread nD τ).loc main_arg4) (ix3 (lay t) (row t r) k) := by
  have e : iblk m c 2 t (ix3 0 r k) = V m c main_arg4 (ix3 (lay t) (row t r) k) := by
    blk_ext [iblk, idx2 t, lay, row]
  exact e.trans (congrFun (V_main_arg4 m c) _)

theorem blk3_at (t : Fin cfg0.N) (h : t.val < 4) (r : Fin 256) (k : Fin 640) :
    iblk m c 3 t (ix2 r k) = m ((c : Thread nD τ).loc main_arg1) (ix2 (row t r) k) := by
  have e : iblk m c 3 t (ix2 r k) = V m c main_arg1 (ix2 (row t r) k) := by
    blk_ext [iblk, idx3 t h, row]
  exact e.trans (congrFun (V_main_arg1 m c) _)

theorem blk4_at (t : Fin cfg0.N) (h : ¬ t.val < 4) (r : Fin 256) (k : Fin 640) :
    iblk m c 4 t (ix2 r k) = m ((c : Thread nD τ).loc main_arg2) (ix2 (row t r) k) := by
  have e : iblk m c 4 t (ix2 r k) = V m c main_arg2 (ix2 (row t r) k) := by
    blk_ext [iblk, idx4 t h, row]
  exact e.trans (congrFun (V_main_arg2 m c) _)

/-- A block's gradient is its layer's. -/
theorem both_at (t : Fin cfg0.N) (r : Fin 256) (k : Fin 640) :
    k0_pay4 (F := Ideal) (grid0.coords t) (iblk m c 3 t) (iblk m c 4 t) (ix2 r k) =
      both (m ((c : Thread nD τ).loc main_arg1)) (m ((c : Thread nD τ).loc main_arg2)) (lay t) (row t r) k := by
  have ht : t.val < 8 := t.isLt
  unfold both
  by_cases h : t.val < 4
  · refine (congrFun ((pay4_at t (iblk m c 3 t) (iblk m c 4 t)).trans (if_pos h)) _).trans ((blk3_at m c t h r k).trans ?_)
    exact (if_pos (show t.val / 4 = 0 by omega)).symm
  · refine (congrFun ((pay4_at t (iblk m c 3 t) (iblk m c 4 t)).trans (if_neg h)) _).trans ((blk4_at m c t h r k).trans ?_)
    exact (if_neg (show ¬ t.val / 4 = 0 by omega)).symm

theorem out5_at (t : Fin cfg0.N) (r : Fin 256) (k : Fin 640) :
    out0_5 (F := Ideal) (grid0.coords t) (iblk m c 0 t) (iblk m c 1 t) (iblk m c 2 t) (iblk m c 3 t) (iblk m c 4 t) (ix3 0 r k) =
      (both (m ((c : Thread nD τ).loc main_arg1)) (m ((c : Thread nD τ).loc main_arg2)) (lay t) (row t r) k) := by
  unfold out0_5
  rw [View.canon_unit_zero (S := S1x256x640) (off := ![0, 0, 0]) (by funext a; fin_cases a <;> rfl)]
  simp only [View.ld_unit_zero (S := S256x640) (off := ![0, 0]) (by funext a; fin_cases a <;> rfl)]
  refine (pay5_at _ _ _ _ _).trans (both_at m c t r k)

theorem emb5 (t : Fin cfg0.N) (r : Fin 256) (k : Fin 640) :
    (win0_5.blk t).view.emb (ix3 0 r k : S1x256x640.Idx) = (ix3 (lay t) (row t r) k : S2x1024x640.Idx) := by
  blk_ext [idx5 t, lay, row]

theorem arr5 : (dats m 0 c).arrAt 5 cfg0.N = Gg (m ((c : Thread nD τ).loc main_arg1)) (m ((c : Thread nD τ).loc main_arg2)) := by
  refine (dats m 0 c).arrAt_eq_of_covers 5 _ (by decide +kernel) fun t hf y => ?_
  blk_simp
  rw [after0_5]
  have q : (y : S1x256x640.Idx) = ix3 0 (y 1) (y 2) := by
    ext a; fin_cases a
    · have h0 : (y 0).val < 1 := (y 0).isLt
      show (y 0).val = 0
      omega
    · rfl
    · rfl
  rw [q]
  refine (out5_at m c t (y 1) (y 2)).trans ?_
  exact (congrArg (Gg (m ((c : Thread nD τ).loc main_arg1)) (m ((c : Thread nD τ).loc main_arg2))) (emb5 t (y 1) (y 2))).symm

theorem out6_at (t : Fin cfg0.N) (r : Fin 256) (k : Fin 640) :
    out0_6 (F := Ideal) (grid0.coords t) (iblk m c 0 t) (iblk m c 1 t) (iblk m c 2 t) (iblk m c 3 t) (iblk m c 4 t) (ix3 0 r k) =
      change (m ((c : Thread nD τ).loc main_arg0) (ix3 (lay t) (row t r) k)) (m ((c : Thread nD τ).loc main_arg3) (ix3 (lay t) (row t r) k)) (m ((c : Thread nD τ).loc main_arg4) (ix3 (lay t) (row t r) k)) (both (m ((c : Thread nD τ).loc main_arg1)) (m ((c : Thread nD τ).loc main_arg2)) (lay t) (row t r) k) := by
  unfold out0_6
  rw [View.canon_unit_zero (S := S1x256x640) (off := ![0, 0, 0]) (by funext a; fin_cases a <;> rfl)]
  simp only [View.ld_unit_zero (S := S1x256x640) (off := ![0, 0, 0]) (by funext a; fin_cases a <;> rfl),
    View.ld_unit_zero (S := S256x640) (off := ![0, 0]) (by funext a; fin_cases a <;> rfl)]
  refine (pay6_at _ _ _ _ _ _ _ _).trans ?_
  rw [blk0_at, blk1_at, blk2_at, both_at]

theorem emb6 (t : Fin cfg0.N) (r : Fin 256) (k : Fin 640) :
    (win0_6.blk t).view.emb (ix3 0 r k : S1x256x640.Idx) = (ix3 (lay t) (row t r) k : S2x1024x640.Idx) := by
  blk_ext [idx6 t, lay, row]

theorem arr6 : (dats m 0 c).arrAt 6 cfg0.N = Gd (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have q : (y : S1x256x640.Idx) = ix3 0 (y 1) (y 2) := by
    ext a; fin_cases a
    · have h0 : (y 0).val < 1 := (y 0).isLt
      show (y 0).val = 0
      omega
    · rfl
    · rfl
  rw [q]
  refine (out6_at m c t (y 1) (y 2)).trans ?_
  exact (congrArg (Gd (m ((c : Thread nD τ).loc main_arg0)) (m ((c : Thread nD τ).loc main_arg1)) (m ((c : Thread nD τ).loc main_arg2)) (m ((c : Thread nD τ).loc main_arg3)) (m ((c : Thread nD τ).loc main_arg4))) (emb6 t (y 1) (y 2))).symm

theorem out7_at (t : Fin cfg0.N) (r : Fin 256) (k : Fin 640) :
    out0_7 (F := Ideal) (grid0.coords t) (iblk m c 0 t) (iblk m c 1 t) (iblk m c 2 t) (iblk m c 3 t) (iblk m c 4 t) (ix3 0 r k) =
      mean (m ((c : Thread nD τ).loc main_arg3) (ix3 (lay t) (row t r) k)) (both (m ((c : Thread nD τ).loc main_arg1)) (m ((c : Thread nD τ).loc main_arg2)) (lay t) (row t r) k) := by
  unfold out0_7
  rw [View.canon_unit_zero (S := S1x256x640) (off := ![0, 0, 0]) (by funext a; fin_cases a <;> rfl)]
  simp only [View.ld_unit_zero (S := S1x256x640) (off := ![0, 0, 0]) (by funext a; fin_cases a <;> rfl),
    View.ld_unit_zero (S := S256x640) (off := ![0, 0]) (by funext a; fin_cases a <;> rfl)]
  refine (pay2_at _ _ _).trans ((pay7_at _ _ _ _ _ _).trans ?_)
  rw [blk1_at, both_at]

theorem emb7 (t : Fin cfg0.N) (r : Fin 256) (k : Fin 640) :
    (win0_7.blk t).view.emb (ix3 0 r k : S1x256x640.Idx) = (ix3 (lay t) (row t r) k : S2x1024x640.Idx) := by
  blk_ext [idx7 t, lay, row]

theorem arr7 : (dats m 0 c).arrAt 7 cfg0.N = Gm (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have q : (y : S1x256x640.Idx) = ix3 0 (y 1) (y 2) := by
    ext a; fin_cases a
    · have h0 : (y 0).val < 1 := (y 0).isLt
      show (y 0).val = 0
      omega
    · rfl
    · rfl
  rw [q]
  refine (out7_at m c t (y 1) (y 2)).trans ?_
  exact (congrArg (Gm (m ((c : Thread nD τ).loc main_arg1)) (m ((c : Thread nD τ).loc main_arg2)) (m ((c : Thread nD τ).loc main_arg3))) (emb7 t (y 1) (y 2))).symm

theorem out8_at (t : Fin cfg0.N) (r : Fin 256) (k : Fin 640) :
    out0_8 (F := Ideal) (grid0.coords t) (iblk m c 0 t) (iblk m c 1 t) (iblk m c 2 t) (iblk m c 3 t) (iblk m c 4 t) (ix3 0 r k) =
      square (m ((c : Thread nD τ).loc main_arg4) (ix3 (lay t) (row t r) k)) (both (m ((c : Thread nD τ).loc main_arg1)) (m ((c : Thread nD τ).loc main_arg2)) (lay t) (row t r) k) := by
  unfold out0_8
  rw [View.canon_unit_zero (S := S1x256x640) (off := ![0, 0, 0]) (by funext a; fin_cases a <;> rfl)]
  simp only [View.ld_unit_zero (S := S1x256x640) (off := ![0, 0, 0]) (by funext a; fin_cases a <;> rfl),
    View.ld_unit_zero (S := S256x640) (off := ![0, 0]) (by funext a; fin_cases a <;> rfl)]
  refine (pay3_at _ _ _).trans ((pay8_at _ _ _ _ _ _).trans ?_)
  rw [blk2_at, both_at]

theorem emb8 (t : Fin cfg0.N) (r : Fin 256) (k : Fin 640) :
    (win0_8.blk t).view.emb (ix3 0 r k : S1x256x640.Idx) = (ix3 (lay t) (row t r) k : S2x1024x640.Idx) := by
  blk_ext [idx8 t, lay, row]

theorem arr8 : (dats m 0 c).arrAt 8 cfg0.N = Gv (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  have q : (y : S1x256x640.Idx) = ix3 0 (y 1) (y 2) := by
    ext a; fin_cases a
    · have h0 : (y 0).val < 1 := (y 0).isLt
      show (y 0).val = 0
      omega
    · rfl
    · rfl
  rw [q]
  refine (out8_at m c t (y 1) (y 2)).trans ?_
  exact (congrArg (Gv (m ((c : Thread nD τ).loc main_arg1)) (m ((c : Thread nD τ).loc main_arg2)) (m ((c : Thread nD τ).loc main_arg4))) (emb8 t (y 1) (y 2))).symm

end Cert.Kernel17Ideal.Blk

namespace Cert.AdamIn

open Idealize.ShloMosaic Idealize.ShloMosaic.TcCoe Idealize.SL.Sem
open Cert.Kernel17Ideal.Blk (mean square change both Gg Gm Gv Gd)

section
open Cert.Reference17Ideal Cert.Reference17Ideal.Read

theorem v2_at0 (x1 x2 : S1024x640.Idx → EReal) (r : Fin 1024) (k : Fin 640) :
    val_main_v2 (F := Ideal) x1 x2 (ix3 0 r k) = x1 (ix2 r k) := by
  unfold val_main_v2
  refine (concatenate_pair_apply_left (t := S2x1024x640) (s₁ := S1x1024x640) (s₂ := S1x1024x640) 0 _ _ _ _ rfl (ix3 (0 : Fin 1) r k)
    (fun b => match b with | ⟨0, _⟩ => rfl | ⟨1, _⟩ => rfl | ⟨2, _⟩ => rfl)).trans ?_
  pointwise [val_main_v0]

theorem v2_at1 (x1 x2 : S1024x640.Idx → EReal) (r : Fin 1024) (k : Fin 640) :
    val_main_v2 (F := Ideal) x1 x2 (ix3 1 r k) = x2 (ix2 r k) := by
  unfold val_main_v2
  refine (concatenate_pair_apply_right (t := S2x1024x640) (s₁ := S1x1024x640) (s₂ := S1x1024x640) 0 _ _ _ _ rfl rfl (ix3 (0 : Fin 1) r k)
    (fun b => match b with | ⟨0, _⟩ => fun h => absurd rfl h | ⟨1, _⟩ => fun _ => rfl | ⟨2, _⟩ => fun _ => rfl) rfl).trans ?_
  pointwise [val_main_v1]

theorem v2_at (x1 x2 : S1024x640.Idx → EReal) (l : Fin 2) (r : Fin 1024) (k : Fin 640) :
    val_main_v2 (F := Ideal) x1 x2 (ix3 l r k) = both x1 x2 l r k := by
  match l with
  | ⟨0, _⟩ => exact v2_at0 x1 x2 r k
  | ⟨1, _⟩ => exact v2_at1 x1 x2 r k

theorem v7_at (x1 x2 : S1024x640.Idx → EReal) (x3 : S2x1024x640.Idx → EReal) (l : Fin 2) (r : Fin 1024) (k : Fin 640) :
    val_main_v7 (F := Ideal) x1 x2 x3 (ix3 l r k) = mean (x3 (ix3 l r k)) (both x1 x2 l r k) := by
  pointwise [val_main_v7, val_main_v6, val_main_v5, val_main_v4, val_main_v3, v2_at]
  rfl

theorem v13_at (x1 x2 : S1024x640.Idx → EReal) (x3 : S2x1024x640.Idx → EReal) (l : Fin 2) (r : Fin 1024) (k : Fin 640) :
    val_main_v13 (F := Ideal) x1 x2 x3 (ix3 l r k) = square (x3 (ix3 l r k)) (both x1 x2 l r k) := by
  pointwise [val_main_v13, val_main_v12, val_main_v11, val_main_v10, val_main_v9, val_main_v8, v2_at]
  rfl

theorem v26_at (x0 : S2x1024x640.Idx → EReal) (x1 x2 : S1024x640.Idx → EReal) (x3 x4 : S2x1024x640.Idx → EReal) (l : Fin 2) (r : Fin 1024) (k : Fin 640) :
    val_main_v26 (F := Ideal) x0 x1 x2 x3 x4 (ix3 l r k) =
      change (x0 (ix3 l r k)) (x3 (ix3 l r k)) (x4 (ix3 l r k)) (both x1 x2 l r k) := by
  pointwise [val_main_v26, val_main_v25, val_main_v24, val_main_v23, val_main_v22, val_main_v21, val_main_v20, val_main_v19, val_main_v18,
    val_main_v17, val_main_v16, val_main_v15, val_main_v14, v7_at, v13_at]
  rfl

theorem every (y : S2x1024x640.Idx) : y = ix3 (y 0) (y 1) (y 2) := by ext a; fin_cases a <;> rfl

theorem ref2 (x1 x2 : S1024x640.Idx → EReal) : val_main_v2 (F := Ideal) x1 x2 = Gg x1 x2 := by
  funext y
  exact (congrArg _ (every y)).trans (v2_at x1 x2 (y 0) (y 1) (y 2))

theorem ref7 (x1 x2 : S1024x640.Idx → EReal) (x3 : S2x1024x640.Idx → EReal) : val_main_v7 (F := Ideal) x1 x2 x3 = Gm x1 x2 x3 := by
  funext y
  exact (congrArg _ (every y)).trans (v7_at x1 x2 x3 (y 0) (y 1) (y 2))

theorem ref13 (x1 x2 : S1024x640.Idx → EReal) (x4 : S2x1024x640.Idx → EReal) : val_main_v13 (F := Ideal) x1 x2 x4 = Gv x1 x2 x4 := by
  funext y
  exact (congrArg _ (every y)).trans (v13_at x1 x2 x4 (y 0) (y 1) (y 2))

theorem ref26 (x0 : S2x1024x640.Idx → EReal) (x1 x2 : S1024x640.Idx → EReal) (x3 x4 : S2x1024x640.Idx → EReal) :
    val_main_v26 (F := Ideal) x0 x1 x2 x3 x4 = Gd x0 x1 x2 x3 x4 := by
  funext y
  exact (congrArg _ (every y)).trans (v26_at x0 x1 x2 x3 x4 (y 0) (y 1) (y 2))

end

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono (fun r h => ⟨fun c => (h c).2.2.2.2, Idealize.ShloMosaic.sem_eq_zero_of_no_sems (by decide) r.2⟩)
    (Cert.Reference17Ideal.Value.run (F := Ideal) m ρ)

theorem algebraic : Cert.algebraic_Kernel17Ideal_Reference17Ideal := by
  intro m ρ m' ρ' _ hagree
  refine ⟨fun c => Gg (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)),
    fun c => Gd (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))
      (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)),
    fun c => Gm (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))
      (m ((c.tc : Thread Cert.Kernel17Ideal.nD Cert.Kernel17Ideal.τ).loc Cert.Kernel17Ideal.main_arg3)),
    fun c => Gv (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))
      (m ((c.tc : Thread Cert.Kernel17Ideal.nD Cert.Kernel17Ideal.τ).loc Cert.Kernel17Ideal.main_arg4)), ?_, ?_⟩
  · refine (θ_run Cert.Kernel17Ideal.defs _ _).mono (fun r h c => ?_) (Cert.Kernel17Ideal.Value.run_blocks m ρ)
    obtain ⟨h5, h6, h7, h8, h⟩ := h c
    exact ⟨h5.trans (Cert.Kernel17Ideal.Blk.arr5 m c), h6.trans (Cert.Kernel17Ideal.Blk.arr6 m c),
      h7.trans (Cert.Kernel17Ideal.Blk.arr7 m c), h8.trans (Cert.Kernel17Ideal.Blk.arr8 m c), h⟩
  · refine (θ_run Cert.Reference17Ideal.defs _ _).mono (fun r h c => ?_) (Cert.Reference17Ideal.Value.run (F := Ideal) m' ρ')
    obtain ⟨h5, h6, h7, h8, h⟩ := h c
    obtain ⟨a0, a1, a2, a3, a4⟩ := hagree c
    refine ⟨h5.trans ((Cert.Reference17Ideal.Read.val_main_v2_eq _ _).trans ((ref2 _ _).trans ?_)),
      h6.trans ((Cert.Reference17Ideal.Read.val_main_v26_eq _ _ _ _ _).trans ((ref26 _ _ _ _ _).trans ?_)),
      h7.trans ((Cert.Reference17Ideal.Read.val_main_v7_eq _ _ _).trans ((ref7 _ _ _).trans ?_)),
      h8.trans ((Cert.Reference17Ideal.Read.val_main_v13_eq _ _ _).trans ((ref13 _ _ _).trans ?_)), h⟩
    · rw [a1, a2]
    · rw [a0, a1, a2, a3, a4]
    · rw [a1, a2, a3]
    · rw [a1, a2, a4]

end Cert.AdamIn

end

end
-- ==== Proof.AdamDown.lean ====
module

public import proofs.«01_k».proof.Proof.Gen.Kernel18Ideal.Value
public import proofs.«01_k».proof.Proof.Gen.Reference18Ideal.Read
public import proofs.«01_k».proof.Proof.Gen.Kernel18.Frame
public import proofs.«01_k».proof.Proof.Adam

@[expose] public section

/-! The optimiser's step of the down projection's weight, both layers in one call, a gradient's column halves given apart. -/

set_option maxRecDepth 16384

noncomputable section

namespace Cert.Kernel18Ideal.Blk

open Cert.Kernel15Ideal.Blk (mean square change)
open Cert.Kernel18Ideal Cert.Kernel18Ideal.Gen Idealize.ShloMosaic Idealize.ShloMosaic.TcCoe Idealize.SL.Sem

/-- A gradient whose left and right halves of the columns are given apart. -/
def halves (p : S2x1024x512.Idx → EReal) (r : Fin 1024) (k : Fin 1024) : EReal :=
  if h : k.val < 512 then p (ix3 0 r ⟨k.val, h⟩) else p (ix3 1 r ⟨k.val - 512, by omega⟩)

/-- The two layers' gradients, one above the other. -/
def both (p q : S2x1024x512.Idx → EReal) (l : Fin 2) (r : Fin 1024) (k : Fin 1024) : EReal := if l.val = 0 then halves p r k else halves q r k

/-- The four arrays the call writes. -/
def Gg (p q : S2x1024x512.Idx → EReal) : S2x1024x1024.Idx → EReal := fun y => both p q (y 0) (y 1) (y 2)
def Gm (p q : S2x1024x512.Idx → EReal) (a : S2x1024x1024.Idx → EReal) : S2x1024x1024.Idx → EReal :=
  fun y => mean (a (ix3 (y 0) (y 1) (y 2))) (both p q (y 0) (y 1) (y 2))
def Gv (p q : S2x1024x512.Idx → EReal) (b : S2x1024x1024.Idx → EReal) : S2x1024x1024.Idx → EReal :=
  fun y => square (b (ix3 (y 0) (y 1) (y 2))) (both p q (y 0) (y 1) (y 2))
def Gd (w : S2x1024x1024.Idx → EReal) (p q : S2x1024x512.Idx → EReal) (a b : S2x1024x1024.Idx → EReal) : S2x1024x1024.Idx → EReal :=
  fun y => change (w (ix3 (y 0) (y 1) (y 2))) (a (ix3 (y 0) (y 1) (y 2))) (b (ix3 (y 0) (y 1) (y 2))) (both p q (y 0) (y 1) (y 2))

/-- Two blocks side by side. -/
def wide (u v : Vec Ideal S1x256x512 .f32) : FVec Ideal S256x1024 .f32 :=
  concatenate S256x1024 1 [⟨S256x512, shapeCast S256x512 u shapeCasts_S1x256x512_S256x512⟩, ⟨S256x512, shapeCast S256x512 v shapeCasts_S1x256x512_S256x512⟩]
    concatenates_S256x512_S256x512_S256x1024_d1

theorem cast_at (u : Vec Ideal S1x256x512 .f32) (r : Fin 256) (k : Fin 512) :
    (shapeCast S256x512 u shapeCasts_S1x256x512_S256x512 : FVec Ideal S256x512 .f32) (ix2 r k) = u (ix3 0 r k) := by
  pointwise []

theorem wide_left (u v : Vec Ideal S1x256x512 .f32) (r : Fin 256) (k : Fin 1024) (h : k.val < 512) :
    wide u v (ix2 r k) = u (ix3 0 r ⟨k.val, h⟩) := by
  unfold wide
  refine (concatenate_pair_apply_left (t := S256x1024) (s₁ := S256x512) (s₂ := S256x512) 1 _ _ _ _ rfl (ix2 r (⟨k.val, h⟩ : Fin 512))
    (fun b => match b with | ⟨0, _⟩ => rfl | ⟨1, _⟩ => rfl)).trans ?_
  exact cast_at u r _

theorem wide_right (u v : Vec Ideal S1x256x512 .f32) (r : Fin 256) (k : Fin 1024) (h : ¬ k.val < 512) :
    wide u v (ix2 r k) = v (ix3 0 r ⟨k.val - 512, by omega⟩) := by
  unfold wide
  refine (concatenate_pair_apply_right (t := S256x1024) (s₁ := S256x512) (s₂ := S256x512) 1 _ _ _ (ix2 r k) rfl rfl (ix2 r (⟨k.val - 512, by omega⟩ : Fin 512))
    (fun b => match b with | ⟨0, _⟩ => fun _ => rfl | ⟨1, _⟩ => fun h => absurd rfl h) (show k.val - 512 + 512 = k.val by omega)).trans ?_
  exact cast_at v r _

/-- A half of a block of two halves. -/
theorem half_at (x : S2x256x512.Idx → EReal) (o : ℕ) (ho : o < 2) (inb : ∀ a, (![o, 0, 0] : Fin 3 → ℕ) a + S1x256x512.size a ≤ S2x256x512.size a)
    (r : Fin 256) (k : Fin 512) :
    View.ld (Val := Elt Ideal) (e' := .f32) x (Rect.unit (s := S2x256x512) ![o, 0, 0] S1x256x512.size inb) (ix3 0 r k) = x (ix3 ⟨o, ho⟩ r k) := by
  refine congrArg x ?_
  ext a; fin_cases a
  · show o + 1 * 0 = o
    omega
  · show 0 + 1 * r.val = r.val
    omega
  · show 0 + 1 * k.val = k.val
    omega

theorem pay8_at (i : grid0.Coords) (v0 v2 v6 v8 : Vec Ideal S1x256x512 .f32) (x1 : Vec Ideal S1x256x1024 .f32) (r : Fin 256) (k : Fin 1024) :
    k0_pay8 i v0 v2 v6 v8 x1 (ix2 r k) = mean (x1 (ix3 0 r k)) (k0_pay5 i v0 v2 v6 v8 (ix2 r k)) := by
  pointwise [k0_pay8]
  rfl

theorem pay4_at (i : grid0.Coords) (v0 v2 v6 v8 : Vec Ideal S1x256x512 .f32) (x2 : Vec Ideal S1x256x1024 .f32) (r : Fin 256) (k : Fin 1024) :
    k0_pay4 (k0_pay9 x2) (k0_pay10 i v0 v2 v6 v8) (ix3 0 r k) = square (x2 (ix3 0 r k)) (k0_pay5 i v0 v2 v6 v8 (ix2 r k)) := by
  pointwise [k0_pay4, k0_pay1, k0_pay9, k0_pay10]
  rfl

theorem pay2_at (i : grid0.Coords) (v0 v2 v6 v8 : Vec Ideal S1x256x512 .f32) (x0 x1 x2 : Vec Ideal S1x256x1024 .f32) (r : Fin 256) (k : Fin 1024) :
    k0_pay2 (k0_pay7 x0) (k0_pay8 i v0 v2 v6 v8 x1) (k0_pay9 x2) (k0_pay10 i v0 v2 v6 v8) (ix3 0 r k) =
      change (x0 (ix3 0 r k)) (x1 (ix3 0 r k)) (x2 (ix3 0 r k)) (k0_pay5 i v0 v2 v6 v8 (ix2 r k)) := by
  pointwise [k0_pay2, k0_pay1, k0_pay7, k0_pay9, k0_pay10, pay8_at]
  rfl

theorem pay6_at (i : grid0.Coords) (v0 v2 v6 v8 : Vec Ideal S1x256x512 .f32) (r : Fin 256) (k : Fin 1024) :
    k0_pay6 i v0 v2 v6 v8 (ix3 0 r k) = k0_pay5 i v0 v2 v6 v8 (ix2 r k) := by
  pointwise [k0_pay6]

theorem pay3_at (a : FVec Ideal S256x1024 .f32) (r : Fin 256) (k : Fin 1024) : k0_pay3 (F := Ideal) a (ix3 0 r k) = a (ix2 r k) := by
  pointwise [k0_pay3]

theorem layer_of : ∀ t : Fin grid0.N, (grid0.coords t 0).val = t.val / 4 := by decide +kernel

theorem pay5_at (t : Fin grid0.N) (v0 v2 v6 v8 : Vec Ideal S1x256x512 .f32) :
    k0_pay5 (F := Ideal) (grid0.coords t) v0 v2 v6 v8 = if t.val < 4 then wide v0 v2 else wide v6 v8 := by
  have ht : t.val < 8 := t.isLt
  show Scalar.select (Scalar.cmpi .eq (BitVec.ofNat 32 (grid0.coords t 0).val) 1#32) (wide v6 v8) (wide v0 v2) = _
  rw [layer_of t]
  by_cases h : t.val < 4
  · rw [if_pos h, show t.val / 4 = 0 by omega]
    rfl
  · rw [if_neg h, show t.val / 4 = 1 by omega]
    rfl

variable (m : (ℓ : Loc nD τ sig) → Buf (Elt Ideal) ℓ) (c : Dev nD)

/-- The layer of a block, and the array's row that a block's row `r` is. -/
def lay (t : Fin cfg0.N) : Fin 2 := ⟨t.val / 4, by have : t.val < 8 := t.isLt; omega⟩
def row (t : Fin cfg0.N) (r : Fin 256) : Fin 1024 := ⟨256 * (t.val % 4) + r.val, by omega⟩

theorem idx0 : ∀ t : Fin grid0.N, win0_0.index t = ![t.val / 4, t.val % 4, 0] := by decide +kernel
theorem idx1 : ∀ t : Fin grid0.N, win0_1.index t = ![t.val / 4, t.val % 4, 0] := by decide +kernel
theorem idx2 : ∀ t : Fin grid0.N, win0_2.index t = ![t.val / 4, t.val % 4, 0] := by decide +kernel
theorem idx5 : ∀ t : Fin grid0.N, win0_5.index t = ![t.val / 4, t.val % 4, 0] := by decide +kernel
theorem idx6 : ∀ t : Fin grid0.N, win0_6.index t = ![t.val / 4, t.val % 4, 0] := by decide +kernel
theorem idx7 : ∀ t : Fin grid0.N, win0_7.index t = ![t.val / 4, t.val % 4, 0] := by decide +kernel
theorem idx8 : ∀ t : Fin grid0.N, win0_8.index t = ![t.val / 4, t.val % 4, 0] := by decide +kernel
theorem idx3 : ∀ t : Fin grid0.N, t.val < 4 → win0_3.index t = ![0, t.val % 4, 0] := by decide +kernel
theorem idx4 : ∀ t : Fin grid0.N, ¬ t.val < 4 → win0_4.index t = ![0, t.val % 4, 0] := by decide +kernel

theorem blk0_at (t : Fin cfg0.N) (r : Fin 256) (k : Fin 1024) :
    iblk m c 0 t (ix3 0 r k) = m ((c : Thread nD τ).loc main_arg0) (ix3 (lay t) (row t r) k) := by
  have e : iblk m c 0 t (ix3 0 r k) = V m c main_arg0 (ix3 (lay t) (row t r) k) := by
    blk_ext [iblk, idx0 t, lay, row]
  exact e.trans (congrFun (V_main_arg0 m c) _)

theorem blk1_at (t : Fin cfg0.N) (r : Fin 256) (k : Fin 1024) :
    iblk m c 1 t (ix3 0 r k) = m ((c : Thread nD τ).loc main_arg3) (ix3 (lay t) (row t r) k) := by
  have e : iblk m c 1 t (ix3 0 r k) = V m c main_arg3 (ix3 (lay t) (row t r) k) := by
    blk_ext [iblk, idx1 t, lay, row]
  exact e.trans (congrFun (V_main_arg3 m c) _)

theorem blk2_at (t : Fin cfg0.N) (r : Fin 256) (k : Fin 1024) :
    iblk m c 2 t (ix3 0 r k) = m ((c : Thread nD τ).loc main_arg4) (ix3 (lay t) (row t r) k) := by
  have e : iblk m c 2 t (ix3 0 r k) = V m c main_arg4 (ix3 (lay t) (row t r) k) := by
    blk_ext [iblk, idx2 t, lay, row]
  exact e.trans (congrFun (V_main_arg4 m c) _)

theorem blk3_at (t : Fin cfg0.N) (h : t.val < 4) (j : Fin 2) (r : Fin 256) (k : Fin 512) :
    iblk m c 3 t (ix3 j r k) = m ((c : Thread nD τ).loc main_arg1) (ix3 j (row t r) k) := by
  have e : iblk m c 3 t (ix3 j r k) = V m c main_arg1 (ix3 j (row t r) k) := by
    blk_ext [iblk, idx3 t h, row]
  exact e.trans (congrFun (V_main_arg1 m c) _)

theorem blk4_at (t : Fin cfg0.N) (h : ¬ t.val < 4) (j : Fin 2) (r : Fin 256) (k : Fin 512) :
    iblk m c 4 t (ix3 j r k) = m ((c : Thread nD τ).loc main_arg2) (ix3 j (row t r) k) := by
  have e : iblk m c 4 t (ix3 j r k) = V m c main_arg2 (ix3 j (row t r) k) := by
    blk_ext [iblk, idx4 t h, row]
  exact e.trans (congrFun (V_main_arg2 m c) _)

/-- A block's gradient is its layer's. -/
theorem both_at (t : Fin cfg0.N) (r : Fin 256) (k : Fin 1024) :
    k0_pay5 (F := Ideal) (grid0.coords t) (View.ld (iblk m c 3 t) r0_0) (View.ld (iblk m c 3 t) r0_1) (View.ld (iblk m c 4 t) r0_0) (View.ld (iblk m c 4 t) r0_1) (ix2 r k) =
      both (m ((c : Thread nD τ).loc main_arg1)) (m ((c : Thread nD τ).loc main_arg2)) (lay t) (row t r) k := by
  have ht : t.val < 8 := t.isLt
  unfold both
  by_cases h : t.val < 4
  · refine (congrFun ((pay5_at t _ _ _ _).trans (if_pos h)) _).trans (Eq.trans ?_ (if_pos (show t.val / 4 = 0 by omega)).symm)
    unfold halves
    by_cases hk : k.val < 512
    · refine (wide_left _ _ r k hk).trans ?_
      rw [dif_pos hk]
      exact (half_at (iblk m c 3 t) 0 (by omega) _ r _).trans (blk3_at m c t h 0 r _)
    · refine (wide_right _ _ r k hk).trans ?_
      rw [dif_neg hk]
      exact (half_at (iblk m c 3 t) 1 (by omega) _ r _).trans (blk3_at m c t h 1 r _)
  · refine (congrFun ((pay5_at t _ _ _ _).trans (if_neg h)) _).trans (Eq.trans ?_ (if_neg (show ¬ t.val / 4 = 0 by omega)).symm)
    unfold halves
    by_cases hk : k.val < 512
    · refine (wide_left _ _ r k hk).trans ?_
      rw [dif_pos hk]
      exact (half_at (iblk m c 4 t) 0 (by omega) _ r _).trans (blk4_at m c t h 0 r _)
    · refine (wide_right _ _ r k hk).trans ?_
      rw [dif_neg hk]
      exact (half_at (iblk m c 4 t) 1 (by omega) _ r _).trans (blk4_at m c t h 1 r _)

theorem out5_at (t : Fin cfg0.N) (r : Fin 256) (k : Fin 1024) :
    out0_5 (F := Ideal) (grid0.coords t) (iblk m c 0 t) (iblk m c 1 t) (iblk m c 2 t) (iblk m c 3 t) (iblk m c 4 t) (ix3 0 r k) =
      (both (m ((c : Thread nD τ).loc main_arg1)) (m ((c : Thread nD τ).loc main_arg2)) (lay t) (row t r) k) := by
  unfold out0_5
  rw [View.canon_unit_zero (S := S1x256x1024) (off := ![0, 0, 0]) (by funext a; fin_cases a <;> rfl)]
  exact (pay6_at _ _ _ _ _ r k).trans (both_at m c t r k)

theorem emb5 (t : Fin cfg0.N) (r : Fin 256) (k : Fin 1024) :
    (win0_5.blk t).view.emb (ix3 0 r k : S1x256x1024.Idx) = (ix3 (lay t) (row t r) k : S2x1024x1024.Idx) := by
  blk_ext [idx5 t, lay, row]

theorem arr5 : (dats m 0 c).arrAt 5 cfg0.N = Gg (m ((c : Thread nD τ).loc main_arg1)) (m ((c : Thread nD τ).loc main_arg2)) := by
  refine (dats m 0 c).arrAt_eq_of_covers 5 _ (by decide +kernel) fun t hf y => ?_
  blk_simp
  rw [after0_5]
  have q : (y : S1x256x1024.Idx) = ix3 0 (y 1) (y 2) := by
    ext a; fin_cases a
    · have h0 : (y 0).val < 1 := (y 0).isLt
      show (y 0).val = 0
      omega
    · rfl
    · rfl
  rw [q]
  refine (out5_at m c t (y 1) (y 2)).trans ?_
  exact (congrArg (Gg (m ((c : Thread nD τ).loc main_arg1)) (m ((c : Thread nD τ).loc main_arg2))) (emb5 t (y 1) (y 2))).symm

theorem out6_at (t : Fin cfg0.N) (r : Fin 256) (k : Fin 1024) :
    out0_6 (F := Ideal) (grid0.coords t) (iblk m c 0 t) (iblk m c 1 t) (iblk m c 2 t) (iblk m c 3 t) (iblk m c 4 t) (ix3 0 r k) =
      change (m ((c : Thread nD τ).loc main_arg0) (ix3 (lay t) (row t r) k)) (m ((c : Thread nD τ).loc main_arg3) (ix3 (lay t) (row t r) k)) (m ((c : Thread nD τ).loc main_arg4) (ix3 (lay t) (row t r) k)) (both (m ((c : Thread nD τ).loc main_arg1)) (m ((c : Thread nD τ).loc main_arg2)) (lay t) (row t r) k) := by
  unfold out0_6 k0_pay11 k0_pay12 k0_pay13
  rw [View.canon_unit_zero (S := S1x256x1024) (off := ![0, 0, 0]) (by funext a; fin_cases a <;> rfl)]
  simp only [View.ld_unit_zero (S := S1x256x1024) (off := ![0, 0, 0]) (by funext a; fin_cases a <;> rfl)]
  refine (pay2_at _ _ _ _ _ _ _ _ r k).trans ?_
  rw [blk0_at, blk1_at, blk2_at]
  exact congrArg (change _ _ _) (both_at m c t r k)

theorem emb6 (t : Fin cfg0.N) (r : Fin 256) (k : Fin 1024) :
    (win0_6.blk t).view.emb (ix3 0 r k : S1x256x1024.Idx) = (ix3 (lay t) (row t r) k : S2x1024x1024.Idx) := by
  blk_ext [idx6 t, lay, row]

theorem arr6 : (dats m 0 c).arrAt 6 cfg0.N = Gd (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have q : (y : S1x256x1024.Idx) = ix3 0 (y 1) (y 2) := by
    ext a; fin_cases a
    · have h0 : (y 0).val < 1 := (y 0).isLt
      show (y 0).val = 0
      omega
    · rfl
    · rfl
  rw [q]
  refine (out6_at m c t (y 1) (y 2)).trans ?_
  exact (congrArg (Gd (m ((c : Thread nD τ).loc main_arg0)) (m ((c : Thread nD τ).loc main_arg1)) (m ((c : Thread nD τ).loc main_arg2)) (m ((c : Thread nD τ).loc main_arg3)) (m ((c : Thread nD τ).loc main_arg4))) (emb6 t (y 1) (y 2))).symm

theorem out7_at (t : Fin cfg0.N) (r : Fin 256) (k : Fin 1024) :
    out0_7 (F := Ideal) (grid0.coords t) (iblk m c 0 t) (iblk m c 1 t) (iblk m c 2 t) (iblk m c 3 t) (iblk m c 4 t) (ix3 0 r k) =
      mean (m ((c : Thread nD τ).loc main_arg3) (ix3 (lay t) (row t r) k)) (both (m ((c : Thread nD τ).loc main_arg1)) (m ((c : Thread nD τ).loc main_arg2)) (lay t) (row t r) k) := by
  unfold out0_7 k0_pay11
  rw [View.canon_unit_zero (S := S1x256x1024) (off := ![0, 0, 0]) (by funext a; fin_cases a <;> rfl)]
  simp only [View.ld_unit_zero (S := S1x256x1024) (off := ![0, 0, 0]) (by funext a; fin_cases a <;> rfl)]
  refine (pay3_at _ r k).trans ((pay8_at _ _ _ _ _ _ r k).trans ?_)
  rw [blk1_at]
  exact congrArg (mean _) (both_at m c t r k)

theorem emb7 (t : Fin cfg0.N) (r : Fin 256) (k : Fin 1024) :
    (win0_7.blk t).view.emb (ix3 0 r k : S1x256x1024.Idx) = (ix3 (lay t) (row t r) k : S2x1024x1024.Idx) := by
  blk_ext [idx7 t, lay, row]

theorem arr7 : (dats m 0 c).arrAt 7 cfg0.N = Gm (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have q : (y : S1x256x1024.Idx) = ix3 0 (y 1) (y 2) := by
    ext a; fin_cases a
    · have h0 : (y 0).val < 1 := (y 0).isLt
      show (y 0).val = 0
      omega
    · rfl
    · rfl
  rw [q]
  refine (out7_at m c t (y 1) (y 2)).trans ?_
  exact (congrArg (Gm (m ((c : Thread nD τ).loc main_arg1)) (m ((c : Thread nD τ).loc main_arg2)) (m ((c : Thread nD τ).loc main_arg3))) (emb7 t (y 1) (y 2))).symm

theorem out8_at (t : Fin cfg0.N) (r : Fin 256) (k : Fin 1024) :
    out0_8 (F := Ideal) (grid0.coords t) (iblk m c 0 t) (iblk m c 1 t) (iblk m c 2 t) (iblk m c 3 t) (iblk m c 4 t) (ix3 0 r k) =
      square (m ((c : Thread nD τ).loc main_arg4) (ix3 (lay t) (row t r) k)) (both (m ((c : Thread nD τ).loc main_arg1)) (m ((c : Thread nD τ).loc main_arg2)) (lay t) (row t r) k) := by
  unfold out0_8 k0_pay12 k0_pay13
  rw [View.canon_unit_zero (S := S1x256x1024) (off := ![0, 0, 0]) (by funext a; fin_cases a <;> rfl)]
  simp only [View.ld_unit_zero (S := S1x256x1024) (off := ![0, 0, 0]) (by funext a; fin_cases a <;> rfl)]
  refine (pay4_at _ _ _ _ _ _ r k).trans ?_
  rw [blk2_at]
  exact congrArg (square _) (both_at m c t r k)

theorem emb8 (t : Fin cfg0.N) (r : Fin 256) (k : Fin 1024) :
    (win0_8.blk t).view.emb (ix3 0 r k : S1x256x1024.Idx) = (ix3 (lay t) (row t r) k : S2x1024x1024.Idx) := by
  blk_ext [idx8 t, lay, row]

theorem arr8 : (dats m 0 c).arrAt 8 cfg0.N = Gv (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  have q : (y : S1x256x1024.Idx) = ix3 0 (y 1) (y 2) := by
    ext a; fin_cases a
    · have h0 : (y 0).val < 1 := (y 0).isLt
      show (y 0).val = 0
      omega
    · rfl
    · rfl
  rw [q]
  refine (out8_at m c t (y 1) (y 2)).trans ?_
  exact (congrArg (Gv (m ((c : Thread nD τ).loc main_arg1)) (m ((c : Thread nD τ).loc main_arg2)) (m ((c : Thread nD τ).loc main_arg4))) (emb8 t (y 1) (y 2))).symm

end Cert.Kernel18Ideal.Blk

namespace Cert.AdamDown

open Idealize.ShloMosaic Idealize.ShloMosaic.TcCoe Idealize.SL.Sem
open Cert.Kernel15Ideal.Blk (mean square change)
open Cert.Kernel18Ideal.Blk (halves both Gg Gm Gv Gd)

section
open Cert.Reference18Ideal Cert.Reference18Ideal.Read

theorem first_left (x1 : S2x1024x512.Idx → EReal) (r : Fin 1024) (k : Fin 512) : val_main_v1 (F := Ideal) x1 (ix2 r k) = x1 (ix3 0 r k) := by
  pointwise [val_main_v1, val_main_v0]

theorem first_right (x1 : S2x1024x512.Idx → EReal) (r : Fin 1024) (k : Fin 512) : val_main_v3 (F := Ideal) x1 (ix2 r k) = x1 (ix3 1 r k) := by
  pointwise [val_main_v3, val_main_v2]

theorem first_at (x1 : S2x1024x512.Idx → EReal) (r : Fin 1024) (k : Fin 1024) : val_main_v4 (F := Ideal) x1 (ix2 r k) = halves x1 r k := by
  unfold val_main_v4 halves
  by_cases hk : k.val < 512
  · rw [dif_pos hk]
    exact (concatenate_pair_apply_left (t := S1024x1024) (s₁ := S1024x512) (s₂ := S1024x512) 1 _ _ _ _ rfl (ix2 r (⟨k.val, hk⟩ : Fin 512))
      (fun b => match b with | ⟨0, _⟩ => rfl | ⟨1, _⟩ => rfl)).trans (first_left x1 r _)
  · rw [dif_neg hk]
    exact (concatenate_pair_apply_right (t := S1024x1024) (s₁ := S1024x512) (s₂ := S1024x512) 1 _ _ _ (ix2 r k) rfl rfl (ix2 r (⟨k.val - 512, by omega⟩ : Fin 512))
      (fun b => match b with | ⟨0, _⟩ => fun _ => rfl | ⟨1, _⟩ => fun h => absurd rfl h) (show k.val - 512 + 512 = k.val by omega)).trans (first_right x1 r _)

theorem second_left (x2 : S2x1024x512.Idx → EReal) (r : Fin 1024) (k : Fin 512) : val_main_v6 (F := Ideal) x2 (ix2 r k) = x2 (ix3 0 r k) := by
  pointwise [val_main_v6, val_main_v5]

theorem second_right (x2 : S2x1024x512.Idx → EReal) (r : Fin 1024) (k : Fin 512) : val_main_v8 (F := Ideal) x2 (ix2 r k) = x2 (ix3 1 r k) := by
  pointwise [val_main_v8, val_main_v7]

theorem second_at (x2 : S2x1024x512.Idx → EReal) (r : Fin 1024) (k : Fin 1024) : val_main_v9 (F := Ideal) x2 (ix2 r k) = halves x2 r k := by
  unfold val_main_v9 halves
  by_cases hk : k.val < 512
  · rw [dif_pos hk]
    exact (concatenate_pair_apply_left (t := S1024x1024) (s₁ := S1024x512) (s₂ := S1024x512) 1 _ _ _ _ rfl (ix2 r (⟨k.val, hk⟩ : Fin 512))
      (fun b => match b with | ⟨0, _⟩ => rfl | ⟨1, _⟩ => rfl)).trans (second_left x2 r _)
  · rw [dif_neg hk]
    exact (concatenate_pair_apply_right (t := S1024x1024) (s₁ := S1024x512) (s₂ := S1024x512) 1 _ _ _ (ix2 r k) rfl rfl (ix2 r (⟨k.val - 512, by omega⟩ : Fin 512))
      (fun b => match b with | ⟨0, _⟩ => fun _ => rfl | ⟨1, _⟩ => fun h => absurd rfl h) (show k.val - 512 + 512 = k.val by omega)).trans (second_right x2 r _)

theorem v2_at0 (x1 x2 : S2x1024x512.Idx → EReal) (r : Fin 1024) (k : Fin 1024) :
    val_main_v12 (F := Ideal) x1 x2 (ix3 0 r k) = halves x1 r k := by
  unfold val_main_v12
  refine (concatenate_pair_apply_left (t := S2x1024x1024) (s₁ := S1x1024x1024) (s₂ := S1x1024x1024) 0 _ _ _ _ rfl (ix3 (0 : Fin 1) r k)
    (fun b => match b with | ⟨0, _⟩ => rfl | ⟨1, _⟩ => rfl | ⟨2, _⟩ => rfl)).trans ?_
  pointwise [val_main_v10, first_at]

theorem v2_at1 (x1 x2 : S2x1024x512.Idx → EReal) (r : Fin 1024) (k : Fin 1024) :
    val_main_v12 (F := Ideal) x1 x2 (ix3 1 r k) = halves x2 r k := by
  unfold val_main_v12
  refine (concatenate_pair_apply_right (t := S2x1024x1024) (s₁ := S1x1024x1024) (s₂ := S1x1024x1024) 0 _ _ _ _ rfl rfl (ix3 (0 : Fin 1) r k)
    (fun b => match b with | ⟨0, _⟩ => fun h => absurd rfl h | ⟨1, _⟩ => fun _ => rfl | ⟨2, _⟩ => fun _ => rfl) rfl).trans ?_
  pointwise [val_main_v11, second_at]

theorem v2_at (x1 x2 : S2x1024x512.Idx → EReal) (l : Fin 2) (r : Fin 1024) (k : Fin 1024) :
    val_main_v12 (F := Ideal) x1 x2 (ix3 l r k) = both x1 x2 l r k := by
  match l with
  | ⟨0, _⟩ => exact v2_at0 x1 x2 r k
  | ⟨1, _⟩ => exact v2_at1 x1 x2 r k

theorem v7_at (x1 x2 : S2x1024x512.Idx → EReal) (x3 : S2x1024x1024.Idx → EReal) (l : Fin 2) (r : Fin 1024) (k : Fin 1024) :
    val_main_v17 (F := Ideal) x1 x2 x3 (ix3 l r k) = mean (x3 (ix3 l r k)) (both x1 x2 l r k) := by
  pointwise [val_main_v17, val_main_v16, val_main_v15, val_main_v14, val_main_v13, v2_at]
  rfl

theorem v13_at (x1 x2 : S2x1024x512.Idx → EReal) (x3 : S2x1024x1024.Idx → EReal) (l : Fin 2) (r : Fin 1024) (k : Fin 1024) :
    val_main_v23 (F := Ideal) x1 x2 x3 (ix3 l r k) = square (x3 (ix3 l r k)) (both x1 x2 l r k) := by
  pointwise [val_main_v23, val_main_v22, val_main_v21, val_main_v20, val_main_v19, val_main_v18, v2_at]
  rfl

theorem v26_at (x0 : S2x1024x1024.Idx → EReal) (x1 x2 : S2x1024x512.Idx → EReal) (x3 x4 : S2x1024x1024.Idx → EReal) (l : Fin 2) (r : Fin 1024) (k : Fin 1024) :
    val_main_v36 (F := Ideal) x0 x1 x2 x3 x4 (ix3 l r k) =
      change (x0 (ix3 l r k)) (x3 (ix3 l r k)) (x4 (ix3 l r k)) (both x1 x2 l r k) := by
  pointwise [val_main_v36, val_main_v35, val_main_v34, val_main_v33, val_main_v32, val_main_v31, val_main_v30, val_main_v29, val_main_v28,
    val_main_v27, val_main_v26, val_main_v25, val_main_v24, v7_at, v13_at]
  rfl

theorem every (y : S2x1024x1024.Idx) : y = ix3 (y 0) (y 1) (y 2) := by ext a; fin_cases a <;> rfl

theorem ref2 (x1 x2 : S2x1024x512.Idx → EReal) : val_main_v12 (F := Ideal) x1 x2 = Gg x1 x2 := by
  funext y
  exact (congrArg _ (every y)).trans (v2_at x1 x2 (y 0) (y 1) (y 2))

theorem ref7 (x1 x2 : S2x1024x512.Idx → EReal) (x3 : S2x1024x1024.Idx → EReal) : val_main_v17 (F := Ideal) x1 x2 x3 = Gm x1 x2 x3 := by
  funext y
  exact (congrArg _ (every y)).trans (v7_at x1 x2 x3 (y 0) (y 1) (y 2))

theorem ref13 (x1 x2 : S2x1024x512.Idx → EReal) (x4 : S2x1024x1024.Idx → EReal) : val_main_v23 (F := Ideal) x1 x2 x4 = Gv x1 x2 x4 := by
  funext y
  exact (congrArg _ (every y)).trans (v13_at x1 x2 x4 (y 0) (y 1) (y 2))

theorem ref26 (x0 : S2x1024x1024.Idx → EReal) (x1 x2 : S2x1024x512.Idx → EReal) (x3 x4 : S2x1024x1024.Idx → EReal) :
    val_main_v36 (F := Ideal) x0 x1 x2 x3 x4 = Gd x0 x1 x2 x3 x4 := by
  funext y
  exact (congrArg _ (every y)).trans (v26_at x0 x1 x2 x3 x4 (y 0) (y 1) (y 2))

end

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono (fun r h => ⟨fun c => (h c).2.2.2.2, Idealize.ShloMosaic.sem_eq_zero_of_no_sems (by decide) r.2⟩)
    (Cert.Reference18Ideal.Value.run (F := Ideal) m ρ)

theorem algebraic : Cert.algebraic_Kernel18Ideal_Reference18Ideal := by
  intro m ρ m' ρ' _ hagree
  refine ⟨fun c => Gg (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)),
    fun c => Gd (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))
      (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)),
    fun c => Gm (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))
      (m ((c.tc : Thread Cert.Kernel18Ideal.nD Cert.Kernel18Ideal.τ).loc Cert.Kernel18Ideal.main_arg3)),
    fun c => Gv (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))
      (m ((c.tc : Thread Cert.Kernel18Ideal.nD Cert.Kernel18Ideal.τ).loc Cert.Kernel18Ideal.main_arg4)), ?_, ?_⟩
  · refine (θ_run Cert.Kernel18Ideal.defs _ _).mono (fun r h c => ?_) (Cert.Kernel18Ideal.Value.run_blocks m ρ)
    obtain ⟨h5, h6, h7, h8, h⟩ := h c
    exact ⟨h5.trans (Cert.Kernel18Ideal.Blk.arr5 m c), h6.trans (Cert.Kernel18Ideal.Blk.arr6 m c),
      h7.trans (Cert.Kernel18Ideal.Blk.arr7 m c), h8.trans (Cert.Kernel18Ideal.Blk.arr8 m c), h⟩
  · refine (θ_run Cert.Reference18Ideal.defs _ _).mono (fun r h c => ?_) (Cert.Reference18Ideal.Value.run (F := Ideal) m' ρ')
    obtain ⟨h5, h6, h7, h8, h⟩ := h c
    obtain ⟨a0, a1, a2, a3, a4⟩ := hagree c
    refine ⟨h5.trans ((Cert.Reference18Ideal.Read.val_main_v12_eq _ _).trans ((ref2 _ _).trans ?_)),
      h6.trans ((Cert.Reference18Ideal.Read.val_main_v36_eq _ _).trans ((ref26 _ _ _ _ _).trans ?_)),
      h7.trans ((Cert.Reference18Ideal.Read.val_main_v17_eq _ _ _).trans ((ref7 _ _ _).trans ?_)),
      h8.trans ((Cert.Reference18Ideal.Read.val_main_v23_eq _ _ _).trans ((ref13 _ _ _).trans ?_)), h⟩
    · rw [a1, a2]
    · rw [a0, a1, a2, a3, a4]
    · rw [a1, a2, a3]
    · rw [a1, a2, a4]

end Cert.AdamDown

end

end
-- ==== Proof.AdamOut.lean ====
module

public import proofs.«01_k».proof.Proof.Gen.Kernel19Ideal.Value
public import proofs.«01_k».proof.Proof.Gen.Reference19Ideal.Read
public import proofs.«01_k».proof.Proof.Gen.Kernel19.Frame
public import proofs.«01_k».proof.Proof.Adam

@[expose] public section

/-! The optimiser's step of the output projection's weight, both layers in one call, a gradient's column halves given apart. -/

set_option maxRecDepth 16384

noncomputable section

namespace Cert.Kernel19Ideal.Blk

open Cert.Kernel15Ideal.Blk (mean square change)
open Cert.Kernel19Ideal Cert.Kernel19Ideal.Gen Idealize.ShloMosaic Idealize.ShloMosaic.TcCoe Idealize.SL.Sem

/-- A gradient whose left and right halves of the columns are given apart. -/
def halves (p : S2x256x512.Idx → EReal) (r : Fin 256) (k : Fin 1024) : EReal :=
  if h : k.val < 512 then p (ix3 0 r ⟨k.val, h⟩) else p (ix3 1 r ⟨k.val - 512, by omega⟩)

/-- The two layers' gradients, one above the other. -/
def both (p q : S2x256x512.Idx → EReal) (l : Fin 2) (r : Fin 256) (k : Fin 1024) : EReal := if l.val = 0 then halves p r k else halves q r k

/-- The four arrays the call writes. -/
def Gg (p q : S2x256x512.Idx → EReal) : S2x256x1024.Idx → EReal := fun y => both p q (y 0) (y 1) (y 2)
def Gm (p q : S2x256x512.Idx → EReal) (a : S2x256x1024.Idx → EReal) : S2x256x1024.Idx → EReal :=
  fun y => mean (a (ix3 (y 0) (y 1) (y 2))) (both p q (y 0) (y 1) (y 2))
def Gv (p q : S2x256x512.Idx → EReal) (b : S2x256x1024.Idx → EReal) : S2x256x1024.Idx → EReal :=
  fun y => square (b (ix3 (y 0) (y 1) (y 2))) (both p q (y 0) (y 1) (y 2))
def Gd (w : S2x256x1024.Idx → EReal) (p q : S2x256x512.Idx → EReal) (a b : S2x256x1024.Idx → EReal) : S2x256x1024.Idx → EReal :=
  fun y => change (w (ix3 (y 0) (y 1) (y 2))) (a (ix3 (y 0) (y 1) (y 2))) (b (ix3 (y 0) (y 1) (y 2))) (both p q (y 0) (y 1) (y 2))

/-- Two blocks side by side. -/
def wide (u v : Vec Ideal S1x256x512 .f32) : FVec Ideal S256x1024 .f32 :=
  concatenate S256x1024 1 [⟨S256x512, shapeCast S256x512 u shapeCasts_S1x256x512_S256x512⟩, ⟨S256x512, shapeCast S256x512 v shapeCasts_S1x256x512_S256x512⟩]
    concatenates_S256x512_S256x512_S256x1024_d1

theorem cast_at (u : Vec Ideal S1x256x512 .f32) (r : Fin 256) (k : Fin 512) :
    (shapeCast S256x512 u shapeCasts_S1x256x512_S256x512 : FVec Ideal S256x512 .f32) (ix2 r k) = u (ix3 0 r k) := by
  pointwise []

theorem wide_left (u v : Vec Ideal S1x256x512 .f32) (r : Fin 256) (k : Fin 1024) (h : k.val < 512) :
    wide u v (ix2 r k) = u (ix3 0 r ⟨k.val, h⟩) := by
  unfold wide
  refine (concatenate_pair_apply_left (t := S256x1024) (s₁ := S256x512) (s₂ := S256x512) 1 _ _ _ _ rfl (ix2 r (⟨k.val, h⟩ : Fin 512))
    (fun b => match b with | ⟨0, _⟩ => rfl | ⟨1, _⟩ => rfl)).trans ?_
  exact cast_at u r _

theorem wide_right (u v : Vec Ideal S1x256x512 .f32) (r : Fin 256) (k : Fin 1024) (h : ¬ k.val < 512) :
    wide u v (ix2 r k) = v (ix3 0 r ⟨k.val - 512, by omega⟩) := by
  unfold wide
  refine (concatenate_pair_apply_right (t := S256x1024) (s₁ := S256x512) (s₂ := S256x512) 1 _ _ _ (ix2 r k) rfl rfl (ix2 r (⟨k.val - 512, by omega⟩ : Fin 512))
    (fun b => match b with | ⟨0, _⟩ => fun _ => rfl | ⟨1, _⟩ => fun h => absurd rfl h) (show k.val - 512 + 512 = k.val by omega)).trans ?_
  exact cast_at v r _

/-- A half of a block of two halves. -/
theorem half_at (x : S2x256x512.Idx → EReal) (o : ℕ) (ho : o < 2) (inb : ∀ a, (![o, 0, 0] : Fin 3 → ℕ) a + S1x256x512.size a ≤ S2x256x512.size a)
    (r : Fin 256) (k : Fin 512) :
    View.ld (Val := Elt Ideal) (e' := .f32) x (Rect.unit (s := S2x256x512) ![o, 0, 0] S1x256x512.size inb) (ix3 0 r k) = x (ix3 ⟨o, ho⟩ r k) := by
  refine congrArg x ?_
  ext a; fin_cases a
  · show o + 1 * 0 = o
    omega
  · show 0 + 1 * r.val = r.val
    omega
  · show 0 + 1 * k.val = k.val
    omega

theorem pay8_at (i : grid0.Coords) (v0 v2 v6 v8 : Vec Ideal S1x256x512 .f32) (x1 : Vec Ideal S1x256x1024 .f32) (r : Fin 256) (k : Fin 1024) :
    k0_pay8 i v0 v2 v6 v8 x1 (ix2 r k) = mean (x1 (ix3 0 r k)) (k0_pay5 i v0 v2 v6 v8 (ix2 r k)) := by
  pointwise [k0_pay8]
  rfl

theorem pay4_at (i : grid0.Coords) (v0 v2 v6 v8 : Vec Ideal S1x256x512 .f32) (x2 : Vec Ideal S1x256x1024 .f32) (r : Fin 256) (k : Fin 1024) :
    k0_pay4 (k0_pay9 x2) (k0_pay10 i v0 v2 v6 v8) (ix3 0 r k) = square (x2 (ix3 0 r k)) (k0_pay5 i v0 v2 v6 v8 (ix2 r k)) := by
  pointwise [k0_pay4, k0_pay1, k0_pay9, k0_pay10]
  rfl

theorem pay2_at (i : grid0.Coords) (v0 v2 v6 v8 : Vec Ideal S1x256x512 .f32) (x0 x1 x2 : Vec Ideal S1x256x1024 .f32) (r : Fin 256) (k : Fin 1024) :
    k0_pay2 (k0_pay7 x0) (k0_pay8 i v0 v2 v6 v8 x1) (k0_pay9 x2) (k0_pay10 i v0 v2 v6 v8) (ix3 0 r k) =
      change (x0 (ix3 0 r k)) (x1 (ix3 0 r k)) (x2 (ix3 0 r k)) (k0_pay5 i v0 v2 v6 v8 (ix2 r k)) := by
  pointwise [k0_pay2, k0_pay1, k0_pay7, k0_pay9, k0_pay10, pay8_at]
  rfl

theorem pay6_at (i : grid0.Coords) (v0 v2 v6 v8 : Vec Ideal S1x256x512 .f32) (r : Fin 256) (k : Fin 1024) :
    k0_pay6 i v0 v2 v6 v8 (ix3 0 r k) = k0_pay5 i v0 v2 v6 v8 (ix2 r k) := by
  pointwise [k0_pay6]

theorem pay3_at (a : FVec Ideal S256x1024 .f32) (r : Fin 256) (k : Fin 1024) : k0_pay3 (F := Ideal) a (ix3 0 r k) = a (ix2 r k) := by
  pointwise [k0_pay3]

theorem layer_of : ∀ t : Fin grid0.N, (grid0.coords t 0).val = t.val / 1 := by decide +kernel

theorem pay5_at (t : Fin grid0.N) (v0 v2 v6 v8 : Vec Ideal S1x256x512 .f32) :
    k0_pay5 (F := Ideal) (grid0.coords t) v0 v2 v6 v8 = if t.val < 1 then wide v0 v2 else wide v6 v8 := by
  have ht : t.val < 2 := t.isLt
  show Scalar.select (Scalar.cmpi .eq (BitVec.ofNat 32 (grid0.coords t 0).val) 1#32) (wide v6 v8) (wide v0 v2) = _
  rw [layer_of t]
  by_cases h : t.val < 1
  · rw [if_pos h, show t.val / 1 = 0 by omega]
    rfl
  · rw [if_neg h, show t.val / 1 = 1 by omega]
    rfl

variable (m : (ℓ : Loc nD τ sig) → Buf (Elt Ideal) ℓ) (c : Dev nD)

/-- The layer of a block, and the array's row that a block's row `r` is. -/
def lay (t : Fin cfg0.N) : Fin 2 := ⟨t.val / 1, by have : t.val < 2 := t.isLt; omega⟩
def row (t : Fin cfg0.N) (r : Fin 256) : Fin 256 := ⟨256 * (t.val % 1) + r.val, by omega⟩

theorem idx0 : ∀ t : Fin grid0.N, win0_0.index t = ![t.val / 1, t.val % 1, 0] := by decide +kernel
theorem idx1 : ∀ t : Fin grid0.N, win0_1.index t = ![t.val / 1, t.val % 1, 0] := by decide +kernel
theorem idx2 : ∀ t : Fin grid0.N, win0_2.index t = ![t.val / 1, t.val % 1, 0] := by decide +kernel
theorem idx5 : ∀ t : Fin grid0.N, win0_5.index t = ![t.val / 1, t.val % 1, 0] := by decide +kernel
theorem idx6 : ∀ t : Fin grid0.N, win0_6.index t = ![t.val / 1, t.val % 1, 0] := by decide +kernel
theorem idx7 : ∀ t : Fin grid0.N, win0_7.index t = ![t.val / 1, t.val % 1, 0] := by decide +kernel
theorem idx8 : ∀ t : Fin grid0.N, win0_8.index t = ![t.val / 1, t.val % 1, 0] := by decide +kernel
theorem idx3 : ∀ t : Fin grid0.N, t.val < 1 → win0_3.index t = ![0, t.val % 1, 0] := by decide +kernel
theorem idx4 : ∀ t : Fin grid0.N, ¬ t.val < 1 → win0_4.index t = ![0, t.val % 1, 0] := by decide +kernel

theorem blk0_at (t : Fin cfg0.N) (r : Fin 256) (k : Fin 1024) :
    iblk m c 0 t (ix3 0 r k) = m ((c : Thread nD τ).loc main_arg0) (ix3 (lay t) (row t r) k) := by
  have e : iblk m c 0 t (ix3 0 r k) = V m c main_arg0 (ix3 (lay t) (row t r) k) := by
    blk_ext [iblk, idx0 t, lay, row]
  exact e.trans (congrFun (V_main_arg0 m c) _)

theorem blk1_at (t : Fin cfg0.N) (r : Fin 256) (k : Fin 1024) :
    iblk m c 1 t (ix3 0 r k) = m ((c : Thread nD τ).loc main_arg3) (ix3 (lay t) (row t r) k) := by
  have e : iblk m c 1 t (ix3 0 r k) = V m c main_arg3 (ix3 (lay t) (row t r) k) := by
    blk_ext [iblk, idx1 t, lay, row]
  exact e.trans (congrFun (V_main_arg3 m c) _)

theorem blk2_at (t : Fin cfg0.N) (r : Fin 256) (k : Fin 1024) :
    iblk m c 2 t (ix3 0 r k) = m ((c : Thread nD τ).loc main_arg4) (ix3 (lay t) (row t r) k) := by
  have e : iblk m c 2 t (ix3 0 r k) = V m c main_arg4 (ix3 (lay t) (row t r) k) := by
    blk_ext [iblk, idx2 t, lay, row]
  exact e.trans (congrFun (V_main_arg4 m c) _)

theorem blk3_at (t : Fin cfg0.N) (h : t.val < 1) (j : Fin 2) (r : Fin 256) (k : Fin 512) :
    iblk m c 3 t (ix3 j r k) = m ((c : Thread nD τ).loc main_arg1) (ix3 j (row t r) k) := by
  have e : iblk m c 3 t (ix3 j r k) = V m c main_arg1 (ix3 j (row t r) k) := by
    blk_ext [iblk, idx3 t h, row]
  exact e.trans (congrFun (V_main_arg1 m c) _)

theorem blk4_at (t : Fin cfg0.N) (h : ¬ t.val < 1) (j : Fin 2) (r : Fin 256) (k : Fin 512) :
    iblk m c 4 t (ix3 j r k) = m ((c : Thread nD τ).loc main_arg2) (ix3 j (row t r) k) := by
  have e : iblk m c 4 t (ix3 j r k) = V m c main_arg2 (ix3 j (row t r) k) := by
    blk_ext [iblk, idx4 t h, row]
  exact e.trans (congrFun (V_main_arg2 m c) _)

/-- A block's gradient is its layer's. -/
theorem both_at (t : Fin cfg0.N) (r : Fin 256) (k : Fin 1024) :
    k0_pay5 (F := Ideal) (grid0.coords t) (View.ld (iblk m c 3 t) r0_0) (View.ld (iblk m c 3 t) r0_1) (View.ld (iblk m c 4 t) r0_0) (View.ld (iblk m c 4 t) r0_1) (ix2 r k) =
      both (m ((c : Thread nD τ).loc main_arg1)) (m ((c : Thread nD τ).loc main_arg2)) (lay t) (row t r) k := by
  have ht : t.val < 2 := t.isLt
  unfold both
  by_cases h : t.val < 1
  · refine (congrFun ((pay5_at t _ _ _ _).trans (if_pos h)) _).trans (Eq.trans ?_ (if_pos (show t.val / 1 = 0 by omega)).symm)
    unfold halves
    by_cases hk : k.val < 512
    · refine (wide_left _ _ r k hk).trans ?_
      rw [dif_pos hk]
      exact (half_at (iblk m c 3 t) 0 (by omega) _ r _).trans (blk3_at m c t h 0 r _)
    · refine (wide_right _ _ r k hk).trans ?_
      rw [dif_neg hk]
      exact (half_at (iblk m c 3 t) 1 (by omega) _ r _).trans (blk3_at m c t h 1 r _)
  · refine (congrFun ((pay5_at t _ _ _ _).trans (if_neg h)) _).trans (Eq.trans ?_ (if_neg (show ¬ t.val / 1 = 0 by omega)).symm)
    unfold halves
    by_cases hk : k.val < 512
    · refine (wide_left _ _ r k hk).trans ?_
      rw [dif_pos hk]
      exact (half_at (iblk m c 4 t) 0 (by omega) _ r _).trans (blk4_at m c t h 0 r _)
    · refine (wide_right _ _ r k hk).trans ?_
      rw [dif_neg hk]
      exact (half_at (iblk m c 4 t) 1 (by omega) _ r _).trans (blk4_at m c t h 1 r _)

theorem out5_at (t : Fin cfg0.N) (r : Fin 256) (k : Fin 1024) :
    out0_5 (F := Ideal) (grid0.coords t) (iblk m c 0 t) (iblk m c 1 t) (iblk m c 2 t) (iblk m c 3 t) (iblk m c 4 t) (ix3 0 r k) =
      (both (m ((c : Thread nD τ).loc main_arg1)) (m ((c : Thread nD τ).loc main_arg2)) (lay t) (row t r) k) := by
  unfold out0_5
  rw [View.canon_unit_zero (S := S1x256x1024) (off := ![0, 0, 0]) (by funext a; fin_cases a <;> rfl)]
  exact (pay6_at _ _ _ _ _ r k).trans (both_at m c t r k)

theorem emb5 (t : Fin cfg0.N) (r : Fin 256) (k : Fin 1024) :
    (win0_5.blk t).view.emb (ix3 0 r k : S1x256x1024.Idx) = (ix3 (lay t) (row t r) k : S2x256x1024.Idx) := by
  blk_ext [idx5 t, lay, row]

theorem arr5 : (dats m 0 c).arrAt 5 cfg0.N = Gg (m ((c : Thread nD τ).loc main_arg1)) (m ((c : Thread nD τ).loc main_arg2)) := by
  refine (dats m 0 c).arrAt_eq_of_covers 5 _ (by decide +kernel) fun t hf y => ?_
  blk_simp
  rw [after0_5]
  have q : (y : S1x256x1024.Idx) = ix3 0 (y 1) (y 2) := by
    ext a; fin_cases a
    · have h0 : (y 0).val < 1 := (y 0).isLt
      show (y 0).val = 0
      omega
    · rfl
    · rfl
  rw [q]
  refine (out5_at m c t (y 1) (y 2)).trans ?_
  exact (congrArg (Gg (m ((c : Thread nD τ).loc main_arg1)) (m ((c : Thread nD τ).loc main_arg2))) (emb5 t (y 1) (y 2))).symm

theorem out6_at (t : Fin cfg0.N) (r : Fin 256) (k : Fin 1024) :
    out0_6 (F := Ideal) (grid0.coords t) (iblk m c 0 t) (iblk m c 1 t) (iblk m c 2 t) (iblk m c 3 t) (iblk m c 4 t) (ix3 0 r k) =
      change (m ((c : Thread nD τ).loc main_arg0) (ix3 (lay t) (row t r) k)) (m ((c : Thread nD τ).loc main_arg3) (ix3 (lay t) (row t r) k)) (m ((c : Thread nD τ).loc main_arg4) (ix3 (lay t) (row t r) k)) (both (m ((c : Thread nD τ).loc main_arg1)) (m ((c : Thread nD τ).loc main_arg2)) (lay t) (row t r) k) := by
  unfold out0_6 k0_pay11 k0_pay12 k0_pay13
  rw [View.canon_unit_zero (S := S1x256x1024) (off := ![0, 0, 0]) (by funext a; fin_cases a <;> rfl)]
  simp only [View.ld_unit_zero (S := S1x256x1024) (off := ![0, 0, 0]) (by funext a; fin_cases a <;> rfl)]
  refine (pay2_at _ _ _ _ _ _ _ _ r k).trans ?_
  rw [blk0_at, blk1_at, blk2_at]
  exact congrArg (change _ _ _) (both_at m c t r k)

theorem emb6 (t : Fin cfg0.N) (r : Fin 256) (k : Fin 1024) :
    (win0_6.blk t).view.emb (ix3 0 r k : S1x256x1024.Idx) = (ix3 (lay t) (row t r) k : S2x256x1024.Idx) := by
  blk_ext [idx6 t, lay, row]

theorem arr6 : (dats m 0 c).arrAt 6 cfg0.N = Gd (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have q : (y : S1x256x1024.Idx) = ix3 0 (y 1) (y 2) := by
    ext a; fin_cases a
    · have h0 : (y 0).val < 1 := (y 0).isLt
      show (y 0).val = 0
      omega
    · rfl
    · rfl
  rw [q]
  refine (out6_at m c t (y 1) (y 2)).trans ?_
  exact (congrArg (Gd (m ((c : Thread nD τ).loc main_arg0)) (m ((c : Thread nD τ).loc main_arg1)) (m ((c : Thread nD τ).loc main_arg2)) (m ((c : Thread nD τ).loc main_arg3)) (m ((c : Thread nD τ).loc main_arg4))) (emb6 t (y 1) (y 2))).symm

theorem out7_at (t : Fin cfg0.N) (r : Fin 256) (k : Fin 1024) :
    out0_7 (F := Ideal) (grid0.coords t) (iblk m c 0 t) (iblk m c 1 t) (iblk m c 2 t) (iblk m c 3 t) (iblk m c 4 t) (ix3 0 r k) =
      mean (m ((c : Thread nD τ).loc main_arg3) (ix3 (lay t) (row t r) k)) (both (m ((c : Thread nD τ).loc main_arg1)) (m ((c : Thread nD τ).loc main_arg2)) (lay t) (row t r) k) := by
  unfold out0_7 k0_pay11
  rw [View.canon_unit_zero (S := S1x256x1024) (off := ![0, 0, 0]) (by funext a; fin_cases a <;> rfl)]
  simp only [View.ld_unit_zero (S := S1x256x1024) (off := ![0, 0, 0]) (by funext a; fin_cases a <;> rfl)]
  refine (pay3_at _ r k).trans ((pay8_at _ _ _ _ _ _ r k).trans ?_)
  rw [blk1_at]
  exact congrArg (mean _) (both_at m c t r k)

theorem emb7 (t : Fin cfg0.N) (r : Fin 256) (k : Fin 1024) :
    (win0_7.blk t).view.emb (ix3 0 r k : S1x256x1024.Idx) = (ix3 (lay t) (row t r) k : S2x256x1024.Idx) := by
  blk_ext [idx7 t, lay, row]

theorem arr7 : (dats m 0 c).arrAt 7 cfg0.N = Gm (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have q : (y : S1x256x1024.Idx) = ix3 0 (y 1) (y 2) := by
    ext a; fin_cases a
    · have h0 : (y 0).val < 1 := (y 0).isLt
      show (y 0).val = 0
      omega
    · rfl
    · rfl
  rw [q]
  refine (out7_at m c t (y 1) (y 2)).trans ?_
  exact (congrArg (Gm (m ((c : Thread nD τ).loc main_arg1)) (m ((c : Thread nD τ).loc main_arg2)) (m ((c : Thread nD τ).loc main_arg3))) (emb7 t (y 1) (y 2))).symm

theorem out8_at (t : Fin cfg0.N) (r : Fin 256) (k : Fin 1024) :
    out0_8 (F := Ideal) (grid0.coords t) (iblk m c 0 t) (iblk m c 1 t) (iblk m c 2 t) (iblk m c 3 t) (iblk m c 4 t) (ix3 0 r k) =
      square (m ((c : Thread nD τ).loc main_arg4) (ix3 (lay t) (row t r) k)) (both (m ((c : Thread nD τ).loc main_arg1)) (m ((c : Thread nD τ).loc main_arg2)) (lay t) (row t r) k) := by
  unfold out0_8 k0_pay12 k0_pay13
  rw [View.canon_unit_zero (S := S1x256x1024) (off := ![0, 0, 0]) (by funext a; fin_cases a <;> rfl)]
  simp only [View.ld_unit_zero (S := S1x256x1024) (off := ![0, 0, 0]) (by funext a; fin_cases a <;> rfl)]
  refine (pay4_at _ _ _ _ _ _ r k).trans ?_
  rw [blk2_at]
  exact congrArg (square _) (both_at m c t r k)

theorem emb8 (t : Fin cfg0.N) (r : Fin 256) (k : Fin 1024) :
    (win0_8.blk t).view.emb (ix3 0 r k : S1x256x1024.Idx) = (ix3 (lay t) (row t r) k : S2x256x1024.Idx) := by
  blk_ext [idx8 t, lay, row]

theorem arr8 : (dats m 0 c).arrAt 8 cfg0.N = Gv (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  have q : (y : S1x256x1024.Idx) = ix3 0 (y 1) (y 2) := by
    ext a; fin_cases a
    · have h0 : (y 0).val < 1 := (y 0).isLt
      show (y 0).val = 0
      omega
    · rfl
    · rfl
  rw [q]
  refine (out8_at m c t (y 1) (y 2)).trans ?_
  exact (congrArg (Gv (m ((c : Thread nD τ).loc main_arg1)) (m ((c : Thread nD τ).loc main_arg2)) (m ((c : Thread nD τ).loc main_arg4))) (emb8 t (y 1) (y 2))).symm

end Cert.Kernel19Ideal.Blk

namespace Cert.AdamOut

open Idealize.ShloMosaic Idealize.ShloMosaic.TcCoe Idealize.SL.Sem
open Cert.Kernel15Ideal.Blk (mean square change)
open Cert.Kernel19Ideal.Blk (halves both Gg Gm Gv Gd)

section
open Cert.Reference19Ideal Cert.Reference19Ideal.Read

theorem first_left (x1 : S2x256x512.Idx → EReal) (r : Fin 256) (k : Fin 512) : val_main_v1 (F := Ideal) x1 (ix2 r k) = x1 (ix3 0 r k) := by
  pointwise [val_main_v1, val_main_v0]

theorem first_right (x1 : S2x256x512.Idx → EReal) (r : Fin 256) (k : Fin 512) : val_main_v3 (F := Ideal) x1 (ix2 r k) = x1 (ix3 1 r k) := by
  pointwise [val_main_v3, val_main_v2]

theorem first_at (x1 : S2x256x512.Idx → EReal) (r : Fin 256) (k : Fin 1024) : val_main_v4 (F := Ideal) x1 (ix2 r k) = halves x1 r k := by
  unfold val_main_v4 halves
  by_cases hk : k.val < 512
  · rw [dif_pos hk]
    exact (concatenate_pair_apply_left (t := S256x1024) (s₁ := S256x512) (s₂ := S256x512) 1 _ _ _ _ rfl (ix2 r (⟨k.val, hk⟩ : Fin 512))
      (fun b => match b with | ⟨0, _⟩ => rfl | ⟨1, _⟩ => rfl)).trans (first_left x1 r _)
  · rw [dif_neg hk]
    exact (concatenate_pair_apply_right (t := S256x1024) (s₁ := S256x512) (s₂ := S256x512) 1 _ _ _ (ix2 r k) rfl rfl (ix2 r (⟨k.val - 512, by omega⟩ : Fin 512))
      (fun b => match b with | ⟨0, _⟩ => fun _ => rfl | ⟨1, _⟩ => fun h => absurd rfl h) (show k.val - 512 + 512 = k.val by omega)).trans (first_right x1 r _)

theorem second_left (x2 : S2x256x512.Idx → EReal) (r : Fin 256) (k : Fin 512) : val_main_v6 (F := Ideal) x2 (ix2 r k) = x2 (ix3 0 r k) := by
  pointwise [val_main_v6, val_main_v5]

theorem second_right (x2 : S2x256x512.Idx → EReal) (r : Fin 256) (k : Fin 512) : val_main_v8 (F := Ideal) x2 (ix2 r k) = x2 (ix3 1 r k) := by
  pointwise [val_main_v8, val_main_v7]

theorem second_at (x2 : S2x256x512.Idx → EReal) (r : Fin 256) (k : Fin 1024) : val_main_v9 (F := Ideal) x2 (ix2 r k) = halves x2 r k := by
  unfold val_main_v9 halves
  by_cases hk : k.val < 512
  · rw [dif_pos hk]
    exact (concatenate_pair_apply_left (t := S256x1024) (s₁ := S256x512) (s₂ := S256x512) 1 _ _ _ _ rfl (ix2 r (⟨k.val, hk⟩ : Fin 512))
      (fun b => match b with | ⟨0, _⟩ => rfl | ⟨1, _⟩ => rfl)).trans (second_left x2 r _)
  · rw [dif_neg hk]
    exact (concatenate_pair_apply_right (t := S256x1024) (s₁ := S256x512) (s₂ := S256x512) 1 _ _ _ (ix2 r k) rfl rfl (ix2 r (⟨k.val - 512, by omega⟩ : Fin 512))
      (fun b => match b with | ⟨0, _⟩ => fun _ => rfl | ⟨1, _⟩ => fun h => absurd rfl h) (show k.val - 512 + 512 = k.val by omega)).trans (second_right x2 r _)

theorem v2_at0 (x1 x2 : S2x256x512.Idx → EReal) (r : Fin 256) (k : Fin 1024) :
    val_main_v12 (F := Ideal) x1 x2 (ix3 0 r k) = halves x1 r k := by
  unfold val_main_v12
  refine (concatenate_pair_apply_left (t := S2x256x1024) (s₁ := S1x256x1024) (s₂ := S1x256x1024) 0 _ _ _ _ rfl (ix3 (0 : Fin 1) r k)
    (fun b => match b with | ⟨0, _⟩ => rfl | ⟨1, _⟩ => rfl | ⟨2, _⟩ => rfl)).trans ?_
  pointwise [val_main_v10, first_at]

theorem v2_at1 (x1 x2 : S2x256x512.Idx → EReal) (r : Fin 256) (k : Fin 1024) :
    val_main_v12 (F := Ideal) x1 x2 (ix3 1 r k) = halves x2 r k := by
  unfold val_main_v12
  refine (concatenate_pair_apply_right (t := S2x256x1024) (s₁ := S1x256x1024) (s₂ := S1x256x1024) 0 _ _ _ _ rfl rfl (ix3 (0 : Fin 1) r k)
    (fun b => match b with | ⟨0, _⟩ => fun h => absurd rfl h | ⟨1, _⟩ => fun _ => rfl | ⟨2, _⟩ => fun _ => rfl) rfl).trans ?_
  pointwise [val_main_v11, second_at]

theorem v2_at (x1 x2 : S2x256x512.Idx → EReal) (l : Fin 2) (r : Fin 256) (k : Fin 1024) :
    val_main_v12 (F := Ideal) x1 x2 (ix3 l r k) = both x1 x2 l r k := by
  match l with
  | ⟨0, _⟩ => exact v2_at0 x1 x2 r k
  | ⟨1, _⟩ => exact v2_at1 x1 x2 r k

theorem v7_at (x1 x2 : S2x256x512.Idx → EReal) (x3 : S2x256x1024.Idx → EReal) (l : Fin 2) (r : Fin 256) (k : Fin 1024) :
    val_main_v17 (F := Ideal) x1 x2 x3 (ix3 l r k) = mean (x3 (ix3 l r k)) (both x1 x2 l r k) := by
  pointwise [val_main_v17, val_main_v16, val_main_v15, val_main_v14, val_main_v13, v2_at]
  rfl

theorem v13_at (x1 x2 : S2x256x512.Idx → EReal) (x3 : S2x256x1024.Idx → EReal) (l : Fin 2) (r : Fin 256) (k : Fin 1024) :
    val_main_v23 (F := Ideal) x1 x2 x3 (ix3 l r k) = square (x3 (ix3 l r k)) (both x1 x2 l r k) := by
  pointwise [val_main_v23, val_main_v22, val_main_v21, val_main_v20, val_main_v19, val_main_v18, v2_at]
  rfl

theorem v26_at (x0 : S2x256x1024.Idx → EReal) (x1 x2 : S2x256x512.Idx → EReal) (x3 x4 : S2x256x1024.Idx → EReal) (l : Fin 2) (r : Fin 256) (k : Fin 1024) :
    val_main_v36 (F := Ideal) x0 x1 x2 x3 x4 (ix3 l r k) =
      change (x0 (ix3 l r k)) (x3 (ix3 l r k)) (x4 (ix3 l r k)) (both x1 x2 l r k) := by
  pointwise [val_main_v36, val_main_v35, val_main_v34, val_main_v33, val_main_v32, val_main_v31, val_main_v30, val_main_v29, val_main_v28,
    val_main_v27, val_main_v26, val_main_v25, val_main_v24, v7_at, v13_at]
  rfl

theorem every (y : S2x256x1024.Idx) : y = ix3 (y 0) (y 1) (y 2) := by ext a; fin_cases a <;> rfl

theorem ref2 (x1 x2 : S2x256x512.Idx → EReal) : val_main_v12 (F := Ideal) x1 x2 = Gg x1 x2 := by
  funext y
  exact (congrArg _ (every y)).trans (v2_at x1 x2 (y 0) (y 1) (y 2))

theorem ref7 (x1 x2 : S2x256x512.Idx → EReal) (x3 : S2x256x1024.Idx → EReal) : val_main_v17 (F := Ideal) x1 x2 x3 = Gm x1 x2 x3 := by
  funext y
  exact (congrArg _ (every y)).trans (v7_at x1 x2 x3 (y 0) (y 1) (y 2))

theorem ref13 (x1 x2 : S2x256x512.Idx → EReal) (x4 : S2x256x1024.Idx → EReal) : val_main_v23 (F := Ideal) x1 x2 x4 = Gv x1 x2 x4 := by
  funext y
  exact (congrArg _ (every y)).trans (v13_at x1 x2 x4 (y 0) (y 1) (y 2))

theorem ref26 (x0 : S2x256x1024.Idx → EReal) (x1 x2 : S2x256x512.Idx → EReal) (x3 x4 : S2x256x1024.Idx → EReal) :
    val_main_v36 (F := Ideal) x0 x1 x2 x3 x4 = Gd x0 x1 x2 x3 x4 := by
  funext y
  exact (congrArg _ (every y)).trans (v26_at x0 x1 x2 x3 x4 (y 0) (y 1) (y 2))

end

theorem frame_p : Cert.quiescent_Kernel19 := fun m ρ _ => Cert.Kernel19.Gen.frame m ρ
theorem frame_pi : Cert.quiescent_Kernel19Ideal := fun m ρ _ => Cert.Kernel19Ideal.Gen.frame m ρ
theorem frame_ri : Cert.quiescent_Reference19Ideal := fun m ρ _ =>
  (θ_run Cert.Reference19Ideal.defs _ _).mono (fun r h => ⟨fun c => (h c).2.2.2.2, Idealize.ShloMosaic.sem_eq_zero_of_no_sems (by decide) r.2⟩)
    (Cert.Reference19Ideal.Value.run (F := Ideal) m ρ)

theorem algebraic : Cert.algebraic_Kernel19Ideal_Reference19Ideal := by
  intro m ρ m' ρ' _ hagree
  refine ⟨fun c => Gg (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)),
    fun c => Gd (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))
      (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)),
    fun c => Gm (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))
      (m ((c.tc : Thread Cert.Kernel19Ideal.nD Cert.Kernel19Ideal.τ).loc Cert.Kernel19Ideal.main_arg3)),
    fun c => Gv (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))
      (m ((c.tc : Thread Cert.Kernel19Ideal.nD Cert.Kernel19Ideal.τ).loc Cert.Kernel19Ideal.main_arg4)), ?_, ?_⟩
  · refine (θ_run Cert.Kernel19Ideal.defs _ _).mono (fun r h c => ?_) (Cert.Kernel19Ideal.Value.run_blocks m ρ)
    obtain ⟨h5, h6, h7, h8, h⟩ := h c
    exact ⟨h5.trans (Cert.Kernel19Ideal.Blk.arr5 m c), h6.trans (Cert.Kernel19Ideal.Blk.arr6 m c),
      h7.trans (Cert.Kernel19Ideal.Blk.arr7 m c), h8.trans (Cert.Kernel19Ideal.Blk.arr8 m c), h⟩
  · refine (θ_run Cert.Reference19Ideal.defs _ _).mono (fun r h c => ?_) (Cert.Reference19Ideal.Value.run (F := Ideal) m' ρ')
    obtain ⟨h5, h6, h7, h8, h⟩ := h c
    obtain ⟨a0, a1, a2, a3, a4⟩ := hagree c
    refine ⟨h5.trans ((Cert.Reference19Ideal.Read.val_main_v12_eq _ _).trans ((ref2 _ _).trans ?_)),
      h6.trans ((Cert.Reference19Ideal.Read.val_main_v36_eq _ _).trans ((ref26 _ _ _ _ _).trans ?_)),
      h7.trans ((Cert.Reference19Ideal.Read.val_main_v17_eq _ _ _).trans ((ref7 _ _ _).trans ?_)),
      h8.trans ((Cert.Reference19Ideal.Read.val_main_v23_eq _ _ _).trans ((ref13 _ _ _).trans ?_)), h⟩
    · rw [a1, a2]
    · rw [a0, a1, a2, a3, a4]
    · rw [a1, a2, a3]
    · rw [a1, a2, a4]

end Cert.AdamOut

end

end
-- ==== Proof.PreNorm.lean ====
module

public import proofs.«01_k».proof.Proof.Gen.Kernel20Ideal.Value
public import proofs.«01_k».proof.Proof.Gen.Reference20Ideal.Read
public import proofs.«01_k».proof.Proof.Gen.Kernel20.Frame
public import proofs.«01_k».proof.Proof.NormRef

@[expose] public section

/-! The first norm of the network's input. -/

set_option maxRecDepth 16384

noncomputable section

namespace Cert.Kernel20Ideal.Blk

open Cert.Kernel11Ideal.Blk (inv rows)
open Cert.Kernel20Ideal Cert.Kernel20Ideal.Gen Idealize.ShloMosaic Idealize.ShloMosaic.TcCoe Idealize.SL.Sem

theorem pay1_at (a : Vec Ideal S512x1024 .f32) (g : Vec Ideal S1x1024 .f32) (r : Fin 512) (k : Fin 1024) :
    k0_pay1 a g (ix2 r k) = a (ix2 r k) * inv (fun q => a (ix2 r q)) * g (ix2 0 k) := by
  pointwise [k0_pay1]
  rfl

variable (m : (ℓ : Loc nD τ sig) → Buf (Elt Ideal) ℓ) (c : Dev nD)

/-- The array's row that a block's row `r` is. -/
def row (t : Fin cfg0.N) (r : Fin 512) : Fin 4096 := ⟨512 * t.val + r.val, by have : t.val < 8 := t.isLt; omega⟩

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

theorem blk0_at (t : Fin cfg0.N) (r : Fin 512) (k : Fin 1024) :
    iblk m c 0 t (ix2 r k) = m ((c : Thread nD τ).loc main_arg0) (ix2 (row t r) k) := by
  have e : iblk m c 0 t (ix2 r k) = V m c main_arg0 (ix2 (row t r) k) := by
    blk_ext [iblk, idx0 t, row]
  exact e.trans (congrFun (V_main_arg0 m c) _)

theorem V0_at (k : Fin 1024) : V m c main_v0 (ix2 0 k) = m ((c : Thread nD τ).loc main_arg1) (ix1 k) := by
  unfold V
  after_reads_at

theorem blk1_at (t : Fin cfg0.N) (k : Fin 1024) : iblk m c 1 t (ix2 0 k) = m ((c : Thread nD τ).loc main_arg1) (ix1 k) := by
  have e : iblk m c 1 t (ix2 0 k) = V m c main_v0 (ix2 0 k) := by
    blk_ext [iblk, idx1 t]
  exact e.trans (V0_at m c k)

/-- The norm: each row over the root of its mean square, times the scale. -/
def Nx (x : S4096x1024.Idx → EReal) (g : S1024.Idx → EReal) (r : Fin 4096) (k : Fin 1024) : EReal :=
  x (ix2 r k) * inv (fun q => x (ix2 r q)) * g (ix1 k)

theorem out2_at (t : Fin cfg0.N) (r : Fin 512) (k : Fin 1024) :
    out0_2 (F := Ideal) (iblk m c 0 t) (iblk m c 1 t) (ix2 r k) =
      Nx (m ((c : Thread nD τ).loc main_arg0)) (m ((c : Thread nD τ).loc main_arg1)) (row t r) k := by
  unfold out0_2
  rw [View.canon_unit_zero (S := S512x1024) (off := ![0, 0]) (by funext a; fin_cases a <;> rfl)]
  simp only [View.ld_unit_zero (S := S512x1024) (off := ![0, 0]) (by funext a; fin_cases a <;> rfl),
    View.ld_unit_zero (S := S1x1024) (off := ![0, 0]) (by funext a; fin_cases a <;> rfl)]
  refine (pay1_at _ _ r k).trans ?_
  simp only [blk0_at, blk1_at]
  rfl

theorem emb2 (t : Fin cfg0.N) (r : Fin 512) (k : Fin 1024) :
    (win0_2.blk t).view.emb (ix2 r k : S512x1024.Idx) = (ix2 (row t r) k : S4096x1024.Idx) := by
  blk_ext [idx2 t, row]

theorem arr2 : (dats m 0 c).arrAt 2 cfg0.N = rows (Nx (m ((c : Thread nD τ).loc main_arg0)) (m ((c : Thread nD τ).loc main_arg1))) := by
  refine (dats m 0 c).arrAt_eq_of_covers 2 _ (by decide +kernel) fun t hf y => ?_
  blk_simp
  rw [after0_2]
  have q : (y : S512x1024.Idx) = ix2 (y 0) (y 1) := by ext a; fin_cases a <;> rfl
  rw [q]
  refine (out2_at m c t (y 0) (y 1)).trans ?_
  exact (congrArg (rows (Nx (m ((c : Thread nD τ).loc main_arg0)) (m ((c : Thread nD τ).loc main_arg1)))) (emb2 t (y 0) (y 1))).symm

end Cert.Kernel20Ideal.Blk

namespace Cert.PreNorm

open Idealize.ShloMosaic Idealize.ShloMosaic.TcCoe Idealize.SL.Sem
open Cert.Reference20Ideal Cert.Reference20Ideal.Read
open Cert.NormRef (by_rows)
open Cert.Kernel11Ideal.Blk (inv rows)
open Cert.Kernel20Ideal.Blk (Nx arr2)

variable (x : Cert.Reference20Ideal.S4096x1024.Idx → EReal) (g : Cert.Reference20Ideal.S1024.Idx → EReal)

theorem cst_at (i : Cert.Reference20Ideal.S_.Idx) : val_main_cst (F := Ideal) i = 0 := by pointwise [val_main_cst]

theorem v7_at (r : Fin 4096) (z : Fin 1) : val_main_v7 (F := Ideal) x (ix2 r z) = inv (fun q => x (ix2 r q)) := by
  pointwise [val_main_v7, val_main_v6, val_main_v5, val_main_v4, val_main_v3, val_main_v2, val_main_v1, val_main_v0, cst_at, zero_add]
  rfl

theorem v13_at (r : Fin 4096) (k : Fin 1024) : val_main_v13 (F := Ideal) x g (ix2 r k) = Nx x g r k := by
  pointwise [val_main_v13, val_main_v12, val_main_v11, val_main_v10, val_main_v9, val_main_v8, v7_at]
  rfl

theorem frame_p : Cert.quiescent_Kernel20 := fun m ρ _ => Cert.Kernel20.Gen.frame m ρ
theorem frame_pi : Cert.quiescent_Kernel20Ideal := fun m ρ _ => Cert.Kernel20Ideal.Gen.frame m ρ
theorem frame_ri : Cert.quiescent_Reference20Ideal := fun m ρ _ =>
  (θ_run Cert.Reference20Ideal.defs _ _).mono (fun r h => ⟨fun c => (h c).2, Idealize.ShloMosaic.sem_eq_zero_of_no_sems (by decide) r.2⟩)
    (Cert.Reference20Ideal.Value.run (F := Ideal) m ρ)

theorem algebraic : Cert.algebraic_Kernel20Ideal_Reference20Ideal := by
  intro m ρ m' ρ' _ hagree
  refine ⟨fun c => rows (Nx (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))), ?_, ?_⟩
  · refine (θ_run Cert.Kernel20Ideal.defs _ _).mono (fun r h c => ?_) (Cert.Kernel20Ideal.Value.run_blocks m ρ)
    obtain ⟨h2, h⟩ := h c
    exact ⟨h2.trans (arr2 m c), h⟩
  · refine (θ_run Cert.Reference20Ideal.defs _ _).mono (fun r h c => ?_) (Cert.Reference20Ideal.Value.run (F := Ideal) m' ρ')
    obtain ⟨h2, h⟩ := h c
    obtain ⟨a0, a1⟩ := hagree c
    refine ⟨((h2.trans (val_main_v13_eq _ _)).trans (by_rows _ _ (v13_at _ _))).trans ?_, h⟩
    rw [a0, a1]

end Cert.PreNorm

end

end
-- ==== Proof.lean ====
/- The proof of the claims of Defs.lean: the programs run and leave the arguments as they were, the named constants are
   the kernel's, and over the extended reals the calls' arrays are the references': Join.lean for the backward call of the layer,
   DownGrad.lean and UpGrad.lean for the gradients of its two weights, FwdJoin.lean for the layer's forward call, and
   InGrad, ProjBwd, OutBwd, OutGrad, Proj and OutNorm for the calls of the input and output projections,
   and NormBwd and NormRef for the backward call of the norms between the mixers and the feed-forward layer, LayerBwd and
   LayerRef for that of the norms between the layers, InBwd for the first norm's, LossBwd for the loss with the last norm's,
   Adam, AdamIn, AdamDown and AdamOut for the optimiser's steps of the weights, Gating for the forward call of the spatial
   gating, and PreNorm for the first norm. -/
module

public import proofs.«01_k».proof.Defs
public import proofs.«01_k».proof.Proof.Join
public import proofs.«01_k».proof.Proof.DownGrad
public import proofs.«01_k».proof.Proof.UpGrad
public import proofs.«01_k».proof.Proof.FwdJoin
public import proofs.«01_k».proof.Proof.InGrad
public import proofs.«01_k».proof.Proof.ProjBwd
public import proofs.«01_k».proof.Proof.OutBwd
public import proofs.«01_k».proof.Proof.OutGrad
public import proofs.«01_k».proof.Proof.Proj
public import proofs.«01_k».proof.Proof.OutNorm
public import proofs.«01_k».proof.Proof.NormRef
public import proofs.«01_k».proof.Proof.LayerRef
public import proofs.«01_k».proof.Proof.InBwd
public import proofs.«01_k».proof.Proof.LossBwd
public import proofs.«01_k».proof.Proof.Adam
public import proofs.«01_k».proof.Proof.Gating
public import proofs.«01_k».proof.Proof.AdamIn
public import proofs.«01_k».proof.Proof.AdamDown
public import proofs.«01_k».proof.Proof.AdamOut
public import proofs.«01_k».proof.Proof.PreNorm
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Pre_finite.Gen.facts, Cert.Pre_finite4.Gen.facts,
  Cert.Join.frame_p, Cert.Join.frame_pi, Cert.Join.frame_pi', Cert.Join.frame_ri, Cert.Join.frame_ri',
  Cert.DownGrad.frame_p, Cert.DownGrad.frame_pi, Cert.DownGrad.frame_ri,
  Cert.UpGrad.frame_p, Cert.UpGrad.frame_pi, Cert.UpGrad.frame_ri,
  Cert.Forward.frame_p, Cert.Forward.frame_pi, Cert.Forward.frame_pi', Cert.Forward.frame_ri, Cert.Forward.frame_ri',
  Cert.InGrad.frame_p, Cert.InGrad.frame_pi, Cert.InGrad.frame_ri,
  Cert.ProjBwd.frame_p, Cert.ProjBwd.frame_pi, Cert.ProjBwd.frame_ri,
  Cert.OutBwd.frame_p, Cert.OutBwd.frame_pi, Cert.OutBwd.frame_ri,
  Cert.OutGrad.frame_p, Cert.OutGrad.frame_pi, Cert.OutGrad.frame_ri,
  Cert.Proj.frame_p, Cert.Proj.frame_pi, Cert.Proj.frame_ri,
  Cert.OutNorm.frame_p, Cert.OutNorm.frame_pi, Cert.OutNorm.frame_ri,
  Cert.NormRef.frame_p, Cert.NormRef.frame_pi, Cert.NormRef.frame_ri,
  Cert.LayerRef.frame_p, Cert.LayerRef.frame_pi, Cert.LayerRef.frame_ri,
  Cert.InBwd.frame_p, Cert.InBwd.frame_pi, Cert.InBwd.frame_ri,
  Cert.LossBwd.frame_p, Cert.LossBwd.frame_pi, Cert.LossBwd.frame_ri,
  Cert.Adam.frame_p, Cert.Adam.frame_pi, Cert.Adam.frame_ri,
  Cert.Gating.frame_p, Cert.Gating.frame_pi, Cert.Gating.frame_ri,
  Cert.AdamIn.frame_p, Cert.AdamIn.frame_pi, Cert.AdamIn.frame_ri,
  Cert.AdamDown.frame_p, Cert.AdamDown.frame_pi, Cert.AdamDown.frame_ri,
  Cert.AdamOut.frame_p, Cert.AdamOut.frame_pi, Cert.AdamOut.frame_ri,
  Cert.PreNorm.frame_p, Cert.PreNorm.frame_pi, Cert.PreNorm.frame_ri,
  Cert.Join.preserves, Cert.Join.algebraic, trivial, Cert.DownGrad.algebraic, trivial, Cert.UpGrad.algebraic,
  Cert.Forward.preserves, Cert.Forward.algebraic,
  trivial, Cert.InGrad.algebraic, trivial, Cert.ProjBwd.algebraic, trivial, Cert.OutBwd.algebraic,
  trivial, Cert.OutGrad.algebraic, trivial, Cert.Proj.algebraic, trivial, Cert.OutNorm.algebraic,
  trivial, Cert.NormRef.algebraic, trivial, Cert.LayerRef.algebraic, trivial, Cert.InBwd.algebraic,
  trivial, Cert.LossBwd.algebraic, trivial, Cert.Adam.algebraic,
  trivial, Cert.Gating.algebraic, trivial, Cert.AdamIn.algebraic, trivial, Cert.AdamDown.algebraic,
  trivial, Cert.AdamOut.algebraic, trivial, Cert.PreNorm.algebraic⟩

end Cert.Proof

end
